-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "dead" .f32 0xC2D00000#32 ⊥

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v42)) (v1 : (c : Dev Cert.Kernel2Ideal.nD) → Buf (Elt Ideal) ((c.tc : Thread Cert.Kernel2Ideal.nD Cert.Kernel2Ideal.τ).loc Cert.Kernel2Ideal.main_v45)) (v2 : (c : Dev Cert.Kernel2Ideal.nD) → Buf (Elt Ideal) ((c.tc : Thread Cert.Kernel2Ideal.nD Cert.Kernel2Ideal.τ).loc Cert.Kernel2Ideal.main_v48)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v42) = v0 c
          ∧ r.2.mem ((c.tc : Thread Cert.Kernel2Ideal.nD Cert.Kernel2Ideal.τ).loc Cert.Kernel2Ideal.main_v45) = v1 c
          ∧ r.2.mem ((c.tc : Thread Cert.Kernel2Ideal.nD Cert.Kernel2Ideal.τ).loc Cert.Kernel2Ideal.main_v48) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_v21) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_v16) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v37) = v1 c
          ∧ r.2.mem ((c.tc : Thread Cert.Reference5Ideal.nD Cert.Reference5Ideal.τ).loc Cert.Reference5Ideal.main_v19) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v14_0)) (v1 : (c : Dev Cert.Kernel6Ideal.nD) → Buf (Elt Ideal) ((c.tc : Thread Cert.Kernel6Ideal.nD Cert.Kernel6Ideal.τ).loc Cert.Kernel6Ideal.main_v20)) (v2 : (c : Dev Cert.Kernel6Ideal.nD) → Buf (Elt Ideal) ((c.tc : Thread Cert.Kernel6Ideal.nD Cert.Kernel6Ideal.τ).loc Cert.Kernel6Ideal.main_v24)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14_0) = v0 c
          ∧ r.2.mem ((c.tc : Thread Cert.Kernel6Ideal.nD Cert.Kernel6Ideal.τ).loc Cert.Kernel6Ideal.main_v20) = v1 c
          ∧ r.2.mem ((c.tc : Thread Cert.Kernel6Ideal.nD Cert.Kernel6Ideal.τ).loc Cert.Kernel6Ideal.main_v24) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v88) = v0 c
          ∧ r.2.mem ((c.tc : Thread Cert.Reference6Ideal.nD Cert.Reference6Ideal.τ).loc Cert.Reference6Ideal.main_v71) = v1 c
          ∧ r.2.mem ((c.tc : Thread Cert.Reference6Ideal.nD Cert.Reference6Ideal.τ).loc Cert.Reference6Ideal.main_v48) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v16)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v16) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v19) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v14) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v17_0)) (v1 : (c : Dev Cert.Kernel13Ideal.nD) → Buf (Elt Ideal) ((c.tc : Thread Cert.Kernel13Ideal.nD Cert.Kernel13Ideal.τ).loc Cert.Kernel13Ideal.main_v17_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v17_0) = v0 c
          ∧ r.2.mem ((c.tc : Thread Cert.Kernel13Ideal.nD Cert.Kernel13Ideal.τ).loc Cert.Kernel13Ideal.main_v17_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v37) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v2_0)) (v1 : (c : Dev Cert.Kernel16Ideal.nD) → Buf (Elt Ideal) ((c.tc : Thread Cert.Kernel16Ideal.nD Cert.Kernel16Ideal.τ).loc Cert.Kernel16Ideal.main_v2_1)) (v2 : (c : Dev Cert.Kernel16Ideal.nD) → Buf (Elt Ideal) ((c.tc : Thread Cert.Kernel16Ideal.nD Cert.Kernel16Ideal.τ).loc Cert.Kernel16Ideal.main_v2_2)) (v3 : (c : Dev Cert.Kernel16Ideal.nD) → Buf (Elt Ideal) ((c.tc : Thread Cert.Kernel16Ideal.nD Cert.Kernel16Ideal.τ).loc Cert.Kernel16Ideal.main_v2_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2_0) = v0 c
          ∧ r.2.mem ((c.tc : Thread Cert.Kernel16Ideal.nD Cert.Kernel16Ideal.τ).loc Cert.Kernel16Ideal.main_v2_1) = v1 c
          ∧ r.2.mem ((c.tc : Thread Cert.Kernel16Ideal.nD Cert.Kernel16Ideal.τ).loc Cert.Kernel16Ideal.main_v2_2) = v2 c
          ∧ r.2.mem ((c.tc : Thread Cert.Kernel16Ideal.nD Cert.Kernel16Ideal.τ).loc Cert.Kernel16Ideal.main_v2_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_v26) = v1 c
          ∧ r.2.mem ((c.tc : Thread Cert.Reference16Ideal.nD Cert.Reference16Ideal.τ).loc Cert.Reference16Ideal.main_v7) = v2 c
          ∧ r.2.mem ((c.tc : Thread Cert.Reference16Ideal.nD Cert.Reference16Ideal.τ).loc Cert.Reference16Ideal.main_v13) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hPre_finite2 : Cert.Pre_finite2.Facts) (hPre_finite3 : Cert.Pre_finite3.Facts) (hPre_finite5 : Cert.Pre_finite5.Facts) (hPre_finite6 : Cert.Pre_finite6.Facts) (hPre_finite8 : Cert.Pre_finite8.Facts) (hPre_finite12 : Cert.Pre_finite12.Facts) (hPre_finite13 : Cert.Pre_finite13.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
-- ==== Pre_finite12.lean ====
abbrev S2x1024 : Shape := ⟨2, ![2, 1024]⟩
abbrev S_ : Shape := ⟨0, ![]⟩

class Facts : Prop where
  reducesTo_S2x1024_S_d0_1 : S2x1024.ReducesTo [0, 1] S_
  h_S_ : 0 < S_.numel

variable [Facts]

def fn {F : FTy → Type} [FloatOps F] (main_arg0 : FVec F S2x1024 .f32) : IVec S_ 1 :=
  let main_v0 : FVec F S2x1024 .f32 := Host.absf main_arg0
  let main_cst : FVec F S_ .f32 := constant S_ .f32 0xFF800000#32
  let main_v1 : FVec F S_ .f32 := (fun x v => Host.reduce FloatOps.maximumf x v reducesTo_S2x1024_S_d0_1 h_S_) main_v0 main_cst
  let main_cst_0 : FVec F S_ .f32 := constant S_ .f32 0x7F800000#32
  let main_v2 : IVec S_ 1 := cmpf .olt main_v1 main_cst_0
  main_v2
-- ==== Pre_finite13.lean ====
abbrev S4096x1024 : Shape := ⟨2, ![4096, 1024]⟩
abbrev S1024x3072 : Shape := ⟨2, ![1024, 3072]⟩
abbrev S64 : Shape := ⟨1, ![64]⟩
abbrev S_ : Shape := ⟨0, ![]⟩

class Facts : Prop where
  reducesTo_S4096x1024_S_d0_1 : S4096x1024.ReducesTo [0, 1] S_
  h_S_ : 0 < S_.numel
  reducesTo_S1024x3072_S_d0_1 : S1024x3072.ReducesTo [0, 1] S_

variable [Facts]

def fn {F : FTy → Type} [FloatOps F] (main_arg0 : FVec F S4096x1024 .f32) (main_arg1 : FVec F S1024x3072 .f32) (main_arg2 : FVec F S64 .f32) (main_arg3 : FVec F S64 .f32) : IVec S_ 1 :=
  let main_v0 : FVec F S4096x1024 .f32 := Host.absf main_arg0
  let main_cst : FVec F S_ .f32 := constant S_ .f32 0xFF800000#32
  let main_v1 : FVec F S_ .f32 := (fun x v => Host.reduce FloatOps.maximumf x v reducesTo_S4096x1024_S_d0_1 h_S_) main_v0 main_cst
  let main_cst_0 : FVec F S_ .f32 := constant S_ .f32 0x7F800000#32
  let main_v2 : IVec S_ 1 := cmpf .olt main_v1 main_cst_0
  let main_v3 : FVec F S1024x3072 .f32 := Host.absf main_arg1
  let main_cst_1 : FVec F S_ .f32 := constant S_ .f32 0xFF800000#32
  let main_v4 : FVec F S_ .f32 := (fun x v => Host.reduce FloatOps.maximumf x v reducesTo_S1024x3072_S_d0_1 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  main_v6
-- ==== Pre_finite2.lean ====
abbrev S1x16x4096x64 : Shape := ⟨4, ![1, 16, 4096, 64]⟩
abbrev S_ : Shape := ⟨0, ![]⟩

class Facts : Prop where
  reducesTo_S1x16x4096x64_S_d0_1_2_3 : S1x16x4096x64.ReducesTo [0, 1, 2, 3] S_
  h_S_ : 0 < S_.numel

variable [Facts]

def fn {F : FTy → Type} [FloatOps F] (main_arg0 : FVec F S1x16x4096x64 .f32) (main_arg1 : FVec F S1x16x4096x64 .f32) (main_arg2 : FVec F S1x16x4096x64 .f32) (main_arg3 : FVec F S1x16x4096x64 .f32) : IVec S_ 1 :=
  let main_v0 : FVec F S1x16x4096x64 .f32 := Host.absf main_arg0
  let main_cst : FVec F S_ .f32 := constant S_ .f32 0xFF800000#32
  let main_v1 : FVec F S_ .f32 := (fun x v => Host.reduce FloatOps.maximumf x v reducesTo_S1x16x4096x64_S_d0_1_2_3 h_S_) main_v0 main_cst
  let main_cst_0 : FVec F S_ .f32 := constant S_ .f32 0x7F800000#32
  let main_v2 : IVec S_ 1 := cmpf .olt main_v1 main_cst_0
  let main_v3 : FVec F S1x16x4096x64 .f32 := Host.absf main_arg1
  let main_cst_1 : FVec F S_ .f32 := constant S_ .f32 0xFF800000#32
  let main_v4 : FVec F S_ .f32 := (fun x v => Host.reduce FloatOps.maximumf x v reducesTo_S1x16x4096x64_S_d0_1_2_3 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  let main_v7 : FVec F S1x16x4096x64 .f32 := Host.absf main_arg2
  let main_cst_3 : FVec F S_ .f32 := constant S_ .f32 0xFF800000#32
  let main_v8 : FVec F S_ .f32 := (fun x v => Host.reduce FloatOps.maximumf x v reducesTo_S1x16x4096x64_S_d0_1_2_3 h_S_) main_v7 main_cst_3
  let main_cst_4 : FVec F S_ .f32 := constant S_ .f32 0x7F800000#32
  let main_v9 : IVec S_ 1 := cmpf .olt main_v8 main_cst_4
  let main_v10 : IVec S_ 1 := andi main_v6 main_v9
  let main_v11 : FVec F S1x16x4096x64 .f32 := Host.absf main_arg3
  let main_cst_5 : FVec F S_ .f32 := constant S_ .f32 0xFF800000#32
  let main_v12 : FVec F S_ .f32 := (fun x v => Host.reduce FloatOps.maximumf x v reducesTo_S1x16x4096x64_S_d0_1_2_3 h_S_) main_v11 main_cst_5
  let main_cst_6 : FVec F S_ .f32 := constant S_ .f32 0x7F800000#32
  let main_v13 : IVec S_ 1 := cmpf .olt main_v12 main_cst_6
  let main_v14 : IVec S_ 1 := andi main_v10 main_v13
  main_v14
-- ==== Pre_finite3.lean ====
abbrev S2x1024 : Shape := ⟨2, ![2, 1024]⟩
abbrev S8x2x1024 : Shape := ⟨3, ![8, 2, 1024]⟩
abbrev S_ : Shape := ⟨0, ![]⟩

class Facts : Prop where
  reducesTo_S2x1024_S_d0_1 : S2x1024.ReducesTo [0, 1] S_
  h_S_ : 0 < S_.numel
  reducesTo_S8x2x1024_S_d0_1_2 : S8x2x1024.ReducesTo [0, 1, 2] S_

variable [Facts]

def fn {F : FTy → Type} [FloatOps F] (main_arg0 : FVec F S2x1024 .f32) (main_arg1 : FVec F S8x2x1024 .f32) : IVec S_ 1 :=
  let main_v0 : FVec F S2x1024 .f32 := Host.absf main_arg0
  let main_cst : FVec F S_ .f32 := constant S_ .f32 0xFF800000#32
  let main_v1 : FVec F S_ .f32 := (fun x v => Host.reduce FloatOps.maximumf x v reducesTo_S2x1024_S_d0_1 h_S_) main_v0 main_cst
  let main_cst_0 : FVec F S_ .f32 := constant S_ .f32 0x7F800000#32
  let main_v2 : IVec S_ 1 := cmpf .olt main_v1 main_cst_0
  let main_v3 : FVec F S8x2x1024 .f32 := Host.absf main_arg1
  let main_cst_1 : FVec F S_ .f32 := constant S_ .f32 0xFF800000#32
  let main_v4 : FVec F S_ .f32 := (fun x v => Host.reduce FloatOps.maximumf x v reducesTo_S8x2x1024_S_d0_1_2 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  main_v6
-- ==== Pre_finite5.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩

class Facts : Prop where
  reducesTo_S4096x4096_S_d0_1 : S4096x4096.ReducesTo [0, 1] S_
  h_S_ : 0 < S_.numel
  reducesTo_S1024x4096_S_d0_1 : S1024x4096.ReducesTo [0, 1] S_
  reducesTo_S4096x1024_S_d0_1 : S4096x1024.ReducesTo [0, 1] S_
  reducesTo_S1x1024_S_d0_1 : S1x1024.ReducesTo [0, 1] S_

variable [Facts]

def fn {F : FTy → Type} [FloatOps F] (main_arg0 : FVec F S4096x4096 .f32) (main_arg1 : FVec F S1024x4096 .f32) (main_arg2 : FVec F S4096x1024 .f32) (main_arg3 : FVec F S4096x1024 .f32) (main_arg4 : FVec F S1x1024 .f32) : IVec S_ 1 :=
  let main_v0 : FVec F S4096x4096 .f32 := Host.absf main_arg0
  let main_cst : FVec F S_ .f32 := constant S_ .f32 0xFF800000#32
  let main_v1 : FVec F S_ .f32 := (fun x v => Host.reduce FloatOps.maximumf x v reducesTo_S4096x4096_S_d0_1 h_S_) main_v0 main_cst
  let main_cst_0 : FVec F S_ .f32 := constant S_ .f32 0x7F800000#32
  let main_v2 : IVec S_ 1 := cmpf .olt main_v1 main_cst_0
  let main_v3 : FVec F S1024x4096 .f32 := Host.absf main_arg1
  let main_cst_1 : FVec F S_ .f32 := constant S_ .f32 0xFF800000#32
  let main_v4 : FVec F S_ .f32 := (fun x v => Host.reduce FloatOps.maximumf x v reducesTo_S1024x4096_S_d0_1 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  let main_v7 : FVec F S4096x1024 .f32 := Host.absf main_arg2
  let main_cst_3 : FVec F S_ .f32 := constant S_ .f32 0xFF800000#32
  let main_v8 : FVec F S_ .f32 := (fun x v => Host.reduce FloatOps.maximumf x v reducesTo_S4096x1024_S_d0_1 h_S_) main_v7 main_cst_3
  let main_cst_4 : FVec F S_ .f32 := constant S_ .f32 0x7F800000#32
  let main_v9 : IVec S_ 1 := cmpf .olt main_v8 main_cst_4
  let main_v10 : IVec S_ 1 := andi main_v6 main_v9
  let main_v11 : FVec F S1x1024 .f32 := Host.absf main_arg4
  let main_cst_5 : FVec F S_ .f32 := constant S_ .f32 0xFF800000#32
  let main_v12 : FVec F S_ .f32 := (fun x v => Host.reduce FloatOps.maximumf x v reducesTo_S1x1024_S_d0_1 h_S_) main_v11 main_cst_5
  let main_cst_6 : FVec F S_ .f32 := constant S_ .f32 0x7F800000#32
  let main_v13 : IVec S_ 1 := cmpf .olt main_v12 main_cst_6
  let main_v14 : IVec S_ 1 := andi main_v10 main_v13
  main_v14
-- ==== Pre_finite6.lean ====
abbrev S4096x3072 : Shape := ⟨2, ![4096, 3072]⟩
abbrev S4096x1024 : Shape := ⟨2, ![4096, 1024]⟩
abbrev S64 : Shape := ⟨1, ![64]⟩
abbrev S_ : Shape := ⟨0, ![]⟩

class Facts : Prop where
  reducesTo_S4096x3072_S_d0_1 : S4096x3072.ReducesTo [0, 1] S_
  h_S_ : 0 < S_.numel
  reducesTo_S4096x1024_S_d0_1 : S4096x1024.ReducesTo [0, 1] S_
  reducesTo_S64_S_d0 : S64.ReducesTo [0] S_

variable [Facts]

def fn_part1 {F : FTy → Type} [FloatOps F] (main_v14 : IVec S_ 1) (main_v15 : FVec F S64 .f32) : IVec S_ 1 :=
  let main_cst_7 : FVec F S_ .f32 := constant S_ .f32 0xFF800000#32
  let main_v16 : FVec F S_ .f32 := (fun x v => Host.reduce FloatOps.maximumf x v reducesTo_S64_S_d0 h_S_) main_v15 main_cst_7
  let main_cst_8 : FVec F S_ .f32 := constant S_ .f32 0x7F800000#32
  let main_v17 : IVec S_ 1 := cmpf .olt main_v16 main_cst_8
  let main_v18 : IVec S_ 1 := andi main_v14 main_v17
  main_v18

def fn {F : FTy → Type} [FloatOps F] (main_arg0 : FVec F S4096x3072 .f32) (main_arg1 : FVec F S4096x1024 .f32) (main_arg2 : FVec F S4096x1024 .f32) (main_arg3 : FVec F S4096x1024 .f32) (main_arg4 : FVec F S64 .f32) (main_arg5 : FVec F S64 .f32) : IVec S_ 1 :=
  let main_v0 : FVec F S4096x3072 .f32 := Host.absf main_arg0
  let main_cst : FVec F S_ .f32 := constant S_ .f32 0xFF800000#32
  let main_v1 : FVec F S_ .f32 := (fun x v => Host.reduce FloatOps.maximumf x v reducesTo_S4096x3072_S_d0_1 h_S_) main_v0 main_cst
  let main_cst_0 : FVec F S_ .f32 := constant S_ .f32 0x7F800000#32
  let main_v2 : IVec S_ 1 := cmpf .olt main_v1 main_cst_0
  let main_v3 : FVec F S4096x1024 .f32 := Host.absf main_arg1
  let main_cst_1 : FVec F S_ .f32 := constant S_ .f32 0xFF800000#32
  let main_v4 : FVec F S_ .f32 := (fun x v => Host.reduce FloatOps.maximumf x v reducesTo_S4096x1024_S_d0_1 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  let main_v7 : FVec F S4096x1024 .f32 := Host.absf main_arg2
  let main_cst_3 : FVec F S_ .f32 := constant S_ .f32 0xFF800000#32
  let main_v8 : FVec F S_ .f32 := (fun x v => Host.reduce FloatOps.maximumf x v reducesTo_S4096x1024_S_d0_1 h_S_) main_v7 main_cst_3
  let main_cst_4 : FVec F S_ .f32 := constant S_ .f32 0x7F800000#32
  let main_v9 : IVec S_ 1 := cmpf .olt main_v8 main_cst_4
  let main_v10 : IVec S_ 1 := andi main_v6 main_v9
  let main_v11 : FVec F S64 .f32 := Host.absf main_arg4
  let main_cst_5 : FVec F S_ .f32 := constant S_ .f32 0xFF800000#32
  let main_v12 : FVec F S_ .f32 := (fun x v => Host.reduce FloatOps.maximumf x v reducesTo_S64_S_d0 h_S_) main_v11 main_cst_5
  let main_cst_6 : FVec F S_ .f32 := constant S_ .f32 0x7F800000#32
  let main_v13 : IVec S_ 1 := cmpf .olt main_v12 main_cst_6
  let main_v14 : IVec S_ 1 := andi main_v10 main_v13
  let main_v15 : FVec F S64 .f32 := Host.absf main_arg5
  fn_part1 (F := F) main_v14 main_v15
-- ==== Pre_finite8.lean ====
abbrev S1x16x4096x64 : Shape := ⟨4, ![1, 16, 4096, 64]⟩
abbrev S_ : Shape := ⟨0, ![]⟩

class Facts : Prop where
  reducesTo_S1x16x4096x64_S_d0_1_2_3 : S1x16x4096x64.ReducesTo [0, 1, 2, 3] S_
  h_S_ : 0 < S_.numel

variable [Facts]

def fn {F : FTy → Type} [FloatOps F] (main_arg0 : FVec F S1x16x4096x64 .f32) (main_arg1 : FVec F S1x16x4096x64 .f32) (main_arg2 : FVec F S1x16x4096x64 .f32) : IVec S_ 1 :=
  let main_v0 : FVec F S1x16x4096x64 .f32 := Host.absf main_arg0
  let main_cst : FVec F S_ .f32 := constant S_ .f32 0xFF800000#32
  let main_v1 : FVec F S_ .f32 := (fun x v => Host.reduce FloatOps.maximumf x v reducesTo_S1x16x4096x64_S_d0_1_2_3 h_S_) main_v0 main_cst
  let main_cst_0 : FVec F S_ .f32 := constant S_ .f32 0x7F800000#32
  let main_v2 : IVec S_ 1 := cmpf .olt main_v1 main_cst_0
  let main_v3 : FVec F S1x16x4096x64 .f32 := Host.absf main_arg1
  let main_cst_1 : FVec F S_ .f32 := constant S_ .f32 0xFF800000#32
  let main_v4 : FVec F S_ .f32 := (fun x v => Host.reduce FloatOps.maximumf x v reducesTo_S1x16x4096x64_S_d0_1_2_3 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  let main_v7 : FVec F S1x16x4096x64 .f32 := Host.absf main_arg2
  let main_cst_3 : FVec F S_ .f32 := constant S_ .f32 0xFF800000#32
  let main_v8 : FVec F S_ .f32 := (fun x v => Host.reduce FloatOps.maximumf x v reducesTo_S1x16x4096x64_S_d0_1_2_3 h_S_) main_v7 main_cst_3
  let main_cst_4 : FVec F S_ .f32 := constant S_ .f32 0x7F800000#32
  let main_v9 : IVec S_ 1 := cmpf .olt main_v8 main_cst_4
  let main_v10 : IVec S_ 1 := andi main_v6 main_v9
  main_v10
-- ==== Kernel.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 11
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S1024x4096, .bf16⟩
  | .hbm, ⟨5, _⟩ => ⟨S4096x1024, .bf16⟩
  | .hbm, ⟨6, _⟩ => ⟨S4096x1024, .bf16⟩
  | .hbm, ⟨7, _⟩ => ⟨S4096x4096, .bf16⟩
  | .hbm, ⟨8, _⟩ => ⟨S4096x4096, .bf16⟩
  | .hbm, ⟨9, _⟩ => ⟨S4096x1024, .bf16⟩
  | .hbm, ⟨10, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x1024, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel2.lean ====
abbrev S1x16x4096x64 : Shape := ⟨4, ![1, 16, 4096, 64]⟩
abbrev S1x16x4096x4096 : Shape := ⟨4, ![1, 16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x2x16x256x16x256 : Shape := ⟨6, ![8, 2, 16, 256, 16, 256]⟩
abbrev S8x2x16x256x16x1 : Shape := ⟨6, ![8, 2, 16, 256, 16, 1]⟩
abbrev S8x2x16x256x16 : Shape := ⟨5, ![8, 2, 16, 256, 16]⟩
abbrev S8x16x2x256x16 : Shape := ⟨5, ![8, 16, 2, 256, 16]⟩
abbrev S256x256x16 : Shape := ⟨3, ![256, 256, 16]⟩
abbrev S256x256x128 : Shape := ⟨3, ![256, 256, 128]⟩
abbrev S16x4096x64 : Shape := ⟨3, ![16, 4096, 64]⟩
abbrev S4096x16x64 : Shape := ⟨3, ![4096, 16, 64]⟩
abbrev S4096x1024 : Shape := ⟨2, ![4096, 1024]⟩
abbrev S4096x3072 : Shape := ⟨2, ![4096, 3072]⟩
abbrev S256x128 : Shape := ⟨2, ![256, 128]⟩
abbrev S4096x128 : Shape := ⟨2, ![4096, 128]⟩
abbrev S2x256x128 : Shape := ⟨3, ![2, 256, 128]⟩
abbrev S1x128 : Shape := ⟨2, ![1, 128]⟩
abbrev S256x256 : Shape := ⟨2, ![256, 256]⟩
abbrev S1x256x128 : Shape := ⟨3, ![1, 256, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S256x1 : Shape := ⟨2, ![256, 1]⟩
abbrev S256 : Shape := ⟨1, ![256]⟩

abbrev nBuf : Space → Nat
  | .hbm => 81
  | .vmem => 16
  | .smem => 0
  | _ => 0

abbrev bufTy : (tb : Table) → Fin (tcTables nBuf tb) → BufTy
  | .hbm, ⟨0, _⟩ => ⟨S1x16x4096x64, .f32⟩
  | .hbm, ⟨1, _⟩ => ⟨S1x16x4096x64, .f32⟩
  | .hbm, ⟨2, _⟩ => ⟨S1x16x4096x64, .f32⟩
  | .hbm, ⟨3, _⟩ => ⟨S1x16x4096x64, .f32⟩
  | .hbm, ⟨4, _⟩ => ⟨S1x16x4096x4096, .f32⟩
  | .hbm, ⟨5, _⟩ => ⟨S_, .f32⟩
  | .hbm, ⟨6, _⟩ => ⟨S1x16x4096x4096, .f32⟩
  | .hbm, ⟨7, _⟩ => ⟨S1x16x4096x4096, .f32⟩
  | .hbm, ⟨8, _⟩ => ⟨S4096, .i32⟩
  | .hbm, ⟨9, _⟩ => ⟨S1x4096, .i32⟩
  | .hbm, ⟨10, _⟩ => ⟨S4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S1x16x4096x4096, .f32⟩
  | .hbm, ⟨16, _⟩ => ⟨S1x16x4096x4096, .f32⟩
  | .hbm, ⟨17, _⟩ => ⟨S_, .f32⟩
  | .hbm, ⟨18, _⟩ => ⟨S1x16x4096x4096, .f32⟩
  | .hbm, ⟨19, _⟩ => ⟨S1x16x4096x4096, .f32⟩
  | .hbm, ⟨20, _⟩ => ⟨S1x16x4096x4096, .f32⟩
  | .hbm, ⟨21, _⟩ => ⟨S1x16x4096x4096, .f32⟩
  | .hbm, ⟨22, _⟩ => ⟨S1x16x4096x4096, .i1⟩
  | .hbm, ⟨23, _⟩ => ⟨S1x16x4096x4096, .f32⟩
  | .hbm, ⟨24, _⟩ => ⟨S1x16x4096x4096, .f32⟩
  | .hbm, ⟨25, _⟩ => ⟨S1x16x4096x4096, .f32⟩
  | .hbm, ⟨26, _⟩ => ⟨S1x16x4096x4096, .f32⟩
  | .hbm, ⟨27, _⟩ => ⟨S1x16x4096x4096, .f32⟩
  | .hbm, ⟨28, _⟩ => ⟨S1x16x4096x4096, .f32⟩
  | .hbm, ⟨29, _⟩ => ⟨S1x16x4096x4096, .f32⟩
  | .hbm, ⟨30, _⟩ => ⟨S1x16x4096x4096, .f32⟩
  | .hbm, ⟨31, _⟩ => ⟨S1x16x4096x4096, .f32⟩
  | .hbm, ⟨32, _⟩ => ⟨S_, .f32⟩
  | .hbm, ⟨33, _⟩ => ⟨S_, .f32⟩
  | .hbm, ⟨34, _⟩ => ⟨S1x16x4096x4096, .i1⟩
  | .hbm, ⟨35, _⟩ => ⟨S1x16x4096x4096, .f32⟩
  | .hbm, ⟨36, _⟩ => ⟨S1x16x4096x4096, .f32⟩
  | .hbm, ⟨37, _⟩ => ⟨S_, .f32⟩
  | .hbm, ⟨38, _⟩ => ⟨S_, .f32⟩
  | .hbm, ⟨39, _⟩ => ⟨S1x16x4096x4096, .f32⟩
  | .hbm, ⟨40, _⟩ => ⟨S1x16x4096x4096, .f32⟩
  | .hbm, ⟨41, _⟩ => ⟨S8x2x16x256x16x256, .f32⟩
  | .hbm, ⟨42, _⟩ => ⟨S8x2x16x256x16x1, .f32⟩
  | .hbm, ⟨43, _⟩ => ⟨S8x2x16x256x16, .f32⟩
  | .hbm, ⟨44, _⟩ => ⟨S8x16x2x256x16, .f32⟩
  | .hbm, ⟨45, _⟩ => ⟨S256x256x16, .f32⟩
  | .hbm, ⟨46, _⟩ => ⟨S_, .i32⟩
  | .hbm, ⟨47, _⟩ => ⟨S_, .f32⟩
  | .hbm, ⟨48, _⟩ => ⟨S256x256x128, .f32⟩
  | .hbm, ⟨49, _⟩ => ⟨S_, .f32⟩
  | .hbm, ⟨50, _⟩ => ⟨S1x16x4096x64, .f32⟩
  | .hbm, ⟨51, _⟩ => ⟨S1x16x4096x64, .f32⟩
  | .hbm, ⟨52, _⟩ => ⟨S16x4096x64, .f32⟩
  | .hbm, ⟨53, _⟩ => ⟨S4096x16x64, .f32⟩
  | .hbm, ⟨54, _⟩ => ⟨S4096x1024, .f32⟩
  | .hbm, ⟨55, _⟩ => ⟨S16x4096x64, .f32⟩
  | .hbm, ⟨56, _⟩ => ⟨S4096x16x64, .f32⟩
  | .hbm, ⟨57, _⟩ => ⟨S4096x1024, .f32⟩
  | .hbm, ⟨58, _⟩ => ⟨S16x4096x64, .f32⟩
  | .hbm, ⟨59, _⟩ => ⟨S4096x16x64, .f32⟩
  | .hbm, ⟨60, _⟩ => ⟨S4096x1024, .f32⟩
  | .hbm, ⟨61, _⟩ => ⟨S4096x3072, .f32⟩
  | .hbm, ⟨62, _⟩ => ⟨S4096x3072, .bf16⟩
  | .hbm, ⟨63, _⟩ => ⟨S16x4096x64, .f32⟩
  | .hbm, ⟨64, _⟩ => ⟨S4096x16x64, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096x1024, .f32⟩
  | .hbm, ⟨71, _⟩ => ⟨S4096x1024, .f32⟩
  | .hbm, ⟨72, _⟩ => ⟨S4096x16x64, .f32⟩
  | .hbm, ⟨73, _⟩ => ⟨S16x4096x64, .f32⟩
  | .hbm, ⟨74, _⟩ => ⟨S1x16x4096x64, .f32⟩
  | .hbm, ⟨75, _⟩ => ⟨S4096x16x64, .f32⟩
  | .hbm, ⟨76, _⟩ => ⟨S16x4096x64, .f32⟩
  | .hbm, ⟨77, _⟩ => ⟨S1x16x4096x64, .f32⟩
  | .hbm, ⟨78, _⟩ => ⟨S4096x16x64, .f32⟩
  | .hbm, ⟨79, _⟩ => ⟨S16x4096x64, .f32⟩
  | .hbm, ⟨80, _⟩ => ⟨S1x16x4096x64, .f32⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .f32⟩
  | .local _ .vmem, ⟨7, _⟩ => ⟨S256x128, .f32⟩
  | .local _ .vmem, ⟨8, _⟩ => ⟨S2x256x128, .f32⟩
  | .local _ .vmem, ⟨9, _⟩ => ⟨S2x256x128, .f32⟩
  | .local _ .vmem, ⟨10, _⟩ => ⟨S256x128, .f32⟩
  | .local _ .vmem, ⟨11, _⟩ => ⟨S256x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | _, _ => ⟨S1x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v11 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v12 : Ref sig .tc := ⟨.hbm, 36, rfl⟩
abbrev main_call2_cst : Ref sig .tc := ⟨.hbm, 37, rfl⟩
abbrev main_call2_v0 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c : Ref sig .tc := ⟨.hbm, 46, rfl⟩
abbrev main_call3_v0 : Ref sig .tc := ⟨.hbm, 47, rfl⟩
abbrev main_v20 : Ref sig .tc := ⟨.hbm, 48, rfl⟩
abbrev main_cst_1 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37_0 : Ref sig .tc := ⟨.hbm, 66, rfl⟩
abbrev main_v37_1 : Ref sig .tc := ⟨.hbm, 67, rfl⟩
abbrev main_v37_2 : Ref sig .tc := ⟨.hbm, 68, rfl⟩
abbrev main_cst_2 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

@[reducible] def k0_t1_loop (i : grid0.Coords) (v53 : BitVec 32) : Scf.Loop 32 :=
  let c0_i32_26 : BitVec 32 := 0#32
  let arg1 : BitVec 32 := BitVec.ofNat 32 (i 1).val
  let c1_i32 : BitVec 32 := 1#32
  let v32 : BitVec 32 := Scalar.subi arg1 c1_i32
  let c0_i32_6 : BitVec 32 := 0#32
  let v33 : BitVec 32 := Scalar.maxsi v32 c0_i32_6
  let v57 : BitVec 32 := Scalar.subi v33 v53
  let c0_i32_20 : BitVec 32 := 0#32
  let v59 : BitVec 1 := Scalar.cmpi .sgt v57 c0_i32_20
  let v60 : BitVec 32 := Scalar.extui v59
  let c0_i32_21 : BitVec 32 := 0#32
  let v61 : BitVec 1 := Scalar.cmpi .slt v57 c0_i32_21
  let v62 : BitVec 32 := Scalar.extui v61
  let v63 : BitVec 32 := Scalar.subi v60 v62
  let c2_i32 : BitVec 32 := 2#32
  let c0_i32_22 : BitVec 32 := 0#32
  let v64 : BitVec 1 := Scalar.cmpi .sgt c2_i32 c0_i32_22
  let v65 : BitVec 32 := Scalar.extui v64
  let c0_i32_23 : BitVec 32 := 0#32
  let v66 : BitVec 1 := Scalar.cmpi .slt c2_i32 c0_i32_23
  let v67 : BitVec 32 := Scalar.extui v66
  let v68 : BitVec 32 := Scalar.subi v65 v67
  let v69 : BitVec 1 := Scalar.cmpi .ne v63 v68
  let v70 : BitVec 32 := Scalar.remsi v57 c2_i32
  let c0_i32_24 : BitVec 32 := 0#32
  let v71 : BitVec 1 := Scalar.cmpi .ne v70 c0_i32_24
  let v72 : BitVec 1 := Scalar.andi v69 v71
  let v58 : BitVec 32 := Scalar.divsi v57 c2_i32
  let c1_i32_25 : BitVec 32 := 1#32
  let v73 : BitVec 32 := Scalar.subi v58 c1_i32_25
  let v74 : BitVec 32 := Scalar.select v72 v73 v58
  let v75 : BitVec 32 := Scalar.subi v74 c0_i32_26
  let c1_i32_27 : BitVec 32 := 1#32
  let v77 : BitVec 32 := Scalar.divsi v75 c1_i32_27
  let v78 : BitVec 32 := Scalar.muli v77 c1_i32_27
  let v79 : BitVec 32 := Scalar.addi c0_i32_26 v78
  let c1_i32_28 : BitVec 32 := 1#32
  ⟨c0_i32_26, v79, c1_i32_28⟩

def k0_mult1 (i : grid0.Coords) (v53 : BitVec 32) (k0_t1 : Fin (k0_t1_loop i v53).trips) : BitVec 32 :=
  let c2_i32_42 : BitVec 32 := 2#32
  let c0_i32_26 : BitVec 32 := 0#32
  let c1_i32_28 : BitVec 32 := 1#32
  let arg10 : BitVec 32 := Scf.iv c0_i32_26 c1_i32_28 k0_t1
  let v104 : BitVec 32 := Scalar.muli c2_i32_42 arg10
  let v105 : BitVec 32 := Scalar.addi v53 v104
  let c256_i32 : BitVec 32 := 256#32
  let v109 : BitVec 32 := Scalar.muli v105 c256_i32
  v109
def k0_off1 (i : grid0.Coords) (v53 : BitVec 32) (k0_t1 : Fin (k0_t1_loop i v53).trips) : Fin 2 → Nat :=
  let c2_i32_42 : BitVec 32 := 2#32
  let c0_i32_26 : BitVec 32 := 0#32
  let c1_i32_28 : BitVec 32 := 1#32
  let arg10 : BitVec 32 := Scf.iv c0_i32_26 c1_i32_28 k0_t1
  let v104 : BitVec 32 := Scalar.muli c2_i32_42 arg10
  let v105 : BitVec 32 := Scalar.addi v53 v104
  let c256_i32 : BitVec 32 := 256#32
  let v109 : BitVec 32 := Scalar.muli v105 c256_i32
  let v110 : BitVec 32 := v109
  let v111 : Index := Scalar.indexCast v110
  let c0_45 : Index := 0#32
  ![v111.toNat, 0]
def k0_mult2 (i : grid0.Coords) (v53 : BitVec 32) (k0_t1 : Fin (k0_t1_loop i v53).trips) : BitVec 32 :=
  let c2_i32_43 : BitVec 32 := 2#32
  let c0_i32_26 : BitVec 32 := 0#32
  let c1_i32_28 : BitVec 32 := 1#32
  let arg10 : BitVec 32 := Scf.iv c0_i32_26 c1_i32_28 k0_t1
  let v106 : BitVec 32 := Scalar.muli c2_i32_43 arg10
  let v107 : BitVec 32 := Scalar.addi v53 v106
  let c1_i32_44 : BitVec 32 := 1#32
  let v108 : BitVec 32 := Scalar.addi v107 c1_i32_44
  let c256_i32_48 : BitVec 32 := 256#32
  let v130 : BitVec 32 := Scalar.muli v108 c256_i32_48
  v130
def k0_off2 (i : grid0.Coords) (v53 : BitVec 32) (k0_t1 : Fin (k0_t1_loop i v53).trips) : Fin 2 → Nat :=
  let c2_i32_43 : BitVec 32 := 2#32
  let c0_i32_26 : BitVec 32 := 0#32
  let c1_i32_28 : BitVec 32 := 1#32
  let arg10 : BitVec 32 := Scf.iv c0_i32_26 c1_i32_28 k0_t1
  let v106 : BitVec 32 := Scalar.muli c2_i32_43 arg10
  let v107 : BitVec 32 := Scalar.addi v53 v106
  let c1_i32_44 : BitVec 32 := 1#32
  let v108 : BitVec 32 := Scalar.addi v107 c1_i32_44
  let c256_i32_48 : BitVec 32 := 256#32
  let v130 : BitVec 32 := Scalar.muli v108 c256_i32_48
  let v131 : BitVec 32 := v130
  let v132 : Index := Scalar.indexCast v131
  let c0_49 : Index := 0#32
  ![v132.toNat, 0]
@[reducible] def k0_t2_loop (i : grid0.Coords) (v53 : BitVec 32) : Scf.Loop 32 :=
  let c0_i32_26 : BitVec 32 := 0#32
  let arg1 : BitVec 32 := BitVec.ofNat 32 (i 1).val
  let c1_i32 : BitVec 32 := 1#32
  let v32 : BitVec 32 := Scalar.subi arg1 c1_i32
  let c0_i32_6 : BitVec 32 := 0#32
  let v33 : BitVec 32 := Scalar.maxsi v32 c0_i32_6
  let v57 : BitVec 32 := Scalar.subi v33 v53
  let c0_i32_20 : BitVec 32 := 0#32
  let v59 : BitVec 1 := Scalar.cmpi .sgt v57 c0_i32_20
  let v60 : BitVec 32 := Scalar.extui v59
  let c0_i32_21 : BitVec 32 := 0#32
  let v61 : BitVec 1 := Scalar.cmpi .slt v57 c0_i32_21
  let v62 : BitVec 32 := Scalar.extui v61
  let v63 : BitVec 32 := Scalar.subi v60 v62
  let c2_i32 : BitVec 32 := 2#32
  let c0_i32_22 : BitVec 32 := 0#32
  let v64 : BitVec 1 := Scalar.cmpi .sgt c2_i32 c0_i32_22
  let v65 : BitVec 32 := Scalar.extui v64
  let c0_i32_23 : BitVec 32 := 0#32
  let v66 : BitVec 1 := Scalar.cmpi .slt c2_i32 c0_i32_23
  let v67 : BitVec 32 := Scalar.extui v66
  let v68 : BitVec 32 := Scalar.subi v65 v67
  let v69 : BitVec 1 := Scalar.cmpi .ne v63 v68
  let v70 : BitVec 32 := Scalar.remsi v57 c2_i32
  let c0_i32_24 : BitVec 32 := 0#32
  let v71 : BitVec 1 := Scalar.cmpi .ne v70 c0_i32_24
  let v72 : BitVec 1 := Scalar.andi v69 v71
  let v58 : BitVec 32 := Scalar.divsi v57 c2_i32
  let c1_i32_25 : BitVec 32 := 1#32
  let v73 : BitVec 32 := Scalar.subi v58 c1_i32_25
  let v74 : BitVec 32 := Scalar.select v72 v73 v58
  let v75 : BitVec 32 := Scalar.subi v74 c0_i32_26
  let c1_i32_27 : BitVec 32 := 1#32
  let v77 : BitVec 32 := Scalar.divsi v75 c1_i32_27
  let v78 : BitVec 32 := Scalar.muli v77 c1_i32_27
  let v79 : BitVec 32 := Scalar.addi c0_i32_26 v78
  let v76 : BitVec 32 := Scalar.addi c0_i32_26 v75
  let c1_i32_29 : BitVec 32 := 1#32
  ⟨v79, v76, c1_i32_29⟩
def k0_mult3 (i : grid0.Coords) (v53 : BitVec 32) (k0_t2 : Fin (k0_t2_loop i v53).trips) : BitVec 32 :=
  let c2_i32_42 : BitVec 32 := 2#32
  let c0_i32_26 : BitVec 32 := 0#32
  let arg1 : BitVec 32 := BitVec.ofNat 32 (i 1).val
  let c1_i32 : BitVec 32 := 1#32
  let v32 : BitVec 32 := Scalar.subi arg1 c1_i32
  let c0_i32_6 : BitVec 32 := 0#32
  let v33 : BitVec 32 := Scalar.maxsi v32 c0_i32_6
  let v57 : BitVec 32 := Scalar.subi v33 v53
  let c0_i32_20 : BitVec 32 := 0#32
  let v59 : BitVec 1 := Scalar.cmpi .sgt v57 c0_i32_20
  let v60 : BitVec 32 := Scalar.extui v59
  let c0_i32_21 : BitVec 32 := 0#32
  let v61 : BitVec 1 := Scalar.cmpi .slt v57 c0_i32_21
  let v62 : BitVec 32 := Scalar.extui v61
  let v63 : BitVec 32 := Scalar.subi v60 v62
  let c2_i32 : BitVec 32 := 2#32
  let c0_i32_22 : BitVec 32 := 0#32
  let v64 : BitVec 1 := Scalar.cmpi .sgt c2_i32 c0_i32_22
  let v65 : BitVec 32 := Scalar.extui v64
  let c0_i32_23 : BitVec 32 := 0#32
  let v66 : BitVec 1 := Scalar.cmpi .slt c2_i32 c0_i32_23
  let v67 : BitVec 32 := Scalar.extui v66
  let v68 : BitVec 32 := Scalar.subi v65 v67
  let v69 : BitVec 1 := Scalar.cmpi .ne v63 v68
  let v70 : BitVec 32 := Scalar.remsi v57 c2_i32
  let c0_i32_24 : BitVec 32 := 0#32
  let v71 : BitVec 1 := Scalar.cmpi .ne v70 c0_i32_24
  let v72 : BitVec 1 := Scalar.andi v69 v71
  let v58 : BitVec 32 := Scalar.divsi v57 c2_i32
  let c1_i32_25 : BitVec 32 := 1#32
  let v73 : BitVec 32 := Scalar.subi v58 c1_i32_25
  let v74 : BitVec 32 := Scalar.select v72 v73 v58
  let v75 : BitVec 32 := Scalar.subi v74 c0_i32_26
  let c1_i32_27 : BitVec 32 := 1#32
  let v77 : BitVec 32 := Scalar.divsi v75 c1_i32_27
  let v78 : BitVec 32 := Scalar.muli v77 c1_i32_27
  let v79 : BitVec 32 := Scalar.addi c0_i32_26 v78
  let c1_i32_29 : BitVec 32 := 1#32
  let arg10 : BitVec 32 := Scf.iv v79 c1_i32_29 k0_t2
  let v104 : BitVec 32 := Scalar.muli c2_i32_42 arg10
  let v105 : BitVec 32 := Scalar.addi v53 v104
  let c256_i32 : BitVec 32 := 256#32
  let v109 : BitVec 32 := Scalar.muli v105 c256_i32
  v109
def k0_off3 (i : grid0.Coords) (v53 : BitVec 32) (k0_t2 : Fin (k0_t2_loop i v53).trips) : Fin 2 → Nat :=
  let c2_i32_42 : BitVec 32 := 2#32
  let c0_i32_26 : BitVec 32 := 0#32
  let arg1 : BitVec 32 := BitVec.ofNat 32 (i 1).val
  let c1_i32 : BitVec 32 := 1#32
  let v32 : BitVec 32 := Scalar.subi arg1 c1_i32
  let c0_i32_6 : BitVec 32 := 0#32
  let v33 : BitVec 32 := Scalar.maxsi v32 c0_i32_6
  let v57 : BitVec 32 := Scalar.subi v33 v53
  let c0_i32_20 : BitVec 32 := 0#32
  let v59 : BitVec 1 := Scalar.cmpi .sgt v57 c0_i32_20
  let v60 : BitVec 32 := Scalar.extui v59
  let c0_i32_21 : BitVec 32 := 0#32
  let v61 : BitVec 1 := Scalar.cmpi .slt v57 c0_i32_21
  let v62 : BitVec 32 := Scalar.extui v61
  let v63 : BitVec 32 := Scalar.subi v60 v62
  let c2_i32 : BitVec 32 := 2#32
  let c0_i32_22 : BitVec 32 := 0#32
  let v64 : BitVec 1 := Scalar.cmpi .sgt c2_i32 c0_i32_22
  let v65 : BitVec 32 := Scalar.extui v64
  let c0_i32_23 : BitVec 32 := 0#32
  let v66 : BitVec 1 := Scalar.cmpi .slt c2_i32 c0_i32_23
  let v67 : BitVec 32 := Scalar.extui v66
  let v68 : BitVec 32 := Scalar.subi v65 v67
  let v69 : BitVec 1 := Scalar.cmpi .ne v63 v68
  let v70 : BitVec 32 := Scalar.remsi v57 c2_i32
  let c0_i32_24 : BitVec 32 := 0#32
  let v71 : BitVec 1 := Scalar.cmpi .ne v70 c0_i32_24
  let v72 : BitVec 1 := Scalar.andi v69 v71
  let v58 : BitVec 32 := Scalar.divsi v57 c2_i32
  let c1_i32_25 : BitVec 32 := 1#32
  let v73 : BitVec 32 := Scalar.subi v58 c1_i32_25
  let v74 : BitVec 32 := Scalar.select v72 v73 v58
  let v75 : BitVec 32 := Scalar.subi v74 c0_i32_26
  let c1_i32_27 : BitVec 32 := 1#32
  let v77 : BitVec 32 := Scalar.divsi v75 c1_i32_27
  let v78 : BitVec 32 := Scalar.muli v77 c1_i32_27
  let v79 : BitVec 32 := Scalar.addi c0_i32_26 v78
  let c1_i32_29 : BitVec 32 := 1#32
  let arg10 : BitVec 32 := Scf.iv v79 c1_i32_29 k0_t2
  let v104 : BitVec 32 := Scalar.muli c2_i32_42 arg10
  let v105 : BitVec 32 := Scalar.addi v53 v104
  let c256_i32 : BitVec 32 := 256#32
  let v109 : BitVec 32 := Scalar.muli v105 c256_i32
  let v110 : BitVec 32 := v109
  let v111 : Index := Scalar.indexCast v110
  let c0_45 : Index := 0#32
  ![v111.toNat, 0]
def k0_mult4 (i : grid0.Coords) (v53 : BitVec 32) (k0_t2 : Fin (k0_t2_loop i v53).trips) : BitVec 32 :=
  let c2_i32_43 : BitVec 32 := 2#32
  let c0_i32_26 : BitVec 32 := 0#32
  let arg1 : BitVec 32 := BitVec.ofNat 32 (i 1).val
  let c1_i32 : BitVec 32 := 1#32
  let v32 : BitVec 32 := Scalar.subi arg1 c1_i32
  let c0_i32_6 : BitVec 32 := 0#32
  let v33 : BitVec 32 := Scalar.maxsi v32 c0_i32_6
  let v57 : BitVec 32 := Scalar.subi v33 v53
  let c0_i32_20 : BitVec 32 := 0#32
  let v59 : BitVec 1 := Scalar.cmpi .sgt v57 c0_i32_20
  let v60 : BitVec 32 := Scalar.extui v59
  let c0_i32_21 : BitVec 32 := 0#32
  let v61 : BitVec 1 := Scalar.cmpi .slt v57 c0_i32_21
  let v62 : BitVec 32 := Scalar.extui v61
  let v63 : BitVec 32 := Scalar.subi v60 v62
  let c2_i32 : BitVec 32 := 2#32
  let c0_i32_22 : BitVec 32 := 0#32
  let v64 : BitVec 1 := Scalar.cmpi .sgt c2_i32 c0_i32_22
  let v65 : BitVec 32 := Scalar.extui v64
  let c0_i32_23 : BitVec 32 := 0#32
  let v66 : BitVec 1 := Scalar.cmpi .slt c2_i32 c0_i32_23
  let v67 : BitVec 32 := Scalar.extui v66
  let v68 : BitVec 32 := Scalar.subi v65 v67
  let v69 : BitVec 1 := Scalar.cmpi .ne v63 v68
  let v70 : BitVec 32 := Scalar.remsi v57 c2_i32
  let c0_i32_24 : BitVec 32 := 0#32
  let v71 : BitVec 1 := Scalar.cmpi .ne v70 c0_i32_24
  let v72 : BitVec 1 := Scalar.andi v69 v71
  let v58 : BitVec 32 := Scalar.divsi v57 c2_i32
  let c1_i32_25 : BitVec 32 := 1#32
  let v73 : BitVec 32 := Scalar.subi v58 c1_i32_25
  let v74 : BitVec 32 := Scalar.select v72 v73 v58
  let v75 : BitVec 32 := Scalar.subi v74 c0_i32_26
  let c1_i32_27 : BitVec 32 := 1#32
  let v77 : BitVec 32 := Scalar.divsi v75 c1_i32_27
  let v78 : BitVec 32 := Scalar.muli v77 c1_i32_27
  let v79 : BitVec 32 := Scalar.addi c0_i32_26 v78
  let c1_i32_29 : BitVec 32 := 1#32
  let arg10 : BitVec 32 := Scf.iv v79 c1_i32_29 k0_t2
  let v106 : BitVec 32 := Scalar.muli c2_i32_43 arg10
  let v107 : BitVec 32 := Scalar.addi v53 v106
  let c1_i32_44 : BitVec 32 := 1#32
  let v108 : BitVec 32 := Scalar.addi v107 c1_i32_44
  let c256_i32_48 : BitVec 32 := 256#32
  let v130 : BitVec 32 := Scalar.muli v108 c256_i32_48
  v130
def k0_off4 (i : grid0.Coords) (v53 : BitVec 32) (k0_t2 : Fin (k0_t2_loop i v53).trips) : Fin 2 → Nat :=
  let c2_i32_43 : BitVec 32 := 2#32
  let c0_i32_26 : BitVec 32 := 0#32
  let arg1 : BitVec 32 := BitVec.ofNat 32 (i 1).val
  let c1_i32 : BitVec 32 := 1#32
  let v32 : BitVec 32 := Scalar.subi arg1 c1_i32
  let c0_i32_6 : BitVec 32 := 0#32
  let v33 : BitVec 32 := Scalar.maxsi v32 c0_i32_6
  let v57 : BitVec 32 := Scalar.subi v33 v53
  let c0_i32_20 : BitVec 32 := 0#32
  let v59 : BitVec 1 := Scalar.cmpi .sgt v57 c0_i32_20
  let v60 : BitVec 32 := Scalar.extui v59
  let c0_i32_21 : BitVec 32 := 0#32
  let v61 : BitVec 1 := Scalar.cmpi .slt v57 c0_i32_21
  let v62 : BitVec 32 := Scalar.extui v61
  let v63 : BitVec 32 := Scalar.subi v60 v62
  let c2_i32 : BitVec 32 := 2#32
  let c0_i32_22 : BitVec 32 := 0#32
  let v64 : BitVec 1 := Scalar.cmpi .sgt c2_i32 c0_i32_22
  let v65 : BitVec 32 := Scalar.extui v64
  let c0_i32_23 : BitVec 32 := 0#32
  let v66 : BitVec 1 := Scalar.cmpi .slt c2_i32 c0_i32_23
  let v67 : BitVec 32 := Scalar.extui v66
  let v68 : BitVec 32 := Scalar.subi v65 v67
  let v69 : BitVec 1 := Scalar.cmpi .ne v63 v68
  let v70 : BitVec 32 := Scalar.remsi v57 c2_i32
  let c0_i32_24 : BitVec 32 := 0#32
  let v71 : BitVec 1 := Scalar.cmpi .ne v70 c0_i32_24
  let v72 : BitVec 1 := Scalar.andi v69 v71
  let v58 : BitVec 32 := Scalar.divsi v57 c2_i32
  let c1_i32_25 : BitVec 32 := 1#32
  let v73 : BitVec 32 := Scalar.subi v58 c1_i32_25
  let v74 : BitVec 32 := Scalar.select v72 v73 v58
  let v75 : BitVec 32 := Scalar.subi v74 c0_i32_26
  let c1_i32_27 : BitVec 32 := 1#32
  let v77 : BitVec 32 := Scalar.divsi v75 c1_i32_27
  let v78 : BitVec 32 := Scalar.muli v77 c1_i32_27
  let v79 : BitVec 32 := Scalar.addi c0_i32_26 v78
  let c1_i32_29 : BitVec 32 := 1#32
  let arg10 : BitVec 32 := Scf.iv v79 c1_i32_29 k0_t2
  let v106 : BitVec 32 := Scalar.muli c2_i32_43 arg10
  let v107 : BitVec 32 := Scalar.addi v53 v106
  let c1_i32_44 : BitVec 32 := 1#32
  let v108 : BitVec 32 := Scalar.addi v107 c1_i32_44
  let c256_i32_48 : BitVec 32 := 256#32
  let v130 : BitVec 32 := Scalar.muli v108 c256_i32_48
  let v131 : BitVec 32 := v130
  let v132 : Index := Scalar.indexCast v131
  let c0_49 : Index := 0#32
  ![v132.toNat, 0]
def k0_mult5 (i : grid0.Coords) : BitVec 32 :=
  let arg1 : BitVec 32 := BitVec.ofNat 32 (i 1).val
  let c1_i32 : BitVec 32 := 1#32
  let v32 : BitVec 32 := Scalar.subi arg1 c1_i32
  let c0_i32_6 : BitVec 32 := 0#32
  let v33 : BitVec 32 := Scalar.maxsi v32 c0_i32_6
  let c1_i32_42 : BitVec 32 := 1#32
  let v104 : BitVec 32 := Scalar.subi v33 c1_i32_42
  let c256_i32 : BitVec 32 := 256#32
  let v105 : BitVec 32 := Scalar.muli v104 c256_i32
  v105
def k0_off5 (i : grid0.Coords) : Fin 2 → Nat :=
  let arg1 : BitVec 32 := BitVec.ofNat 32 (i 1).val
  let c1_i32 : BitVec 32 := 1#32
  let v32 : BitVec 32 := Scalar.subi arg1 c1_i32
  let c0_i32_6 : BitVec 32 := 0#32
  let v33 : BitVec 32 := Scalar.maxsi v32 c0_i32_6
  let c1_i32_42 : BitVec 32 := 1#32
  let v104 : BitVec 32 := Scalar.subi v33 c1_i32_42
  let c256_i32 : BitVec 32 := 256#32
  let v105 : BitVec 32 := Scalar.muli v104 c256_i32
  let v106 : BitVec 32 := v105
  let v107 : Index := Scalar.indexCast v106
  let c0_43 : Index := 0#32
  ![v107.toNat, 0]
def k0_cond2 (i : grid0.Coords) (v53 : BitVec 32) : BitVec 1 :=
  let arg1 : BitVec 32 := BitVec.ofNat 32 (i 1).val
  let c1_i32 : BitVec 32 := 1#32
  let v32 : BitVec 32 := Scalar.subi arg1 c1_i32
  let c0_i32_6 : BitVec 32 := 0#32
  let v33 : BitVec 32 := Scalar.maxsi v32 c0_i32_6
  let v57 : BitVec 32 := Scalar.subi v33 v53
  let c2_i32_30 : BitVec 32 := 2#32
  let c0_i32_31 : BitVec 32 := 0#32
  let v82 : BitVec 1 := Scalar.cmpi .eq c2_i32_30 c0_i32_31
  let c1_i32_32 : BitVec 32 := 1#32
  let v83 : BitVec 32 := Scalar.select v82 c1_i32_32 c2_i32_30
  let v84 : BitVec 32 := Scalar.remsi v57 v83
  let c0_i32_34 : BitVec 32 := 0#32
  let v86 : BitVec 1 := Scalar.cmpi .slt v84 c0_i32_34
  let c0_i32_35 : BitVec 32 := 0#32
  let v87 : BitVec 1 := Scalar.cmpi .slt v83 c0_i32_35
  let v88 : BitVec 1 := Scalar.xori v86 v87
  let c0_i32_33 : BitVec 32 := 0#32
  let v85 : BitVec 1 := Scalar.cmpi .ne v84 c0_i32_33
  let v89 : BitVec 1 := Scalar.andi v88 v85
  let v90 : BitVec 32 := Scalar.addi v84 v83
  let v91 : BitVec 32 := Scalar.select v89 v90 v84
  let c1_i32_36 : BitVec 32 := 1#32
  let v92 : BitVec 1 := Scalar.cmpi .eq v91 c1_i32_36
  let v93 : BitVec 32 := Scalar.extui v92
  let c0_i32_37 : BitVec 32 := 0#32
  let v94 : BitVec 1 := Scalar.cmpi .ne v93 c0_i32_37
  v94

def k0_chk1 (i : grid0.Coords) (v53 : BitVec 32) : Prop :=
  ((k0_t1_loop i v53).OK) ∧
  (∀ k0_t1 : Fin (k0_t1_loop i v53).trips, 256 ∣ (k0_mult1 i v53 k0_t1).toNat) ∧
  (∀ k0_t1 : Fin (k0_t1_loop i v53).trips, ∀ a, (k0_off1 i v53 k0_t1) a + S256x128.size a ≤ S4096x128.size a) ∧
  (∀ k0_t1 : Fin (k0_t1_loop i v53).trips, 256 ∣ (k0_mult2 i v53 k0_t1).toNat) ∧
  (∀ k0_t1 : Fin (k0_t1_loop i v53).trips, ∀ a, (k0_off2 i v53 k0_t1) a + S256x128.size a ≤ S4096x128.size a) ∧
  ((k0_t2_loop i v53).OK) ∧
  (∀ k0_t2 : Fin (k0_t2_loop i v53).trips, 256 ∣ (k0_mult3 i v53 k0_t2).toNat) ∧
  (∀ k0_t2 : Fin (k0_t2_loop i v53).trips, ∀ a, (k0_off3 i v53 k0_t2) a + S256x128.size a ≤ S4096x128.size a) ∧
  (∀ k0_t2 : Fin (k0_t2_loop i v53).trips, 256 ∣ (k0_mult4 i v53 k0_t2).toNat) ∧
  (∀ k0_t2 : Fin (k0_t2_loop i v53).trips, ∀ a, (k0_off4 i v53 k0_t2) a + S256x128.size a ≤ S4096x128.size a) ∧
  (∀ (k0_h2 : k0_cond2 i v53 = 1#1), ∀ a, (k0_off5 i) a + S256x128.size a ≤ S4096x128.size a)
theorem k0_t1_ok : ∀ (i : grid0.Coords) (v53 : BitVec 32) (k0_hw1 : k0_chk1 i v53), (k0_t1_loop i v53).OK := fun i v53 k0_hw1 => k0_hw1.1
theorem k0_mult1_dvd : ∀ (i : grid0.Coords) (v53 : BitVec 32) (k0_hw1 : k0_chk1 i v53) (k0_t1 : Fin (k0_t1_loop i v53).trips), 256 ∣ (k0_mult1 i v53 k0_t1).toNat := fun i v53 k0_hw1 k0_t1 => k0_hw1.2.1 k0_t1
theorem k0_off1_inb : ∀ (i : grid0.Coords) (v53 : BitVec 32) (k0_hw1 : k0_chk1 i v53) (k0_t1 : Fin (k0_t1_loop i v53).trips), ∀ a, (k0_off1 i v53 k0_t1) a + S256x128.size a ≤ S4096x128.size a := fun i v53 k0_hw1 k0_t1 => k0_hw1.2.2.1 k0_t1
theorem k0_mult2_dvd : ∀ (i : grid0.Coords) (v53 : BitVec 32) (k0_hw1 : k0_chk1 i v53) (k0_t1 : Fin (k0_t1_loop i v53).trips), 256 ∣ (k0_mult2 i v53 k0_t1).toNat := fun i v53 k0_hw1 k0_t1 => k0_hw1.2.2.2.1 k0_t1
theorem k0_off2_inb : ∀ (i : grid0.Coords) (v53 : BitVec 32) (k0_hw1 : k0_chk1 i v53) (k0_t1 : Fin (k0_t1_loop i v53).trips), ∀ a, (k0_off2 i v53 k0_t1) a + S256x128.size a ≤ S4096x128.size a := fun i v53 k0_hw1 k0_t1 => k0_hw1.2.2.2.2.1 k0_t1
theorem k0_t2_ok : ∀ (i : grid0.Coords) (v53 : BitVec 32) (k0_hw1 : k0_chk1 i v53), (k0_t2_loop i v53).OK := fun i v53 k0_hw1 => k0_hw1.2.2.2.2.2.1
theorem k0_mult3_dvd : ∀ (i : grid0.Coords) (v53 : BitVec 32) (k0_hw1 : k0_chk1 i v53) (k0_t2 : Fin (k0_t2_loop i v53).trips), 256 ∣ (k0_mult3 i v53 k0_t2).toNat := fun i v53 k0_hw1 k0_t2 => k0_hw1.2.2.2.2.2.2.1 k0_t2
theorem k0_off3_inb : ∀ (i : grid0.Coords) (v53 : BitVec 32) (k0_hw1 : k0_chk1 i v53) (k0_t2 : Fin (k0_t2_loop i v53).trips), ∀ a, (k0_off3 i v53 k0_t2) a + S256x128.size a ≤ S4096x128.size a := fun i v53 k0_hw1 k0_t2 => k0_hw1.2.2.2.2.2.2.2.1 k0_t2
theorem k0_mult4_dvd : ∀ (i : grid0.Coords) (v53 : BitVec 32) (k0_hw1 : k0_chk1 i v53) (k0_t2 : Fin (k0_t2_loop i v53).trips), 256 ∣ (k0_mult4 i v53 k0_t2).toNat := fun i v53 k0_hw1 k0_t2 => k0_hw1.2.2.2.2.2.2.2.2.1 k0_t2
theorem k0_off4_inb : ∀ (i : grid0.Coords) (v53 : BitVec 32) (k0_hw1 : k0_chk1 i v53) (k0_t2 : Fin (k0_t2_loop i v53).trips), ∀ a, (k0_off4 i v53 k0_t2) a + S256x128.size a ≤ S4096x128.size a := fun i v53 k0_hw1 k0_t2 => k0_hw1.2.2.2.2.2.2.2.2.2.1 k0_t2
theorem k0_off5_inb : ∀ (i : grid0.Coords) (v53 : BitVec 32) (k0_hw1 : k0_chk1 i v53), ∀ (k0_h2 : k0_cond2 i v53 = 1#1), ∀ a, (k0_off5 i) a + S256x128.size a ≤ S4096x128.size a := fun i v53 k0_hw1 k0_h2 => k0_hw1.2.2.2.2.2.2.2.2.2.2 k0_h2

def k0_cond3 (i : grid0.Coords) : BitVec 1 :=
  let arg1 : BitVec 32 := BitVec.ofNat 32 (i 1).val
  let c0_i32_38 : BitVec 32 := 0#32
  let v99 : BitVec 1 := Scalar.cmpi .eq arg1 c0_i32_38
  let v100 : BitVec 32 := Scalar.extui v99
  let c0_i32_39 : BitVec 32 := 0#32
  let v101 : BitVec 1 := Scalar.cmpi .ne v100 c0_i32_39
  v101

def k0_mult6 (i : grid0.Coords) : BitVec 32 :=
  let arg1 : BitVec 32 := BitVec.ofNat 32 (i 1).val
  let c256_i32 : BitVec 32 := 256#32
  let v104 : BitVec 32 := Scalar.muli arg1 c256_i32
  v104
def k0_off6 (i : grid0.Coords) : Fin 2 → Nat :=
  let arg1 : BitVec 32 := BitVec.ofNat 32 (i 1).val
  let c256_i32 : BitVec 32 := 256#32
  let v104 : BitVec 32 := Scalar.muli arg1 c256_i32
  let v105 : BitVec 32 := v104
  let v106 : Index := Scalar.indexCast v105
  let c0_42 : Index := 0#32
  ![v106.toNat, 0]
def k0_mult7 (i : grid0.Coords) : BitVec 32 :=
  let arg1 : BitVec 32 := BitVec.ofNat 32 (i 1).val
  let c1_i32_42 : BitVec 32 := 1#32
  let v104 : BitVec 32 := Scalar.subi arg1 c1_i32_42
  let c256_i32 : BitVec 32 := 256#32
  let v105 : BitVec 32 := Scalar.muli v104 c256_i32
  v105
def k0_off7 (i : grid0.Coords) : Fin 2 → Nat :=
  let arg1 : BitVec 32 := BitVec.ofNat 32 (i 1).val
  let c1_i32_42 : BitVec 32 := 1#32
  let v104 : BitVec 32 := Scalar.subi arg1 c1_i32_42
  let c256_i32 : BitVec 32 := 256#32
  let v105 : BitVec 32 := Scalar.muli v104 c256_i32
  let v106 : BitVec 32 := v105
  let v107 : Index := Scalar.indexCast v106
  let c0_43 : Index := 0#32
  ![v107.toNat, 0]
def k0_mult8 (i : grid0.Coords) : BitVec 32 :=
  let arg1 : BitVec 32 := BitVec.ofNat 32 (i 1).val
  let c256_i32_46 : BitVec 32 := 256#32
  let v126 : BitVec 32 := Scalar.muli arg1 c256_i32_46
  v126
def k0_off8 (i : grid0.Coords) : Fin 2 → Nat :=
  let arg1 : BitVec 32 := BitVec.ofNat 32 (i 1).val
  let c256_i32_46 : BitVec 32 := 256#32
  let v126 : BitVec 32 := Scalar.muli arg1 c256_i32_46
  let v127 : BitVec 32 := v126
  let v128 : Index := Scalar.indexCast v127
  let c0_47 : Index := 0#32
  ![v128.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Kernel2Ideal.lean ====
variable {F : FTy → Type} [FloatOps F] [Named F]
def κ : String → Option EReal := fun
  | "dead" => some ⊥
  | _ => none
-- ==== Reference2Ideal.lean ====
abbrev S1x16x4096x64 : Shape := ⟨4, ![1, 16, 4096, 64]⟩
abbrev S1x16x4096x4096 : Shape := ⟨4, ![1, 16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x16x64x4096 : Shape := ⟨4, ![1, 16, 64, 4096]⟩

abbrev nBuf : Space → Nat
  | .hbm => 161
  | .vmem => 0
  | .smem => 0
  | _ => 0

abbrev hbmTy0_0 (i : Nat) : BufTy := match i % 128 with
  | 0 => ⟨S1x16x4096x64, .f32⟩
  | 1 => ⟨S1x16x4096x64, .f32⟩
  | 2 => ⟨S1x16x4096x64, .f32⟩
  | 3 => ⟨S1x16x4096x64, .f32⟩
  | 4 => ⟨S1x16x4096x4096, .f32⟩
  | 5 => ⟨S_, .f32⟩
  | 6 => ⟨S1x16x4096x4096, .f32⟩
  | 7 => ⟨S1x16x4096x4096, .f32⟩
  | 8 => ⟨S4096, .i32⟩
  | 9 => ⟨S1x4096, .i32⟩
  | 10 => ⟨S4096, .i32⟩
  | 11 => ⟨S4096x1, .i32⟩
  | 12 => ⟨S4096x4096, .i32⟩
  | 13 => ⟨S4096x4096, .i32⟩
  | 14 => ⟨S4096x4096, .i1⟩
  | 15 => ⟨S1x16x4096x4096, .f32⟩
  | 16 => ⟨S1x16x4096x4096, .f32⟩
  | 17 => ⟨S_, .f32⟩
  | 18 => ⟨S1x16x4096x4096, .f32⟩
  | 19 => ⟨S1x16x4096x4096, .f32⟩
  | 20 => ⟨S1x16x4096x4096, .f32⟩
  | 21 => ⟨S1x16x4096x4096, .f32⟩
  | 22 => ⟨S1x16x4096x4096, .i1⟩
  | 23 => ⟨S1x16x4096x4096, .f32⟩
  | 24 => ⟨S1x16x4096x4096, .f32⟩
  | 25 => ⟨S1x16x4096x4096, .f32⟩
  | 26 => ⟨S1x16x4096x4096, .f32⟩
  | 27 => ⟨S1x16x4096x4096, .f32⟩
  | 28 => ⟨S1x16x4096x4096, .f32⟩
  | 29 => ⟨S1x16x4096x4096, .f32⟩
  | 30 => ⟨S1x16x4096x4096, .f32⟩
  | 31 => ⟨S_, .f32⟩
  | 32 => ⟨S1x16x4096x4096, .f32⟩
  | 33 => ⟨S1x16x4096x4096, .i1⟩
  | 34 => ⟨S_, .f32⟩
  | 35 => ⟨S1x16x4096x4096, .f32⟩
  | 36 => ⟨S1x16x4096x4096, .f32⟩
  | 37 => ⟨S_, .f32⟩
  | 38 => ⟨S1x16x4096x4096, .f32⟩
  | 39 => ⟨S1x16x4096x4096, .i1⟩
  | 40 => ⟨S_, .f32⟩
  | 41 => ⟨S1x16x4096x4096, .f32⟩
  | 42 => ⟨S1x16x4096x4096, .f32⟩
  | 43 => ⟨S1x16x4096x4096, .f32⟩
  | 44 => ⟨S1x16x4096x4096, .f32⟩
  | 45 => ⟨S_, .f32⟩
  | 46 => ⟨S_, .f32⟩
  | 47 => ⟨S_, .i1⟩
  | 48 => ⟨S_, .f32⟩
  | 49 => ⟨S_, .f32⟩
  | 50 => ⟨S_, .f32⟩
  | 51 => ⟨S_, .f32⟩
  | 52 => ⟨S1x16x4096x4096, .f32⟩
  | 53 => ⟨S1x16x4096x4096, .i1⟩
  | 54 => ⟨S_, .f32⟩
  | 55 => ⟨S1x16x4096x4096, .f32⟩
  | 56 => ⟨S1x16x4096x4096, .f32⟩
  | 57 => ⟨S1x16x4096x4096, .f32⟩
  | 58 => ⟨S1x16x4096x4096, .f32⟩
  | 59 => ⟨S1x16x4096x4096, .f32⟩
  | 60 => ⟨S_, .f32⟩
  | 61 => ⟨S1x16x4096x4096, .f32⟩
  | 62 => ⟨S1x16x4096x4096, .f32⟩
  | 63 => ⟨S1x16x4096x4096, .f32⟩
  | 64 => ⟨S_, .f32⟩
  | 65 => ⟨S_, .f32⟩
  | 66 => ⟨S1x16x4096x4096, .i1⟩
  | 67 => ⟨S1x16x4096x4096, .f32⟩
  | 68 => ⟨S1x16x4096x4096, .f32⟩
  | 69 => ⟨S_, .f32⟩
  | 70 => ⟨S1x16x4096x4096, .f32⟩
  | 71 => ⟨S_, .f32⟩
  | 72 => ⟨S_, .f32⟩
  | 73 => ⟨S1x16x4096x4096, .f32⟩
  | 74 => ⟨S1x16x4096x4096, .f32⟩
  | 75 => ⟨S1x16x4096x4096, .f32⟩
  | 76 => ⟨S_, .f32⟩
  | 77 => ⟨S1x16x4096x4096, .f32⟩
  | 78 => ⟨S1x16x4096x4096, .f32⟩
  | 79 => ⟨S1x16x4096x4096, .f32⟩
  | 80 => ⟨S1x16x4096x4096, .f32⟩
  | 81 => ⟨S1x16x4096x4096, .i1⟩
  | 82 => ⟨S1x16x4096x4096, .f32⟩
  | 83 => ⟨S1x16x4096x4096, .f32⟩
  | 84 => ⟨S1x16x4096x4096, .f32⟩
  | 85 => ⟨S1x16x4096x4096, .f32⟩
  | 86 => ⟨S1x16x4096x4096, .f32⟩
  | 87 => ⟨S1x16x4096x4096, .f32⟩
  | 88 => ⟨S1x16x4096x4096, .f32⟩
  | 89 => ⟨S1x16x4096x4096, .f32⟩
  | 90 => ⟨S_, .f32⟩
  | 91 => ⟨S1x16x4096x4096, .f32⟩
  | 92 => ⟨S1x16x4096x4096, .i1⟩
  | 93 => ⟨S_, .f32⟩
  | 94 => ⟨S1x16x4096x4096, .f32⟩
  | 95 => ⟨S1x16x4096x4096, .f32⟩
  | 96 => ⟨S_, .f32⟩
  | 97 => ⟨S1x16x4096x4096, .f32⟩
  | 98 => ⟨S1x16x4096x4096, .i1⟩
  | 99 => ⟨S_, .f32⟩
  | 100 => ⟨S1x16x4096x4096, .f32⟩
  | 101 => ⟨S1x16x4096x4096, .f32⟩
  | 102 => ⟨S1x16x4096x4096, .f32⟩
  | 103 => ⟨S1x16x4096x4096, .f32⟩
  | 104 => ⟨S_, .f32⟩
  | 105 => ⟨S_, .f32⟩
  | 106 => ⟨S_, .i1⟩
  | 107 => ⟨S_, .f32⟩
  | 108 => ⟨S_, .f32⟩
  | 109 => ⟨S_, .f32⟩
  | 110 => ⟨S_, .f32⟩
  | 111 => ⟨S1x16x4096x4096, .f32⟩
  | 112 => ⟨S1x16x4096x4096, .i1⟩
  | 113 => ⟨S_, .f32⟩
  | 114 => ⟨S1x16x4096x4096, .f32⟩
  | 115 => ⟨S1x16x4096x4096, .f32⟩
  | 116 => ⟨S1x16x4096x4096, .f32⟩
  | 117 => ⟨S1x16x4096x4096, .f32⟩
  | 118 => ⟨S1x16x4096x4096, .f32⟩
  | 119 => ⟨S_, .f32⟩
  | 120 => ⟨S1x16x4096x4096, .f32⟩
  | 121 => ⟨S1x16x4096x4096, .f32⟩
  | 122 => ⟨S1x16x4096x4096, .f32⟩
  | 123 => ⟨S1x16x4096x4096, .f32⟩
  | 124 => ⟨S1x16x4096x4096, .f32⟩
  | 125 => ⟨S_, .f32⟩
  | 126 => ⟨S_, .f32⟩
  | 127 => ⟨S1x16x4096x4096, .i1⟩
  | _ => ⟨S1x16x4096x64, .f32⟩

abbrev hbmTy0_1 (i : Nat) : BufTy := match i % 128 with
  | 0 => ⟨S1x16x4096x4096, .f32⟩
  | 1 => ⟨S1x16x4096x4096, .f32⟩
  | 2 => ⟨S_, .f32⟩
  | 3 => ⟨S1x16x4096x4096, .f32⟩
  | 4 => ⟨S1x16x4096x64, .f32⟩
  | 5 => ⟨S1x16x64x4096, .f32⟩
  | 6 => ⟨S1x16x4096x64, .f32⟩
  | 7 => ⟨S1x16x4096x4096, .f32⟩
  | 8 => ⟨S_, .f32⟩
  | 9 => ⟨S1x16x4096x4096, .f32⟩
  | 10 => ⟨S1x16x4096x4096, .f32⟩
  | 11 => ⟨S1x16x4096x4096, .f32⟩
  | 12 => ⟨S1x16x4096x4096, .f32⟩
  | 13 => ⟨S1x16x4096x4096, .f32⟩
  | 14 => ⟨S1x16x4096x4096, .f32⟩
  | 15 => ⟨S1x16x4096x4096, .f32⟩
  | 16 => ⟨S_, .f32⟩
  | 17 => ⟨S_, .f32⟩
  | 18 => ⟨S1x16x4096x4096, .f32⟩
  | 19 => ⟨S1x16x4096x4096, .f32⟩
  | 20 => ⟨S_, .f32⟩
  | 21 => ⟨S1x16x4096x4096, .f32⟩
  | 22 => ⟨S1x16x4096x4096, .f32⟩
  | 23 => ⟨S1x16x4096x4096, .f32⟩
  | 24 => ⟨S1x16x4096x4096, .f32⟩
  | 25 => ⟨S1x16x4096x4096, .f32⟩
  | 26 => ⟨S1x16x4096x4096, .f32⟩
  | 27 => ⟨S1x16x4096x4096, .f32⟩
  | 28 => ⟨S_, .f32⟩
  | 29 => ⟨S1x16x4096x4096, .f32⟩
  | 30 => ⟨S1x16x4096x4096, .f32⟩
  | 31 => ⟨S1x16x4096x64, .f32⟩
  | 32 => ⟨S1x16x4096x64, .f32⟩
  | _ => ⟨S1x16x4096x64, .f32⟩

abbrev hbmTy (i : Nat) : BufTy := match i / 128 with
  | 0 => hbmTy0_0 i
  | 1 => hbmTy0_1 i
  | _ => ⟨S1x16x4096x64, .f32⟩

abbrev bufTy : (tb : Table) → Fin (tcTables nBuf tb) → BufTy
  | .hbm, ⟨i, _⟩ => hbmTy i
  | _, _ => ⟨S1x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1_0 : Ref sig .tc := ⟨.hbm, 30, rfl⟩
abbrev main_call0_call0_cst_0 : Ref sig .tc := ⟨.hbm, 31, rfl⟩
abbrev main_call0_call0_v13 : Ref sig .tc := ⟨.hbm, 32, rfl⟩
abbrev main_call0_call0_v14 : Ref sig .tc := ⟨.hbm, 33, rfl⟩
abbrev main_call0_call0_cst_1 : Ref sig .tc := ⟨.hbm, 34, rfl⟩
abbrev main_call0_call0_v15 : Ref sig .tc := ⟨.hbm, 35, rfl⟩
abbrev main_call0_call0_v16 : Ref sig .tc := ⟨.hbm, 36, rfl⟩
abbrev main_call0_call0_cst_2 : Ref sig .tc := ⟨.hbm, 37, rfl⟩
abbrev main_call0_call0_v17 : Ref sig .tc := ⟨.hbm, 38, rfl⟩
abbrev main_call0_call0_v18 : Ref sig .tc := ⟨.hbm, 39, rfl⟩
abbrev main_call0_call0_cst_3 : Ref sig .tc := ⟨.hbm, 40, rfl⟩
abbrev main_call0_call0_v19 : Ref sig .tc := ⟨.hbm, 41, rfl⟩
abbrev main_call0_call0_v20 : Ref sig .tc := ⟨.hbm, 42, rfl⟩
abbrev main_call0_call0_v21 : Ref sig .tc := ⟨.hbm, 43, rfl⟩
abbrev main_v11_1 : Ref sig .tc := ⟨.hbm, 44, rfl⟩
abbrev main_call0_call0_cst_4 : Ref sig .tc := ⟨.hbm, 45, rfl⟩
abbrev main_call0_call0_cst_5 : Ref sig .tc := ⟨.hbm, 46, rfl⟩
abbrev main_call0_call0_v23 : Ref sig .tc := ⟨.hbm, 47, rfl⟩
abbrev main_call0_call0_cst_6 : Ref sig .tc := ⟨.hbm, 48, rfl⟩
abbrev main_call0_call0_cst_7 : Ref sig .tc := ⟨.hbm, 49, rfl⟩
abbrev main_call0_call0_v24 : Ref sig .tc := ⟨.hbm, 50, rfl⟩
abbrev main_call0_call0_cst_8 : Ref sig .tc := ⟨.hbm, 51, rfl⟩
abbrev main_call0_call0_v25 : Ref sig .tc := ⟨.hbm, 52, rfl⟩
abbrev main_call0_call0_v26 : Ref sig .tc := ⟨.hbm, 53, rfl⟩
abbrev main_call0_call0_cst_9 : Ref sig .tc := ⟨.hbm, 54, rfl⟩
abbrev main_call0_call0_v27 : Ref sig .tc := ⟨.hbm, 55, rfl⟩
abbrev main_call0_call0_v28 : Ref sig .tc := ⟨.hbm, 56, rfl⟩
abbrev main_call0_call0_v29 : Ref sig .tc := ⟨.hbm, 57, rfl⟩
abbrev main_call0_call0_v30 : Ref sig .tc := ⟨.hbm, 58, rfl⟩
abbrev main_call0_call0_v31 : Ref sig .tc := ⟨.hbm, 59, rfl⟩
abbrev main_call0_call0_cst_10 : Ref sig .tc := ⟨.hbm, 60, rfl⟩
abbrev main_call0_call0_v32 : Ref sig .tc := ⟨.hbm, 61, rfl⟩
abbrev main_v11_2 : Ref sig .tc := ⟨.hbm, 62, rfl⟩
abbrev main_v11_0 : Ref sig .tc := ⟨.hbm, 63, rfl⟩
abbrev main_cst_0 : Ref sig .tc := ⟨.hbm, 64, rfl⟩
abbrev main_call1_v0 : Ref sig .tc := ⟨.hbm, 65, rfl⟩
abbrev main_v12_1 : Ref sig .tc := ⟨.hbm, 66, rfl⟩
abbrev main_call1_v2 : Ref sig .tc := ⟨.hbm, 67, rfl⟩
abbrev main_v12_0 : Ref sig .tc := ⟨.hbm, 68, rfl⟩
abbrev main_call1_cst : Ref sig .tc := ⟨.hbm, 69, rfl⟩
abbrev main_v12_2 : Ref sig .tc := ⟨.hbm, 70, rfl⟩
abbrev main_call2_cst : Ref sig .tc := ⟨.hbm, 71, rfl⟩
abbrev main_call2_v0 : Ref sig .tc := ⟨.hbm, 72, rfl⟩
abbrev main_v13 : Ref sig .tc := ⟨.hbm, 73, rfl⟩
abbrev main_v14 : Ref sig .tc := ⟨.hbm, 74, rfl⟩
abbrev main_call3_v0 : Ref sig .tc := ⟨.hbm, 75, rfl⟩
abbrev main_call3_call0_cst : Ref sig .tc := ⟨.hbm, 76, rfl⟩
abbrev main_call3_call0_v0 : Ref sig .tc := ⟨.hbm, 77, rfl⟩
abbrev main_call3_call0_v1 : Ref sig .tc := ⟨.hbm, 78, rfl⟩
abbrev main_call3_call0_v2 : Ref sig .tc := ⟨.hbm, 79, rfl⟩
abbrev main_call3_call0_v3 : Ref sig .tc := ⟨.hbm, 80, rfl⟩
abbrev main_call3_call0_v4 : Ref sig .tc := ⟨.hbm, 81, rfl⟩
abbrev main_call3_call0_v5 : Ref sig .tc := ⟨.hbm, 82, rfl⟩
abbrev main_call3_call0_v6 : Ref sig .tc := ⟨.hbm, 83, rfl⟩
abbrev main_call3_call0_v7 : Ref sig .tc := ⟨.hbm, 84, rfl⟩
abbrev main_call3_call0_v8 : Ref sig .tc := ⟨.hbm, 85, rfl⟩
abbrev main_call3_call0_v9 : Ref sig .tc := ⟨.hbm, 86, rfl⟩
abbrev main_call3_call0_v10 : Ref sig .tc := ⟨.hbm, 87, rfl⟩
abbrev main_call3_call0_v11 : Ref sig .tc := ⟨.hbm, 88, rfl⟩
abbrev main_call3_v1_0 : Ref sig .tc := ⟨.hbm, 89, rfl⟩
abbrev main_call3_call0_cst_0 : Ref sig .tc := ⟨.hbm, 90, rfl⟩
abbrev main_call3_call0_v13 : Ref sig .tc := ⟨.hbm, 91, rfl⟩
abbrev main_call3_call0_v14 : Ref sig .tc := ⟨.hbm, 92, rfl⟩
abbrev main_call3_call0_cst_1 : Ref sig .tc := ⟨.hbm, 93, rfl⟩
abbrev main_call3_call0_v15 : Ref sig .tc := ⟨.hbm, 94, rfl⟩
abbrev main_call3_call0_v16 : Ref sig .tc := ⟨.hbm, 95, rfl⟩
abbrev main_call3_call0_cst_2 : Ref sig .tc := ⟨.hbm, 96, rfl⟩
abbrev main_call3_call0_v17 : Ref sig .tc := ⟨.hbm, 97, rfl⟩
abbrev main_call3_call0_v18 : Ref sig .tc := ⟨.hbm, 98, rfl⟩
abbrev main_call3_call0_cst_3 : Ref sig .tc := ⟨.hbm, 99, rfl⟩
abbrev main_call3_call0_v19 : Ref sig .tc := ⟨.hbm, 100, rfl⟩
abbrev main_call3_call0_v20 : Ref sig .tc := ⟨.hbm, 101, rfl⟩
abbrev main_call3_call0_v21 : Ref sig .tc := ⟨.hbm, 102, rfl⟩
abbrev main_v15_1 : Ref sig .tc := ⟨.hbm, 103, rfl⟩
abbrev main_call3_call0_cst_4 : Ref sig .tc := ⟨.hbm, 104, rfl⟩
abbrev main_call3_call0_cst_5 : Ref sig .tc := ⟨.hbm, 105, rfl⟩
abbrev main_call3_call0_v23 : Ref sig .tc := ⟨.hbm, 106, rfl⟩
abbrev main_call3_call0_cst_6 : Ref sig .tc := ⟨.hbm, 107, rfl⟩
abbrev main_call3_call0_cst_7 : Ref sig .tc := ⟨.hbm, 108, rfl⟩
abbrev main_call3_call0_v24 : Ref sig .tc := ⟨.hbm, 109, rfl⟩
abbrev main_call3_call0_cst_8 : Ref sig .tc := ⟨.hbm, 110, rfl⟩
abbrev main_call3_call0_v25 : Ref sig .tc := ⟨.hbm, 111, rfl⟩
abbrev main_call3_call0_v26 : Ref sig .tc := ⟨.hbm, 112, rfl⟩
abbrev main_call3_call0_cst_9 : Ref sig .tc := ⟨.hbm, 113, rfl⟩
abbrev main_call3_call0_v27 : Ref sig .tc := ⟨.hbm, 114, rfl⟩
abbrev main_call3_call0_v28 : Ref sig .tc := ⟨.hbm, 115, rfl⟩
abbrev main_call3_call0_v29 : Ref sig .tc := ⟨.hbm, 116, rfl⟩
abbrev main_call3_call0_v30 : Ref sig .tc := ⟨.hbm, 117, rfl⟩
abbrev main_call3_call0_v31 : Ref sig .tc := ⟨.hbm, 118, rfl⟩
abbrev main_call3_call0_cst_10 : Ref sig .tc := ⟨.hbm, 119, rfl⟩
abbrev main_call3_call0_v32 : Ref sig .tc := ⟨.hbm, 120, rfl⟩
abbrev main_v15_2 : Ref sig .tc := ⟨.hbm, 121, rfl⟩
abbrev main_v15_0 : Ref sig .tc := ⟨.hbm, 122, rfl⟩
abbrev main_v16 : Ref sig .tc := ⟨.hbm, 123, rfl⟩
abbrev main_v17 : Ref sig .tc := ⟨.hbm, 124, rfl⟩
abbrev main_cst_1 : Ref sig .tc := ⟨.hbm, 125, rfl⟩
abbrev main_call4_v0 : Ref sig .tc := ⟨.hbm, 126, rfl⟩
abbrev main_v18_1 : Ref sig .tc := ⟨.hbm, 127, rfl⟩
abbrev main_call4_v2 : Ref sig .tc := ⟨.hbm, 128, rfl⟩
abbrev main_v18_0 : Ref sig .tc := ⟨.hbm, 129, rfl⟩
abbrev main_call4_cst : Ref sig .tc := ⟨.hbm, 130, rfl⟩
abbrev main_v18_2 : Ref sig .tc := ⟨.hbm, 131, rfl⟩
abbrev main_v19 : Ref sig .tc := ⟨.hbm, 132, rfl⟩
abbrev main_v20 : Ref sig .tc := ⟨.hbm, 133, rfl⟩
abbrev main_v21 : Ref sig .tc := ⟨.hbm, 134, rfl⟩
abbrev main_v22 : Ref sig .tc := ⟨.hbm, 135, rfl⟩
abbrev main_call5_cst : Ref sig .tc := ⟨.hbm, 136, rfl⟩
abbrev main_call5_v0 : Ref sig .tc := ⟨.hbm, 137, rfl⟩
abbrev main_v23 : Ref sig .tc := ⟨.hbm, 138, rfl⟩
abbrev main_v24 : Ref sig .tc := ⟨.hbm, 139, rfl⟩
abbrev main_call6_v0 : Ref sig .tc := ⟨.hbm, 140, rfl⟩
abbrev main_call6_v1 : Ref sig .tc := ⟨.hbm, 141, rfl⟩
abbrev main_v25 : Ref sig .tc := ⟨.hbm, 142, rfl⟩
abbrev main_v26 : Ref sig .tc := ⟨.hbm, 143, rfl⟩
abbrev main_call7_cst : Ref sig .tc := ⟨.hbm, 144, rfl⟩
abbrev main_call7_v0 : Ref sig .tc := ⟨.hbm, 145, rfl⟩
abbrev main_v27 : Ref sig .tc := ⟨.hbm, 146, rfl⟩
abbrev main_v28 : Ref sig .tc := ⟨.hbm, 147, rfl⟩
abbrev main_call8_cst : Ref sig .tc := ⟨.hbm, 148, rfl⟩
abbrev main_call8_v0 : Ref sig .tc := ⟨.hbm, 149, rfl⟩
abbrev main_v29 : Ref sig .tc := ⟨.hbm, 150, rfl⟩
abbrev main_call9_v0 : Ref sig .tc := ⟨.hbm, 151, rfl⟩
abbrev main_call9_v1 : Ref sig .tc := ⟨.hbm, 152, rfl⟩
abbrev main_v30 : Ref sig .tc := ⟨.hbm, 153, rfl⟩
abbrev main_v31 : Ref sig .tc := ⟨.hbm, 154, rfl⟩
abbrev main_v32 : Ref sig .tc := ⟨.hbm, 155, rfl⟩
abbrev main_cst_2 : Ref sig .tc := ⟨.hbm, 156, rfl⟩
abbrev main_v33 : Ref sig .tc := ⟨.hbm, 157, rfl⟩
abbrev main_v34 : Ref sig .tc := ⟨.hbm, 158, rfl⟩
abbrev main_v35 : Ref sig .tc := ⟨.hbm, 159, rfl⟩
abbrev main_v36 : Ref sig .tc := ⟨.hbm, 160, rfl⟩

abbrev nD : Nat := 1
abbrev τ : Topo := Topo.v7x

variable {F : FTy → Type} [FloatOps F]
-- ==== Kernel3.lean ====
abbrev S2x1024 : Shape := ⟨2, ![2, 1024]⟩
abbrev S8x2x1024 : Shape := ⟨3, ![8, 2, 1024]⟩
abbrev S1x2x1024 : Shape := ⟨3, ![1, 2, 1024]⟩
abbrev S1024 : Shape := ⟨1, ![1024]⟩
abbrev S1x1024 : Shape := ⟨2, ![1, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2x1024, .f32⟩
  | .hbm, ⟨1, _⟩ => ⟨S8x2x1024, .f32⟩
  | .hbm, ⟨2, _⟩ => ⟨S2x1024, .f32⟩
  | .local _ .vmem, ⟨0, _⟩ => ⟨S2x1024, .f32⟩
  | .local _ .vmem, ⟨1, _⟩ => ⟨S8x2x1024, .f32⟩
  | .local _ .vmem, ⟨2, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference3Ideal.lean ====
abbrev S2x1024 : Shape := ⟨2, ![2, 1024]⟩
abbrev S8x2x1024 : Shape := ⟨3, ![8, 2, 1024]⟩
abbrev S_ : Shape := ⟨0, ![]⟩
abbrev S1024 : Shape := ⟨1, ![1024]⟩
abbrev S1x1024 : Shape := ⟨2, ![1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S8x2x1024, .f32⟩
  | .hbm, ⟨2, _⟩ => ⟨S_, .f32⟩
  | .hbm, ⟨3, _⟩ => ⟨S1024, .f32⟩
  | .hbm, ⟨4, _⟩ => ⟨S1x1024, .f32⟩
  | .hbm, ⟨5, _⟩ => ⟨S2x1024, .f32⟩
  | .hbm, ⟨6, _⟩ => ⟨S2x1024, .i1⟩
  | .hbm, ⟨7, _⟩ => ⟨S2x1024, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .i1⟩
  | .hbm, ⟨16, _⟩ => ⟨S_, .f32⟩
  | .hbm, ⟨17, _⟩ => ⟨S1024, .f32⟩
  | .hbm, ⟨18, _⟩ => ⟨S1024, .i1⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S2x1024, .f32⟩
  | .hbm, ⟨29, _⟩ => ⟨S2x1024, .f32⟩
  | .hbm, ⟨30, _⟩ => ⟨S2x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2x1024, .f32⟩
  | .hbm, ⟨35, _⟩ => ⟨S2x1024, .f32⟩
  | .hbm, ⟨36, _⟩ => ⟨S1x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S_, .f32⟩
  | .hbm, ⟨42, _⟩ => ⟨S2x1024, .f32⟩
  | .hbm, ⟨43, _⟩ => ⟨S1x1024, .f32⟩
  | .hbm, ⟨44, _⟩ => ⟨S2x1024, .f32⟩
  | .hbm, ⟨45, _⟩ => ⟨S2x1024, .f32⟩
  | .hbm, ⟨46, _⟩ => ⟨S_, .f32⟩
  | .hbm, ⟨47, _⟩ => ⟨S2x1024, .f32⟩
  | .hbm, ⟨48, _⟩ => ⟨S2x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S_, .f32⟩
  | .hbm, ⟨53, _⟩ => ⟨S2x1024, .f32⟩
  | .hbm, ⟨54, _⟩ => ⟨S_, .f32⟩
  | .hbm, ⟨55, _⟩ => ⟨S_, .f32⟩
  | .hbm, ⟨56, _⟩ => ⟨S2x1024, .f32⟩
  | .hbm, ⟨57, _⟩ => ⟨S2x1024, .f32⟩
  | .hbm, ⟨58, _⟩ => ⟨S2x1024, .f32⟩
  | .hbm, ⟨59, _⟩ => ⟨S2x1024, .f32⟩
  | .hbm, ⟨60, _⟩ => ⟨S2x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S1x1024, .f32⟩
  | .hbm, ⟨65, _⟩ => ⟨S2x1024, .f32⟩
  | .hbm, ⟨66, _⟩ => ⟨S2x1024, .f32⟩
  | .hbm, ⟨67, _⟩ => ⟨S_, .f32⟩
  | .hbm, ⟨68, _⟩ => ⟨S1024, .f32⟩
  | .hbm, ⟨69, _⟩ => ⟨S2x1024, .f32⟩
  | .hbm, ⟨70, _⟩ => ⟨S2x1024, .f32⟩
  | .hbm, ⟨71, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_cst_10 : Ref sig .tc := ⟨.hbm, 49, rfl⟩
abbrev main_v34 : Ref sig .tc := ⟨.hbm, 50, rfl⟩
abbrev main_v35 : Ref sig .tc := ⟨.hbm, 51, rfl⟩
abbrev main_cst_11 : Ref sig .tc := ⟨.hbm, 52, rfl⟩
abbrev main_v36 : Ref sig .tc := ⟨.hbm, 53, rfl⟩
abbrev main_call1_call0_cst : Ref sig .tc := ⟨.hbm, 54, rfl⟩
abbrev main_call1_call0_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== Kernel4.lean ====
abbrev S4096x1024 : Shape := ⟨2, ![4096, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8x128, .f32⟩
  | .hbm, ⟨3, _⟩ => ⟨S4096x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S8x128, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel5.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x4096, .bf16⟩
  | .hbm, ⟨6, _⟩ => ⟨S1024x4096, .bf16⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S1024x4096, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== Reference5Ideal.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4096, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel6.lean ====
abbrev S4096x3072 : Shape := ⟨2, ![4096, 3072]⟩
abbrev S4096x1024 : Shape := ⟨2, ![4096, 1024]⟩
abbrev S64 : Shape := ⟨1, ![64]⟩
abbrev S1x64 : Shape := ⟨2, ![1, 64]⟩
abbrev S16x64 : Shape := ⟨2, ![16, 64]⟩
abbrev S1024 : Shape := ⟨1, ![1024]⟩
abbrev S_ : Shape := ⟨0, ![]⟩
abbrev S1x1024 : Shape := ⟨2, ![1, 1024]⟩
abbrev S3x1024 : Shape := ⟨2, ![3, 1024]⟩
abbrev S3x1x1024 : Shape := ⟨3, ![3, 1, 1024]⟩
abbrev S256x1024 : Shape := ⟨2, ![256, 1024]⟩
abbrev S1x1x1024 : Shape := ⟨3, ![1, 1, 1024]⟩
abbrev S256x128 : Shape := ⟨2, ![256, 128]⟩
abbrev S128x128 : Shape := ⟨2, ![128, 128]⟩
abbrev S1x1x128 : Shape := ⟨3, ![1, 1, 128]⟩
abbrev S1x128 : Shape := ⟨2, ![1, 128]⟩
abbrev S128 : Shape := ⟨1, ![128]⟩

abbrev nBuf : Space → Nat
  | .hbm => 37
  | .vmem => 14
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S64, .f32⟩
  | .hbm, ⟨5, _⟩ => ⟨S64, .f32⟩
  | .hbm, ⟨6, _⟩ => ⟨S1x64, .f32⟩
  | .hbm, ⟨7, _⟩ => ⟨S16x64, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1x64, .f32⟩
  | .hbm, ⟨13, _⟩ => ⟨S16x64, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S3x1024, .f32⟩
  | .hbm, ⟨21, _⟩ => ⟨S3x1x1024, .f32⟩
  | .hbm, ⟨22, _⟩ => ⟨S4096x3072, .bf16⟩
  | .hbm, ⟨23, _⟩ => ⟨S3x1x1024, .f32⟩
  | .hbm, ⟨24, _⟩ => ⟨S1x1x1024, .f32⟩
  | .hbm, ⟨25, _⟩ => ⟨S1x1024, .f32⟩
  | .hbm, ⟨26, _⟩ => ⟨S16x64, .f32⟩
  | .hbm, ⟨27, _⟩ => ⟨S_, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S1x1x1024, .f32⟩
  | .hbm, ⟨33, _⟩ => ⟨S1x1024, .f32⟩
  | .hbm, ⟨34, _⟩ => ⟨S16x64, .f32⟩
  | .hbm, ⟨35, _⟩ => ⟨S_, .f32⟩
  | .hbm, ⟨36, _⟩ => ⟨S64, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .bf16⟩
  | .local _ .vmem, ⟨11, _⟩ => ⟨S256x1024, .bf16⟩
  | .local _ .vmem, ⟨12, _⟩ => ⟨S1x1x1024, .f32⟩
  | .local _ .vmem, ⟨13, _⟩ => ⟨S1x1x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference6Ideal.lean ====
abbrev S4096x3072 : Shape := ⟨2, ![4096, 3072]⟩
abbrev S4096x1024 : Shape := ⟨2, ![4096, 1024]⟩
abbrev S64 : Shape := ⟨1, ![64]⟩
abbrev S4096x16x64 : Shape := ⟨3, ![4096, 16, 64]⟩
abbrev S_ : Shape := ⟨0, ![]⟩
abbrev S4096x16 : Shape := ⟨2, ![4096, 16]⟩
abbrev S4096x16x1 : Shape := ⟨3, ![4096, 16, 1]⟩
abbrev S1x1x64 : Shape := ⟨3, ![1, 1, 64]⟩

abbrev nBuf : Space → Nat
  | .hbm => 115
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S64, .f32⟩
  | .hbm, ⟨5, _⟩ => ⟨S64, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x16x64, .f32⟩
  | .hbm, ⟨10, _⟩ => ⟨S4096x16x64, .f32⟩
  | .hbm, ⟨11, _⟩ => ⟨S_, .f32⟩
  | .hbm, ⟨12, _⟩ => ⟨S4096x16, .f32⟩
  | .hbm, ⟨13, _⟩ => ⟨S4096x16x1, .f32⟩
  | .hbm, ⟨14, _⟩ => ⟨S_, .f32⟩
  | .hbm, ⟨15, _⟩ => ⟨S4096x16x1, .f32⟩
  | .hbm, ⟨16, _⟩ => ⟨S4096x16x1, .f32⟩
  | .hbm, ⟨17, _⟩ => ⟨S_, .f32⟩
  | .hbm, ⟨18, _⟩ => ⟨S4096x16x1, .f32⟩
  | .hbm, ⟨19, _⟩ => ⟨S4096x16x1, .f32⟩
  | .hbm, ⟨20, _⟩ => ⟨S4096x16x1, .f32⟩
  | .hbm, ⟨21, _⟩ => ⟨S4096x16x1, .f32⟩
  | .hbm, ⟨22, _⟩ => ⟨S_, .f32⟩
  | .hbm, ⟨23, _⟩ => ⟨S4096x16x1, .f32⟩
  | .hbm, ⟨24, _⟩ => ⟨S4096x16x1, .f32⟩
  | .hbm, ⟨25, _⟩ => ⟨S4096x16x64, .f32⟩
  | .hbm, ⟨26, _⟩ => ⟨S4096x16x64, .f32⟩
  | .hbm, ⟨27, _⟩ => ⟨S1x1x64, .f32⟩
  | .hbm, ⟨28, _⟩ => ⟨S4096x16x64, .f32⟩
  | .hbm, ⟨29, _⟩ => ⟨S4096x16x64, .f32⟩
  | .hbm, ⟨30, _⟩ => ⟨S_, .f32⟩
  | .hbm, ⟨31, _⟩ => ⟨S4096x16x64, .f32⟩
  | .hbm, ⟨32, _⟩ => ⟨S4096x16x64, .f32⟩
  | .hbm, ⟨33, _⟩ => ⟨S4096x16x64, .f32⟩
  | .hbm, ⟨34, _⟩ => ⟨S4096x16x64, .f32⟩
  | .hbm, ⟨35, _⟩ => ⟨S_, .f32⟩
  | .hbm, ⟨36, _⟩ => ⟨S4096x16, .f32⟩
  | .hbm, ⟨37, _⟩ => ⟨S4096x16x1, .f32⟩
  | .hbm, ⟨38, _⟩ => ⟨S_, .f32⟩
  | .hbm, ⟨39, _⟩ => ⟨S4096x16x1, .f32⟩
  | .hbm, ⟨40, _⟩ => ⟨S4096x16x1, .f32⟩
  | .hbm, ⟨41, _⟩ => ⟨S_, .f32⟩
  | .hbm, ⟨42, _⟩ => ⟨S4096x16x1, .f32⟩
  | .hbm, ⟨43, _⟩ => ⟨S4096x16x1, .f32⟩
  | .hbm, ⟨44, _⟩ => ⟨S4096x16x1, .f32⟩
  | .hbm, ⟨45, _⟩ => ⟨S4096x16x1, .f32⟩
  | .hbm, ⟨46, _⟩ => ⟨S_, .f32⟩
  | .hbm, ⟨47, _⟩ => ⟨S4096x16x1, .f32⟩
  | .hbm, ⟨48, _⟩ => ⟨S4096x16x1, .f32⟩
  | .hbm, ⟨49, _⟩ => ⟨S4096x16x64, .f32⟩
  | .hbm, ⟨50, _⟩ => ⟨S4096x16x64, .f32⟩
  | .hbm, ⟨51, _⟩ => ⟨S1x1x64, .f32⟩
  | .hbm, ⟨52, _⟩ => ⟨S4096x16x64, .f32⟩
  | .hbm, ⟨53, _⟩ => ⟨S4096x16x64, .f32⟩
  | .hbm, ⟨54, _⟩ => ⟨S4096x1024, .f32⟩
  | .hbm, ⟨55, _⟩ => ⟨S4096x1024, .f32⟩
  | .hbm, ⟨56, _⟩ => ⟨S4096x16x64, .f32⟩
  | .hbm, ⟨57, _⟩ => ⟨S4096x16x64, .f32⟩
  | .hbm, ⟨58, _⟩ => ⟨S4096x16x64, .f32⟩
  | .hbm, ⟨59, _⟩ => ⟨S_, .f32⟩
  | .hbm, ⟨60, _⟩ => ⟨S64, .f32⟩
  | .hbm, ⟨61, _⟩ => ⟨S1x1x64, .f32⟩
  | .hbm, ⟨62, _⟩ => ⟨S4096x16x64, .f32⟩
  | .hbm, ⟨63, _⟩ => ⟨S4096x16x64, .f32⟩
  | .hbm, ⟨64, _⟩ => ⟨S_, .f32⟩
  | .hbm, ⟨65, _⟩ => ⟨S64, .f32⟩
  | .hbm, ⟨66, _⟩ => ⟨S4096x16x64, .f32⟩
  | .hbm, ⟨67, _⟩ => ⟨S_, .f32⟩
  | .hbm, ⟨68, _⟩ => ⟨S4096x16, .f32⟩
  | .hbm, ⟨69, _⟩ => ⟨S4096x16x1, .f32⟩
  | .hbm, ⟨70, _⟩ => ⟨S4096x16x64, .f32⟩
  | .hbm, ⟨71, _⟩ => ⟨S4096x16x64, .f32⟩
  | .hbm, ⟨72, _⟩ => ⟨S4096x16x1, .f32⟩
  | .hbm, ⟨73, _⟩ => ⟨S_, .f32⟩
  | .hbm, ⟨74, _⟩ => ⟨S4096x16x1, .f32⟩
  | .hbm, ⟨75, _⟩ => ⟨S4096x16x1, .f32⟩
  | .hbm, ⟨76, _⟩ => ⟨S_, .f32⟩
  | .hbm, ⟨77, _⟩ => ⟨S4096x16, .f32⟩
  | .hbm, ⟨78, _⟩ => ⟨S4096x16x64, .f32⟩
  | .hbm, ⟨79, _⟩ => ⟨S4096x16x64, .f32⟩
  | .hbm, ⟨80, _⟩ => ⟨S4096x16x64, .f32⟩
  | .hbm, ⟨81, _⟩ => ⟨S4096x16x64, .f32⟩
  | .hbm, ⟨82, _⟩ => ⟨S4096x16x64, .f32⟩
  | .hbm, ⟨83, _⟩ => ⟨S4096x1024, .f32⟩
  | .hbm, ⟨84, _⟩ => ⟨S_, .f32⟩
  | .hbm, ⟨85, _⟩ => ⟨S4096x16x64, .f32⟩
  | .hbm, ⟨86, _⟩ => ⟨S4096x16x64, .f32⟩
  | .hbm, ⟨87, _⟩ => ⟨S4096x16x64, .f32⟩
  | .hbm, ⟨88, _⟩ => ⟨S_, .f32⟩
  | .hbm, ⟨89, _⟩ => ⟨S64, .f32⟩
  | .hbm, ⟨90, _⟩ => ⟨S1x1x64, .f32⟩
  | .hbm, ⟨91, _⟩ => ⟨S4096x16x64, .f32⟩
  | .hbm, ⟨92, _⟩ => ⟨S4096x16x64, .f32⟩
  | .hbm, ⟨93, _⟩ => ⟨S_, .f32⟩
  | .hbm, ⟨94, _⟩ => ⟨S64, .f32⟩
  | .hbm, ⟨95, _⟩ => ⟨S4096x16x64, .f32⟩
  | .hbm, ⟨96, _⟩ => ⟨S_, .f32⟩
  | .hbm, ⟨97, _⟩ => ⟨S4096x16, .f32⟩
  | .hbm, ⟨98, _⟩ => ⟨S4096x16x1, .f32⟩
  | .hbm, ⟨99, _⟩ => ⟨S4096x16x64, .f32⟩
  | .hbm, ⟨100, _⟩ => ⟨S4096x16x64, .f32⟩
  | .hbm, ⟨101, _⟩ => ⟨S4096x16x1, .f32⟩
  | .hbm, ⟨102, _⟩ => ⟨S_, .f32⟩
  | .hbm, ⟨103, _⟩ => ⟨S4096x16x1, .f32⟩
  | .hbm, ⟨104, _⟩ => ⟨S4096x16x1, .f32⟩
  | .hbm, ⟨105, _⟩ => ⟨S_, .f32⟩
  | .hbm, ⟨106, _⟩ => ⟨S4096x16, .f32⟩
  | .hbm, ⟨107, _⟩ => ⟨S4096x16x64, .f32⟩
  | .hbm, ⟨108, _⟩ => ⟨S4096x16x64, .f32⟩
  | .hbm, ⟨109, _⟩ => ⟨S4096x16x64, .f32⟩
  | .hbm, ⟨110, _⟩ => ⟨S4096x16x64, .f32⟩
  | .hbm, ⟨111, _⟩ => ⟨S4096x16x64, .f32⟩
  | .hbm, ⟨112, _⟩ => ⟨S4096x1024, .f32⟩
  | .hbm, ⟨113, _⟩ => ⟨S4096x3072, .f32⟩
  | .hbm, ⟨114, _⟩ => ⟨S4096x3072, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_13 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_14 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_15 : Ref sig .tc := ⟨.hbm, 93, rfl⟩
abbrev main_v71 : Ref sig .tc := ⟨.hbm, 94, rfl⟩
abbrev main_v72 : Ref sig .tc := ⟨.hbm, 95, rfl⟩
abbrev main_cst_16 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_17 : Ref sig .tc := ⟨.hbm, 102, rfl⟩
abbrev main_v78 : Ref sig .tc := ⟨.hbm, 103, rfl⟩
abbrev main_v79 : Ref sig .tc := ⟨.hbm, 104, rfl⟩
abbrev main_cst_18 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩

abbrev nD : Nat := 1
abbrev τ : Topo := Topo.v7x

variable {F : FTy → Type} [FloatOps F]
-- ==== Kernel7.lean ====
abbrev S4096x4096 : Shape := ⟨2, ![4096, 4096]⟩
abbrev S1x1024 : Shape := ⟨2, ![1, 1024]⟩
abbrev S1x128 : Shape := ⟨2, ![1, 128]⟩
abbrev S4096x1024 : Shape := ⟨2, ![4096, 1024]⟩
abbrev S8x64x128x128 : Shape := ⟨4, ![8, 64, 128, 128]⟩
abbrev S896x64 : Shape := ⟨2, ![896, 64]⟩
abbrev S6x64x64 : Shape := ⟨3, ![6, 64, 64]⟩
abbrev S8x1x128 : Shape := ⟨3, ![8, 1, 128]⟩
abbrev S256x512 : Shape := ⟨2, ![256, 512]⟩
abbrev S1x512 : Shape := ⟨2, ![1, 512]⟩
abbrev S4x4x128x128 : Shape := ⟨4, ![4, 4, 128, 128]⟩
abbrev S4x1x128 : Shape := ⟨3, ![4, 1, 128]⟩
abbrev S4x128x128 : Shape := ⟨3, ![4, 128, 128]⟩
abbrev S64x512 : Shape := ⟨2, ![64, 512]⟩
abbrev S896x512 : Shape := ⟨2, ![896, 512]⟩
abbrev S64x128 : Shape := ⟨2, ![64, 128]⟩
abbrev S64 : Shape := ⟨1, ![64]⟩
abbrev S64x1 : Shape := ⟨2, ![64, 1]⟩
abbrev S128 : Shape := ⟨1, ![128]⟩
abbrev S896x128 : Shape := ⟨2, ![896, 128]⟩
abbrev S64x64 : Shape := ⟨2, ![64, 64]⟩
abbrev S1x64x64 : Shape := ⟨3, ![1, 64, 64]⟩
abbrev S128x128 : Shape := ⟨2, ![128, 128]⟩
abbrev S1x128x128 : Shape := ⟨3, ![1, 128, 128]⟩
abbrev S1x1x128x128 : Shape := ⟨4, ![1, 1, 128, 128]⟩
abbrev S1x1x128 : Shape := ⟨3, ![1, 1, 128]⟩

abbrev nBuf : Space → Nat
  | .hbm => 14
  | .vmem => 32
  | .smem => 0
  | _ => 0

abbrev bufTy : (tb : Table) → Fin (tcTables nBuf tb) → BufTy
  | .hbm, ⟨0, _⟩ => ⟨S4096x4096, .f32⟩
  | .hbm, ⟨1, _⟩ => ⟨S1x1024, .f32⟩
  | .hbm, ⟨2, _⟩ => ⟨S1x128, .f32⟩
  | .hbm, ⟨3, _⟩ => ⟨S4096x1024, .f32⟩
  | .hbm, ⟨4, _⟩ => ⟨S8x64x128x128, .f32⟩
  | .hbm, ⟨5, _⟩ => ⟨S4096x1024, .f32⟩
  | .hbm, ⟨6, _⟩ => ⟨S896x64, .bf16⟩
  | .hbm, ⟨7, _⟩ => ⟨S6x64x64, .f32⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S1x1024, .f32⟩
  | .hbm, ⟨13, _⟩ => ⟨S8x1x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | .local _ .vmem, ⟨10, _⟩ => ⟨S1x128, .f32⟩
  | .local _ .vmem, ⟨11, _⟩ => ⟨S896x64, .bf16⟩
  | .local _ .vmem, ⟨12, _⟩ => ⟨S6x64x64, .f32⟩
  | .local _ .vmem, ⟨13, _⟩ => ⟨S256x512, .f32⟩
  | .local _ .vmem, ⟨14, _⟩ => ⟨S256x512, .f32⟩
  | .local _ .vmem, ⟨15, _⟩ => ⟨S4x4x128x128, .f32⟩
  | .local _ .vmem, ⟨16, _⟩ => ⟨S4x4x128x128, .f32⟩
  | .local _ .vmem, ⟨17, _⟩ => ⟨S256x512, .f32⟩
  | .local _ .vmem, ⟨18, _⟩ => ⟨S256x512, .f32⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S1x512, .f32⟩
  | .local _ .vmem, ⟨28, _⟩ => ⟨S1x512, .f32⟩
  | .local _ .vmem, ⟨29, _⟩ => ⟨S4x1x128, .f32⟩
  | .local _ .vmem, ⟨30, _⟩ => ⟨S4x1x128, .f32⟩
  | .local _ .vmem, ⟨31, _⟩ => ⟨S4x128x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c2_i32 : BitVec 32 := 2#32
  let v1 : BitVec 32 := Scalar.addi c2_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c4_i32 : BitVec 32 := 4#32
  let v1 : BitVec 32 := Scalar.addi c4_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c6_i32 : BitVec 32 := 6#32
  let v1 : BitVec 32 := Scalar.addi c6_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_9 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S896x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S6x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S4x1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== Kernel8Ideal.lean ====
abbrev S1x16x4096x64 : Shape := ⟨4, ![1, 16, 4096, 64]⟩
abbrev S_ : Shape := ⟨0, ![]⟩
abbrev S16x4096x64 : Shape := ⟨3, ![16, 4096, 64]⟩
abbrev S4096x16x64 : Shape := ⟨3, ![4096, 16, 64]⟩
abbrev S4096x1024 : Shape := ⟨2, ![4096, 1024]⟩
abbrev S4096x3072 : Shape := ⟨2, ![4096, 3072]⟩
abbrev S256x256x128 : Shape := ⟨3, ![256, 256, 128]⟩
abbrev S256x128 : Shape := ⟨2, ![256, 128]⟩
abbrev S4096x128 : Shape := ⟨2, ![4096, 128]⟩
abbrev S2x256x128 : Shape := ⟨3, ![2, 256, 128]⟩
abbrev S1x128 : Shape := ⟨2, ![1, 128]⟩
abbrev S256x256 : Shape := ⟨2, ![256, 256]⟩
abbrev S256x1 : Shape := ⟨2, ![256, 1]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩
abbrev S1x256x128 : Shape := ⟨3, ![1, 256, 128]⟩

abbrev nBuf : Space → Nat
  | .hbm => 22
  | .vmem => 10
  | .smem => 0
  | _ => 0

abbrev bufTy : (tb : Table) → Fin (tcTables nBuf tb) → BufTy
  | .hbm, ⟨0, _⟩ => ⟨S1x16x4096x64, .f32⟩
  | .hbm, ⟨1, _⟩ => ⟨S1x16x4096x64, .f32⟩
  | .hbm, ⟨2, _⟩ => ⟨S1x16x4096x64, .f32⟩
  | .hbm, ⟨3, _⟩ => ⟨S_, .f32⟩
  | .hbm, ⟨4, _⟩ => ⟨S1x16x4096x64, .f32⟩
  | .hbm, ⟨5, _⟩ => ⟨S1x16x4096x64, .f32⟩
  | .hbm, ⟨6, _⟩ => ⟨S16x4096x64, .f32⟩
  | .hbm, ⟨7, _⟩ => ⟨S4096x16x64, .f32⟩
  | .hbm, ⟨8, _⟩ => ⟨S4096x1024, .f32⟩
  | .hbm, ⟨9, _⟩ => ⟨S16x4096x64, .f32⟩
  | .hbm, ⟨10, _⟩ => ⟨S4096x16x64, .f32⟩
  | .hbm, ⟨11, _⟩ => ⟨S4096x1024, .f32⟩
  | .hbm, ⟨12, _⟩ => ⟨S16x4096x64, .f32⟩
  | .hbm, ⟨13, _⟩ => ⟨S4096x16x64, .f32⟩
  | .hbm, ⟨14, _⟩ => ⟨S4096x1024, .f32⟩
  | .hbm, ⟨15, _⟩ => ⟨S4096x3072, .f32⟩
  | .hbm, ⟨16, _⟩ => ⟨S4096x3072, .bf16⟩
  | .hbm, ⟨17, _⟩ => ⟨S4096x1024, .f32⟩
  | .hbm, ⟨18, _⟩ => ⟨S256x256x128, .f32⟩
  | .hbm, ⟨19, _⟩ => ⟨S4096x16x64, .f32⟩
  | .hbm, ⟨20, _⟩ => ⟨S16x4096x64, .f32⟩
  | .hbm, ⟨21, _⟩ => ⟨S1x16x4096x64, .f32⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .f32⟩
  | .local _ .vmem, ⟨7, _⟩ => ⟨S256x128, .f32⟩
  | .local _ .vmem, ⟨8, _⟩ => ⟨S2x256x128, .f32⟩
  | .local _ .vmem, ⟨9, _⟩ => ⟨S2x256x128, .f32⟩
  | _, _ => ⟨S1x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F] [Named F]

def κ : String → Option EReal := fun
  | "dead" => some ⊥
  | _ => none

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v27 : BitVec 1 := Scalar.cmpi .eq arg1 c0_i32
  let v28 : BitVec 32 := Scalar.extui v27
  let c0_i32_7 : BitVec 32 := 0#32
  let v29 : BitVec 1 := Scalar.cmpi .ne v28 c0_i32_7
  v29

def k0_mult1 (i : grid0.Coords) : BitVec 32 :=
  let arg1 : BitVec 32 := BitVec.ofNat 32 (i 1).val
  let c256_i32 : BitVec 32 := 256#32
  let v69 : BitVec 32 := Scalar.muli arg1 c256_i32
  v69
def k0_off1 (i : grid0.Coords) : Fin 2 → Nat :=
  let arg1 : BitVec 32 := BitVec.ofNat 32 (i 1).val
  let c256_i32 : BitVec 32 := 256#32
  let v69 : BitVec 32 := Scalar.muli arg1 c256_i32
  let v70 : BitVec 32 := v69
  let v71 : Index := Scalar.indexCast v70
  let c0_27 : Index := 0#32
  ![v71.toNat, 0]
def k0_mult2 (i : grid0.Coords) : BitVec 32 :=
  let arg1 : BitVec 32 := BitVec.ofNat 32 (i 1).val
  let c256_i32 : BitVec 32 := 256#32
  let v70 : BitVec 32 := Scalar.muli arg1 c256_i32
  v70
def k0_off2 (i : grid0.Coords) : Fin 2 → Nat :=
  let arg1 : BitVec 32 := BitVec.ofNat 32 (i 1).val
  let c256_i32 : BitVec 32 := 256#32
  let v70 : BitVec 32 := Scalar.muli arg1 c256_i32
  let v71 : BitVec 32 := v70
  let v72 : Index := Scalar.indexCast v71
  let c0_28 : Index := 0#32
  ![v72.toNat, 0]
def k0_mult3 (i : grid0.Coords) : BitVec 32 :=
  let arg1 : BitVec 32 := BitVec.ofNat 32 (i 1).val
  let c1_i32_27 : BitVec 32 := 1#32
  let v69 : BitVec 32 := Scalar.subi arg1 c1_i32_27
  let c256_i32_30 : BitVec 32 := 256#32
  let v78 : BitVec 32 := Scalar.muli v69 c256_i32_30
  v78
def k0_off3 (i : grid0.Coords) : Fin 2 → Nat :=
  let arg1 : BitVec 32 := BitVec.ofNat 32 (i 1).val
  let c1_i32_27 : BitVec 32 := 1#32
  let v69 : BitVec 32 := Scalar.subi arg1 c1_i32_27
  let c256_i32_30 : BitVec 32 := 256#32
  let v78 : BitVec 32 := Scalar.muli v69 c256_i32_30
  let v79 : BitVec 32 := v78
  let v80 : Index := Scalar.indexCast v79
  let c0_31 : Index := 0#32
  ![v80.toNat, 0]
def k0_mult4 (i : grid0.Coords) (arg7 : BitVec 32) : BitVec 32 :=
  let arg1 : BitVec 32 := BitVec.ofNat 32 (i 1).val
  let c2_i32_28 : BitVec 32 := 2#32
  let v70 : BitVec 32 := Scalar.subi arg1 c2_i32_28
  let c2_i32_29 : BitVec 32 := 2#32
  let v71 : BitVec 32 := Scalar.muli c2_i32_29 arg7
  let v72 : BitVec 32 := Scalar.subi v70 v71
  let c256_i32 : BitVec 32 := 256#32
  let v76 : BitVec 32 := Scalar.muli v72 c256_i32
  v76

def k0_off4 (i : grid0.Coords) (arg7 : BitVec 32) (c2_i32_28 : BitVec 32) : Fin 2 → Nat :=
  let arg1 : BitVec 32 := BitVec.ofNat 32 (i 1).val
  let v70 : BitVec 32 := Scalar.subi arg1 c2_i32_28
  let c2_i32_29 : BitVec 32 := 2#32
  let v71 : BitVec 32 := Scalar.muli c2_i32_29 arg7
  let v72 : BitVec 32 := Scalar.subi v70 v71
  let c256_i32 : BitVec 32 := 256#32
  let v76 : BitVec 32 := Scalar.muli v72 c256_i32
  let v77 : BitVec 32 := v76
  let v78 : Index := Scalar.indexCast v77
  let c0_31 : Index := 0#32
  ![v78.toNat, 0]
def k0_mult5 (i : grid0.Coords) (arg7 : BitVec 32) : BitVec 32 :=
  let arg1 : BitVec 32 := BitVec.ofNat 32 (i 1).val
  let c3_i32 : BitVec 32 := 3#32
  let v73 : BitVec 32 := Scalar.subi arg1 c3_i32
  let c2_i32_30 : BitVec 32 := 2#32
  let v74 : BitVec 32 := Scalar.muli c2_i32_30 arg7
  let v75 : BitVec 32 := Scalar.subi v73 v74
  let c256_i32_33 : BitVec 32 := 256#32
  let v84 : BitVec 32 := Scalar.muli v75 c256_i32_33
  v84

def k0_chk1 (i : grid0.Coords) (arg7 : BitVec 32) : Prop :=
  (256 ∣ (k0_mult4 i arg7).toNat) ∧
  (∀ (r : Fin 2), ∀ a, (k0_off4 i arg7 (BitVec.ofNat 32 (2 + r.val))) a + S256x128.size a ≤ S4096x128.size a) ∧
  (256 ∣ (k0_mult5 i arg7).toNat)
theorem k0_mult4_dvd : ∀ (i : grid0.Coords) (arg7 : BitVec 32) (k0_hw1 : k0_chk1 i arg7), 256 ∣ (k0_mult4 i arg7).toNat := fun i arg7 k0_hw1 => k0_hw1.1
theorem k0_off4_inb : ∀ (i : grid0.Coords) (arg7 : BitVec 32) (k0_hw1 : k0_chk1 i arg7), ∀ (r : Fin 2), ∀ a, (k0_off4 i arg7 (BitVec.ofNat 32 (2 + r.val))) a + S256x128.size a ≤ S4096x128.size a := fun i arg7 k0_hw1 r => k0_hw1.2.1 r
theorem k0_mult5_dvd : ∀ (i : grid0.Coords) (arg7 : BitVec 32) (k0_hw1 : k0_chk1 i arg7), 256 ∣ (k0_mult5 i arg7).toNat := fun i arg7 k0_hw1 => k0_hw1.2.2

def k0_mult6 : BitVec 32 :=
  let c0_i32_27 : BitVec 32 := 0#32
  c0_i32_27
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S1x16x4096x64 : Shape := ⟨4, ![1, 16, 4096, 64]⟩
abbrev S1x16x4096x4096 : Shape := ⟨4, ![1, 16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 64
  | .vmem => 0
  | .smem => 0
  | _ => 0

abbrev bufTy : (tb : Table) → Fin (tcTables nBuf tb) → BufTy
  | .hbm, ⟨0, _⟩ => ⟨S1x16x4096x64, .f32⟩
  | .hbm, ⟨1, _⟩ => ⟨S1x16x4096x64, .f32⟩
  | .hbm, ⟨2, _⟩ => ⟨S1x16x4096x64, .f32⟩
  | .hbm, ⟨3, _⟩ => ⟨S1x16x4096x4096, .f32⟩
  | .hbm, ⟨4, _⟩ => ⟨S_, .f32⟩
  | .hbm, ⟨5, _⟩ => ⟨S1x16x4096x4096, .f32⟩
  | .hbm, ⟨6, _⟩ => ⟨S1x16x4096x4096, .f32⟩
  | .hbm, ⟨7, _⟩ => ⟨S4096, .i32⟩
  | .hbm, ⟨8, _⟩ => ⟨S1x4096, .i32⟩
  | .hbm, ⟨9, _⟩ => ⟨S4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S1x16x4096x4096, .f32⟩
  | .hbm, ⟨15, _⟩ => ⟨S1x16x4096x4096, .f32⟩
  | .hbm, ⟨16, _⟩ => ⟨S_, .f32⟩
  | .hbm, ⟨17, _⟩ => ⟨S1x16x4096x4096, .f32⟩
  | .hbm, ⟨18, _⟩ => ⟨S1x16x4096x4096, .f32⟩
  | .hbm, ⟨19, _⟩ => ⟨S1x16x4096x4096, .f32⟩
  | .hbm, ⟨20, _⟩ => ⟨S1x16x4096x4096, .f32⟩
  | .hbm, ⟨21, _⟩ => ⟨S1x16x4096x4096, .i1⟩
  | .hbm, ⟨22, _⟩ => ⟨S1x16x4096x4096, .f32⟩
  | .hbm, ⟨23, _⟩ => ⟨S1x16x4096x4096, .f32⟩
  | .hbm, ⟨24, _⟩ => ⟨S1x16x4096x4096, .f32⟩
  | .hbm, ⟨25, _⟩ => ⟨S1x16x4096x4096, .f32⟩
  | .hbm, ⟨26, _⟩ => ⟨S1x16x4096x4096, .f32⟩
  | .hbm, ⟨27, _⟩ => ⟨S1x16x4096x4096, .f32⟩
  | .hbm, ⟨28, _⟩ => ⟨S1x16x4096x4096, .f32⟩
  | .hbm, ⟨29, _⟩ => ⟨S1x16x4096x4096, .f32⟩
  | .hbm, ⟨30, _⟩ => ⟨S1x16x4096x4096, .f32⟩
  | .hbm, ⟨31, _⟩ => ⟨S_, .f32⟩
  | .hbm, ⟨32, _⟩ => ⟨S_, .f32⟩
  | .hbm, ⟨33, _⟩ => ⟨S1x16x4096x4096, .i1⟩
  | .hbm, ⟨34, _⟩ => ⟨S1x16x4096x4096, .f32⟩
  | .hbm, ⟨35, _⟩ => ⟨S1x16x4096x4096, .f32⟩
  | .hbm, ⟨36, _⟩ => ⟨S_, .f32⟩
  | .hbm, ⟨37, _⟩ => ⟨S_, .f32⟩
  | .hbm, ⟨38, _⟩ => ⟨S1x16x4096x4096, .f32⟩
  | .hbm, ⟨39, _⟩ => ⟨S1x16x4096x4096, .f32⟩
  | .hbm, ⟨40, _⟩ => ⟨S1x16x4096x4096, .f32⟩
  | .hbm, ⟨41, _⟩ => ⟨S_, .f32⟩
  | .hbm, ⟨42, _⟩ => ⟨S1x16x4096x4096, .f32⟩
  | .hbm, ⟨43, _⟩ => ⟨S1x16x4096x4096, .f32⟩
  | .hbm, ⟨44, _⟩ => ⟨S1x16x4096x4096, .f32⟩
  | .hbm, ⟨45, _⟩ => ⟨S1x16x4096x4096, .f32⟩
  | .hbm, ⟨46, _⟩ => ⟨S1x16x4096x4096, .i1⟩
  | .hbm, ⟨47, _⟩ => ⟨S1x16x4096x4096, .f32⟩
  | .hbm, ⟨48, _⟩ => ⟨S1x16x4096x4096, .f32⟩
  | .hbm, ⟨49, _⟩ => ⟨S1x16x4096x4096, .f32⟩
  | .hbm, ⟨50, _⟩ => ⟨S1x16x4096x4096, .f32⟩
  | .hbm, ⟨51, _⟩ => ⟨S1x16x4096x4096, .f32⟩
  | .hbm, ⟨52, _⟩ => ⟨S1x16x4096x4096, .f32⟩
  | .hbm, ⟨53, _⟩ => ⟨S1x16x4096x4096, .f32⟩
  | .hbm, ⟨54, _⟩ => ⟨S1x16x4096x4096, .f32⟩
  | .hbm, ⟨55, _⟩ => ⟨S1x16x4096x4096, .f32⟩
  | .hbm, ⟨56, _⟩ => ⟨S1x16x4096x4096, .f32⟩
  | .hbm, ⟨57, _⟩ => ⟨S1x16x4096x4096, .f32⟩
  | .hbm, ⟨58, _⟩ => ⟨S_, .f32⟩
  | .hbm, ⟨59, _⟩ => ⟨S_, .f32⟩
  | .hbm, ⟨60, _⟩ => ⟨S1x16x4096x4096, .i1⟩
  | .hbm, ⟨61, _⟩ => ⟨S1x16x4096x4096, .f32⟩
  | .hbm, ⟨62, _⟩ => ⟨S1x16x4096x4096, .f32⟩
  | .hbm, ⟨63, _⟩ => ⟨S1x16x4096x64, .f32⟩
  | _, _ => ⟨S1x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v11 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v12 : Ref sig .tc := ⟨.hbm, 35, rfl⟩
abbrev main_call2_cst : Ref sig .tc := ⟨.hbm, 36, rfl⟩
abbrev main_call2_v0 : Ref sig .tc := ⟨.hbm, 37, rfl⟩
abbrev main_v13 : Ref sig .tc := ⟨.hbm, 38, rfl⟩
abbrev main_v14 : Ref sig .tc := ⟨.hbm, 39, rfl⟩
abbrev main_call3_v0 : Ref sig .tc := ⟨.hbm, 40, rfl⟩
abbrev main_call3_call0_cst : Ref sig .tc := ⟨.hbm, 41, rfl⟩
abbrev main_call3_call0_v0 : Ref sig .tc := ⟨.hbm, 42, rfl⟩
abbrev main_call3_call0_v1 : Ref sig .tc := ⟨.hbm, 43, rfl⟩
abbrev main_call3_call0_v2 : Ref sig .tc := ⟨.hbm, 44, rfl⟩
abbrev main_call3_call0_v3 : Ref sig .tc := ⟨.hbm, 45, rfl⟩
abbrev main_call3_call0_v4 : Ref sig .tc := ⟨.hbm, 46, rfl⟩
abbrev main_call3_call0_v5 : Ref sig .tc := ⟨.hbm, 47, rfl⟩
abbrev main_call3_call0_v6 : Ref sig .tc := ⟨.hbm, 48, rfl⟩
abbrev main_call3_call0_v7 : Ref sig .tc := ⟨.hbm, 49, rfl⟩
abbrev main_call3_call0_v8 : Ref sig .tc := ⟨.hbm, 50, rfl⟩
abbrev main_call3_call0_v9 : Ref sig .tc := ⟨.hbm, 51, rfl⟩
abbrev main_call3_call0_v10 : Ref sig .tc := ⟨.hbm, 52, rfl⟩
abbrev main_call3_call0_v11 : Ref sig .tc := ⟨.hbm, 53, rfl⟩
abbrev main_call3_v1 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_v18 : Ref sig .tc := ⟨.hbm, 62, rfl⟩
abbrev main_v19 : Ref sig .tc := ⟨.hbm, 63, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel10.lean ====
abbrev S4096x4096 : Shape := ⟨2, ![4096, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x4096, .bf16⟩
  | .hbm, ⟨5, _⟩ => ⟨S4096x1024, .bf16⟩
  | .hbm, ⟨6, _⟩ => ⟨S4096x1024, .f32⟩
  | .hbm, ⟨7, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel11.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .bf16⟩
  | .hbm, ⟨3, _⟩ => ⟨S1024x4096, .bf16⟩
  | .hbm, ⟨4, _⟩ => ⟨S4096x4096, .bf16⟩
  | .hbm, ⟨5, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x4096, .f32⟩
  | .hbm, ⟨8, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel12.lean ====
abbrev S2x1024 : Shape := ⟨2, ![2, 1024]⟩
abbrev S1024 : Shape := ⟨1, ![1024]⟩
abbrev S1x1024 : Shape := ⟨2, ![1, 1024]⟩

abbrev nBuf : Space → Nat
  | .hbm => 2
  | .vmem => 2
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .local _ .vmem, ⟨0, _⟩ => ⟨S2x1024, .f32⟩
  | .local _ .vmem, ⟨1, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference12Ideal.lean ====
abbrev S2x1024 : Shape := ⟨2, ![2, 1024]⟩
abbrev S_ : Shape := ⟨0, ![]⟩
abbrev S1024 : Shape := ⟨1, ![1024]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S_, .f32⟩
  | .hbm, ⟨17, _⟩ => ⟨S2x1024, .f32⟩
  | .hbm, ⟨18, _⟩ => ⟨S1x1024, .f32⟩
  | .hbm, ⟨19, _⟩ => ⟨S2x1024, .f32⟩
  | .hbm, ⟨20, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel13.lean ====
abbrev S4096x1024 : Shape := ⟨2, ![4096, 1024]⟩
abbrev S1024x3072 : Shape := ⟨2, ![1024, 3072]⟩
abbrev S64 : Shape := ⟨1, ![64]⟩
abbrev S1x64 : Shape := ⟨2, ![1, 64]⟩
abbrev S16x64 : Shape := ⟨2, ![16, 64]⟩
abbrev S1024 : Shape := ⟨1, ![1024]⟩
abbrev S_ : Shape := ⟨0, ![]⟩
abbrev S1x1024 : Shape := ⟨2, ![1, 1024]⟩
abbrev S3x1024 : Shape := ⟨2, ![3, 1024]⟩
abbrev S3x1x1024 : Shape := ⟨3, ![3, 1, 1024]⟩
abbrev S1x3072 : Shape := ⟨2, ![1, 3072]⟩
abbrev S4096x3072 : Shape := ⟨2, ![4096, 3072]⟩
abbrev S1024x1024 : Shape := ⟨2, ![1024, 1024]⟩
abbrev S1024x128 : Shape := ⟨2, ![1024, 128]⟩
abbrev S128x128 : Shape := ⟨2, ![128, 128]⟩
abbrev S1x128 : Shape := ⟨2, ![1, 128]⟩

abbrev nBuf : Space → Nat
  | .hbm => 25
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S64, .f32⟩
  | .hbm, ⟨3, _⟩ => ⟨S64, .f32⟩
  | .hbm, ⟨4, _⟩ => ⟨S1x64, .f32⟩
  | .hbm, ⟨5, _⟩ => ⟨S16x64, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1x64, .f32⟩
  | .hbm, ⟨11, _⟩ => ⟨S16x64, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S3x1024, .f32⟩
  | .hbm, ⟨19, _⟩ => ⟨S3x1x1024, .f32⟩
  | .hbm, ⟨20, _⟩ => ⟨S1x3072, .f32⟩
  | .hbm, ⟨21, _⟩ => ⟨S4096x1024, .bf16⟩
  | .hbm, ⟨22, _⟩ => ⟨S1024x3072, .bf16⟩
  | .hbm, ⟨23, _⟩ => ⟨S4096x3072, .f32⟩
  | .hbm, ⟨24, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference13Ideal.lean ====
abbrev S4096x1024 : Shape := ⟨2, ![4096, 1024]⟩
abbrev S1024x3072 : Shape := ⟨2, ![1024, 3072]⟩
abbrev S64 : Shape := ⟨1, ![64]⟩
abbrev S4096x3072 : Shape := ⟨2, ![4096, 3072]⟩
abbrev S4096x16x64 : Shape := ⟨3, ![4096, 16, 64]⟩
abbrev S_ : Shape := ⟨0, ![]⟩
abbrev S4096x16 : Shape := ⟨2, ![4096, 16]⟩
abbrev S4096x16x1 : Shape := ⟨3, ![4096, 16, 1]⟩
abbrev S1x1x64 : Shape := ⟨3, ![1, 1, 64]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S64, .f32⟩
  | .hbm, ⟨3, _⟩ => ⟨S64, .f32⟩
  | .hbm, ⟨4, _⟩ => ⟨S4096x3072, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x16x64, .f32⟩
  | .hbm, ⟨9, _⟩ => ⟨S4096x16x64, .f32⟩
  | .hbm, ⟨10, _⟩ => ⟨S_, .f32⟩
  | .hbm, ⟨11, _⟩ => ⟨S4096x16, .f32⟩
  | .hbm, ⟨12, _⟩ => ⟨S4096x16x1, .f32⟩
  | .hbm, ⟨13, _⟩ => ⟨S_, .f32⟩
  | .hbm, ⟨14, _⟩ => ⟨S4096x16x1, .f32⟩
  | .hbm, ⟨15, _⟩ => ⟨S4096x16x1, .f32⟩
  | .hbm, ⟨16, _⟩ => ⟨S_, .f32⟩
  | .hbm, ⟨17, _⟩ => ⟨S4096x16x1, .f32⟩
  | .hbm, ⟨18, _⟩ => ⟨S4096x16x1, .f32⟩
  | .hbm, ⟨19, _⟩ => ⟨S4096x16x1, .f32⟩
  | .hbm, ⟨20, _⟩ => ⟨S4096x16x64, .f32⟩
  | .hbm, ⟨21, _⟩ => ⟨S4096x16x64, .f32⟩
  | .hbm, ⟨22, _⟩ => ⟨S1x1x64, .f32⟩
  | .hbm, ⟨23, _⟩ => ⟨S4096x16x64, .f32⟩
  | .hbm, ⟨24, _⟩ => ⟨S4096x16x64, .f32⟩
  | .hbm, ⟨25, _⟩ => ⟨S_, .f32⟩
  | .hbm, ⟨26, _⟩ => ⟨S4096x16x64, .f32⟩
  | .hbm, ⟨27, _⟩ => ⟨S4096x16x64, .f32⟩
  | .hbm, ⟨28, _⟩ => ⟨S4096x16x64, .f32⟩
  | .hbm, ⟨29, _⟩ => ⟨S4096x16x64, .f32⟩
  | .hbm, ⟨30, _⟩ => ⟨S_, .f32⟩
  | .hbm, ⟨31, _⟩ => ⟨S4096x16, .f32⟩
  | .hbm, ⟨32, _⟩ => ⟨S4096x16x1, .f32⟩
  | .hbm, ⟨33, _⟩ => ⟨S_, .f32⟩
  | .hbm, ⟨34, _⟩ => ⟨S4096x16x1, .f32⟩
  | .hbm, ⟨35, _⟩ => ⟨S4096x16x1, .f32⟩
  | .hbm, ⟨36, _⟩ => ⟨S_, .f32⟩
  | .hbm, ⟨37, _⟩ => ⟨S4096x16x1, .f32⟩
  | .hbm, ⟨38, _⟩ => ⟨S4096x16x1, .f32⟩
  | .hbm, ⟨39, _⟩ => ⟨S4096x16x1, .f32⟩
  | .hbm, ⟨40, _⟩ => ⟨S4096x16x64, .f32⟩
  | .hbm, ⟨41, _⟩ => ⟨S4096x16x64, .f32⟩
  | .hbm, ⟨42, _⟩ => ⟨S1x1x64, .f32⟩
  | .hbm, ⟨43, _⟩ => ⟨S4096x16x64, .f32⟩
  | .hbm, ⟨44, _⟩ => ⟨S4096x16x64, .f32⟩
  | .hbm, ⟨45, _⟩ => ⟨S4096x1024, .f32⟩
  | .hbm, ⟨46, _⟩ => ⟨S4096x1024, .f32⟩
  | .hbm, ⟨47, _⟩ => ⟨S4096x3072, .f32⟩
  | .hbm, ⟨48, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel14.lean ====
abbrev S4096x4096 : Shape := ⟨2, ![4096, 4096]⟩
abbrev S4096x1024 : Shape := ⟨2, ![4096, 1024]⟩
abbrev S512x4096 : Shape := ⟨2, ![512, 4096]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x4096, .bf16⟩
  | .hbm, ⟨4, _⟩ => ⟨S4096x1024, .bf16⟩
  | .hbm, ⟨5, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S4096x4096 : Shape := ⟨2, ![4096, 4096]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel15.lean ====
abbrev S4096x4096 : Shape := ⟨2, ![4096, 4096]⟩
abbrev S4096x1024 : Shape := ⟨2, ![4096, 1024]⟩
abbrev S4096x512 : Shape := ⟨2, ![4096, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .bf16⟩
  | .hbm, ⟨4, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S4096x1024, .f32⟩
  | .hbm, ⟨7, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S8x1024x384 : Shape := ⟨3, ![8, 1024, 384]⟩
abbrev S2048x384 : Shape := ⟨2, ![2048, 384]⟩
abbrev S8x256x384 : Shape := ⟨3, ![8, 256, 384]⟩
abbrev S256x384 : Shape := ⟨2, ![256, 384]⟩
abbrev S1x256x384 : Shape := ⟨3, ![1, 256, 384]⟩

abbrev nBuf : Space → Nat
  | .hbm => 11
  | .vmem => 19
  | .smem => 0
  | _ => 0

abbrev bufTy : (tb : Table) → Fin (tcTables nBuf tb) → BufTy
  | .hbm, ⟨0, _⟩ => ⟨S8x1024x384, .f32⟩
  | .hbm, ⟨1, _⟩ => ⟨S8x1024x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S8x1024x384, .bf16⟩
  | .hbm, ⟨6, _⟩ => ⟨S8x1024x384, .bf16⟩
  | .hbm, ⟨7, _⟩ => ⟨S2048x384, .f32⟩
  | .hbm, ⟨8, _⟩ => ⟨S2048x384, .f32⟩
  | .hbm, ⟨9, _⟩ => ⟨S2048x384, .f32⟩
  | .hbm, ⟨10, _⟩ => ⟨S2048x384, .f32⟩
  | .local _ .vmem, ⟨0, _⟩ => ⟨S8x256x384, .bf16⟩
  | .local _ .vmem, ⟨1, _⟩ => ⟨S8x256x384, .bf16⟩
  | .local _ .vmem, ⟨2, _⟩ => ⟨S8x256x384, .bf16⟩
  | .local _ .vmem, ⟨3, _⟩ => ⟨S8x256x384, .bf16⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | .local _ .vmem, ⟨16, _⟩ => ⟨S256x384, .f32⟩
  | .local _ .vmem, ⟨17, _⟩ => ⟨S256x384, .f32⟩
  | .local _ .vmem, ⟨18, _⟩ => ⟨S256x384, .f32⟩
  | _, _ => ⟨S8x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference16Ideal.lean ====
abbrev S8x1024x384 : Shape := ⟨3, ![8, 1024, 384]⟩
abbrev S2048x384 : Shape := ⟨2, ![2048, 384]⟩
abbrev S_ : Shape := ⟨0, ![]⟩
abbrev S1024x384 : Shape := ⟨2, ![1024, 384]⟩

abbrev nBuf : Space → Nat
  | .hbm => 43
  | .vmem => 0
  | .smem => 0
  | _ => 0

abbrev bufTy : (tb : Table) → Fin (tcTables nBuf tb) → BufTy
  | .hbm, ⟨0, _⟩ => ⟨S8x1024x384, .f32⟩
  | .hbm, ⟨1, _⟩ => ⟨S8x1024x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S_, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S2048x384, .f32⟩
  | .hbm, ⟨10, _⟩ => ⟨S_, .f32⟩
  | .hbm, ⟨11, _⟩ => ⟨S2048x384, .f32⟩
  | .hbm, ⟨12, _⟩ => ⟨S2048x384, .f32⟩
  | .hbm, ⟨13, _⟩ => ⟨S_, .f32⟩
  | .hbm, ⟨14, _⟩ => ⟨S2048x384, .f32⟩
  | .hbm, ⟨15, _⟩ => ⟨S2048x384, .f32⟩
  | .hbm, ⟨16, _⟩ => ⟨S2048x384, .f32⟩
  | .hbm, ⟨17, _⟩ => ⟨S_, .f32⟩
  | .hbm, ⟨18, _⟩ => ⟨S2048x384, .f32⟩
  | .hbm, ⟨19, _⟩ => ⟨S2048x384, .f32⟩
  | .hbm, ⟨20, _⟩ => ⟨S2048x384, .f32⟩
  | .hbm, ⟨21, _⟩ => ⟨S_, .f32⟩
  | .hbm, ⟨22, _⟩ => ⟨S2048x384, .f32⟩
  | .hbm, ⟨23, _⟩ => ⟨S2048x384, .f32⟩
  | .hbm, ⟨24, _⟩ => ⟨S2048x384, .f32⟩
  | .hbm, ⟨25, _⟩ => ⟨S_, .f32⟩
  | .hbm, ⟨26, _⟩ => ⟨S2048x384, .f32⟩
  | .hbm, ⟨27, _⟩ => ⟨S2048x384, .f32⟩
  | .hbm, ⟨28, _⟩ => ⟨S_, .f32⟩
  | .hbm, ⟨29, _⟩ => ⟨S2048x384, .f32⟩
  | .hbm, ⟨30, _⟩ => ⟨S2048x384, .f32⟩
  | .hbm, ⟨31, _⟩ => ⟨S2048x384, .f32⟩
  | .hbm, ⟨32, _⟩ => ⟨S_, .f32⟩
  | .hbm, ⟨33, _⟩ => ⟨S2048x384, .f32⟩
  | .hbm, ⟨34, _⟩ => ⟨S2048x384, .f32⟩
  | .hbm, ⟨35, _⟩ => ⟨S2048x384, .f32⟩
  | .hbm, ⟨36, _⟩ => ⟨S_, .f32⟩
  | .hbm, ⟨37, _⟩ => ⟨S2048x384, .f32⟩
  | .hbm, ⟨38, _⟩ => ⟨S2048x384, .f32⟩
  | .hbm, ⟨39, _⟩ => ⟨S2048x384, .f32⟩
  | .hbm, ⟨40, _⟩ => ⟨S_, .f32⟩
  | .hbm, ⟨41, _⟩ => ⟨S2048x384, .f32⟩
  | .hbm, ⟨42, _⟩ => ⟨S2048x384, .f32⟩
  | _, _ => ⟨S8x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_cst_6 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_7 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_8 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_9 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Kernel17.lean ====
abbrev S4096x4096 : Shape := ⟨2, ![4096, 4096]⟩
abbrev S1x1024 : Shape := ⟨2, ![1, 1024]⟩
abbrev S1x128 : Shape := ⟨2, ![1, 128]⟩
abbrev S896x64 : Shape := ⟨2, ![896, 64]⟩
abbrev S6x64x64 : Shape := ⟨3, ![6, 64, 64]⟩
abbrev S4096x1024 : Shape := ⟨2, ![4096, 1024]⟩
abbrev S8x64x128x128 : Shape := ⟨4, ![8, 64, 128, 128]⟩
abbrev S256x512 : Shape := ⟨2, ![256, 512]⟩
abbrev S1x512 : Shape := ⟨2, ![1, 512]⟩
abbrev S4x4x128x128 : Shape := ⟨4, ![4, 4, 128, 128]⟩
abbrev S4x128x128 : Shape := ⟨3, ![4, 128, 128]⟩
abbrev S64x512 : Shape := ⟨2, ![64, 512]⟩
abbrev S896x512 : Shape := ⟨2, ![896, 512]⟩
abbrev S64x128 : Shape := ⟨2, ![64, 128]⟩
abbrev S896x128 : Shape := ⟨2, ![896, 128]⟩
abbrev S64x64 : Shape := ⟨2, ![64, 64]⟩
abbrev S64 : Shape := ⟨1, ![64]⟩
abbrev S64x1 : Shape := ⟨2, ![64, 1]⟩
abbrev S1x64x64 : Shape := ⟨3, ![1, 64, 64]⟩
abbrev S128x128 : Shape := ⟨2, ![128, 128]⟩
abbrev S1x128x128 : Shape := ⟨3, ![1, 128, 128]⟩
abbrev S1x1x128x128 : Shape := ⟨4, ![1, 1, 128, 128]⟩

abbrev nBuf : Space → Nat
  | .hbm => 8
  | .vmem => 20
  | .smem => 0
  | _ => 0

abbrev bufTy : (tb : Table) → Fin (tcTables nBuf tb) → BufTy
  | .hbm, ⟨0, _⟩ => ⟨S4096x4096, .f32⟩
  | .hbm, ⟨1, _⟩ => ⟨S1x1024, .f32⟩
  | .hbm, ⟨2, _⟩ => ⟨S1x128, .f32⟩
  | .hbm, ⟨3, _⟩ => ⟨S896x64, .bf16⟩
  | .hbm, ⟨4, _⟩ => ⟨S6x64x64, .f32⟩
  | .hbm, ⟨5, _⟩ => ⟨S4096x1024, .bf16⟩
  | .hbm, ⟨6, _⟩ => ⟨S4096x1024, .f32⟩
  | .hbm, ⟨7, _⟩ => ⟨S8x64x128x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | .local _ .vmem, ⟨10, _⟩ => ⟨S1x128, .f32⟩
  | .local _ .vmem, ⟨11, _⟩ => ⟨S896x64, .bf16⟩
  | .local _ .vmem, ⟨12, _⟩ => ⟨S6x64x64, .f32⟩
  | .local _ .vmem, ⟨13, _⟩ => ⟨S256x512, .bf16⟩
  | .local _ .vmem, ⟨14, _⟩ => ⟨S256x512, .bf16⟩
  | .local _ .vmem, ⟨15, _⟩ => ⟨S256x512, .f32⟩
  | .local _ .vmem, ⟨16, _⟩ => ⟨S256x512, .f32⟩
  | .local _ .vmem, ⟨17, _⟩ => ⟨S4x4x128x128, .f32⟩
  | .local _ .vmem, ⟨18, _⟩ => ⟨S4x4x128x128, .f32⟩
  | .local _ .vmem, ⟨19, _⟩ => ⟨S4x128x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S896x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S6x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Proof.Relu.lean ====
/- The squared-ReLU backward call behind its own forward call: what the second region leaves in its result array. -/
module

public import proofs.«01_k».proof.Proof.Gen.KernelIdeal
public import proofs.«01_k».proof.Proof.Gen.KernelIdeal.Frame
public import proofs.«01_k».proof.Proof.Gen.ReferenceIdeal
public import Idealize.ShloMosaic.Lib.Pipeline.ValueKit
public import Idealize.ShloMosaic.Lib.Claim

@[expose] public section

set_option maxRecDepth 16384

noncomputable section

namespace Cert.KernelIdeal.Relu

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section Run
variable {F : FTy → Type} [FloatOps F]

variable (m : (ℓ : Loc nD τ sig) → Buf (Elt F) ℓ) (ρ : Dev nD → PrngReg)

set_option backward.isDefEq.respectTransparency.types false in
/-- The run of the two regions: the result array holds what the second region's write-backs leave. -/
theorem run : θ_run defs (onTc (τ := τ) (main (F := F))) ⟨m, fun _ => 0, ρ⟩ (fun r => ∀ c : Dev nD,
      r.2.mem ((c.tc : Thread nD τ).loc main_v5) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_v5 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)
end Run

variable (m : (ℓ : Loc nD τ sig) → Buf (Elt Ideal) ℓ) (ρ : Dev nD → PrngReg)

theorem idx0 : ∀ t : Fin cfg0.N, win0_0.index t = ![t.val / 4, 0] ∧ win0_1.index t = ![0, t.val % 4]
    ∧ win0_2.index t = ![t.val / 4, t.val % 4] :=
  (by decide +kernel : ∀ t : Fin grid0.N, _)

theorem idx1 : ∀ t : Fin cfg1.N, win1_0.index t = ![t.val / 4, 0] ∧ win1_1.index t = ![t.val % 4, 0]
    ∧ win1_2.index t = ![t.val / 4, t.val % 4] ∧ win1_3.index t = ![t.val / 4, t.val % 4] :=
  (by decide +kernel : ∀ t : Fin grid1.N, _)

theorem two_bits : Ideal.ofBits .f32 1073741824#32 = (((2 : ℝ) : ℝ) : EReal) := by
  simp [Ideal.ofBits, Ideal.ieee]
  rw [← EReal.coe_mul]; norm_num

/-- The pre-activation. -/
def UP (X : FVec Ideal S4096x1024 .f32) (W1 : FVec Ideal S1024x4096 .f32) : FVec Ideal S4096x4096 .bf16 :=
  fun i => ∑ k : Fin 1024, X (ix2 (i 0) k) * W1 (ix2 k (i 1))

/-- The gradient with respect to the pre-activation. -/
def DUP (A : FVec Ideal S4096x4096 .bf16) (W2 DY : FVec Ideal S4096x1024 .f32) : FVec Ideal S4096x4096 .bf16 :=
  fun i => (∑ k : Fin 1024, DY (ix2 (i 0) k) * W2 (ix2 (i 1) k)) * ((2 : ℝ) * max (A i) 0)

theorem entry0_x (c : Dev nD) : V1 m ρ c main_v2 = (truncf .bf16 (show FVec Ideal S4096x1024 .f32 from m ((c : Thread nD τ).loc main_arg0)) bitsLt_bf16_f32 : FVec Ideal S4096x1024 .bf16) := by
  unfold_abbrev_sides
  after_results

theorem entry0_w (c : Dev nD) : V1 m ρ c main_v0 = (truncf .bf16 (show FVec Ideal S1024x4096 .f32 from m ((c : Thread nD τ).loc main_arg1)) bitsLt_bf16_f32 : FVec Ideal S1024x4096 .bf16) := by
  unfold_abbrev_sides
  after_results

theorem point0 (c : Dev nD) (t : Fin cfg0.N) (y) : k0_pay2 (F := Ideal) (iblk0 (V1 m ρ) c 0 t) (iblk0 (V1 m ρ) c 1 t) y
    = UP (m ((c : Thread nD τ).loc main_arg0)) (m ((c : Thread nD τ).loc main_arg1)) (((cfg0.win 2).blk t).view.emb y) := by
  pointwise [k0_pay2, k0_pay1, UP]
  blk_point [iblk0, entry0_x m ρ c, entry0_w m ρ c, idx0 t]

theorem act (c : Dev nD) : (dat0 (V1 m ρ) c).arrAt 2 cfg0.N
    = UP (m ((c : Thread nD τ).loc main_arg0)) (m ((c : Thread nD τ).loc main_arg1)) := by
  refine (dat0 (V1 m ρ) c).arrAt_eq_of_covers 2 _ (by decide +kernel) fun t _ y => ?_
  blk_simp
  rw [after0_2]; frame_out
  exact point0 m ρ c t y

theorem entry1_a (c : Dev nD) : V3 m ρ c main_v3_0
    = UP (m ((c : Thread nD τ).loc main_arg0)) (m ((c : Thread nD τ).loc main_arg1)) :=
  (W3_of m ρ c main_v3_0 (by decide)).trans ((W2_arr m ρ c 2).trans (act m ρ c))

theorem entry1_w (c : Dev nD) : V3 m ρ c main_v1 = (truncf .bf16 (show FVec Ideal S4096x1024 .f32 from m ((c : Thread nD τ).loc main_arg2)) bitsLt_bf16_f32 : FVec Ideal S4096x1024 .bf16) := by
  refine (W3_of m ρ c main_v1 (by decide)).trans ((W2_of_ne m ρ c main_v1 (by decide)).trans ?_)
  unfold_abbrev_sides
  after_results

theorem entry1_dy (c : Dev nD) : V3 m ρ c main_v4 = (truncf .bf16 (show FVec Ideal S4096x1024 .f32 from m ((c : Thread nD τ).loc main_arg3)) bitsLt_bf16_f32 : FVec Ideal S4096x1024 .bf16) := by
  have h : V3 m ρ c main_v4 = (truncf .bf16 (show FVec Ideal S4096x1024 .f32 from W2 m ρ c (Proc.devRef .tc main_arg3)) bitsLt_bf16_f32 : FVec Ideal S4096x1024 .bf16) := by
    unfold_abbrev_sides
    after_results
  rw [h, W2_args m ρ c main_arg3 (by simp)]

theorem point1 (c : Dev nD) (t : Fin cfg1.N) (y) : k1_pay1 (F := Ideal) (iblk1 (V3 m ρ) c 0 t) (iblk1 (V3 m ρ) c 1 t) (iblk1 (V3 m ρ) c 2 t) y
    = DUP (UP (m ((c : Thread nD τ).loc main_arg0)) (m ((c : Thread nD τ).loc main_arg1)))
        (m ((c : Thread nD τ).loc main_arg2)) (m ((c : Thread nD τ).loc main_arg3)) (((cfg1.win 3).blk t).view.emb y) := by
  pointwise [k1_pay1, DUP]
  rw [two_bits]
  blk_point [iblk1, entry1_a m ρ c, entry1_w m ρ c, entry1_dy m ρ c, idx1 t]

theorem final (c : Dev nD) : (dat1 (V3 m ρ) c).arrAt 3 cfg1.N
    = DUP (UP (m ((c : Thread nD τ).loc main_arg0)) (m ((c : Thread nD τ).loc main_arg1)))
        (m ((c : Thread nD τ).loc main_arg2)) (m ((c : Thread nD τ).loc main_arg3)) := by
  refine (dat1 (V3 m ρ) c).arrAt_eq_of_covers 3 _ (by decide +kernel) fun t _ y => ?_
  blk_simp
  rw [after1_3]; frame_out
  exact point1 m ρ c t y

/-- Over the extended reals, doubling a nonnegative factor is adding the product to itself. -/
theorem double (a b : EReal) : a * ((2 : ℝ) * max b 0) = if 0 < b then max b 0 * a + a * max b 0 else 0 := by
  split_ifs with h
  · rw [max_eq_left h.le, mul_comm b a]
    have h2 : ((2 : ℝ) : EReal) * b = b + b := by
      rw [show ((2 : ℝ) : EReal) = 1 + 1 by norm_num; rfl, EReal.right_distrib_of_nonneg (by norm_num) (by norm_num), one_mul]
    rw [h2, EReal.left_distrib_of_nonneg h.le h.le]
  · rw [max_eq_right (not_lt.1 h)]; simp
end Cert.KernelIdeal.Relu
-- ==== Proof.AttBody.lean ====
module

public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import Idealize.ShloMosaic.Lib.Claim
public import Idealize.ShloMosaic.Lib.VecWindow

@[expose] public section

set_option maxRecDepth 16384
set_option maxHeartbeats 4000000

noncomputable section

namespace Cert.Kernel2Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F] [Named F]

/-! The rows of the accumulators the four places after the loops take: block `i - 2` (the odd block left), block `i`
    (alone), blocks `i - 1` and `i` (the last pair). Each word chain wraps where its block is negative. -/

theorem off5_eq (i : grid0.Coords) : k0_off5 i = ![256 * (((i 1).val - 1 + 16777215) % 16777216), 0] :=
  congrArg (![·, 0]) ((by decide +kernel : ∀ a : Fin 16, (Scalar.indexCast (Scalar.muli (Scalar.subi (Scalar.maxsi (Scalar.subi
    (BitVec.ofNat 32 a.val) 1#32) 0#32) 1#32) 256#32) : Index).toNat = 256 * ((a.val - 1 + 16777215) % 16777216)) (i 1))

theorem off7_eq (i : grid0.Coords) : k0_off7 i = ![256 * (((i 1).val + 16777215) % 16777216), 0] :=
  congrArg (![·, 0]) ((by decide +kernel : ∀ a : Fin 16, (Scalar.indexCast (Scalar.muli (Scalar.subi
    (BitVec.ofNat 32 a.val) 1#32) 256#32) : Index).toNat = 256 * ((a.val + 16777215) % 16777216)) (i 1))

theorem off6_eq (i : grid0.Coords) : k0_off6 i = ![256 * (i 1).val, 0] :=
  congrArg (![·, 0]) ((by decide +kernel : ∀ a : Fin 16, (Scalar.indexCast (Scalar.muli
    (BitVec.ofNat 32 a.val) 256#32) : Index).toNat = 256 * a.val) (i 1))

theorem off8_eq (i : grid0.Coords) : k0_off8 i = ![256 * (i 1).val, 0] := off6_eq i

instance (i : grid0.Coords) : ClosedOff (k0_off5 i) := ⟨_, off5_eq i⟩
instance (i : grid0.Coords) : ClosedOff (k0_off6 i) := ⟨_, off6_eq i⟩
instance (i : grid0.Coords) : ClosedOff (k0_off7 i) := ⟨_, off7_eq i⟩
instance (i : grid0.Coords) : ClosedOff (k0_off8 i) := ⟨_, off8_eq i⟩

/-- The word the first condition of the body compares: one at the first query block of a pair of heads. -/
abbrev first (i : grid0.Coords) : BitVec 1 :=
  Scalar.cmpi .ne (Scalar.extui (Scalar.cmpi .eq (BitVec.ofNat 32 (i 1).val) 0#32)) 0#32

/-- The number of whole key blocks before the last pair. -/
abbrev left (i : grid0.Coords) : BitVec 32 := Scalar.maxsi (Scalar.subi (BitVec.ofNat 32 (i 1).val) 1#32) 0#32

/-- The key block the body starts at, from the two slices of its row sums. -/
abbrev start (i : grid0.Coords) (s0 s1 : Vec F S1x256x128 .f32) : BitVec 32 :=
  Scalar.fptosi 32 (k0_pay248 (iota .tc S1x128 32 [1] iota_S1x128_d1_w32) (left i) (k0_pay247 s0 s1))

/-- What one run of the body finds: the key block it starts at is one the body's assumption admits, and which of its
    conditional's arms is taken. -/
structure Point (i : grid0.Coords) (b1 b2 : Prop) (v : BitVec 32) : Prop where
  chk : k0_chk1 i v
  c1 : first i = 1#1 ↔ b1
  c2 : k0_cond2 i v = 1#1 ↔ b2
  c3 : k0_cond3 i = 1#1 ↔ b1

/-- The input windows' staging buffers at one grid point. -/
abbrev Ins (c : Dev nD) (arg2 : Memref sig .tc .vmem S256x128 .bf16) (arg3 arg4 : Memref sig .tc .vmem S4096x128 .bf16)
    (arg5 : Memref sig .tc .vmem S256x128 .f32) (arg6 : Memref sig .tc .vmem S2x256x128 .f32)
    (x2 : Vec F S256x128 .bf16) (x3 x4 : Vec F S4096x128 .bf16) (x5 : Vec F S256x128 .f32) (x6 : Vec F S2x256x128 .f32) : sProp (MT nD τ sig Unit (Elt F) ℕ (UR sig nD τ) ℕ) :=
  iprop(owns (c : Thread nD τ) arg2 fullShare x2 ∗ owns (c : Thread nD τ) arg3 fullShare x3 ∗ owns (c : Thread nD τ) arg4 fullShare x4
    ∗ owns (c : Thread nD τ) arg5 fullShare x5 ∗ owns (c : Thread nD τ) arg6 fullShare x6)

/-- A buffer overwritten whole holds what was written. -/
theorem zeroed {m : Memref sig .tc .vmem S4096x128 .f32} (h : m.IsWhole) {f : m.view.ty.Contents (Elt F)} {w : Vec F S4096x128 .f32} :
    m.view.writes (Elt F) f [⟨Rect.unit (s := S4096x128) ![0, 0] S4096x128.size inb_S4096x128_S4096x128_0_0, w⟩] = h.unread w :=
  h.eq_unread (View.read_writes_full m.view f inb_S4096x128_S4096x128_0_0 w [])

/-- The same of the query gradient's buffer. -/
theorem whole7 {m : Memref sig .tc .vmem S256x128 .f32} (h : m.IsWhole) {f : m.view.ty.Contents (Elt F)} {w : Vec F S256x128 .f32} :
    m.view.writes (Elt F) f [⟨Rect.unit (s := S256x128) ![0, 0] S256x128.size inb_S256x128_S256x128_0_0, w⟩] = h.unread w :=
  h.eq_unread (View.read_writes_full m.view f inb_S256x128_S256x128_0_0 w [])

/-- The same, as the ownership the body is left with. -/
theorem own7 (c : Dev nD) {m : Memref sig .tc .vmem S256x128 .f32} (h : m.IsWhole) {f : m.view.ty.Contents (Elt F)} {w : Vec F S256x128 .f32} :
    ((m.view.loc (c : Thread nD τ) ↦[m.view.set]{fullShare} m.view.writes (Elt F) f [⟨Rect.unit (s := S256x128) ![0, 0] S256x128.size inb_S256x128_S256x128_0_0, w⟩] : sProp (MT nD τ sig Unit (Elt F) ℕ (UR sig nD τ) ℕ)))
      ⊢ (m.view.loc (c : Thread nD τ) ↦[m.view.set]{fullShare} h.unread w) := by
  rw [whole7 h]

/-- What the body loads before its loops, with the words it computes from its query block. -/
abbrev loaded (i : grid0.Coords) (arg2 : Memref sig .tc .vmem S256x128 .bf16) (harg2 : arg2.IsWhole) (arg5 : Memref sig .tc .vmem S256x128 .f32) (harg5 : arg5.IsWhole)
    (arg6 : Memref sig .tc .vmem S2x256x128 .f32) (harg6 : arg6.IsWhole) (x2 : Vec F S256x128 .bf16) (x5 : Vec F S256x128 .f32) (x6 : Vec F S2x256x128 .f32) :
    Σ' (arg1 : BitVec 32) (v5 : IVec S1x128 1) (v6 : IVec S1x128 32) (v13 : FVec F S256x256 .bf16) (v22 : FVec F S256x128 .bf16) (v25 : FVec F S256x128 .bf16) (v28 : FVec F S256x128 .bf16) (v31 : FVec F S256x128 .bf16) (v33 : BitVec 32), FVec F S256x128 .f32 :=
  let v14 := View.readAt (Elt F) arg2.view (Rect.unit (s := S256x128) ![0, 0] S256x128.size inb_S256x128_S256x128_0_0).toLoadRect (harg2.unread x2)
  let v16 := View.readAt (Elt F) arg5.view (Rect.unit (s := S256x128) ![0, 0] S256x128.size inb_S256x128_S256x128_0_0).toLoadRect (harg5.unread x5)
  ⟨BitVec.ofNat 32 (i 1).val, k0_pay238, iota .tc S1x128 32 [1] iota_S1x128_d1_w32, k0_pay239 (F := F), k0_pay243 v14, k0_pay244 v14, k0_pay245 v16, k0_pay246 v16, left i,
    k0_pay247 (View.readAt (Elt F) arg6.view (Rect.unit (s := S2x256x128) ![0, 0, 0] S1x256x128.size inb_S2x256x128_S1x256x128_0_0_0).toLoadRect (harg6.unread x6))
      (View.readAt (Elt F) arg6.view (Rect.unit (s := S2x256x128) ![1, 0, 0] S1x256x128.size inb_S2x256x128_S1x256x128_1_0_0).toLoadRect (harg6.unread x6))⟩

/-- The first part of the body at a first query block: it zeroes the two accumulators and loads the query's, the
    cotangent's and the row sums' blocks. -/
theorem part25A (c : Dev nD) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .f32) (harg5 : arg5.IsWhole) (arg6 : Memref sig .tc .vmem S2x256x128 .f32) (harg6 : arg6.IsWhole) (arg7 : Memref sig .tc .vmem S256x128 .f32) (harg7 : arg7.IsWhole) (arg8 : Memref sig .tc .vmem S4096x128 .f32) (harg8 : arg8.IsWhole) (arg9 : Memref sig .tc .vmem S4096x128 .f32) (harg9 : arg9.IsWhole) (hc1 : first i = 1#1)
    (x2 : Vec F S256x128 .bf16) (x5 : Vec F S256x128 .f32) (x6 : Vec F S2x256x128 .f32) (E : Set ℕ) (K : _ → sProp (MT nD τ sig Unit (Elt F) ℕ (UR sig nD τ) ℕ)) :
      iprop((arg2.view.loc (c : Thread nD τ) ↦[arg2.view.set]{fullShare} harg2.unread x2) ∗ (arg5.view.loc (c : Thread nD τ) ↦[arg5.view.set]{fullShare} harg5.unread x5)
          ∗ (arg6.view.loc (c : Thread nD τ) ↦[arg6.view.set]{fullShare} harg6.unread x6)
          ∗ (∃ f, arg8.view.loc (c : Thread nD τ) ↦[arg8.view.set]{fullShare} f) ∗ (∃ f, arg9.view.loc (c : Thread nD τ) ↦[arg9.view.set]{fullShare} f)
          ∗ (iprop((arg2.view.loc (c : Thread nD τ) ↦[arg2.view.set]{fullShare} harg2.unread x2) ∗ (arg5.view.loc (c : Thread nD τ) ↦[arg5.view.set]{fullShare} harg5.unread x5)
            ∗ (arg6.view.loc (c : Thread nD τ) ↦[arg6.view.set]{fullShare} harg6.unread x6)
            ∗ (arg8.view.loc (c : Thread nD τ) ↦[arg8.view.set]{fullShare} harg8.unread (k0_pay236 (F := F))) ∗ (arg9.view.loc (c : Thread nD τ) ↦[arg9.view.set]{fullShare} harg9.unread (k0_pay237 (F := F))))
            -∗ K (loaded i arg2 harg2 arg5 harg5 arg6 harg6 x2 x5 x6)))
        ⊢ wp frame (wpE (defs₀ (F := F)) Variants.none c none) E (k0_part25 i arg2 harg2 arg3 harg3 arg4 harg4 arg5 harg5 arg6 harg6 arg7 harg7 arg8 harg8 arg9 harg9) K := by
  rw [k0_part25_eq_skeleton]; unfold k0_part25_skel
  iintro ⟨H2, H5, H6, ⟨%f8, H8⟩, ⟨%f9, H9⟩, Hk⟩
  sl_exec (disch := first | sl_exact hc1)
  sl_step
  rw [zeroed harg8, zeroed harg9]
  delta part25A.sl.v6 part25A.sl.v33 part25A.sl.v32
  iapply Hk
  isplitl [H2]; · iexact H2
  isplitl [H5]; · iexact H5
  isplitl [H6]; · iexact H6
  isplitl [H8]; · iexact H8
  iexact H9

/-- The body at a later query block with an odd number of whole key blocks left. -/
def runB (c : Dev nD) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .f32) (harg5 : arg5.IsWhole) (arg6 : Memref sig .tc .vmem S2x256x128 .f32) (harg6 : arg6.IsWhole) (arg7 : Memref sig .tc .vmem S256x128 .f32) (harg7 : arg7.IsWhole) (arg8 : Memref sig .tc .vmem S4096x128 .f32) (harg8 : arg8.IsWhole) (arg9 : Memref sig .tc .vmem S4096x128 .f32) (harg9 : arg9.IsWhole)
    (x2 : Vec F S256x128 .bf16) (x3 x4 : Vec F S4096x128 .bf16) (x5 : Vec F S256x128 .f32) (x6 : Vec F S2x256x128 .f32) (x8 x9 : Vec F S4096x128 .f32)
    (h : Point i False True (start i (View.readAt (Elt F) arg6.view (Rect.unit (s := S2x256x128) ![0, 0, 0] S1x256x128.size inb_S2x256x128_S1x256x128_0_0_0).toLoadRect (harg6.unread x6))
      (View.readAt (Elt F) arg6.view (Rect.unit (s := S2x256x128) ![1, 0, 0] S1x256x128.size inb_S2x256x128_S1x256x128_1_0_0).toLoadRect (harg6.unread x6)))) :
    Σ' (V7 : Vec F S256x128 .f32) (C8 : BufTy.Contents (Elt F) arg8.view.ty), { C9 : BufTy.Contents (Elt F) arg9.view.ty // ∀ (E : Set ℕ) (K : PUnit → sProp (MT nD τ sig Unit (Elt F) ℕ (UR sig nD τ) ℕ)),
      iprop(Ins c arg2 arg3 arg4 arg5 arg6 x2 x3 x4 x5 x6 ∗ (∃ d, owns (c : Thread nD τ) arg7 fullShare d)
          ∗ owns (c : Thread nD τ) arg8 fullShare x8 ∗ owns (c : Thread nD τ) arg9 fullShare x9
          ∗ (iprop(Ins c arg2 arg3 arg4 arg5 arg6 x2 x3 x4 x5 x6 ∗ (arg7.view.loc (c : Thread nD τ) ↦[arg7.view.set]{fullShare} harg7.unread V7)
            ∗ (arg8.view.loc (c : Thread nD τ) ↦[arg8.view.set]{fullShare} C8) ∗ (arg9.view.loc (c : Thread nD τ) ↦[arg9.view.set]{fullShare} C9)) -∗ K ⟨⟩))
        ⊢ wp frame (wpE (defs₀ (F := F)) Variants.none c none) E (cc0_sb_bwd i arg2 harg2 arg3 harg3 arg4 harg4 arg5 harg5 arg6 harg6 arg7 harg7 arg8 harg8 arg9 harg9) K } := by
  have hc1 := h.c1.not.mpr not_false
  have hc2 := h.c2.mpr trivial
  have hc3 := h.c3.not.mpr not_false
  have hchk := h.chk
  refine ⟨?_, ?_, ?_, fun E K => ?run⟩
  case run =>
    simp only [cc0_sb_bwd_eq_skeleton]; unfold cc0_sb_bwd_skel
    simp only [k0_part25_eq_skeleton, k0_part26_eq_skeleton, k0_part13_eq_skeleton, k0_part14_eq_skeleton, k0_part15_eq_skeleton, k0_part19_eq_skeleton, k0_part20_eq_skeleton, k0_part21_eq_skeleton, k0_part22_eq_skeleton, k0_part23_eq_skeleton, k0_part24_eq_skeleton]
    unfold k0_part25_skel k0_part26_skel k0_part13_skel k0_part14_skel k0_part15_skel k0_part19_skel k0_part20_skel k0_part21_skel k0_part22_skel k0_part23_skel k0_part24_skel Ins owns
    iintro ⟨⟨⟨%f2, %hf2, H2⟩, ⟨%f3, %hf3, H3⟩, ⟨%f4, %hf4, H4⟩, ⟨%f5, %hf5, H5⟩, ⟨%f6, %hf6, H6⟩⟩, ⟨%d7, %f7, -, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5; obtain rfl := harg6.eq_unread hf6
    obtain rfl := harg8.eq_unread hf8; obtain rfl := harg9.eq_unread hf9
    sl_exec (disch := first | sl_exact hc1 | sl_exact hc2 | sl_exact hc3)
    sl_step

    iapply Hk
    isplitl [H2 H3 H4 H5 H6]
    · isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      iexists _; isplitr; · ipureintro; exact harg6.read_unread _
      iexact H6
    isplitl [H7]; · iapply (own7 c harg7); iexact H7
    isplitl [H8]; · iexact H8
    iexact H9

/-- The body at a later query block with an even number of whole key blocks left. -/
def runC (c : Dev nD) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .f32) (harg5 : arg5.IsWhole) (arg6 : Memref sig .tc .vmem S2x256x128 .f32) (harg6 : arg6.IsWhole) (arg7 : Memref sig .tc .vmem S256x128 .f32) (harg7 : arg7.IsWhole) (arg8 : Memref sig .tc .vmem S4096x128 .f32) (harg8 : arg8.IsWhole) (arg9 : Memref sig .tc .vmem S4096x128 .f32) (harg9 : arg9.IsWhole)
    (x2 : Vec F S256x128 .bf16) (x3 x4 : Vec F S4096x128 .bf16) (x5 : Vec F S256x128 .f32) (x6 : Vec F S2x256x128 .f32) (x8 x9 : Vec F S4096x128 .f32)
    (h : Point i False False (start i (View.readAt (Elt F) arg6.view (Rect.unit (s := S2x256x128) ![0, 0, 0] S1x256x128.size inb_S2x256x128_S1x256x128_0_0_0).toLoadRect (harg6.unread x6))
      (View.readAt (Elt F) arg6.view (Rect.unit (s := S2x256x128) ![1, 0, 0] S1x256x128.size inb_S2x256x128_S1x256x128_1_0_0).toLoadRect (harg6.unread x6)))) :
    Σ' (V7 : Vec F S256x128 .f32) (C8 : BufTy.Contents (Elt F) arg8.view.ty), { C9 : BufTy.Contents (Elt F) arg9.view.ty // ∀ (E : Set ℕ) (K : PUnit → sProp (MT nD τ sig Unit (Elt F) ℕ (UR sig nD τ) ℕ)),
      iprop(Ins c arg2 arg3 arg4 arg5 arg6 x2 x3 x4 x5 x6 ∗ (∃ d, owns (c : Thread nD τ) arg7 fullShare d)
          ∗ owns (c : Thread nD τ) arg8 fullShare x8 ∗ owns (c : Thread nD τ) arg9 fullShare x9
          ∗ (iprop(Ins c arg2 arg3 arg4 arg5 arg6 x2 x3 x4 x5 x6 ∗ (arg7.view.loc (c : Thread nD τ) ↦[arg7.view.set]{fullShare} harg7.unread V7)
            ∗ (arg8.view.loc (c : Thread nD τ) ↦[arg8.view.set]{fullShare} C8) ∗ (arg9.view.loc (c : Thread nD τ) ↦[arg9.view.set]{fullShare} C9)) -∗ K ⟨⟩))
        ⊢ wp frame (wpE (defs₀ (F := F)) Variants.none c none) E (cc0_sb_bwd i arg2 harg2 arg3 harg3 arg4 harg4 arg5 harg5 arg6 harg6 arg7 harg7 arg8 harg8 arg9 harg9) K } := by
  have hc1 := h.c1.not.mpr not_false
  have hc2 := h.c2.not.mpr not_false
  have hc3 := h.c3.not.mpr not_false
  have hchk := h.chk
  refine ⟨?_, ?_, ?_, fun E K => ?run⟩
  case run =>
    simp only [cc0_sb_bwd_eq_skeleton]; unfold cc0_sb_bwd_skel
    simp only [k0_part25_eq_skeleton, k0_part26_eq_skeleton, k0_part19_eq_skeleton, k0_part20_eq_skeleton, k0_part21_eq_skeleton, k0_part22_eq_skeleton, k0_part23_eq_skeleton, k0_part24_eq_skeleton]
    unfold k0_part25_skel k0_part26_skel k0_part19_skel k0_part20_skel k0_part21_skel k0_part22_skel k0_part23_skel k0_part24_skel Ins owns
    iintro ⟨⟨⟨%f2, %hf2, H2⟩, ⟨%f3, %hf3, H3⟩, ⟨%f4, %hf4, H4⟩, ⟨%f5, %hf5, H5⟩, ⟨%f6, %hf6, H6⟩⟩, ⟨%d7, %f7, -, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5; obtain rfl := harg6.eq_unread hf6
    obtain rfl := harg8.eq_unread hf8; obtain rfl := harg9.eq_unread hf9
    sl_exec (disch := first | sl_exact hc1 | sl_exact hc2 | sl_exact hc3)
    sl_step

    iapply Hk
    isplitl [H2 H3 H4 H5 H6]
    · isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      iexists _; isplitr; · ipureintro; exact harg6.read_unread _
      iexact H6
    isplitl [H7]; · iapply (own7 c harg7); iexact H7
    isplitl [H8]; · iexact H8
    iexact H9

/-- The body at the first query block of a pair of heads: the two accumulators are zeroed first. -/
def runA (c : Dev nD) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .f32) (harg5 : arg5.IsWhole) (arg6 : Memref sig .tc .vmem S2x256x128 .f32) (harg6 : arg6.IsWhole) (arg7 : Memref sig .tc .vmem S256x128 .f32) (harg7 : arg7.IsWhole) (arg8 : Memref sig .tc .vmem S4096x128 .f32) (harg8 : arg8.IsWhole) (arg9 : Memref sig .tc .vmem S4096x128 .f32) (harg9 : arg9.IsWhole)
    (x2 : Vec F S256x128 .bf16) (x3 x4 : Vec F S4096x128 .bf16) (x5 : Vec F S256x128 .f32) (x6 : Vec F S2x256x128 .f32)
    (h : Point i True False (start i (View.readAt (Elt F) arg6.view (Rect.unit (s := S2x256x128) ![0, 0, 0] S1x256x128.size inb_S2x256x128_S1x256x128_0_0_0).toLoadRect (harg6.unread x6))
      (View.readAt (Elt F) arg6.view (Rect.unit (s := S2x256x128) ![1, 0, 0] S1x256x128.size inb_S2x256x128_S1x256x128_1_0_0).toLoadRect (harg6.unread x6)))) :
    Σ' (V7 : Vec F S256x128 .f32) (C8 : BufTy.Contents (Elt F) arg8.view.ty), { C9 : BufTy.Contents (Elt F) arg9.view.ty // ∀ (E : Set ℕ) (K : PUnit → sProp (MT nD τ sig Unit (Elt F) ℕ (UR sig nD τ) ℕ)),
      iprop(Ins c arg2 arg3 arg4 arg5 arg6 x2 x3 x4 x5 x6 ∗ (∃ d, owns (c : Thread nD τ) arg7 fullShare d)
          ∗ (∃ d, owns (c : Thread nD τ) arg8 fullShare d) ∗ (∃ d, owns (c : Thread nD τ) arg9 fullShare d)
          ∗ (iprop(Ins c arg2 arg3 arg4 arg5 arg6 x2 x3 x4 x5 x6 ∗ (arg7.view.loc (c : Thread nD τ) ↦[arg7.view.set]{fullShare} harg7.unread V7)
            ∗ (arg8.view.loc (c : Thread nD τ) ↦[arg8.view.set]{fullShare} C8) ∗ (arg9.view.loc (c : Thread nD τ) ↦[arg9.view.set]{fullShare} C9)) -∗ K ⟨⟩))
        ⊢ wp frame (wpE (defs₀ (F := F)) Variants.none c none) E (cc0_sb_bwd i arg2 harg2 arg3 harg3 arg4 harg4 arg5 harg5 arg6 harg6 arg7 harg7 arg8 harg8 arg9 harg9) K } := by
  have hc1 := h.c1.mpr trivial
  have hc2 := h.c2.not.mpr not_false
  have hc3 := h.c3.mpr trivial
  have hchk := h.chk
  refine ⟨?_, ?_, ?_, fun E K => ?run⟩
  case run =>
    simp only [cc0_sb_bwd_eq_skeleton]; unfold cc0_sb_bwd_skel
    unfold Ins owns
    rw [wp_bind]
    iintro ⟨⟨⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, %hf8, H8⟩, ⟨%d9, %f9, %hf9, H9⟩, Hk⟩
    obtain rfl := harg2.eq_unread hf2; obtain rfl := harg3.eq_unread hf3; obtain rfl := harg4.eq_unread hf4; obtain rfl := harg5.eq_unread hf5; obtain rfl := harg6.eq_unread hf6
    iapply (part25A c i arg2 harg2 arg3 harg3 arg4 harg4 arg5 harg5 arg6 harg6 arg7 harg7 arg8 harg8 arg9 harg9 hc1 x2 x5 x6 E _)
    isplitl [H2]; · iexact H2
    isplitl [H5]; · iexact H5
    isplitl [H6]; · iexact H6
    isplitl [H8]; · iexists _; iexact H8
    isplitl [H9]; · iexists _; iexact H9
    iintro ⟨H2, H5, H6, H8, H9⟩

    dsimp only [loaded]
    simp only [k0_part26_eq_skeleton, k0_part16_eq_skeleton, k0_part17_eq_skeleton, k0_part18_eq_skeleton]
    unfold k0_part26_skel k0_part16_skel k0_part17_skel k0_part18_skel
    sl_exec (disch := first | sl_exact hc2 | sl_exact hc3)
    sl_step

    iapply Hk
    isplitl [H2 H3 H4 H5 H6]
    · isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      iexists _; isplitr; · ipureintro; exact harg6.read_unread _
      iexact H6
    isplitl [H7]; · iapply (own7 c harg7); iexact H7
    isplitl [H8]; · iexact H8
    iexact H9

end Cert.Kernel2Ideal.Att

end
-- ==== Proof.AttRun.lean ====
module

public import proofs.«01_k».proof.Proof.AttBody

@[expose] public section

set_option maxRecDepth 16384

noncomputable section

namespace Cert.Kernel2Ideal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F] [Named F]
variable (m : (ℓ : Loc nD τ sig) → Buf (Elt F) ℓ) (ρ : Dev nD → PrngReg)

/-- The key block the body starts at, at grid point `t`, from the row sums' block there. -/
def startAt (c : Dev nD) (t : Fin cfg0.N) : BitVec 32 :=
  start (grid0.coords t)
    (View.readAt (Elt F) (st0_4 t).view (Rect.unit (s := S2x256x128) ![0, 0, 0] S1x256x128.size inb_S2x256x128_S1x256x128_0_0_0).toLoadRect
      ((hstage0_4 ((cfg0.slots t 4).cast nbuf0_4)).unread (iblk m c 4 t)))
    (View.readAt (Elt F) (st0_4 t).view (Rect.unit (s := S2x256x128) ![1, 0, 0] S1x256x128.size inb_S2x256x128_S1x256x128_1_0_0).toLoadRect
      ((hstage0_4 ((cfg0.slots t 4).cast nbuf0_4)).unread (iblk m c 4 t)))

/-- Every grid point's body starts at one of the key blocks before its last pair. -/
def Starts : Prop := ∀ c t, (startAt m c t).toNat ≤ t.val % 16 - 1

/-- Over the query blocks: the words the body branches on. -/
theorem coords_one : ∀ t : Fin cfg0.N, (grid0.coords t 1).val = t.val % 16 := (by decide +kernel : ∀ t : Fin grid0.N, _)

theorem chk_of : ∀ (t : Fin cfg0.N) (v : Fin 16), v.val ≤ t.val % 16 - 1 → k0_chk1 (grid0.coords t) (BitVec.ofNat 32 v.val) :=
  (by decide +kernel : ∀ (t : Fin grid0.N) (v : Fin 16), _)
theorem even_of : ∀ t : Fin cfg0.N, t.val % 16 = 0 → ¬ k0_cond2 (grid0.coords t) 0#32 = 1#1 := (by decide +kernel : ∀ t : Fin grid0.N, _)
theorem first_iff : ∀ t : Fin cfg0.N, (first (grid0.coords t) = 1#1 ↔ t.val % 16 = 0) := (by decide +kernel : ∀ t : Fin grid0.N, _)
theorem third_iff : ∀ t : Fin cfg0.N, (k0_cond3 (grid0.coords t) = 1#1 ↔ t.val % 16 = 0) := (by decide +kernel : ∀ t : Fin grid0.N, _)

/-- What one grid point's body finds, by the words it starts from. -/
theorem point_of (hs : Starts m) (c : Dev nD) (t : Fin cfg0.N) (b1 b2 : Prop) (h1 : t.val % 16 = 0 ↔ b1)
    (h2 : k0_cond2 (grid0.coords t) (startAt m c t) = 1#1 ↔ b2) : Point (grid0.coords t) b1 b2 (startAt m c t) := by
  have hv := hs c t
  have e' : startAt m c t = BitVec.ofNat 32 (startAt m c t).toNat := by rw [BitVec.ofNat_toNat, BitVec.setWidth_eq]
  have hc := chk_of t ⟨(startAt m c t).toNat, by omega⟩ hv
  dsimp only at hc
  rw [← e'] at hc
  exact ⟨hc, (first_iff t).trans h1, h2, (third_iff t).trans h1⟩

theorem even_first (hs : Starts m) (c : Dev nD) (t : Fin cfg0.N) (h0 : t.val % 16 = 0) :
    ¬ k0_cond2 (grid0.coords t) (startAt m c t) = 1#1 := by
  have hv := hs c t
  rw [show startAt m c t = 0#32 from BitVec.eq_of_toNat_eq (by rw [BitVec.toNat_ofNat]; omega)]
  exact even_of t h0

/-- The query gradient's block and the two accumulators after the body at grid point `t`, from the accumulators before it. -/
def out (hs : Starts m) (c : Dev nD) (t : Fin cfg0.N) (x8 x9 : Vec F S4096x128 .f32) :
    Vec F S256x128 .f32 × Vec F S4096x128 .f32 × Vec F S4096x128 .f32 :=
  open Classical in
  if h0 : t.val % 16 = 0 then
    let r := runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) (iblk m c 4 t) (point_of m hs c t True False (iff_true_intro h0) (iff_false_intro (even_first m hs c t h0)))
    (r.1, (st0_6 t).view.read (Elt F) r.2.1, (st0_7 t).view.read (Elt F) r.2.2.1)
  else if h2 : k0_cond2 (grid0.coords t) (startAt m c t) = 1#1 then
    let r := runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) (iblk m c 4 t) x8 x9 (point_of m hs c t False True (iff_false_intro h0) (iff_true_intro h2))
    (r.1, (st0_6 t).view.read (Elt F) r.2.1, (st0_7 t).view.read (Elt F) r.2.2.1)
  else
    let r := runC c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) (iblk m c 4 t) x8 x9 (point_of m hs c t False False (iff_false_intro h0) (iff_false_intro h2))
    (r.1, (st0_6 t).view.read (Elt F) r.2.1, (st0_7 t).view.read (Elt F) r.2.2.1)

/-- The same after grid point `n`, the accumulators carried from point to point. -/
def outsAt (hs : Starts m) (c : Dev nD) : (n : ℕ) → n < cfg0.N → Vec F S256x128 .f32 × Vec F S4096x128 .f32 × Vec F S4096x128 .f32
  | 0, hn => out m hs c ⟨0, hn⟩ (k0_pay236 (F := F)) (k0_pay237 (F := F))
  | n + 1, hn => out m hs c ⟨n + 1, hn⟩ (outsAt hs c n (Nat.lt_of_succ_lt hn)).2.1 (outsAt hs c n (Nat.lt_of_succ_lt hn)).2.2

theorem outsAt_pos (hs : Starts m) (c : Dev nD) (t : Fin cfg0.N) (h : t.val ≠ 0) :
    outsAt m hs c t.val t.isLt = out m hs c t (outsAt m hs c (t.val - 1) (Nat.lt_of_le_of_lt (Nat.sub_le _ _) t.isLt)).2.1
      (outsAt m hs c (t.val - 1) (Nat.lt_of_le_of_lt (Nat.sub_le _ _) t.isLt)).2.2 := by
  obtain ⟨n, hn⟩ := t
  cases n with
  | zero => exact absurd rfl h
  | succ n => rfl

/-- At a first query block what was accumulated before does not matter. -/
theorem out_first (hs : Starts m) (c : Dev nD) (t : Fin cfg0.N) (h0 : t.val % 16 = 0) (x8 x9 y8 y9 : Vec F S4096x128 .f32) :
    out m hs c t x8 x9 = out m hs c t y8 y9 := by
  unfold out; rw [dif_pos h0, dif_pos h0]

theorem outsAt_first (hs : Starts m) (c : Dev nD) (t : Fin cfg0.N) (h0 : t.val % 16 = 0) (x8 x9 : Vec F S4096x128 .f32) :
    outsAt m hs c t.val t.isLt = out m hs c t x8 x9 := by
  by_cases h : t.val = 0
  · obtain ⟨n, hn⟩ := t
    dsimp only at h; subst h
    exact out_first m hs c _ h0 _ _ _ _
  · rw [outsAt_pos m hs c t h]; exact out_first m hs c t h0 _ _ _ _

/-- The proof data of the call: the inputs' buffers keep their blocks, the outputs' hold `outsAt`. -/
def dats (hs : Starts m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m hs c t.val t.isLt).1
    | ⟨6, _⟩ => (outsAt m hs c t.val t.isLt).2.1
    | ⟨7, _⟩ => (outsAt m hs c t.val t.isLt).2.2
    | ⟨_ + 8, h⟩ => absurd h (Nat.not_lt.2 (Nat.le_add_left _ _))
  Φ _ := Pipeline.ΦA spec0 c
  q w := Pipeline.shareOf spec0 w
  owed _ := 0

theorem A_eq (hs : Starts m) (c : Dev nD) (w : Fin cfg0.W) : (dats m hs 0 c).A w = V m c (Pipeline.arrRef spec0 w) := by
  dsimp only [dats]

theorem after0 (hs : Starts m) (c : Dev nD) (t : Fin cfg0.N) : (dats m hs 0 c).after 0 t = iblk m c 0 t := by dsimp only [dats]
theorem after1 (hs : Starts m) (c : Dev nD) (t : Fin cfg0.N) : (dats m hs 0 c).after 1 t = iblk m c 1 t := by dsimp only [dats]
theorem after2 (hs : Starts m) (c : Dev nD) (t : Fin cfg0.N) : (dats m hs 0 c).after 2 t = iblk m c 2 t := by dsimp only [dats]
theorem after3 (hs : Starts m) (c : Dev nD) (t : Fin cfg0.N) : (dats m hs 0 c).after 3 t = iblk m c 3 t := by dsimp only [dats]
theorem after4 (hs : Starts m) (c : Dev nD) (t : Fin cfg0.N) : (dats m hs 0 c).after 4 t = iblk m c 4 t := by dsimp only [dats]
theorem after5 (hs : Starts m) (c : Dev nD) (t : Fin cfg0.N) : (dats m hs 0 c).after 5 t = (outsAt m hs c t.val t.isLt).1 := by dsimp only [dats]
theorem after6 (hs : Starts m) (c : Dev nD) (t : Fin cfg0.N) : (dats m hs 0 c).after 6 t = (outsAt m hs c t.val t.isLt).2.1 := by dsimp only [dats]
theorem after7 (hs : Starts m) (c : Dev nD) (t : Fin cfg0.N) : (dats m hs 0 c).after 7 t = (outsAt m hs c t.val t.isLt).2.2 := by dsimp only [dats]
theorem before0 (hs : Starts m) (c : Dev nD) (t : Fin cfg0.N) (d) : (dats m hs 0 c).before 0 t d = iblk m c 0 t :=
  before0_0_of m (dats m hs 0 c) (A_eq m hs c 0) (after0 m hs c) t d
theorem before1 (hs : Starts m) (c : Dev nD) (t : Fin cfg0.N) (d) : (dats m hs 0 c).before 1 t d = iblk m c 1 t :=
  before0_1_of m (dats m hs 0 c) (A_eq m hs c 1) (after1 m hs c) t d
theorem before2 (hs : Starts m) (c : Dev nD) (t : Fin cfg0.N) (d) : (dats m hs 0 c).before 2 t d = iblk m c 2 t :=
  before0_2_of m (dats m hs 0 c) (A_eq m hs c 2) (after2 m hs c) t d
theorem before3 (hs : Starts m) (c : Dev nD) (t : Fin cfg0.N) (d) : (dats m hs 0 c).before 3 t d = iblk m c 3 t :=
  before0_3_of m (dats m hs 0 c) (A_eq m hs c 3) (after3 m hs c) t d
theorem before4 (hs : Starts m) (c : Dev nD) (t : Fin cfg0.N) (d) : (dats m hs 0 c).before 4 t d = iblk m c 4 t :=
  before0_4_of m (dats m hs 0 c) (A_eq m hs c 4) (after4 m hs c) t d
theorem before6 (hs : Starts m) (c : Dev nD) (t : Fin cfg0.N) (h0 : ¬ t.val % 16 = 0) (d) :
    (dats m hs 0 c).before 6 t d = (outsAt m hs c (t.val - 1) (Nat.lt_of_le_of_lt (Nat.sub_le _ _) t.isLt)).2.1 := by
  rw [Dat.before_out_kept _ 6 rfl t (by omega) (Bool.eq_false_iff.mpr fun h => by have := (flush0_6 _).mp h; dsimp only at this; omega)
    (fun _ => rfl) (fun _ _ => rfl)]
  dsimp only [dats]
theorem before7 (hs : Starts m) (c : Dev nD) (t : Fin cfg0.N) (h0 : ¬ t.val % 16 = 0) (d) :
    (dats m hs 0 c).before 7 t d = (outsAt m hs c (t.val - 1) (Nat.lt_of_le_of_lt (Nat.sub_le _ _) t.isLt)).2.2 := by
  rw [Dat.before_out_kept _ 7 rfl t (by omega) (Bool.eq_false_iff.mpr fun h => by have := (flush0_7 _).mp h; dsimp only at this; omega)
    (fun _ => rfl) (fun _ _ => rfl)]
  dsimp only [dats]

/-- What the body is called with at point `t`, window by window, -/
def bodyPre (hs : Starts m) (c : Dev nD) (t : Fin cfg0.N) : sProp (MT nD τ sig Unit (Elt F) ℕ (UR sig nD τ) ℕ) :=
  iprop((dats m hs 0 c).Φ t.castSucc ∗ (dats m hs 0 c).owesAt () t.castSucc
    ∗ (∃ d, owns (c : Thread nD τ) (st0_0 t) fullShare ((dats m hs 0 c).before 0 t d))
    ∗ (∃ d, owns (c : Thread nD τ) (st0_1 t) fullShare ((dats m hs 0 c).before 1 t d))
    ∗ (∃ d, owns (c : Thread nD τ) (st0_2 t) fullShare ((dats m hs 0 c).before 2 t d))
    ∗ (∃ d, owns (c : Thread nD τ) (st0_3 t) fullShare ((dats m hs 0 c).before 3 t d))
    ∗ (∃ d, owns (c : Thread nD τ) (st0_4 t) fullShare ((dats m hs 0 c).before 4 t d))
    ∗ (∃ d, owns (c : Thread nD τ) (st0_5 t) fullShare ((dats m hs 0 c).before 5 t d))
    ∗ (∃ d, owns (c : Thread nD τ) (st0_6 t) fullShare ((dats m hs 0 c).before 6 t d))
    ∗ (∃ d, owns (c : Thread nD τ) (st0_7 t) fullShare ((dats m hs 0 c).before 7 t d)))

/-- and what it leaves. -/
def bodyPost (hs : Starts m) (c : Dev nD) (t : Fin cfg0.N) : sProp (MT nD τ sig Unit (Elt F) ℕ (UR sig nD τ) ℕ) :=
  iprop((dats m hs 0 c).Φ t.succ ∗ (dats m hs 0 c).owesAt () t.succ
    ∗ owns (c : Thread nD τ) (st0_0 t) fullShare ((dats m hs 0 c).after 0 t)
    ∗ owns (c : Thread nD τ) (st0_1 t) fullShare ((dats m hs 0 c).after 1 t)
    ∗ owns (c : Thread nD τ) (st0_2 t) fullShare ((dats m hs 0 c).after 2 t)
    ∗ owns (c : Thread nD τ) (st0_3 t) fullShare ((dats m hs 0 c).after 3 t)
    ∗ owns (c : Thread nD τ) (st0_4 t) fullShare ((dats m hs 0 c).after 4 t)
    ∗ owns (c : Thread nD τ) (st0_5 t) fullShare ((dats m hs 0 c).after 5 t)
    ∗ owns (c : Thread nD τ) (st0_6 t) fullShare ((dats m hs 0 c).after 6 t)
    ∗ owns (c : Thread nD τ) (st0_7 t) fullShare ((dats m hs 0 c).after 7 t))

set_option maxHeartbeats 3200000 in
/-- The body at any grid point, by the arms its conditionals take there. -/
theorem sound_body (hs : Starts m) (c : Dev nD) (t : Fin cfg0.N) :
    bodyPre m hs c t ⊢ wp frame (wpE (defs₀ (F := F)) Variants.none c none) Set.univ (bodyAt0 t) (fun _ => bodyPost m hs c t) := by
  unfold bodyPre bodyPost bodyAt0
  simp only [before0, before1, before2, before3, before4]
  rw [show (dats m hs 0 c).owesAt () t.succ = (dats m hs 0 c).owesAt () t.castSucc from rfl,
    show (dats m hs 0 c).Φ t.succ = (dats m hs 0 c).Φ t.castSucc from rfl,
    after0, after1, after2, after3, after4, after5, after6, after7]
  by_cases h0 : t.val % 16 = 0
  · rw [outsAt_first m hs c t h0 (k0_pay236 (F := F)) (k0_pay237 (F := F))]
    unfold out; rw [dif_pos h0]; dsimp only
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) (iblk m c 4 t) (point_of m hs c t True False (iff_true_intro h0) (iff_false_intro (even_first m hs c t h0)))).2.2.2 Set.univ _)
    unfold Ins
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    isplitl [H7]; · iexists _; iexact H7
    iintro ⟨⟨H0, H1, H2, H3, H4⟩, H5, H6, H7⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact Memref.IsWhole.read_unread _ _
    isplitl [H6]
    · unfold owns; iexists _; isplitr
      swap; · iexact H6
      ipureintro; rfl
    unfold owns; iexists _; isplitr
    swap; · iexact H7
    ipureintro; rfl
  · rw [outsAt_pos m hs c t (fun h => h0 (by omega))]
    simp only [before6 m hs c t h0, before7 m hs c t h0]
    by_cases h2 : k0_cond2 (grid0.coords t) (startAt m c t) = 1#1
    · unfold out; rw [dif_neg h0, dif_pos h2]; dsimp only
      iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) (iblk m c 4 t) _ _ (point_of m hs c t False True (iff_false_intro h0) (iff_true_intro h2))).2.2.2 Set.univ _)
      unfold Ins
      isplitl [H0 H1 H2 H3 H4]
      · isplitl [H0]; · iexact H0
        isplitl [H1]; · iexact H1
        isplitl [H2]; · iexact H2
        isplitl [H3]; · iexact H3
        iexact H4
      isplitl [H5]; · iexists _; iexact H5
      isplitl [H6]; · iexact H6
      isplitl [H7]; · iexact H7
      iintro ⟨⟨H0, H1, H2, H3, H4⟩, H5, H6, H7⟩
      isplitl [HP]; · iexact HP
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact Memref.IsWhole.read_unread _ _
      isplitl [H6]
      · unfold owns; iexists _; isplitr
        swap; · iexact H6
        ipureintro; rfl
      unfold owns; iexists _; isplitr
      swap; · iexact H7
      ipureintro; rfl
    · unfold out; rw [dif_neg h0, dif_neg h2]; dsimp only
      iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) (iblk m c 4 t) _ _ (point_of m hs c t False False (iff_false_intro h0) (iff_false_intro h2))).2.2.2 Set.univ _)
      unfold Ins
      isplitl [H0 H1 H2 H3 H4]
      · isplitl [H0]; · iexact H0
        isplitl [H1]; · iexact H1
        isplitl [H2]; · iexact H2
        isplitl [H3]; · iexact H3
        iexact H4
      isplitl [H5]; · iexists _; iexact H5
      isplitl [H6]; · iexact H6
      isplitl [H7]; · iexact H7
      iintro ⟨⟨H0, H1, H2, H3, H4⟩, H5, H6, H7⟩
      isplitl [HP]; · iexact HP
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact Memref.IsWhole.read_unread _ _
      isplitl [H6]
      · unfold owns; iexists _; isplitr
        swap; · iexact H6
        ipureintro; rfl
      unfold owns; iexists _; isplitr
      swap; · iexact H7
      ipureintro; rfl

theorem defs₀_row (t : Fin cfg0.N) : defs₀ (F := F) .tc cfg0.body (cfg0.bodyArgs t (cfg0.slots t)) = bodyAt0 t := by
  unfold defs₀; rw [Defs.onTc_tc]

theorem body_obligation (hs : Starts m) (c : Dev nD) : BodyObligation (dats (F := F) m hs 0 c) (defs₀ (F := F)) Variants.none () Set.univ := fun t => by
  rw [bigSep_W0, bigSep_W0, defs₀_row]
  exact triple_restated (sound_body m hs c t) rfl .rfl fun _ => .rfl

set_option backward.isDefEq.respectTransparency.types false in
/-- The whole program: it terminates, its arrays end at what the proof data say, every counter at zero. -/
theorem run_main (hs : Starts m) : θ_run defs (onTc (τ := τ) (main (F := F))) (s₀ m ρ)
    (fun r => Pipeline.FramePost cfgs (dats m hs) 0 (Pipeline.afterTail₀ cfgs (dats m hs) 0 (V0 m) [hostOps1]) r ∧ r.2.sem = fun _ => 0) :=
  Pipeline.θ_run_frame_around_shared (Q' := _) cfgs (dats m hs) (0 : Fin 1) launch₀0 defs₀ Variants.none m ρ main
    (hbody := fun c => (body_obligation m hs c).loose) (hq := fun _ _ _ => rfl) (howed := fun _ _ => rfl)
    (V₀ := V0 m) (opss := [hostOps1]) sfx_sub sfx_fresh sfx_keeps (hmain := hmain m Variants.none) (hA := A_eq m hs)
    (hΦ := fun _ _ => rfl)

/-- The frame: the arguments end as they began and every counter at zero. -/
theorem frame_run (hs : Starts m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m hs) (A_eq m hs) ((θ_run defs _ _).mono (fun _ h => h.1) (run_main m ρ hs)))
    ((θ_run defs _ _).mono (fun _ h => h.2) (run_main m ρ hs))

end Cert.Kernel2Ideal.Att

end
-- ==== Proof.AttStart.lean ====
module

public import proofs.«01_k».proof.Proof.AttRun
public import Idealize.ShloMosaic.Lib.NatWords
public import Idealize.ShloMosaic.PureOps.Ideal.Laws

@[expose] public section

set_option maxRecDepth 16384

noncomputable section

namespace Cert.Kernel2Ideal.Att

open Idealize.ShloMosaic Idealize.ShloMosaic.TcCoe
open Gen

/-- Whether a lane of the row sums lies below the word `n`, as the body compares it. -/
abbrev below (n : BitVec 32) : IVec S1x128 1 := cmpi .slt (iota .tc S1x128 32 [1] iota_S1x128_d1_w32) (broadcast S1x128 n)

/-- The lanes of one row. -/
def laneEquiv : Fin 128 ≃ S1x128.Idx where
  toFun l := fun | ⟨0, _⟩ => (0 : Fin 1) | ⟨1, _⟩ => l
  invFun y := y 1
  left_inv l := rfl
  right_inv y := by funext a; match a with | ⟨0, _⟩ => exact Subsingleton.elim (α := Fin 1) _ _ | ⟨1, _⟩ => rfl

/-- The lanes below `left`, counted. -/
theorem lanes_below (t : Fin cfg0.N) : (∑ y : S1x128.Idx, (below (left (grid0.coords t)) y).toNat) = t.val % 16 - 1 := by
  rw [← Equiv.sum_comp laneEquiv]
  exact (by decide +kernel : ∀ t : Fin grid0.N, (∑ l : Fin 128, (below (left (grid0.coords t)) (laneEquiv l)).toNat) = t.val % 16 - 1) t

theorem andi_le (a b : BitVec 1) : (IntOp.andi a b).toNat ≤ b.toNat := by revert a b; decide

theorem one_pattern : Bits.f32OfNat 1 = (FloatOps.ofBits (F := Bits) .f32 0x3F800000#32) := by
  rw [Bits.f32OfNat_eq 1 (by decide)]; decide

theorem zero_pattern : Bits.f32OfNat 0 = (FloatOps.ofBits (F := Bits) .f32 0x00000000#32) := Bits.f32OfNat_zero

theorem one_word (b : BitVec 1) : Bits.natOfF32? (Scalar.select b (FloatOps.ofBits (F := Bits) .f32 0x3F800000#32) (FloatOps.ofBits (F := Bits) .f32 0x00000000#32)) = some b.toNat := by
  rw [← one_pattern, ← zero_pattern]
  have : b = 1#1 ∨ b = 0#1 := by revert b; decide
  rcases this with rfl | rfl
  · exact Bits.natOfF32?_f32OfNat 1 (by decide)
  · exact Bits.natOfF32?_f32OfNat 0 (by decide)

/-- On the machine a named constant is the word it is printed as. -/
instance : Named Bits where
  named _ _ {φ} bits := FloatOps.ofBits φ bits

/-- On the machine: the number of key blocks left out is at most the number there are. -/
theorem starts_bits (m : (ℓ : Loc nD τ sig) → Buf (Elt Bits) ℓ) : Starts m := by
  intro c t
  unfold startAt start
  generalize k0_pay247 (F := Bits) _ _ = s
  have hl := lanes_below t
  unfold k0_pay248
  dsimp only
  generalize cmpf (F := Bits) (φ := .f32) CmpFPredicate.olt _ _ = live
  have key : ∀ j, multiReduction (F := Bits) .add [1, 2] S1 (shapeCast S1x1x128 (select (andi live (below (left (grid0.coords t))))
      (broadcast S1x128 (Scalar.ofBits .f32 0x3F800000#32)) (broadcast S1x128 (Scalar.ofBits .f32 0x00000000#32))) shapeCasts_S1x128_S1x1x128)
      0x00000000#32 reduces_S1x1x128_S1 (.inl rfl) rfl j
      = Bits.f32OfNat ((Bits.reduceFiber reduces_S1x1x128_S1 j).sum fun x => (andi live (below (left (grid0.coords t))) (Shape.reshapeEquiv shapeCasts_S1x128_S1x1x128 x)).toNat) ∧
      ((Bits.reduceFiber reduces_S1x1x128_S1 j).sum fun x => (andi live (below (left (grid0.coords t))) (Shape.reshapeEquiv shapeCasts_S1x128_S1x1x128 x)).toNat) ≤ t.val % 16 - 1 := by
    intro j
    have hb : ((Bits.reduceFiber reduces_S1x1x128_S1 j).sum fun x => (andi live (below (left (grid0.coords t))) (Shape.reshapeEquiv shapeCasts_S1x128_S1x1x128 x)).toNat) ≤ t.val % 16 - 1 := by
      refine (Finset.sum_le_univ_sum_of_nonneg (fun _ => Nat.zero_le _)).trans ?_
      rw [Equiv.sum_comp (Shape.reshapeEquiv shapeCasts_S1x128_S1x1x128) (fun y => (andi live (below (left (grid0.coords t))) y).toNat), ← hl]
      exact Finset.sum_le_sum fun y _ => andi_le _ _
    refine ⟨Bits.multiReduction_add_nat _ _ _ _ _ (fun i _ => one_word _) (by omega), hb⟩
  obtain ⟨k1, k2⟩ := key (Shape.reshapeEquiv shapeCasts_S1_S1x1x1 fun a => ⟨(![0, 0, 0] : Fin 3 → ℕ) a, inpos_S1x1x1_p0_0_0 a⟩)
  have : ∀ n, n ≤ t.val % 16 - 1 → ∀ w : Bits .f32, w = Bits.f32OfNat n → (Scalar.fptosi 32 w : BitVec 32).toNat ≤ t.val % 16 - 1 := by
    intro n hn w hw
    rw [hw, show (Scalar.fptosi 32 (Bits.f32OfNat n) : BitVec 32) = _ from Bits.fptosi32_nat n (by omega), BitVec.toNat_ofNat]
    omega
  exact this _ k2 _ k1

theorem lt_bot_false (s : FVec Ideal S1x128 .f32) : cmpf CmpFPredicate.olt s (broadcast S1x128 (Named.named (φ := .f32) κ "dead" 0xC2D00000#32 : Ideal .f32)) = fun _ => 0#1 := by
  funext y
  show (if (s y : EReal) < (⊥ : EReal) then 1#1 else 0#1) = 0#1
  exact if_neg not_lt_bot

theorem sum_zero (s : FVec Ideal S1x1x128 .f32) (hs : ∀ y, s y = 0) (j : S1.Idx) :
    multiReduction .add [1, 2] S1 s 0x00000000#32 reduces_S1x1x128_S1 (.inl rfl) rfl j = 0 := by
  refine (Ideal.multiReduction_add_total s _ _ (by decide) _ _ j).trans ?_
  exact Finset.sum_eq_zero fun y _ => hs y

/-- With the threshold at minus infinity nothing is left out. -/
theorem start_ideal (m : (ℓ : Loc nD τ sig) → Buf (Elt Ideal) ℓ) (c : Dev nD) (t : Fin cfg0.N) : startAt m c t = 0#32 := by
  unfold startAt start
  generalize k0_pay247 (F := Ideal) _ _ = s
  unfold k0_pay248
  dsimp only
  rw [lt_bot_false]
  have : ∀ w : Ideal .f32, w = 0 → (Scalar.fptosi 32 w : BitVec 32) = 0#32 := by
    rintro w rfl
    show BitVec.ofInt 32 (Ideal.toIntClamped _ _ ((0 : ℝ) : EReal)) = 0#32
    have e : Ideal.toIntClamped (-(2 ^ (32 - 1) : Nat)) ((2 ^ (32 - 1) : Nat) - 1) ((0 : ℝ) : EReal) = 0 := by
      show max _ (min _ (if (0 : ℝ) ≤ 0 then ⌊(0 : ℝ)⌋ else ⌈(0 : ℝ)⌉)) = 0
      simp
    rw [e]; rfl
  refine this _ (sum_zero _ (fun y => ?_) _)
  have h0 : (Scalar.ofBits (F := Ideal) .f32 0x00000000#32) = 0 := by
    show Ideal.ofBits .f32 _ = 0
    simp [Ideal.ofBits, Ideal.ieee]
  show Scalar.select (IntOp.andi 0#1 _) _ (Scalar.ofBits (F := Ideal) .f32 0x00000000#32) = 0
  have ha : ∀ b : BitVec 1, IntOp.andi 0#1 b = 0#1 := by decide
  rw [ha]; exact h0

theorem starts_ideal (m : (ℓ : Loc nD τ sig) → Buf (Elt Ideal) ℓ) : Starts m := fun c t => by rw [start_ideal]; exact Nat.zero_le _

end Cert.Kernel2Ideal.Att
end
-- ==== Proof.AttFrame.lean ====
module

public import proofs.«01_k».proof.Defs
public import proofs.«01_k».proof.Proof.AttStart
public import proofs.«01_k».proof.Proof.Gen.Kernel2
public import proofs.«01_k».proof.Proof.Gen.Reference2Ideal
public import proofs.«01_k».proof.Proof.Gen.Reference2Ideal.Run
public import Idealize.ShloMosaic.Adequacy
public import Idealize.ShloMosaic.Init

@[expose] public section

set_option maxRecDepth 16384

noncomputable section

namespace Cert.Proof.Att

open Idealize.ShloMosaic Idealize.SL.Sem

/-- The attention's backward call over the reals: it terminates, its arguments unchanged, every counter at zero. -/
theorem frame_ideal : Cert.quiescent_Kernel2Ideal := fun m g _ =>
  Cert.Kernel2Ideal.Att.frame_run m g (Cert.Kernel2Ideal.Att.starts_ideal m)

/-- The same on the machine: the two programs differ in the named threshold only. -/
theorem frame_bits : Cert.quiescent_Kernel2 := by
  intro m g _
  have h := Cert.Kernel2Ideal.Att.frame_run (F := Bits) m g (Cert.Kernel2Ideal.Att.starts_bits m)
  refine Eq.mp ?_ h
  sl_kernel_rfl

theorem frame_reference : Cert.quiescent_Reference2Ideal := fun m g _ =>
  θ_run_mono (Cert.Reference2Ideal.Value.run m g) fun r h =>
    ⟨fun c => (h c).2.2.2, Idealize.ShloMosaic.sem_eq_zero_of_no_sems (by decide) r.2⟩

theorem preserves : Cert.preserves_Kernel2_Kernel2Ideal :=
  IdealRules.named_const.statement Cert.Kernel2Ideal.κ "dead" .f32 0xC2D00000#32 ⊥ rfl

end Cert.Proof.Att
end
-- ==== Proof.AttTile.lean ====
module

public import proofs.«01_k».proof.Proof.AttStart

@[expose] public section

set_option maxRecDepth 65536
set_option maxHeartbeats 4000000

noncomputable section

namespace Cert.Kernel2Ideal.Att

open Idealize.ShloMosaic Idealize.ShloMosaic.TcCoe Idealize.ShloMosaic.Tactic
open Idealize.ShloMosaic.Pipeline (Dat Cfg Window BodyObligation cellOf)
open Gen

variable {F : FTy → Type} [FloatOps F] [Named F]

/-! One tile: a query block of 256 rows against a key block of 256, for the two heads in a block's 128 lanes. -/

/-- The zero of a shape. -/
abbrev zero (s : Shape) : FVec F s .f32 := broadcast s (Scalar.ofBits .f32 0x00000000#32)
abbrev one (s : Shape) : FVec F s .f32 := broadcast s (Scalar.ofBits .f32 0x3F800000#32)
abbrev acc0 (s : Shape) : FVec F s .f32 := constant s .f32 0x00000000#32

/-- A row's mask over a block. -/
abbrev lanes (b : IVec S1x128 1) : IVec S256x128 1 :=
  broadcastTo S256x128 (shapeCast S1x128 b shapeCasts_S1x128_S1x128) broadcasts_S1x128_S256x128

/-- A block with the second head's lanes zeroed, and with the first head's. -/
def headL (b : IVec S1x128 1) (x : Vec F S256x128 .bf16) : FVec F S256x128 .bf16 :=
  select (lanes b) (shapeCast S256x128 x shapeCasts_S256x128_S256x128) (broadcast S256x128 (Scalar.ofBits .bf16 0x0000#16))
def headR (b : IVec S1x128 1) (x : Vec F S256x128 .bf16) : FVec F S256x128 .bf16 :=
  select (lanes b) (broadcast S256x128 (Scalar.ofBits .bf16 0x0000#16)) (shapeCast S256x128 x shapeCasts_S256x128_S256x128)

/-- Scores of a query block against a key block. -/
def scores (q k : FVec F S256x128 .bf16) : FVec F S256x256 .f32 :=
  matmul dot_S256x128_S256x128_S256x256_1_1_0_0_n_n none q k (acc0 S256x256)

def softp (z : FVec F S256x256 .f32) : FVec F S256x256 .f32 :=
  addf (maximumf z (zero S256x256)) (log (addf (one S256x256) (exp (subf (zero S256x256) (absf z)))))

def lsig (z : FVec F S256x256 .f32) : FVec F S256x256 .f32 := subf z (softp z)
def lstay (z : FVec F S256x256 .f32) : FVec F S256x256 .f32 := subf (zero S256x256) (softp z)

/-- A row sum of a head, at key block `j`: the lane `j` of the row, picked. -/
def runAt (v6 : IVec S1x128 32) (j : BitVec 32) (x : Vec F S1x256x128 .f32) : FVec F S256x1 .f32 :=
  shapeCast S256x1 (multiReduction .add [1] S256 (select (lanes (cmpi .eq v6 (broadcast S1x128 j)))
    (shapeCast S256x128 x shapeCasts_S1x256x128_S256x128) (zero S256x128)) 0x00000000#32 reduces_S256x128_S256 (.inl rfl) rfl) shapeCasts_S256_S256x1

def weights (later : FVec F S256x256 .bf16) (ls st : FVec F S256x256 .f32) (run : FVec F S256x1 .f32) : FVec F S256x256 .f32 :=
  exp (addf (addf ls (addf
    (matmul dot_S256x256_S256x256_S256x256_1_0_0_1_n_n none (truncf .bf16 st bitsLt_bf16_f32) later (acc0 S256x256))
    (matmul dot_S256x256_S256x256_S256x256_1_0_0_1_n_n none (truncf .bf16 (subf st (extf .f32 (truncf .bf16 st bitsLt_bf16_f32) bitsLt_bf16_f32)) bitsLt_bf16_f32) later (acc0 S256x256))))
    (broadcastTo S256x256 run broadcasts_S256x1_S256x256))

/-- The scores' gradient. -/
def dscore (later : FVec F S256x256 .bf16) (gsum : FVec F S256x1 .f32) (ls g : FVec F S256x256 .f32) : FVec F S256x256 .f32 :=
  subf (mulf g (subf (one S256x256) (exp ls)))
    (mulf (addf (matmul dot_S256x256_S256x256_S256x256_1_1_0_0_n_n none (truncf .bf16 g bitsLt_bf16_f32) later (acc0 S256x256))
      (broadcastTo S256x256 gsum broadcasts_S256x1_S256x256)) (exp ls))

def gadd (gsum : FVec F S256x1 .f32) (g : FVec F S256x256 .f32) : FVec F S256x1 .f32 :=
  addf gsum (shapeCast S256x1 (multiReduction .add [1] S256 g 0x00000000#32 reduces_S256x256_S256 (.inl rfl) rfl) shapeCasts_S256_S256x1)

/-- A tile's mask: none before the diagonal block, the block's own causal mask on it. -/
def cut (diag : Bool) (x : FVec F S256x256 .f32) : FVec F S256x256 .f32 :=
  if diag then select k0_pay8 x (zero S256x256) else x

/-- A tile's product over keys. -/
def overKeys (w : FVec F S256x256 .f32) (k : FVec F S256x128 .bf16) : FVec F S256x128 .f32 :=
  matmul dot_S256x256_S256x128_S256x128_1_0_0_1_n_n none (truncf .bf16 w bitsLt_bf16_f32) k (acc0 S256x128)
/-- A tile's product over queries. -/
def overQueries (w : FVec F S256x256 .f32) (q : FVec F S256x128 .bf16) : FVec F S256x128 .f32 :=
  matmul dot_S256x256_S256x128_S256x128_0_0_1_1_n_n none (truncf .bf16 w bitsLt_bf16_f32) q (acc0 S256x128)

/-- What the tiles of a query block share: the head and lane words, the triangle, the two heads' queries and cotangents, the row sums. -/
structure Query (F : FTy → Type) where
  fst : IVec S1x128 1
  lane : IVec S1x128 32
  later : FVec F S256x256 .bf16
  q0 : FVec F S256x128 .bf16
  q1 : FVec F S256x128 .bf16
  o0 : FVec F S256x128 .bf16
  o1 : FVec F S256x128 .bf16
  r0 : Vec F S1x256x128 .f32
  r1 : Vec F S1x256x128 .f32

/-- One head of a tile: scores, weights, the weights' gradient times the weights. -/
def hz (q k : FVec F S256x128 .bf16) : FVec F S256x256 .f32 := scores q k
def hw (d : Bool) (later : FVec F S256x256 .bf16) (run : FVec F S256x1 .f32) (z : FVec F S256x256 .f32) : FVec F S256x256 .f32 :=
  cut d (weights later (lsig z) (cut d (lstay z)) run)
def hg (w : FVec F S256x256 .f32) (o v : FVec F S256x128 .bf16) : FVec F S256x256 .f32 := mulf w (scores o v)

section
variable (Q : Query F) (d : Bool) (j : BitVec 32) (k v : Vec F S256x128 .bf16)
def w0 := hw d Q.later (runAt Q.lane j Q.r0) (scores Q.q0 (headL Q.fst k))
def w1 := hw d Q.later (runAt Q.lane j Q.r1) (scores Q.q1 (headR Q.fst k))
def g0 := hg (w0 Q d j k) Q.o0 (headL Q.fst v)
def g1 := hg (w1 Q d j k) Q.o1 (headR Q.fst v)
def d0 (gs : FVec F S256x1 .f32) := cut d (dscore Q.later gs (lsig (scores Q.q0 (headL Q.fst k))) (g0 Q d j k v))
def d1 (gs : FVec F S256x1 .f32) := cut d (dscore Q.later gs (lsig (scores Q.q1 (headR Q.fst k))) (g1 Q d j k v))

/-- What a tile makes of the two gradient sums and the query gradient carried, -/
def carry (a : FVec F S256x1 .f32 × FVec F S256x1 .f32 × FVec F S256x128 .f32) : FVec F S256x1 .f32 × FVec F S256x1 .f32 × FVec F S256x128 .f32 :=
  (gadd a.1 (g0 Q d j k v), gadd a.2.1 (g1 Q d j k v),
    addf (addf a.2.2 (overKeys (d0 Q d j k v a.1) (headL Q.fst k))) (overKeys (d1 Q d j k v a.2.1) (headR Q.fst k)))
/-- and adds to the rows of the key gradient and of the value gradient. -/
def dkey (a : FVec F S256x1 .f32 × FVec F S256x1 .f32 × FVec F S256x128 .f32) (x : Vec F S256x128 .f32) : FVec F S256x128 .f32 :=
  addf (shapeCast S256x128 x shapeCasts_S256x128_S256x128) (addf (overQueries (d0 Q d j k v a.1) Q.q0) (overQueries (d1 Q d j k v a.2.1) Q.q1))
def dval (x : Vec F S256x128 .f32) : FVec F S256x128 .f32 :=
  addf (shapeCast S256x128 x shapeCasts_S256x128_S256x128) (addf (overQueries (w0 Q d j k) Q.o0) (overQueries (w1 Q d j k) Q.o1))
end

/-- The carried sums and query gradient, with the key and the value gradients. -/
abbrev Carried (F : FTy → Type) [FloatOps F] := FVec F S256x1 .f32 × FVec F S256x1 .f32 × FVec F S256x128 .f32

/-- One tile on the memory: its key and value rows read at an offset, the gradients' rows there read and written back. -/
def memStep (Q : Query F) (d : Bool) (w : BitVec 32) (arg3 arg4 : Memref sig .tc .vmem S4096x128 .bf16) (arg8 arg9 : Memref sig .tc .vmem S4096x128 .f32)
    (off : Fin 2 → ℕ) (inb : ∀ a, off a + S256x128.size a ≤ S4096x128.size a) (X3 : BufTy.Contents (Elt F) arg3.view.ty) (X4 : BufTy.Contents (Elt F) arg4.view.ty)
    (s : Carried F × BufTy.Contents (Elt F) arg8.view.ty × BufTy.Contents (Elt F) arg9.view.ty) :
    Carried F × BufTy.Contents (Elt F) arg8.view.ty × BufTy.Contents (Elt F) arg9.view.ty :=
  let k := View.readAt (Elt F) arg3.view (Rect.unit (s := S4096x128) off S256x128.size inb).toLoadRect X3
  let v := View.readAt (Elt F) arg4.view (Rect.unit (s := S4096x128) off S256x128.size inb).toLoadRect X4
  (carry Q d w k v s.1,
    arg8.view.writes (Elt F) s.2.1 [⟨Rect.unit (s := S4096x128) off S256x128.size inb, dkey Q d w k v s.1 (View.readAt (Elt F) arg8.view (Rect.unit (s := S4096x128) off S256x128.size inb).toLoadRect s.2.1)⟩],
    arg9.view.writes (Elt F) s.2.2 [⟨Rect.unit (s := S4096x128) off S256x128.size inb, dval Q d w k (View.readAt (Elt F) arg9.view (Rect.unit (s := S4096x128) off S256x128.size inb).toLoadRect s.2.2)⟩])

/-- One trip of the loop is two tiles. -/
theorem trip_eq (𝒱 : Variants) (c : Dev nD) (bd : Option 𝒱.V) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .f32) (harg5 : arg5.IsWhole) (arg6 : Memref sig .tc .vmem S2x256x128 .f32) (harg6 : arg6.IsWhole) (arg7 : Memref sig .tc .vmem S256x128 .f32) (harg7 : arg7.IsWhole) (arg8 : Memref sig .tc .vmem S4096x128 .f32) (harg8 : arg8.IsWhole) (arg9 : Memref sig .tc .vmem S4096x128 .f32) (harg9 : arg9.IsWhole) (v5 : IVec S1x128 1) (v6 : IVec S1x128 32) (v13 : FVec F S256x256 .bf16) (v22 : FVec F S256x128 .bf16) (v25 : FVec F S256x128 .bf16) (v28 : FVec F S256x128 .bf16) (v31 : FVec F S256x128 .bf16) (v53 : BitVec 32) (k0_hw1 : k0_chk1 i v53) (c0_i32_26 : BitVec 32) (c1_i32_28 : BitVec 32) (X_arg3 : BufTy.Contents (Elt F) arg3.view.ty) (X_arg4 : BufTy.Contents (Elt F) arg4.view.ty) (X_arg6 : BufTy.Contents (Elt F) arg6.view.ty) (k : Fin (k0_t1_loop i v53).trips) (s : Carried F × BufTy.Contents (Elt F) arg8.view.ty × BufTy.Contents (Elt F) arg9.view.ty) :
    (tripR_k0_t1 𝒱 c bd i arg2 harg2 arg3 harg3 arg4 harg4 arg5 harg5 arg6 harg6 arg7 harg7 arg8 harg8 arg9 harg9 v5 v6 v13 v22 v25 v28 v31 v53 k0_hw1 c0_i32_26 c1_i32_28 X_arg3 X_arg4 X_arg6 k s.1 s.2.1 s.2.2, arg8.view.writes (Elt F) s.2.1 (tripL_k0_t1 𝒱 c bd i arg2 harg2 arg3 harg3 arg4 harg4 arg5 harg5 arg6 harg6 arg7 harg7 arg8 harg8 arg9 harg9 v5 v6 v13 v22 v25 v28 v31 v53 k0_hw1 c0_i32_26 c1_i32_28 X_arg3 X_arg4 X_arg6 k s.1 s.2.1 s.2.2).1, arg9.view.writes (Elt F) s.2.2 (tripL_k0_t1 𝒱 c bd i arg2 harg2 arg3 harg3 arg4 harg4 arg5 harg5 arg6 harg6 arg7 harg7 arg8 harg8 arg9 harg9 v5 v6 v13 v22 v25 v28 v31 v53 k0_hw1 c0_i32_26 c1_i32_28 X_arg3 X_arg4 X_arg6 k s.1 s.2.1 s.2.2).2)
    = memStep ⟨v5, v6, v13, v22, v25, v28, v31, View.readAt (Elt F) arg6.view (Rect.unit (s := S2x256x128) ![0, 0, 0] S1x256x128.size inb_S2x256x128_S1x256x128_0_0_0).toLoadRect X_arg6, View.readAt (Elt F) arg6.view (Rect.unit (s := S2x256x128) ![1, 0, 0] S1x256x128.size inb_S2x256x128_S1x256x128_1_0_0).toLoadRect X_arg6⟩ false (Scalar.addi (Scalar.addi v53 (Scalar.muli 2#32 (Scf.iv c0_i32_26 c1_i32_28 k))) 1#32)
        arg3 arg4 arg8 arg9 (k0_off2 i v53 k) (k0_off2_inb i v53 k0_hw1 k) X_arg3 X_arg4
      (memStep ⟨v5, v6, v13, v22, v25, v28, v31, View.readAt (Elt F) arg6.view (Rect.unit (s := S2x256x128) ![0, 0, 0] S1x256x128.size inb_S2x256x128_S1x256x128_0_0_0).toLoadRect X_arg6, View.readAt (Elt F) arg6.view (Rect.unit (s := S2x256x128) ![1, 0, 0] S1x256x128.size inb_S2x256x128_S1x256x128_1_0_0).toLoadRect X_arg6⟩ false (Scalar.addi v53 (Scalar.muli 2#32 (Scf.iv c0_i32_26 c1_i32_28 k)))
        arg3 arg4 arg8 arg9 (k0_off1 i v53 k) (k0_off1_inb i v53 k0_hw1 k) X_arg3 X_arg4 s) := by
  unfold tripR_k0_t1 tripL_k0_t1 trip_k0_t1
  rfl

end Cert.Kernel2Ideal.Att
end
-- ==== Proof.AttMem.lean ====
module

public import proofs.«01_k».proof.Proof.AttTile

@[expose] public section

set_option maxRecDepth 65536
set_option maxHeartbeats 4000000

noncomputable section

namespace Cert.Kernel2Ideal.Att

open Idealize.ShloMosaic Idealize.ShloMosaic.TcCoe Idealize.ShloMosaic.Tactic
open Idealize.ShloMosaic.Pipeline (Dat Cfg Window BodyObligation cellOf)
open Gen

variable {F : FTy → Type} [FloatOps F] [Named F]

theorem runB_mem (c : Dev nD) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .f32) (harg5 : arg5.IsWhole) (arg6 : Memref sig .tc .vmem S2x256x128 .f32) (harg6 : arg6.IsWhole) (arg7 : Memref sig .tc .vmem S256x128 .f32) (harg7 : arg7.IsWhole) (arg8 : Memref sig .tc .vmem S4096x128 .f32) (harg8 : arg8.IsWhole) (arg9 : Memref sig .tc .vmem S4096x128 .f32) (harg9 : arg9.IsWhole)
    (x2 : Vec F S256x128 .bf16) (x3 x4 : Vec F S4096x128 .bf16) (x5 : Vec F S256x128 .f32) (x6 : Vec F S2x256x128 .f32) (x8 x9 : Vec F S4096x128 .f32)
    (h : Point i False True (start i (View.readAt (Elt F) arg6.view (Rect.unit (s := S2x256x128) ![0, 0, 0] S1x256x128.size inb_S2x256x128_S1x256x128_0_0_0).toLoadRect (harg6.unread x6))
      (View.readAt (Elt F) arg6.view (Rect.unit (s := S2x256x128) ![1, 0, 0] S1x256x128.size inb_S2x256x128_S1x256x128_1_0_0).toLoadRect (harg6.unread x6)))) :
    let x2' := View.readAt (Elt F) arg2.view (Rect.unit (s := S256x128) ![0, 0] S256x128.size inb_S256x128_S256x128_0_0).toLoadRect (harg2.unread x2)
    let x5' := View.readAt (Elt F) arg5.view (Rect.unit (s := S256x128) ![0, 0] S256x128.size inb_S256x128_S256x128_0_0).toLoadRect (harg5.unread x5)
    let Q : Query F := ⟨k0_pay238, iota .tc S1x128 32 [1] iota_S1x128_d1_w32, k0_pay239 (F := F), k0_pay243 x2', k0_pay244 x2', k0_pay245 x5', k0_pay246 x5', View.readAt (Elt F) arg6.view (Rect.unit (s := S2x256x128) ![0, 0, 0] S1x256x128.size inb_S2x256x128_S1x256x128_0_0_0).toLoadRect (harg6.unread x6), View.readAt (Elt F) arg6.view (Rect.unit (s := S2x256x128) ![1, 0, 0] S1x256x128.size inb_S2x256x128_S1x256x128_1_0_0).toLoadRect (harg6.unread x6)⟩
    let v53 := (start i (View.readAt (Elt F) arg6.view (Rect.unit (s := S2x256x128) ![0, 0, 0] S1x256x128.size inb_S2x256x128_S1x256x128_0_0_0).toLoadRect (harg6.unread x6)) (View.readAt (Elt F) arg6.view (Rect.unit (s := S2x256x128) ![1, 0, 0] S1x256x128.size inb_S2x256x128_S1x256x128_1_0_0).toLoadRect (harg6.unread x6)))
    let s1 := st_k0_t1 Variants.none c none i arg2 harg2 arg3 harg3 arg4 harg4 arg5 harg5 arg6 harg6 arg7 harg7 arg8 harg8 arg9 harg9 Q.fst Q.lane Q.later Q.q0 Q.q1 Q.o0 Q.o1 v53 h.chk  0#32 1#32 (harg3.unread x3) (harg4.unread x4) (harg6.unread x6)  (harg8.unread x8) (harg9.unread x9) (k0_pay249 (F := F), k0_pay250 (F := F), k0_pay251 (F := F)) (k0_t1_loop i v53).trips
    let s2 := st_k0_t2 Variants.none c none i arg2 harg2 arg3 harg3 arg4 harg4 arg5 harg5 arg6 harg6 arg7 harg7 arg8 harg8 arg9 harg9 Q.fst Q.lane Q.later Q.q0 Q.q1 Q.o0 Q.o1 v53 h.chk  (k0_t2_loop i v53).lb (harg3.unread x3) (harg4.unread x4) (harg6.unread x6)  (arg8.view.writes (Elt F) (harg8.unread x8) s1.2.1) (arg9.view.writes (Elt F) (harg9.unread x9) s1.2.2) s1.1 (k0_t2_loop i v53).trips
    let s3 : Carried F × BufTy.Contents (Elt F) arg8.view.ty × BufTy.Contents (Elt F) arg9.view.ty := (s2.1, arg8.view.writes (Elt F) (harg8.unread x8) (s2.2.1 ++ s1.2.1), arg9.view.writes (Elt F) (harg9.unread x9) (s2.2.2 ++ s1.2.2))
    let s4 := memStep Q true (BitVec.ofNat 32 (i 1).val) arg3 arg4 arg8 arg9 (k0_off8 i) (k0_off8_inb i (h.c3.not.mpr not_false)) (harg3.unread x3) (harg4.unread x4) (memStep Q false (Scalar.subi (BitVec.ofNat 32 (i 1).val) 1#32) arg3 arg4 arg8 arg9 (k0_off7 i) (k0_off7_inb i (h.c3.not.mpr not_false)) (harg3.unread x3) (harg4.unread x4) (memStep Q false (Scalar.subi (left i) 1#32) arg3 arg4 arg8 arg9 (k0_off5 i) (k0_off5_inb i v53 h.chk (h.c2.mpr trivial)) (harg3.unread x3) (harg4.unread x4) (s3)))
    (runB c i arg2 harg2 arg3 harg3 arg4 harg4 arg5 harg5 arg6 harg6 arg7 harg7 arg8 harg8 arg9 harg9 x2 x3 x4 x5 x6 x8 x9 h).1 = s4.1.2.2 ∧ (runB c i arg2 harg2 arg3 harg3 arg4 harg4 arg5 harg5 arg6 harg6 arg7 harg7 arg8 harg8 arg9 harg9 x2 x3 x4 x5 x6 x8 x9 h).2.1 = s4.2.1 ∧ (runB c i arg2 harg2 arg3 harg3 arg4 harg4 arg5 harg5 arg6 harg6 arg7 harg7 arg8 harg8 arg9 harg9 x2 x3 x4 x5 x6 x8 x9 h).2.2.1 = s4.2.2 := by
  intro x2' x5' Q v53 s1 s2 s3 s4
  refine ⟨?_, ?_, ?_⟩ <;> sl_kernel_rfl

theorem runC_mem (c : Dev nD) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .f32) (harg5 : arg5.IsWhole) (arg6 : Memref sig .tc .vmem S2x256x128 .f32) (harg6 : arg6.IsWhole) (arg7 : Memref sig .tc .vmem S256x128 .f32) (harg7 : arg7.IsWhole) (arg8 : Memref sig .tc .vmem S4096x128 .f32) (harg8 : arg8.IsWhole) (arg9 : Memref sig .tc .vmem S4096x128 .f32) (harg9 : arg9.IsWhole)
    (x2 : Vec F S256x128 .bf16) (x3 x4 : Vec F S4096x128 .bf16) (x5 : Vec F S256x128 .f32) (x6 : Vec F S2x256x128 .f32) (x8 x9 : Vec F S4096x128 .f32)
    (h : Point i False False (start i (View.readAt (Elt F) arg6.view (Rect.unit (s := S2x256x128) ![0, 0, 0] S1x256x128.size inb_S2x256x128_S1x256x128_0_0_0).toLoadRect (harg6.unread x6))
      (View.readAt (Elt F) arg6.view (Rect.unit (s := S2x256x128) ![1, 0, 0] S1x256x128.size inb_S2x256x128_S1x256x128_1_0_0).toLoadRect (harg6.unread x6)))) :
    let x2' := View.readAt (Elt F) arg2.view (Rect.unit (s := S256x128) ![0, 0] S256x128.size inb_S256x128_S256x128_0_0).toLoadRect (harg2.unread x2)
    let x5' := View.readAt (Elt F) arg5.view (Rect.unit (s := S256x128) ![0, 0] S256x128.size inb_S256x128_S256x128_0_0).toLoadRect (harg5.unread x5)
    let Q : Query F := ⟨k0_pay238, iota .tc S1x128 32 [1] iota_S1x128_d1_w32, k0_pay239 (F := F), k0_pay243 x2', k0_pay244 x2', k0_pay245 x5', k0_pay246 x5', View.readAt (Elt F) arg6.view (Rect.unit (s := S2x256x128) ![0, 0, 0] S1x256x128.size inb_S2x256x128_S1x256x128_0_0_0).toLoadRect (harg6.unread x6), View.readAt (Elt F) arg6.view (Rect.unit (s := S2x256x128) ![1, 0, 0] S1x256x128.size inb_S2x256x128_S1x256x128_1_0_0).toLoadRect (harg6.unread x6)⟩
    let v53 := (start i (View.readAt (Elt F) arg6.view (Rect.unit (s := S2x256x128) ![0, 0, 0] S1x256x128.size inb_S2x256x128_S1x256x128_0_0_0).toLoadRect (harg6.unread x6)) (View.readAt (Elt F) arg6.view (Rect.unit (s := S2x256x128) ![1, 0, 0] S1x256x128.size inb_S2x256x128_S1x256x128_1_0_0).toLoadRect (harg6.unread x6)))
    let s1 := st_k0_t1 Variants.none c none i arg2 harg2 arg3 harg3 arg4 harg4 arg5 harg5 arg6 harg6 arg7 harg7 arg8 harg8 arg9 harg9 Q.fst Q.lane Q.later Q.q0 Q.q1 Q.o0 Q.o1 v53 h.chk  0#32 1#32 (harg3.unread x3) (harg4.unread x4) (harg6.unread x6)  (harg8.unread x8) (harg9.unread x9) (k0_pay249 (F := F), k0_pay250 (F := F), k0_pay251 (F := F)) (k0_t1_loop i v53).trips
    let s2 := st_k0_t2 Variants.none c none i arg2 harg2 arg3 harg3 arg4 harg4 arg5 harg5 arg6 harg6 arg7 harg7 arg8 harg8 arg9 harg9 Q.fst Q.lane Q.later Q.q0 Q.q1 Q.o0 Q.o1 v53 h.chk  (k0_t2_loop i v53).lb (harg3.unread x3) (harg4.unread x4) (harg6.unread x6)  (arg8.view.writes (Elt F) (harg8.unread x8) s1.2.1) (arg9.view.writes (Elt F) (harg9.unread x9) s1.2.2) s1.1 (k0_t2_loop i v53).trips
    let s3 : Carried F × BufTy.Contents (Elt F) arg8.view.ty × BufTy.Contents (Elt F) arg9.view.ty := (s2.1, arg8.view.writes (Elt F) (harg8.unread x8) (s2.2.1 ++ s1.2.1), arg9.view.writes (Elt F) (harg9.unread x9) (s2.2.2 ++ s1.2.2))
    let s4 := memStep Q true (BitVec.ofNat 32 (i 1).val) arg3 arg4 arg8 arg9 (k0_off8 i) (k0_off8_inb i (h.c3.not.mpr not_false)) (harg3.unread x3) (harg4.unread x4) (memStep Q false (Scalar.subi (BitVec.ofNat 32 (i 1).val) 1#32) arg3 arg4 arg8 arg9 (k0_off7 i) (k0_off7_inb i (h.c3.not.mpr not_false)) (harg3.unread x3) (harg4.unread x4) (s3))
    (runC c i arg2 harg2 arg3 harg3 arg4 harg4 arg5 harg5 arg6 harg6 arg7 harg7 arg8 harg8 arg9 harg9 x2 x3 x4 x5 x6 x8 x9 h).1 = s4.1.2.2 ∧ (runC c i arg2 harg2 arg3 harg3 arg4 harg4 arg5 harg5 arg6 harg6 arg7 harg7 arg8 harg8 arg9 harg9 x2 x3 x4 x5 x6 x8 x9 h).2.1 = s4.2.1 ∧ (runC c i arg2 harg2 arg3 harg3 arg4 harg4 arg5 harg5 arg6 harg6 arg7 harg7 arg8 harg8 arg9 harg9 x2 x3 x4 x5 x6 x8 x9 h).2.2.1 = s4.2.2 := by
  intro x2' x5' Q v53 s1 s2 s3 s4
  refine ⟨?_, ?_, ?_⟩ <;> sl_kernel_rfl

theorem runA_mem (c : Dev nD) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .f32) (harg5 : arg5.IsWhole) (arg6 : Memref sig .tc .vmem S2x256x128 .f32) (harg6 : arg6.IsWhole) (arg7 : Memref sig .tc .vmem S256x128 .f32) (harg7 : arg7.IsWhole) (arg8 : Memref sig .tc .vmem S4096x128 .f32) (harg8 : arg8.IsWhole) (arg9 : Memref sig .tc .vmem S4096x128 .f32) (harg9 : arg9.IsWhole)
    (x2 : Vec F S256x128 .bf16) (x3 x4 : Vec F S4096x128 .bf16) (x5 : Vec F S256x128 .f32) (x6 : Vec F S2x256x128 .f32)
    (h : Point i True False (start i (View.readAt (Elt F) arg6.view (Rect.unit (s := S2x256x128) ![0, 0, 0] S1x256x128.size inb_S2x256x128_S1x256x128_0_0_0).toLoadRect (harg6.unread x6))
      (View.readAt (Elt F) arg6.view (Rect.unit (s := S2x256x128) ![1, 0, 0] S1x256x128.size inb_S2x256x128_S1x256x128_1_0_0).toLoadRect (harg6.unread x6)))) :
    let x2' := View.readAt (Elt F) arg2.view (Rect.unit (s := S256x128) ![0, 0] S256x128.size inb_S256x128_S256x128_0_0).toLoadRect (harg2.unread x2)
    let x5' := View.readAt (Elt F) arg5.view (Rect.unit (s := S256x128) ![0, 0] S256x128.size inb_S256x128_S256x128_0_0).toLoadRect (harg5.unread x5)
    let Q : Query F := ⟨k0_pay238, iota .tc S1x128 32 [1] iota_S1x128_d1_w32, k0_pay239 (F := F), k0_pay243 x2', k0_pay244 x2', k0_pay245 x5', k0_pay246 x5', View.readAt (Elt F) arg6.view (Rect.unit (s := S2x256x128) ![0, 0, 0] S1x256x128.size inb_S2x256x128_S1x256x128_0_0_0).toLoadRect (harg6.unread x6), View.readAt (Elt F) arg6.view (Rect.unit (s := S2x256x128) ![1, 0, 0] S1x256x128.size inb_S2x256x128_S1x256x128_1_0_0).toLoadRect (harg6.unread x6)⟩
    let v53 := (start i (View.readAt (Elt F) arg6.view (Rect.unit (s := S2x256x128) ![0, 0, 0] S1x256x128.size inb_S2x256x128_S1x256x128_0_0_0).toLoadRect (harg6.unread x6)) (View.readAt (Elt F) arg6.view (Rect.unit (s := S2x256x128) ![1, 0, 0] S1x256x128.size inb_S2x256x128_S1x256x128_1_0_0).toLoadRect (harg6.unread x6)))
    let s1 := st_k0_t1 Variants.none c none i arg2 harg2 arg3 harg3 arg4 harg4 arg5 harg5 arg6 harg6 arg7 harg7 arg8 harg8 arg9 harg9 Q.fst Q.lane Q.later Q.q0 Q.q1 Q.o0 Q.o1 v53 h.chk  0#32 1#32 (harg3.unread x3) (harg4.unread x4) (harg6.unread x6)  (harg8.unread (k0_pay236 (F := F))) (harg9.unread (k0_pay237 (F := F))) (k0_pay249 (F := F), k0_pay250 (F := F), k0_pay251 (F := F)) (k0_t1_loop i v53).trips
    let s2 := st_k0_t2 Variants.none c none i arg2 harg2 arg3 harg3 arg4 harg4 arg5 harg5 arg6 harg6 arg7 harg7 arg8 harg8 arg9 harg9 Q.fst Q.lane Q.later Q.q0 Q.q1 Q.o0 Q.o1 v53 h.chk  (k0_t2_loop i v53).lb (harg3.unread x3) (harg4.unread x4) (harg6.unread x6)  (arg8.view.writes (Elt F) (harg8.unread (k0_pay236 (F := F))) s1.2.1) (arg9.view.writes (Elt F) (harg9.unread (k0_pay237 (F := F))) s1.2.2) s1.1 (k0_t2_loop i v53).trips
    let s3 : Carried F × BufTy.Contents (Elt F) arg8.view.ty × BufTy.Contents (Elt F) arg9.view.ty := (s2.1, arg8.view.writes (Elt F) (harg8.unread (k0_pay236 (F := F))) (s2.2.1 ++ s1.2.1), arg9.view.writes (Elt F) (harg9.unread (k0_pay237 (F := F))) (s2.2.2 ++ s1.2.2))
    let s4 := memStep Q true (BitVec.ofNat 32 (i 1).val) arg3 arg4 arg8 arg9 (k0_off6 i) (k0_off6_inb i (h.c3.mpr trivial)) (harg3.unread x3) (harg4.unread x4) (s3)
    (runA c i arg2 harg2 arg3 harg3 arg4 harg4 arg5 harg5 arg6 harg6 arg7 harg7 arg8 harg8 arg9 harg9 x2 x3 x4 x5 x6 h).1 = s4.1.2.2 ∧ (runA c i arg2 harg2 arg3 harg3 arg4 harg4 arg5 harg5 arg6 harg6 arg7 harg7 arg8 harg8 arg9 harg9 x2 x3 x4 x5 x6 h).2.1 = s4.2.1 ∧ (runA c i arg2 harg2 arg3 harg3 arg4 harg4 arg5 harg5 arg6 harg6 arg7 harg7 arg8 harg8 arg9 harg9 x2 x3 x4 x5 x6 h).2.2.1 = s4.2.2 := by
  intro x2' x5' Q v53 s1 s2 s3 s4
  refine ⟨?_, ?_, ?_⟩ <;> sl_kernel_rfl

end Cert.Kernel2Ideal.Att
end
-- ==== Proof.AttSteps.lean ====
module

public import Idealize.ShloMosaic.Lib.WholeRead
public import Idealize.ShloMosaic.Lib.WritesUnit
public import Idealize.ShloMosaic.Lib.Pointwise.Index
public import proofs.«01_k».proof.Proof.AttMem

@[expose] public section

set_option maxRecDepth 65536
set_option maxHeartbeats 4000000

noncomputable section

namespace Cert.Kernel2Ideal.Att

open Idealize.ShloMosaic Idealize.ShloMosaic.TcCoe Idealize.ShloMosaic.Tactic
open Idealize.ShloMosaic.Pipeline (Dat Cfg Window BodyObligation cellOf)
open Gen

variable {F : FTy → Type} [FloatOps F] [Named F]

/-! The tiles over the arrays themselves: blocks of 256 rows, read and put back. -/

/-- Block `n` of an array's rows. -/
def rows {e : EltTy} (n : Fin 16) (x : Vec F S4096x128 e) : Vec F S256x128 e :=
  fun y => x (ix2 (⟨256 * n.val + (y 0).val, by have := n.isLt; have : (y 0).val < 256 := (y 0).isLt; omega⟩ : Fin 4096) (y 1))

/-- The array with block `n` of its rows replaced. -/
def put (n : Fin 16) (w : FVec F S256x128 .f32) (x : Vec F S4096x128 .f32) : Vec F S4096x128 .f32 :=
  fun y => if (y 0).val / 256 = n.val then w (ix2 (⟨(y 0).val % 256, Nat.mod_lt _ (by decide)⟩ : Fin 256) (y 1)) else x y

/-- One of the two heads' row sums. -/
def slab (n : Fin 2) (x : Vec F S2x256x128 .f32) : Vec F S1x256x128 .f32 := fun y => x (ix3 n (y 1) (y 2))

theorem readAt_whole {e : EltTy} {m : Memref sig .tc .vmem S256x128 e} (h : m.IsWhole) (X : Vec F S256x128 e) :
    View.readAt (Elt F) m.view (Rect.unit (s := S256x128) ![0, 0] S256x128.size inb_S256x128_S256x128_0_0).toLoadRect (h.unread X) = X := by
  funext y
  rw [Memref.IsWhole.readAt_unread]
  congr 1
  funext a
  refine Fin.ext ?_
  match a with
  | ⟨0, _⟩ => exact (Nat.zero_add _).trans (Nat.one_mul _)
  | ⟨1, _⟩ => exact (Nat.zero_add _).trans (Nat.one_mul _)

theorem readAt_slab0 {m : Memref sig .tc .vmem S2x256x128 .f32} (h : m.IsWhole) (X : Vec F S2x256x128 .f32) :
    View.readAt (Elt F) m.view (Rect.unit (s := S2x256x128) ![0, 0, 0] S1x256x128.size inb_S2x256x128_S1x256x128_0_0_0).toLoadRect (h.unread X) = slab 0 X := by
  funext y
  rw [Memref.IsWhole.readAt_unread]
  unfold slab
  congr 1
  funext a
  refine Fin.ext ?_
  have h0 : (y 0).val < 1 := (y 0).isLt
  match a with
  | ⟨0, _⟩ => show 0 + 1 * (y 0).val = 0; omega
  | ⟨1, _⟩ => exact (Nat.zero_add _).trans (Nat.one_mul _)
  | ⟨2, _⟩ => exact (Nat.zero_add _).trans (Nat.one_mul _)

theorem readAt_slab1 {m : Memref sig .tc .vmem S2x256x128 .f32} (h : m.IsWhole) (X : Vec F S2x256x128 .f32) :
    View.readAt (Elt F) m.view (Rect.unit (s := S2x256x128) ![1, 0, 0] S1x256x128.size inb_S2x256x128_S1x256x128_1_0_0).toLoadRect (h.unread X) = slab 1 X := by
  funext y
  rw [Memref.IsWhole.readAt_unread]
  unfold slab
  congr 1
  funext a
  refine Fin.ext ?_
  have h0 : (y 0).val < 1 := (y 0).isLt
  match a with
  | ⟨0, _⟩ => show 1 + 1 * (y 0).val = 1; omega
  | ⟨1, _⟩ => exact (Nat.zero_add _).trans (Nat.one_mul _)
  | ⟨2, _⟩ => exact (Nat.zero_add _).trans (Nat.one_mul _)

theorem readAt_rows {e : EltTy} {m : Memref sig .tc .vmem S4096x128 e} (h : m.IsWhole) (X : Vec F S4096x128 e) (n : Fin 16) {off : Fin 2 → ℕ}
    (inb : ∀ a, off a + S256x128.size a ≤ S4096x128.size a) (ho : off = ![256 * n.val, 0]) :
    View.readAt (Elt F) m.view (Rect.unit (s := S4096x128) off S256x128.size inb).toLoadRect (h.unread X) = rows n X := by
  subst ho
  funext y
  rw [Memref.IsWhole.readAt_unread]
  unfold rows
  congr 1
  funext a
  refine Fin.ext ?_
  match a with
  | ⟨0, _⟩ => show 256 * n.val + 1 * (y 0).val = 256 * n.val + (y 0).val; omega
  | ⟨1, _⟩ => exact (Nat.zero_add _).trans (Nat.one_mul _)

theorem writes_rows {m : Memref sig .tc .vmem S4096x128 .f32} (h : m.IsWhole) (X : Vec F S4096x128 .f32) (n : Fin 16) {off : Fin 2 → ℕ}
    (inb : ∀ a, off a + S256x128.size a ≤ S4096x128.size a) (ho : off = ![256 * n.val, 0]) (w : FVec F S256x128 .f32) :
    m.view.writes (Elt F) (h.unread X) [⟨Rect.unit (s := S4096x128) off S256x128.size inb, w⟩] = h.unread (put n w X) := by
  refine h.eq_unread (funext fun y => ?_)
  unfold put
  have hy : (y 0).val < 4096 := (y 0).isLt
  split_ifs with hn
  · refine View.read_writes_cons_rows_of_mem (Val := Elt F) m.view _ inb w [] y (ix2 (⟨(y 0).val % 256, Nat.mod_lt _ (by decide)⟩ : Fin 256) (y 1)) ho ?_ rfl
    show (y 0).val = 256 * n.val + (y 0).val % 256
    omega
  · refine (View.read_writes_cons_rows_of_not_mem (Val := Elt F) (W := 256) m.view _ inb w [] y ho rfl ?_).trans ?_
    · omega
    · exact congrFun (Memref.IsWhole.read_unread h X) y

/-- What the tiles of a grid point share, from its blocks. -/
def query (x2 : Vec F S256x128 .bf16) (x5 : Vec F S256x128 .f32) (x6 : Vec F S2x256x128 .f32) : Query F :=
  ⟨k0_pay238, iota .tc S1x128 32 [1] iota_S1x128_d1_w32, k0_pay239 (F := F), k0_pay243 x2, k0_pay244 x2, k0_pay245 x5, k0_pay246 x5, slab 0 x6, slab 1 x6⟩

/-- What a grid point carries: the sums and the query gradient, the key gradient and the value gradient. -/
abbrev State (F : FTy → Type) [FloatOps F] := Carried F × Vec F S4096x128 .f32 × Vec F S4096x128 .f32

/-- One tile, key block `n`. -/
def step (Q : Query F) (d : Bool) (K V : Vec F S4096x128 .bf16) (n : ℕ) (s : State F) : State F :=
  let b : Fin 16 := Fin.ofNat 16 n
  (carry Q d (BitVec.ofNat 32 n) (rows b K) (rows b V) s.1,
    put b (dkey Q d (BitVec.ofNat 32 n) (rows b K) (rows b V) s.1 (rows b s.2.1)) s.2.1,
    put b (dval Q d (BitVec.ofNat 32 n) (rows b K) (rows b s.2.2)) s.2.2)

/-- The tiles of the first `n` key blocks, none on the diagonal. -/
def steps (Q : Query F) (K V : Vec F S4096x128 .bf16) : ℕ → State F → State F
  | 0, s => s
  | n + 1, s => step Q false K V n (steps Q K V n s)

def lift {arg8 arg9 : Memref sig .tc .vmem S4096x128 .f32} (h8 : arg8.IsWhole) (h9 : arg9.IsWhole) (s : State F) :
    Carried F × BufTy.Contents (Elt F) arg8.view.ty × BufTy.Contents (Elt F) arg9.view.ty := (s.1, h8.unread s.2.1, h9.unread s.2.2)

theorem memStep_eq (Q : Query F) (d : Bool) {w : BitVec 32} {arg3 arg4 : Memref sig .tc .vmem S4096x128 .bf16} {arg8 arg9 : Memref sig .tc .vmem S4096x128 .f32}
    (h3 : arg3.IsWhole) (h4 : arg4.IsWhole) (h8 : arg8.IsWhole) (h9 : arg9.IsWhole) {off : Fin 2 → ℕ} (inb : ∀ a, off a + S256x128.size a ≤ S4096x128.size a)
    (K V : Vec F S4096x128 .bf16) (s : State F) (n : ℕ) (hn : n < 16) (ho : off = ![256 * n, 0]) (hw : w = BitVec.ofNat 32 n) :
    memStep Q d w arg3 arg4 arg8 arg9 off inb (h3.unread K) (h4.unread V) (lift h8 h9 s) = lift h8 h9 (step Q d K V n s) := by
  have ho' : off = ![256 * (Fin.ofNat 16 n).val, 0] := by rw [ho, Fin.val_ofNat, Nat.mod_eq_of_lt hn]
  subst hw
  unfold memStep step lift
  dsimp only
  rw [readAt_rows h3 K _ inb ho', readAt_rows h4 V _ inb ho', readAt_rows h8 _ _ inb ho', readAt_rows h9 _ _ inb ho',
    writes_rows h8 _ _ inb ho', writes_rows h9 _ _ inb ho']

/-- The loop's words at trip `k`: blocks `2 k` and `2 k + 1`. -/
theorem off1_at (i : grid0.Coords) (k : Fin (k0_t1_loop i 0#32).trips) (hk : k.val < 8) : k0_off1 i 0#32 k = ![256 * (2 * k.val), 0] :=
  congrArg (![·, 0]) ((by decide +kernel : ∀ a : Fin 8, (Scalar.indexCast (Scalar.muli (Scalar.addi 0#32 (Scalar.muli 2#32 (Scf.iv 0#32 1#32 a.val))) 256#32) : Index).toNat = 256 * (2 * a.val)) ⟨k.val, hk⟩)
theorem off2_at (i : grid0.Coords) (k : Fin (k0_t1_loop i 0#32).trips) (hk : k.val < 8) : k0_off2 i 0#32 k = ![256 * (2 * k.val + 1), 0] :=
  congrArg (![·, 0]) ((by decide +kernel : ∀ a : Fin 8, (Scalar.indexCast (Scalar.muli (Scalar.addi (Scalar.addi 0#32 (Scalar.muli 2#32 (Scf.iv 0#32 1#32 a.val))) 1#32) 256#32) : Index).toNat = 256 * (2 * a.val + 1)) ⟨k.val, hk⟩)
theorem word1_at (k : ℕ) (hk : k < 8) : Scalar.addi 0#32 (Scalar.muli 2#32 (Scf.iv 0#32 1#32 k)) = BitVec.ofNat 32 (2 * k) :=
  (by decide +kernel : ∀ a : Fin 8, Scalar.addi 0#32 (Scalar.muli 2#32 (Scf.iv 0#32 1#32 a.val)) = BitVec.ofNat 32 (2 * a.val)) ⟨k, hk⟩
theorem word2_at (k : ℕ) (hk : k < 8) : Scalar.addi (Scalar.addi 0#32 (Scalar.muli 2#32 (Scf.iv 0#32 1#32 k))) 1#32 = BitVec.ofNat 32 (2 * k + 1) :=
  (by decide +kernel : ∀ a : Fin 8, Scalar.addi (Scalar.addi 0#32 (Scalar.muli 2#32 (Scf.iv 0#32 1#32 a.val))) 1#32 = BitVec.ofNat 32 (2 * a.val + 1)) ⟨k, hk⟩

/-- The loop over pairs of key blocks, from block 0: after `k` trips, `2 k` tiles. -/
theorem loop_eq (𝒱 : Variants) (c : Dev nD) (bd : Option 𝒱.V) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .f32) (harg5 : arg5.IsWhole) (arg6 : Memref sig .tc .vmem S2x256x128 .f32) (harg6 : arg6.IsWhole) (arg7 : Memref sig .tc .vmem S256x128 .f32) (harg7 : arg7.IsWhole) (arg8 : Memref sig .tc .vmem S4096x128 .f32) (harg8 : arg8.IsWhole) (arg9 : Memref sig .tc .vmem S4096x128 .f32) (harg9 : arg9.IsWhole) (Q : Query F) (x6 : Vec F S2x256x128 .f32) (hr0 : Q.r0 = slab 0 x6) (hr1 : Q.r1 = slab 1 x6) (hchk : k0_chk1 i 0#32)
    (K V : Vec F S4096x128 .bf16) (x8 x9 : Vec F S4096x128 .f32) (init : Carried F) (htr : (k0_t1_loop i 0#32).trips ≤ 7) : ∀ k, k ≤ (k0_t1_loop i 0#32).trips →
    ((st_k0_t1 𝒱 c bd i arg2 harg2 arg3 harg3 arg4 harg4 arg5 harg5 arg6 harg6 arg7 harg7 arg8 harg8 arg9 harg9 Q.fst Q.lane Q.later Q.q0 Q.q1 Q.o0 Q.o1 0#32 hchk 0#32 1#32 (harg3.unread K) (harg4.unread V) (harg6.unread x6) (harg8.unread x8) (harg9.unread x9) init k).1, arg8.view.writes (Elt F) (harg8.unread x8) (st_k0_t1 𝒱 c bd i arg2 harg2 arg3 harg3 arg4 harg4 arg5 harg5 arg6 harg6 arg7 harg7 arg8 harg8 arg9 harg9 Q.fst Q.lane Q.later Q.q0 Q.q1 Q.o0 Q.o1 0#32 hchk 0#32 1#32 (harg3.unread K) (harg4.unread V) (harg6.unread x6) (harg8.unread x8) (harg9.unread x9) init k).2.1, arg9.view.writes (Elt F) (harg9.unread x9) (st_k0_t1 𝒱 c bd i arg2 harg2 arg3 harg3 arg4 harg4 arg5 harg5 arg6 harg6 arg7 harg7 arg8 harg8 arg9 harg9 Q.fst Q.lane Q.later Q.q0 Q.q1 Q.o0 Q.o1 0#32 hchk 0#32 1#32 (harg3.unread K) (harg4.unread V) (harg6.unread x6) (harg8.unread x8) (harg9.unread x9) init k).2.2)
      = lift harg8 harg9 (steps Q K V (2 * k) (init, x8, x9)) := by
  have hQ : (⟨Q.fst, Q.lane, Q.later, Q.q0, Q.q1, Q.o0, Q.o1, View.readAt (Elt F) arg6.view (Rect.unit (s := S2x256x128) ![0, 0, 0] S1x256x128.size inb_S2x256x128_S1x256x128_0_0_0).toLoadRect (harg6.unread x6), View.readAt (Elt F) arg6.view (Rect.unit (s := S2x256x128) ![1, 0, 0] S1x256x128.size inb_S2x256x128_S1x256x128_1_0_0).toLoadRect (harg6.unread x6)⟩ : Query F) = Q := by
    rw [readAt_slab0, readAt_slab1, ← hr0, ← hr1]
  intro k
  induction k with
  | zero => intro _; rfl
  | succ k ih =>
    intro hk
    have ih := ih (by omega)
    have hs := st_k0_t1_succ 𝒱 c bd i arg2 harg2 arg3 harg3 arg4 harg4 arg5 harg5 arg6 harg6 arg7 harg7 arg8 harg8 arg9 harg9 Q.fst Q.lane Q.later Q.q0 Q.q1 Q.o0 Q.o1 0#32 hchk 0#32 1#32 (harg3.unread K) (harg4.unread V) (harg6.unread x6) (harg8.unread x8) (harg9.unread x9) init ⟨k, by omega⟩
    dsimp only at hs
    rw [hs]
    dsimp only
    rw [View.writes_append, View.writes_append]
    refine (trip_eq 𝒱 c bd i arg2 harg2 arg3 harg3 arg4 harg4 arg5 harg5 arg6 harg6 arg7 harg7 arg8 harg8 arg9 harg9 Q.fst Q.lane Q.later Q.q0 Q.q1 Q.o0 Q.o1 0#32 hchk 0#32 1#32 (harg3.unread K) (harg4.unread V) (harg6.unread x6) ⟨k, by omega⟩ ((st_k0_t1 𝒱 c bd i arg2 harg2 arg3 harg3 arg4 harg4 arg5 harg5 arg6 harg6 arg7 harg7 arg8 harg8 arg9 harg9 Q.fst Q.lane Q.later Q.q0 Q.q1 Q.o0 Q.o1 0#32 hchk 0#32 1#32 (harg3.unread K) (harg4.unread V) (harg6.unread x6) (harg8.unread x8) (harg9.unread x9) init k).1, arg8.view.writes (Elt F) (harg8.unread x8) (st_k0_t1 𝒱 c bd i arg2 harg2 arg3 harg3 arg4 harg4 arg5 harg5 arg6 harg6 arg7 harg7 arg8 harg8 arg9 harg9 Q.fst Q.lane Q.later Q.q0 Q.q1 Q.o0 Q.o1 0#32 hchk 0#32 1#32 (harg3.unread K) (harg4.unread V) (harg6.unread x6) (harg8.unread x8) (harg9.unread x9) init k).2.1, arg9.view.writes (Elt F) (harg9.unread x9) (st_k0_t1 𝒱 c bd i arg2 harg2 arg3 harg3 arg4 harg4 arg5 harg5 arg6 harg6 arg7 harg7 arg8 harg8 arg9 harg9 Q.fst Q.lane Q.later Q.q0 Q.q1 Q.o0 Q.o1 0#32 hchk 0#32 1#32 (harg3.unread K) (harg4.unread V) (harg6.unread x6) (harg8.unread x8) (harg9.unread x9) init k).2.2)).trans ?_
    rw [ih, hQ]
    have e1 := memStep_eq Q false harg3 harg4 harg8 harg9 (k0_off1_inb i 0#32 hchk ⟨k, by omega⟩) K V (steps Q K V (2 * k) (init, x8, x9)) (2 * k) (by omega) (off1_at i ⟨k, by omega⟩ (by dsimp only; omega)) (word1_at k (by omega))
    have e2 := memStep_eq Q false harg3 harg4 harg8 harg9 (k0_off2_inb i 0#32 hchk ⟨k, by omega⟩) K V (step Q false K V (2 * k) (steps Q K V (2 * k) (init, x8, x9))) (2 * k + 1) (by omega) (off2_at i ⟨k, by omega⟩ (by dsimp only; omega)) (word2_at k (by omega))
    refine Eq.trans ?_ e2
    rw [← e1]

/-- Both loops from block 0: the first takes the whole pairs of key blocks, the second nothing. -/
theorem loops_eq (𝒱 : Variants) (c : Dev nD) (bd : Option 𝒱.V) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .f32) (harg5 : arg5.IsWhole) (arg6 : Memref sig .tc .vmem S2x256x128 .f32) (harg6 : arg6.IsWhole) (arg7 : Memref sig .tc .vmem S256x128 .f32) (harg7 : arg7.IsWhole) (arg8 : Memref sig .tc .vmem S4096x128 .f32) (harg8 : arg8.IsWhole) (arg9 : Memref sig .tc .vmem S4096x128 .f32) (harg9 : arg9.IsWhole) (v53 : BitVec 32) (Q : Query F) (x6 : Vec F S2x256x128 .f32) (hr0 : Q.r0 = slab 0 x6) (hr1 : Q.r1 = slab 1 x6) (hchk : k0_chk1 i v53)
    (h0 : v53 = 0#32) (K V : Vec F S4096x128 .bf16) (x8 x9 : Vec F S4096x128 .f32) (init : Carried F) (n : ℕ) (hn : n ≤ 7) (ht1 : (k0_t1_loop i 0#32).trips = n) (ht2 : (k0_t2_loop i 0#32).trips = 0) :
    let s1 := (st_k0_t1 𝒱 c bd i arg2 harg2 arg3 harg3 arg4 harg4 arg5 harg5 arg6 harg6 arg7 harg7 arg8 harg8 arg9 harg9 Q.fst Q.lane Q.later Q.q0 Q.q1 Q.o0 Q.o1 v53 hchk 0#32 1#32 (harg3.unread K) (harg4.unread V) (harg6.unread x6) (harg8.unread x8) (harg9.unread x9) init (k0_t1_loop i v53).trips)
    let s2 := st_k0_t2 𝒱 c bd i arg2 harg2 arg3 harg3 arg4 harg4 arg5 harg5 arg6 harg6 arg7 harg7 arg8 harg8 arg9 harg9 Q.fst Q.lane Q.later Q.q0 Q.q1 Q.o0 Q.o1 v53 hchk (k0_t2_loop i v53).lb (harg3.unread K) (harg4.unread V) (harg6.unread x6) (arg8.view.writes (Elt F) (harg8.unread x8) s1.2.1) (arg9.view.writes (Elt F) (harg9.unread x9) s1.2.2) s1.1 (k0_t2_loop i v53).trips
    (s2.1, arg8.view.writes (Elt F) (harg8.unread x8) (s2.2.1 ++ s1.2.1), arg9.view.writes (Elt F) (harg9.unread x9) (s2.2.2 ++ s1.2.2))
      = lift harg8 harg9 (steps Q K V (2 * n) (init, x8, x9)) := by
  subst h0
  intro s1 s2
  have e2 : s2 = (s1.1, [], []) := by simp only [s2, ht2]; rfl
  rw [e2, ← ht1]
  exact loop_eq 𝒱 c bd i arg2 harg2 arg3 harg3 arg4 harg4 arg5 harg5 arg6 harg6 arg7 harg7 arg8 harg8 arg9 harg9 Q x6 hr0 hr1 hchk K V x8 x9 init (by omega) _ le_rfl

theorem word5 (i : grid0.Coords) (h : 2 ≤ (i 1).val) : Scalar.subi (left i) 1#32 = BitVec.ofNat 32 ((i 1).val - 2) :=
  (by decide +kernel : ∀ a : Fin 16, 2 ≤ a.val → Scalar.subi (Scalar.maxsi (Scalar.subi (BitVec.ofNat 32 a.val) 1#32) 0#32) 1#32 = BitVec.ofNat 32 (a.val - 2)) (i 1) h
theorem word7 (i : grid0.Coords) (h : 1 ≤ (i 1).val) : Scalar.subi (BitVec.ofNat 32 (i 1).val) 1#32 = BitVec.ofNat 32 ((i 1).val - 1) :=
  (by decide +kernel : ∀ a : Fin 16, 1 ≤ a.val → Scalar.subi (BitVec.ofNat 32 a.val) 1#32 = BitVec.ofNat 32 (a.val - 1)) (i 1) h

theorem runB_steps (c : Dev nD) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .f32) (harg5 : arg5.IsWhole) (arg6 : Memref sig .tc .vmem S2x256x128 .f32) (harg6 : arg6.IsWhole) (arg7 : Memref sig .tc .vmem S256x128 .f32) (harg7 : arg7.IsWhole) (arg8 : Memref sig .tc .vmem S4096x128 .f32) (harg8 : arg8.IsWhole) (arg9 : Memref sig .tc .vmem S4096x128 .f32) (harg9 : arg9.IsWhole)
    (x2 : Vec F S256x128 .bf16) (x3 x4 : Vec F S4096x128 .bf16) (x5 : Vec F S256x128 .f32) (x6 : Vec F S2x256x128 .f32) (x8 x9 : Vec F S4096x128 .f32)
    (h : Point i False True (start i (View.readAt (Elt F) arg6.view (Rect.unit (s := S2x256x128) ![0, 0, 0] S1x256x128.size inb_S2x256x128_S1x256x128_0_0_0).toLoadRect (harg6.unread x6))
      (View.readAt (Elt F) arg6.view (Rect.unit (s := S2x256x128) ![1, 0, 0] S1x256x128.size inb_S2x256x128_S1x256x128_1_0_0).toLoadRect (harg6.unread x6)))) (h0 : (start i (View.readAt (Elt F) arg6.view (Rect.unit (s := S2x256x128) ![0, 0, 0] S1x256x128.size inb_S2x256x128_S1x256x128_0_0_0).toLoadRect (harg6.unread x6)) (View.readAt (Elt F) arg6.view (Rect.unit (s := S2x256x128) ![1, 0, 0] S1x256x128.size inb_S2x256x128_S1x256x128_1_0_0).toLoadRect (harg6.unread x6))) = 0#32) (hi : 2 ≤ (i 1).val) (n : ℕ) (hn : 2 * n = ((i 1).val - 2)) (ht1 : (k0_t1_loop i 0#32).trips = n) (ht2 : (k0_t2_loop i 0#32).trips = 0) :
    let r := step (query x2 x5 x6) true x3 x4 (i 1).val (steps (query x2 x5 x6) x3 x4 (i 1).val ((k0_pay249 (F := F), k0_pay250 (F := F), k0_pay251 (F := F)), x8, x9))
    (runB c i arg2 harg2 arg3 harg3 arg4 harg4 arg5 harg5 arg6 harg6 arg7 harg7 arg8 harg8 arg9 harg9 x2 x3 x4 x5 x6 x8 x9 h).1 = r.1.2.2 ∧ arg8.view.read (Elt F) (runB c i arg2 harg2 arg3 harg3 arg4 harg4 arg5 harg5 arg6 harg6 arg7 harg7 arg8 harg8 arg9 harg9 x2 x3 x4 x5 x6 x8 x9 h).2.1 = r.2.1 ∧ arg9.view.read (Elt F) (runB c i arg2 harg2 arg3 harg3 arg4 harg4 arg5 harg5 arg6 harg6 arg7 harg7 arg8 harg8 arg9 harg9 x2 x3 x4 x5 x6 x8 x9 h).2.2.1 = r.2.2 := by
  have hi16 : (i 1).val < 16 := (i 1).isLt
  have hm := runB_mem c i arg2 harg2 arg3 harg3 arg4 harg4 arg5 harg5 arg6 harg6 arg7 harg7 arg8 harg8 arg9 harg9 x2 x3 x4 x5 x6 x8 x9 h
  extract_lets x2' x5' Q v53 s1 s2 s3 s4 at hm
  have hQ : Q = query x2 x5 x6 := by
    simp only [Q, x2', x5', readAt_whole harg2 x2, readAt_whole harg5 x5, readAt_slab0 harg6 x6, readAt_slab1 harg6 x6]; rfl
  clear_value Q x2' x5'
  subst hQ
  have hl : s3 = lift harg8 harg9 (steps (query x2 x5 x6) x3 x4 (2 * n) ((k0_pay249 (F := F), k0_pay250 (F := F), k0_pay251 (F := F)), x8, x9)) :=
    loops_eq Variants.none c none i arg2 harg2 arg3 harg3 arg4 harg4 arg5 harg5 arg6 harg6 arg7 harg7 arg8 harg8 arg9 harg9 _ (query x2 x5 x6) x6 rfl rfl h.chk h0 x3 x4 _ _ _ n (by omega) ht1 ht2
  have e5 := memStep_eq (query x2 x5 x6) false harg3 harg4 harg8 harg9 (k0_off5_inb i v53 h.chk (h.c2.mpr trivial)) x3 x4 (steps (query x2 x5 x6) x3 x4 (2 * n) ((k0_pay249 (F := F), k0_pay250 (F := F), k0_pay251 (F := F)), x8, x9)) ((i 1).val - 2) (by omega)
    ((off5_eq i).trans (congrArg (fun x : ℕ => (![x, 0] : Fin 2 → ℕ)) (by omega))) (word5 i hi)
  have e7 := memStep_eq (query x2 x5 x6) false harg3 harg4 harg8 harg9 (k0_off7_inb i (h.c3.not.mpr not_false)) x3 x4 (step (query x2 x5 x6) false x3 x4 ((i 1).val - 2) (steps (query x2 x5 x6) x3 x4 (2 * n) ((k0_pay249 (F := F), k0_pay250 (F := F), k0_pay251 (F := F)), x8, x9))) ((i 1).val - 1) (by omega)
    ((off7_eq i).trans (congrArg (fun x : ℕ => (![x, 0] : Fin 2 → ℕ)) (by omega))) (word7 i (by omega))
  have e8 := memStep_eq (query x2 x5 x6) true harg3 harg4 harg8 harg9 (k0_off8_inb i (h.c3.not.mpr not_false)) x3 x4 (step (query x2 x5 x6) false x3 x4 ((i 1).val - 1) (step (query x2 x5 x6) false x3 x4 ((i 1).val - 2) (steps (query x2 x5 x6) x3 x4 (2 * n) ((k0_pay249 (F := F), k0_pay250 (F := F), k0_pay251 (F := F)), x8, x9)))) (i 1).val (by omega) (off8_eq i) rfl
  obtain ⟨b, hb⟩ : ∃ b, (i 1).val = b + 2 := ⟨(i 1).val - 2, by omega⟩
  have hst : steps (query x2 x5 x6) x3 x4 (i 1).val ((k0_pay249 (F := F), k0_pay250 (F := F), k0_pay251 (F := F)), x8, x9) = step (query x2 x5 x6) false x3 x4 ((i 1).val - 1) (step (query x2 x5 x6) false x3 x4 ((i 1).val - 2) (steps (query x2 x5 x6) x3 x4 (2 * n) ((k0_pay249 (F := F), k0_pay250 (F := F), k0_pay251 (F := F)), x8, x9))) := by
    rw [hn, hb]; rfl
  rw [← e7, ← e5, ← hl] at e8
  have e4 : s4 = _ := e8
  intro r
  have hr : r = step (query x2 x5 x6) true x3 x4 (i 1).val (step (query x2 x5 x6) false x3 x4 ((i 1).val - 1) (step (query x2 x5 x6) false x3 x4 ((i 1).val - 2) (steps (query x2 x5 x6) x3 x4 (2 * n) ((k0_pay249 (F := F), k0_pay250 (F := F), k0_pay251 (F := F)), x8, x9)))) := by unfold r; rw [hst]
  clear_value s4
  subst e4
  rw [hr]
  exact ⟨hm.1, (congrArg (arg8.view.read (Elt F)) hm.2.1).trans (harg8.read_unread _), (congrArg (arg9.view.read (Elt F)) hm.2.2).trans (harg9.read_unread _)⟩

theorem runC_steps (c : Dev nD) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .f32) (harg5 : arg5.IsWhole) (arg6 : Memref sig .tc .vmem S2x256x128 .f32) (harg6 : arg6.IsWhole) (arg7 : Memref sig .tc .vmem S256x128 .f32) (harg7 : arg7.IsWhole) (arg8 : Memref sig .tc .vmem S4096x128 .f32) (harg8 : arg8.IsWhole) (arg9 : Memref sig .tc .vmem S4096x128 .f32) (harg9 : arg9.IsWhole)
    (x2 : Vec F S256x128 .bf16) (x3 x4 : Vec F S4096x128 .bf16) (x5 : Vec F S256x128 .f32) (x6 : Vec F S2x256x128 .f32) (x8 x9 : Vec F S4096x128 .f32)
    (h : Point i False False (start i (View.readAt (Elt F) arg6.view (Rect.unit (s := S2x256x128) ![0, 0, 0] S1x256x128.size inb_S2x256x128_S1x256x128_0_0_0).toLoadRect (harg6.unread x6))
      (View.readAt (Elt F) arg6.view (Rect.unit (s := S2x256x128) ![1, 0, 0] S1x256x128.size inb_S2x256x128_S1x256x128_1_0_0).toLoadRect (harg6.unread x6)))) (h0 : (start i (View.readAt (Elt F) arg6.view (Rect.unit (s := S2x256x128) ![0, 0, 0] S1x256x128.size inb_S2x256x128_S1x256x128_0_0_0).toLoadRect (harg6.unread x6)) (View.readAt (Elt F) arg6.view (Rect.unit (s := S2x256x128) ![1, 0, 0] S1x256x128.size inb_S2x256x128_S1x256x128_1_0_0).toLoadRect (harg6.unread x6))) = 0#32) (hi : 1 ≤ (i 1).val) (n : ℕ) (hn : 2 * n = ((i 1).val - 1)) (ht1 : (k0_t1_loop i 0#32).trips = n) (ht2 : (k0_t2_loop i 0#32).trips = 0) :
    let r := step (query x2 x5 x6) true x3 x4 (i 1).val (steps (query x2 x5 x6) x3 x4 (i 1).val ((k0_pay249 (F := F), k0_pay250 (F := F), k0_pay251 (F := F)), x8, x9))
    (runC c i arg2 harg2 arg3 harg3 arg4 harg4 arg5 harg5 arg6 harg6 arg7 harg7 arg8 harg8 arg9 harg9 x2 x3 x4 x5 x6 x8 x9 h).1 = r.1.2.2 ∧ arg8.view.read (Elt F) (runC c i arg2 harg2 arg3 harg3 arg4 harg4 arg5 harg5 arg6 harg6 arg7 harg7 arg8 harg8 arg9 harg9 x2 x3 x4 x5 x6 x8 x9 h).2.1 = r.2.1 ∧ arg9.view.read (Elt F) (runC c i arg2 harg2 arg3 harg3 arg4 harg4 arg5 harg5 arg6 harg6 arg7 harg7 arg8 harg8 arg9 harg9 x2 x3 x4 x5 x6 x8 x9 h).2.2.1 = r.2.2 := by
  have hi16 : (i 1).val < 16 := (i 1).isLt
  have hm := runC_mem c i arg2 harg2 arg3 harg3 arg4 harg4 arg5 harg5 arg6 harg6 arg7 harg7 arg8 harg8 arg9 harg9 x2 x3 x4 x5 x6 x8 x9 h
  extract_lets x2' x5' Q v53 s1 s2 s3 s4 at hm
  have hQ : Q = query x2 x5 x6 := by
    simp only [Q, x2', x5', readAt_whole harg2 x2, readAt_whole harg5 x5, readAt_slab0 harg6 x6, readAt_slab1 harg6 x6]; rfl
  clear_value Q x2' x5'
  subst hQ
  have hl : s3 = lift harg8 harg9 (steps (query x2 x5 x6) x3 x4 (2 * n) ((k0_pay249 (F := F), k0_pay250 (F := F), k0_pay251 (F := F)), x8, x9)) :=
    loops_eq Variants.none c none i arg2 harg2 arg3 harg3 arg4 harg4 arg5 harg5 arg6 harg6 arg7 harg7 arg8 harg8 arg9 harg9 _ (query x2 x5 x6) x6 rfl rfl h.chk h0 x3 x4 _ _ _ n (by omega) ht1 ht2
  have e7 := memStep_eq (query x2 x5 x6) false harg3 harg4 harg8 harg9 (k0_off7_inb i (h.c3.not.mpr not_false)) x3 x4 (steps (query x2 x5 x6) x3 x4 (2 * n) ((k0_pay249 (F := F), k0_pay250 (F := F), k0_pay251 (F := F)), x8, x9)) ((i 1).val - 1) (by omega)
    ((off7_eq i).trans (congrArg (fun x : ℕ => (![x, 0] : Fin 2 → ℕ)) (by omega))) (word7 i (by omega))
  have e8 := memStep_eq (query x2 x5 x6) true harg3 harg4 harg8 harg9 (k0_off8_inb i (h.c3.not.mpr not_false)) x3 x4 (step (query x2 x5 x6) false x3 x4 ((i 1).val - 1) (steps (query x2 x5 x6) x3 x4 (2 * n) ((k0_pay249 (F := F), k0_pay250 (F := F), k0_pay251 (F := F)), x8, x9))) (i 1).val (by omega) (off8_eq i) rfl
  obtain ⟨b, hb⟩ : ∃ b, (i 1).val = b + 1 := ⟨(i 1).val - 1, by omega⟩
  have hst : steps (query x2 x5 x6) x3 x4 (i 1).val ((k0_pay249 (F := F), k0_pay250 (F := F), k0_pay251 (F := F)), x8, x9) = step (query x2 x5 x6) false x3 x4 ((i 1).val - 1) (steps (query x2 x5 x6) x3 x4 (2 * n) ((k0_pay249 (F := F), k0_pay250 (F := F), k0_pay251 (F := F)), x8, x9)) := by
    rw [hn, hb]; rfl
  rw [← e7, ← hl] at e8
  have e4 : s4 = _ := e8
  intro r
  have hr : r = step (query x2 x5 x6) true x3 x4 (i 1).val (step (query x2 x5 x6) false x3 x4 ((i 1).val - 1) (steps (query x2 x5 x6) x3 x4 (2 * n) ((k0_pay249 (F := F), k0_pay250 (F := F), k0_pay251 (F := F)), x8, x9))) := by unfold r; rw [hst]
  clear_value s4
  subst e4
  rw [hr]
  exact ⟨hm.1, (congrArg (arg8.view.read (Elt F)) hm.2.1).trans (harg8.read_unread _), (congrArg (arg9.view.read (Elt F)) hm.2.2).trans (harg9.read_unread _)⟩

theorem runA_steps (c : Dev nD) (i : grid0.Coords) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S256x128 .f32) (harg5 : arg5.IsWhole) (arg6 : Memref sig .tc .vmem S2x256x128 .f32) (harg6 : arg6.IsWhole) (arg7 : Memref sig .tc .vmem S256x128 .f32) (harg7 : arg7.IsWhole) (arg8 : Memref sig .tc .vmem S4096x128 .f32) (harg8 : arg8.IsWhole) (arg9 : Memref sig .tc .vmem S4096x128 .f32) (harg9 : arg9.IsWhole)
    (x2 : Vec F S256x128 .bf16) (x3 x4 : Vec F S4096x128 .bf16) (x5 : Vec F S256x128 .f32) (x6 : Vec F S2x256x128 .f32)
    (h : Point i True False (start i (View.readAt (Elt F) arg6.view (Rect.unit (s := S2x256x128) ![0, 0, 0] S1x256x128.size inb_S2x256x128_S1x256x128_0_0_0).toLoadRect (harg6.unread x6))
      (View.readAt (Elt F) arg6.view (Rect.unit (s := S2x256x128) ![1, 0, 0] S1x256x128.size inb_S2x256x128_S1x256x128_1_0_0).toLoadRect (harg6.unread x6)))) (h0 : (start i (View.readAt (Elt F) arg6.view (Rect.unit (s := S2x256x128) ![0, 0, 0] S1x256x128.size inb_S2x256x128_S1x256x128_0_0_0).toLoadRect (harg6.unread x6)) (View.readAt (Elt F) arg6.view (Rect.unit (s := S2x256x128) ![1, 0, 0] S1x256x128.size inb_S2x256x128_S1x256x128_1_0_0).toLoadRect (harg6.unread x6))) = 0#32) (hi : (i 1).val = 0) (n : ℕ) (hn : 2 * n = 0) (ht1 : (k0_t1_loop i 0#32).trips = n) (ht2 : (k0_t2_loop i 0#32).trips = 0) :
    let r := step (query x2 x5 x6) true x3 x4 (i 1).val (steps (query x2 x5 x6) x3 x4 (i 1).val ((k0_pay249 (F := F), k0_pay250 (F := F), k0_pay251 (F := F)), (k0_pay236 (F := F)), (k0_pay237 (F := F))))
    (runA c i arg2 harg2 arg3 harg3 arg4 harg4 arg5 harg5 arg6 harg6 arg7 harg7 arg8 harg8 arg9 harg9 x2 x3 x4 x5 x6 h).1 = r.1.2.2 ∧ arg8.view.read (Elt F) (runA c i arg2 harg2 arg3 harg3 arg4 harg4 arg5 harg5 arg6 harg6 arg7 harg7 arg8 harg8 arg9 harg9 x2 x3 x4 x5 x6 h).2.1 = r.2.1 ∧ arg9.view.read (Elt F) (runA c i arg2 harg2 arg3 harg3 arg4 harg4 arg5 harg5 arg6 harg6 arg7 harg7 arg8 harg8 arg9 harg9 x2 x3 x4 x5 x6 h).2.2.1 = r.2.2 := by
  have hi16 : (i 1).val < 16 := (i 1).isLt
  have hm := runA_mem c i arg2 harg2 arg3 harg3 arg4 harg4 arg5 harg5 arg6 harg6 arg7 harg7 arg8 harg8 arg9 harg9 x2 x3 x4 x5 x6 h
  extract_lets x2' x5' Q v53 s1 s2 s3 s4 at hm
  have hQ : Q = query x2 x5 x6 := by
    simp only [Q, x2', x5', readAt_whole harg2 x2, readAt_whole harg5 x5, readAt_slab0 harg6 x6, readAt_slab1 harg6 x6]; rfl
  clear_value Q x2' x5'
  subst hQ
  have hl : s3 = lift harg8 harg9 (steps (query x2 x5 x6) x3 x4 (2 * n) ((k0_pay249 (F := F), k0_pay250 (F := F), k0_pay251 (F := F)), (k0_pay236 (F := F)), (k0_pay237 (F := F)))) :=
    loops_eq Variants.none c none i arg2 harg2 arg3 harg3 arg4 harg4 arg5 harg5 arg6 harg6 arg7 harg7 arg8 harg8 arg9 harg9 _ (query x2 x5 x6) x6 rfl rfl h.chk h0 x3 x4 _ _ _ n (by omega) ht1 ht2
  have e8 := memStep_eq (query x2 x5 x6) true harg3 harg4 harg8 harg9 (k0_off6_inb i (h.c3.mpr trivial)) x3 x4 (steps (query x2 x5 x6) x3 x4 (2 * n) ((k0_pay249 (F := F), k0_pay250 (F := F), k0_pay251 (F := F)), (k0_pay236 (F := F)), (k0_pay237 (F := F)))) (i 1).val (by omega) (off6_eq i) rfl
  have hst : steps (query x2 x5 x6) x3 x4 (i 1).val ((k0_pay249 (F := F), k0_pay250 (F := F), k0_pay251 (F := F)), (k0_pay236 (F := F)), (k0_pay237 (F := F))) = steps (query x2 x5 x6) x3 x4 (2 * n) ((k0_pay249 (F := F), k0_pay250 (F := F), k0_pay251 (F := F)), (k0_pay236 (F := F)), (k0_pay237 (F := F))) := by rw [hn, hi]
  rw [← hl] at e8
  have e4 : s4 = _ := e8
  intro r
  have hr : r = step (query x2 x5 x6) true x3 x4 (i 1).val (steps (query x2 x5 x6) x3 x4 (2 * n) ((k0_pay249 (F := F), k0_pay250 (F := F), k0_pay251 (F := F)), (k0_pay236 (F := F)), (k0_pay237 (F := F)))) := by unfold r; rw [hst]
  clear_value s4
  subst e4
  rw [hr]
  exact ⟨hm.1, (congrArg (arg8.view.read (Elt F)) hm.2.1).trans (harg8.read_unread _), (congrArg (arg9.view.read (Elt F)) hm.2.2).trans (harg9.read_unread _)⟩

end Cert.Kernel2Ideal.Att
end
-- ==== Proof.AttReal.lean ====
module

public import Idealize.ShloMosaic.Lib.Pipeline.ValueKit
public import Idealize.ShloMosaic.PureOps.Ideal.Laws
public import Idealize.ShloMosaic.Lib.WordCmp
public import proofs.«01_k».proof.Proof.AttSteps

@[expose] public section

set_option maxRecDepth 16384

noncomputable section

namespace Cert.Kernel2Ideal.Att

open Idealize.ShloMosaic Idealize.ShloMosaic.TcCoe Idealize.ShloMosaic.Tactic
open Gen

/-! The tile's operations on blocks of real numbers. -/

/-- A matrix of real numbers, as a block. -/
def co {a b : ℕ} {φ : FTy} (f : Fin a → Fin b → ℝ) : FVec Ideal ⟨2, ![a, b]⟩ φ := fun y => ((f (y 0) (y 1) : ℝ) : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem bits_zero : (Scalar.ofBits (F := Ideal) .f32 0x00000000#32 : EReal) = ((0 : ℝ) : EReal) := by
  show Ideal.ofBits .f32 _ = _
  simp [Ideal.ofBits, Ideal.ieee]
theorem bits_zero16 : (Scalar.ofBits (F := Ideal) .bf16 0x0000#16 : EReal) = ((0 : ℝ) : EReal) := by
  show Ideal.ofBits .bf16 _ = _
  simp [Ideal.ofBits, Ideal.ieee]
theorem bits_one : (Scalar.ofBits (F := Ideal) .f32 0x3F800000#32 : EReal) = ((1 : ℝ) : EReal) := by
  show Ideal.ofBits .f32 _ = _
  simp [Ideal.ofBits, Ideal.ieee]
  rw [← EReal.coe_mul]; norm_num

theorem scores_co (q k : Fin 256 → Fin 128 → ℝ) : scores (F := Ideal) (co q) (co k) = co fun r s => ∑ c, q r c * k s c := by
  funext y
  unfold scores acc0 co
  pointwise
  simp only [coe_sum, EReal.coe_mul]

theorem overKeys_co (w : Fin 256 → Fin 256 → ℝ) (k : Fin 256 → Fin 128 → ℝ) : overKeys (F := Ideal) (co w) (co k) = co fun r c => ∑ s, w r s * k s c := by
  funext y
  unfold overKeys acc0 co
  pointwise
  simp only [coe_sum, EReal.coe_mul]

theorem overQueries_co (w : Fin 256 → Fin 256 → ℝ) (q : Fin 256 → Fin 128 → ℝ) : overQueries (F := Ideal) (co w) (co q) = co fun s c => ∑ r, w r s * q r c := by
  funext y
  unfold overQueries acc0 co
  pointwise
  simp only [coe_sum, EReal.coe_mul]

theorem slt_word {a b : ℕ} (ha : a < 4096) (hb : b < 4096) : IntOp.cmpi CmpIPredicate.slt (BitVec.ofNat 32 a) (BitVec.ofNat 32 b) = if a < b then 1#1 else 0#1 := by
  rw [WordCmp.cmpi_slt_ofNat (by omega) (by omega)]
  split_ifs with h <;> simp [h]

theorem eq_word {a b : ℕ} (ha : a < 4096) (hb : b < 4096) : IntOp.cmpi CmpIPredicate.eq (BitVec.ofNat 32 a) (BitVec.ofNat 32 b) = if a = b then 1#1 else 0#1 := by
  rw [WordCmp.cmpi_eq_ofNat (by omega) (by omega)]
  split_ifs with h <;> simp [h]

theorem select_if {α : Type} (p : Prop) [Decidable p] (x y : α) : Scalar.select (if p then 1#1 else 0#1) x y = if p then x else y := by
  split_ifs <;> rfl

theorem pay238_at (y : S1x128.Idx) : k0_pay238 y = if (y 1).val < 64 then 1#1 else 0#1 := by
  have h : (y 1).val < 128 := (y 1).isLt
  pointwise [k0_pay238]
  exact slt_word (by omega) (by omega)

theorem pay8_at (y : S256x256.Idx) : k0_pay8 y = if (y 1).val < (y 0).val then 1#1 else 0#1 := by
  have h : (y 1).val < 256 := (y 1).isLt
  have h' : (y 0).val < 256 := (y 0).isLt
  pointwise [k0_pay8]
  exact slt_word (by omega) (by omega)

/-- A block's lanes of head `h`, the others zeroed. -/
def mask (h : Fin 2) (f : Fin 256 → Fin 128 → ℝ) : Fin 256 → Fin 128 → ℝ := fun r c => if c.val / 64 = h.val then f r c else 0

theorem mask_first (f : Fin 256 → Fin 128 → ℝ) (r : Fin 256) (c : Fin 128) : Scalar.select (k0_pay238 (ix2 0 c)) ((f r c : ℝ) : EReal) 0 = ((mask 0 f r c : ℝ) : EReal) := by
  have h : c.val < 128 := c.isLt
  rw [pay238_at, select_if]
  unfold mask
  have e : (c.val < 64) = (c.val / 64 = (0 : Fin 2).val) := propext ⟨fun h => by show _ = 0; omega, fun h => by have : c.val / 64 = 0 := h; omega⟩
  show (if c.val < 64 then _ else _) = _
  rw [← EReal.coe_zero, ← apply_ite (fun x : ℝ => (x : EReal))]
  simp only [e]

theorem mask_second (f : Fin 256 → Fin 128 → ℝ) (r : Fin 256) (c : Fin 128) : Scalar.select (k0_pay238 (ix2 0 c)) 0 ((f r c : ℝ) : EReal) = ((mask 1 f r c : ℝ) : EReal) := by
  have h : c.val < 128 := c.isLt
  rw [pay238_at, select_if]
  unfold mask
  have e : (c.val / 64 = (1 : Fin 2).val) = ¬ (c.val < 64) := propext ⟨fun h => by have : c.val / 64 = 1 := h; omega, fun h => by show _ = 1; omega⟩
  show (if c.val < 64 then _ else _) = _
  rw [← EReal.coe_zero, ← apply_ite (fun x : ℝ => (x : EReal))]
  simp only [e, ite_not]

theorem headL_co (f : Fin 256 → Fin 128 → ℝ) : headL (F := Ideal) k0_pay238 (co (φ := .bf16) f) = co (mask 0 f) := by
  funext y
  unfold headL co lanes
  pointwise
  exact mask_first f (y 0) (y 1)
theorem headR_co (f : Fin 256 → Fin 128 → ℝ) : headR (F := Ideal) k0_pay238 (co (φ := .bf16) f) = co (mask 1 f) := by
  funext y
  unfold headR co lanes
  pointwise
  exact mask_second f (y 0) (y 1)
theorem pay243_co (f : Fin 256 → Fin 128 → ℝ) : k0_pay243 (F := Ideal) (co (φ := .bf16) f) = co (mask 0 f) := headL_co f
theorem pay244_co (f : Fin 256 → Fin 128 → ℝ) : k0_pay244 (F := Ideal) (co (φ := .bf16) f) = co (mask 1 f) := headR_co f
theorem pay245_co (f : Fin 256 → Fin 128 → ℝ) : k0_pay245 (F := Ideal) (co (φ := .f32) f) = co (mask 0 f) := by
  funext y
  unfold co
  pointwise [k0_pay245, k0_pay241, k0_pay242]
  exact mask_first f (y 0) (y 1)
theorem pay246_co (f : Fin 256 → Fin 128 → ℝ) : k0_pay246 (F := Ideal) (co (φ := .f32) f) = co (mask 1 f) := by
  funext y
  unfold co
  pointwise [k0_pay246, k0_pay241, k0_pay242]
  exact mask_second f (y 0) (y 1)

/-- `log (1 + exp z)`, as both programs take it. -/
def spr (z : ℝ) : ℝ := max z 0 + Real.log (1 + Real.exp (-|z|))

theorem coe_max (a b : ℝ) : ((max a b : ℝ) : EReal) = max (a : EReal) b := EReal.coe_strictMono.monotone.map_max

theorem softp_at (z : ℝ) : max (z : EReal) 0 + Ideal.log (1 + Ideal.exp (0 - FloatOps.absf (F := Ideal) (φ := .f32) (z : EReal))) = ((spr z : ℝ) : EReal) := by
  have e : (FloatOps.absf (F := Ideal) (φ := .f32) (z : EReal) : EReal) = ((|z| : ℝ) : EReal) := by
    show max (z : EReal) (-z) = _
    rw [← EReal.coe_neg, ← coe_max]; rfl
  rw [e, ← EReal.coe_zero, ← EReal.coe_sub, Ideal.exp_coe, ← EReal.coe_one, ← EReal.coe_add, Ideal.log_coe,
    if_neg (not_le.mpr (by positivity)), ← coe_max, ← EReal.coe_add, zero_sub]
  rfl

theorem softp_co (f : Fin 256 → Fin 256 → ℝ) : softp (F := Ideal) (co f) = co fun r c => spr (f r c) := by
  funext y
  unfold softp co zero one
  pointwise
  exact softp_at _

theorem lsig_co (f : Fin 256 → Fin 256 → ℝ) : lsig (F := Ideal) (co f) = co fun r c => f r c - spr (f r c) := by
  unfold lsig
  rw [softp_co]
  funext y
  unfold co
  pointwise
  rw [EReal.coe_sub]

theorem lstay_co (f : Fin 256 → Fin 256 → ℝ) : lstay (F := Ideal) (co f) = co fun r c => - spr (f r c) := by
  unfold lstay
  rw [softp_co]
  funext y
  unfold co zero
  pointwise
  rw [EReal.coe_neg, zero_sub]

theorem gadd_co (g : Fin 256 → Fin 256 → ℝ) (f : Fin 256 → Fin 1 → ℝ) : gadd (F := Ideal) (co f) (co g) = co fun r c => f r c + ∑ s, g r s := by
  funext y
  unfold gadd co
  pointwise
  rw [EReal.coe_add, coe_sum]

/-- The triangle: whether row is past column. -/
theorem later_co : k0_pay239 (F := Ideal) = co fun r s => if s.val < r.val then 1 else 0 := by
  funext y
  have h : (y 1).val < 256 := (y 1).isLt
  have h' : (y 0).val < 256 := (y 0).isLt
  unfold co
  pointwise [k0_pay239]
  rw [WordCmp.cmpi_sgt_ofNat (by omega) (by omega)]
  by_cases hc : (y 1).val < (y 0).val
  · rw [if_pos hc, decide_eq_true hc]; rfl
  · rw [if_neg hc, decide_eq_false hc]; rfl

/-- A tile's mask. -/
def cutr (d : Bool) (x : Fin 256 → Fin 256 → ℝ) : Fin 256 → Fin 256 → ℝ := fun r s => if d = true then if s.val < r.val then x r s else 0 else x r s

theorem cut_co (d : Bool) (f : Fin 256 → Fin 256 → ℝ) : cut (F := Ideal) d (co f) = co (cutr d f) := by
  unfold cut cutr
  cases d with
  | false => rfl
  | true =>
    simp only [if_true]
    funext y
    unfold co zero
    pointwise
    rw [pay8_at, select_if, ← EReal.coe_zero, ← apply_ite (fun x : ℝ => (x : EReal))]

theorem runAt_co (j : ℕ) (hj : j < 128) (x : Fin 256 → Fin 128 → ℝ) :
    runAt (F := Ideal) (iota .tc S1x128 32 [1] iota_S1x128_d1_w32) (BitVec.ofNat 32 j) (fun y => ((x (y 1) (y 2) : ℝ) : EReal)) = co fun r _ => x r ⟨j, hj⟩ := by
  funext y
  unfold runAt co
  pointwise
  rw [Finset.sum_congr rfl fun k _ => by rw [eq_word (by have : k.val < 128 := k.isLt; omega) (by omega), select_if]]
  rw [Finset.sum_eq_single (⟨j, hj⟩ : Fin 128)]
  · simp
  · intro b _ hb
    rw [if_neg fun h => hb (Fin.ext h)]
  · intro h; exact absurd (Finset.mem_univ _) h

theorem weights_co (ls st : Fin 256 → Fin 256 → ℝ) (run : Fin 256 → Fin 1 → ℝ) : weights (F := Ideal) (k0_pay239 (F := Ideal)) (co ls) (co st) (co run)
    = co fun r s => Real.exp (ls r s + (∑ s', (if s.val < s'.val then st r s' else 0) + run r 0)) := by
  rw [later_co]
  funext y
  unfold weights co
  pointwise
  have e : ∀ x : ℝ, (x : EReal) - x = 0 := fun x => by rw [← EReal.coe_sub, sub_self, EReal.coe_zero]
  simp only [e, zero_mul, Finset.sum_const_zero, add_zero]
  simp only [← EReal.coe_mul, ← coe_sum, ← EReal.coe_add, Ideal.exp_coe, add_assoc]
  exact congrArg (fun x : ℝ => ((Real.exp (ls (y 0) (y 1) + (x + run (y 0) 0)) : ℝ) : EReal)) (Finset.sum_congr rfl fun i _ => mul_boole _ _)

theorem dscore_co (gs : Fin 256 → Fin 1 → ℝ) (ls g : Fin 256 → Fin 256 → ℝ) : dscore (F := Ideal) (k0_pay239 (F := Ideal)) (co gs) (co ls) (co g)
    = co fun r s => g r s * (1 - Real.exp (ls r s)) - (∑ s', (if s'.val < s.val then g r s' else 0) + gs r 0) * Real.exp (ls r s) := by
  rw [later_co]
  funext y
  unfold dscore co
  pointwise
  simp only [← EReal.coe_mul, ← coe_sum, ← EReal.coe_add, Ideal.exp_coe, ← EReal.coe_one, ← EReal.coe_sub]
  exact congrArg (fun x : ℝ => ((g (y 0) (y 1) * (1 - Real.exp (ls (y 0) (y 1))) - (x + gs (y 0) 0) * Real.exp (ls (y 0) (y 1)) : ℝ) : EReal)) (Finset.sum_congr rfl fun i _ => mul_boole _ _)

/-! A tile on blocks of real numbers. -/

section
variable (d : Bool) (q o k v : Fin 256 → Fin 128 → ℝ) (run : Fin 2 → Fin 256 → ℝ) (h : Fin 2)
def tz (r s : Fin 256) : ℝ := ∑ c, mask h q r c * mask h k s c
def tls (r s : Fin 256) : ℝ := tz q k h r s - spr (tz q k h r s)
def tst : Fin 256 → Fin 256 → ℝ := cutr d fun r s => - spr (tz q k h r s)
def tw : Fin 256 → Fin 256 → ℝ :=
  cutr d fun r s => Real.exp (tls q k h r s + (∑ s', (if s.val < s'.val then tst d q k h r s' else 0) + run h r))
def tg (r s : Fin 256) : ℝ := tw d q k run h r s * ∑ c, mask h o r c * mask h v s c
def td (gs : Fin 256 → ℝ) : Fin 256 → Fin 256 → ℝ :=
  cutr d fun r s => tg d q o k v run h r s * (1 - Real.exp (tls q k h r s))
    - (∑ s', (if s'.val < s.val then tg d q o k v run h r s' else 0) + gs r) * Real.exp (tls q k h r s)
end

theorem hw_co (d : Bool) (q k : Fin 256 → Fin 128 → ℝ) (run : Fin 2 → Fin 256 → ℝ) (h : Fin 2) :
    hw (F := Ideal) d (k0_pay239 (F := Ideal)) (co fun r (_ : Fin 1) => run h r) (scores (F := Ideal) (co (mask h q)) (co (mask h k))) = co (tw d q k run h) := by
  unfold hw
  rw [scores_co, lsig_co, lstay_co, cut_co, weights_co, cut_co]
  rfl

theorem hg_co (d : Bool) (q o k v : Fin 256 → Fin 128 → ℝ) (run : Fin 2 → Fin 256 → ℝ) (h : Fin 2) :
    hg (F := Ideal) (co (tw d q k run h)) (co (mask h o)) (co (mask h v)) = co (tg d q o k v run h) := by
  unfold hg
  rw [scores_co]
  funext y
  unfold co
  pointwise
  rw [← EReal.coe_mul]
  rfl

theorem ds_co (d : Bool) (q o k v : Fin 256 → Fin 128 → ℝ) (run : Fin 2 → Fin 256 → ℝ) (h : Fin 2) (gs : Fin 256 → ℝ) :
    cut (F := Ideal) d (dscore (F := Ideal) (k0_pay239 (F := Ideal)) (co fun r (_ : Fin 1) => gs r) (lsig (F := Ideal) (scores (F := Ideal) (co (mask h q)) (co (mask h k)))) (co (tg d q o k v run h)))
      = co (td d q o k v run h gs) := by
  rw [scores_co, lsig_co, dscore_co, cut_co]
  rfl

/-- A grid point's row sums. -/
def co3 (ru : Fin 2 → Fin 256 → Fin 128 → ℝ) : FVec Ideal S2x256x128 .f32 := fun y => ((ru (y 0) (y 1) (y 2) : ℝ) : EReal)

section
variable (d : Bool) (q o k v : Fin 256 → Fin 128 → ℝ) (ru : Fin 2 → Fin 256 → Fin 128 → ℝ) (j : ℕ) (hj : j < 128)

abbrev qry : Query Ideal := query (F := Ideal) (co (φ := .bf16) q) (co (φ := .f32) o) (co3 ru)
abbrev runj : Fin 2 → Fin 256 → ℝ := fun h r => ru h r ⟨j, hj⟩

theorem run_co (h : Fin 2) : runAt (F := Ideal) (iota .tc S1x128 32 [1] iota_S1x128_d1_w32) (BitVec.ofNat 32 j) (slab (F := Ideal) h (co3 ru)) = co fun r (_ : Fin 1) => runj ru j hj h r :=
  runAt_co j hj (ru h)

theorem w0_co : w0 (F := Ideal) (qry q o ru) d (BitVec.ofNat 32 j) (co (φ := .bf16) k) = co (tw d q k (runj ru j hj) 0) := by
  unfold w0
  dsimp only [qry, query]
  rw [run_co ru j hj, pay243_co, headL_co]
  exact hw_co d q k (runj ru j hj) 0
theorem w1_co : w1 (F := Ideal) (qry q o ru) d (BitVec.ofNat 32 j) (co (φ := .bf16) k) = co (tw d q k (runj ru j hj) 1) := by
  unfold w1
  dsimp only [qry, query]
  rw [run_co ru j hj, pay244_co, headR_co]
  exact hw_co d q k (runj ru j hj) 1
theorem g0_co : g0 (F := Ideal) (qry q o ru) d (BitVec.ofNat 32 j) (co (φ := .bf16) k) (co (φ := .bf16) v) = co (tg d q o k v (runj ru j hj) 0) := by
  unfold g0
  rw [w0_co d q o k ru j hj]
  dsimp only [qry, query]
  rw [pay245_co, headL_co]
  exact hg_co d q o k v (runj ru j hj) 0
theorem g1_co : g1 (F := Ideal) (qry q o ru) d (BitVec.ofNat 32 j) (co (φ := .bf16) k) (co (φ := .bf16) v) = co (tg d q o k v (runj ru j hj) 1) := by
  unfold g1
  rw [w1_co d q o k ru j hj]
  dsimp only [qry, query]
  rw [pay246_co, headR_co]
  exact hg_co d q o k v (runj ru j hj) 1
theorem d0_co (gs : Fin 256 → ℝ) : d0 (F := Ideal) (qry q o ru) d (BitVec.ofNat 32 j) (co (φ := .bf16) k) (co (φ := .bf16) v) (co fun r (_ : Fin 1) => gs r) = co (td d q o k v (runj ru j hj) 0 gs) := by
  unfold d0
  rw [g0_co d q o k v ru j hj]
  dsimp only [qry, query]
  rw [pay243_co, headL_co]
  exact ds_co d q o k v (runj ru j hj) 0 gs
theorem d1_co (gs : Fin 256 → ℝ) : d1 (F := Ideal) (qry q o ru) d (BitVec.ofNat 32 j) (co (φ := .bf16) k) (co (φ := .bf16) v) (co fun r (_ : Fin 1) => gs r) = co (td d q o k v (runj ru j hj) 1 gs) := by
  unfold d1
  rw [g1_co d q o k v ru j hj]
  dsimp only [qry, query]
  rw [pay244_co, headR_co]
  exact ds_co d q o k v (runj ru j hj) 1 gs

theorem carry_co (gs0 gs1 : Fin 256 → ℝ) (dq : Fin 256 → Fin 128 → ℝ) :
    carry (F := Ideal) (qry q o ru) d (BitVec.ofNat 32 j) (co (φ := .bf16) k) (co (φ := .bf16) v) (co fun r (_ : Fin 1) => gs0 r, co fun r (_ : Fin 1) => gs1 r, co dq)
      = (co fun r (_ : Fin 1) => gs0 r + ∑ s, tg d q o k v (runj ru j hj) 0 r s, co fun r (_ : Fin 1) => gs1 r + ∑ s, tg d q o k v (runj ru j hj) 1 r s,
        co fun r c => dq r c + ∑ s, td d q o k v (runj ru j hj) 0 gs0 r s * mask 0 k s c + ∑ s, td d q o k v (runj ru j hj) 1 gs1 r s * mask 1 k s c) := by
  unfold carry
  dsimp only
  rw [g0_co d q o k v ru j hj, g1_co d q o k v ru j hj, d0_co d q o k v ru j hj, d1_co d q o k v ru j hj, gadd_co, gadd_co]
  dsimp only [qry, query]
  rw [headL_co, headR_co, overKeys_co, overKeys_co]
  refine Prod.ext rfl (Prod.ext rfl ?_)
  funext y
  unfold co
  pointwise
  rw [EReal.coe_add, EReal.coe_add]

theorem dkey_co (gs0 gs1 : Fin 256 → ℝ) (dq : Fin 256 → Fin 128 → ℝ) (x : Fin 256 → Fin 128 → ℝ) :
    dkey (F := Ideal) (qry q o ru) d (BitVec.ofNat 32 j) (co (φ := .bf16) k) (co (φ := .bf16) v) (co fun r (_ : Fin 1) => gs0 r, co fun r (_ : Fin 1) => gs1 r, co dq) (co (φ := .f32) x)
      = co fun s c => x s c + (∑ r, td d q o k v (runj ru j hj) 0 gs0 r s * mask 0 q r c + ∑ r, td d q o k v (runj ru j hj) 1 gs1 r s * mask 1 q r c) := by
  unfold dkey
  dsimp only
  rw [d0_co d q o k v ru j hj, d1_co d q o k v ru j hj]
  dsimp only [qry, query]
  rw [pay243_co, pay244_co, overQueries_co, overQueries_co]
  funext y
  unfold co
  pointwise
  rw [EReal.coe_add, EReal.coe_add]

theorem dval_co (x : Fin 256 → Fin 128 → ℝ) :
    dval (F := Ideal) (qry q o ru) d (BitVec.ofNat 32 j) (co (φ := .bf16) k) (co (φ := .f32) x)
      = co fun s c => x s c + (∑ r, tw d q k (runj ru j hj) 0 r s * mask 0 o r c + ∑ r, tw d q k (runj ru j hj) 1 r s * mask 1 o r c) := by
  unfold dval
  rw [w0_co d q o k ru j hj, w1_co d q o k ru j hj]
  dsimp only [qry, query]
  rw [pay245_co, pay246_co, overQueries_co, overQueries_co]
  funext y
  unfold co
  pointwise
  rw [EReal.coe_add, EReal.coe_add]
end

end Cert.Kernel2Ideal.Att
end
-- ==== Proof.AttSum.lean ====
module

public import Idealize.ShloMosaic.Lib.Pipeline.ValueKit
public import proofs.«01_k».proof.Proof.AttReal

@[expose] public section

set_option maxRecDepth 16384

noncomputable section

namespace Cert.Kernel2Ideal.Att

open Idealize.ShloMosaic Idealize.ShloMosaic.TcCoe Idealize.ShloMosaic.Tactic
open Gen

/-! The gradients of a pair of heads over real numbers, all rows at once, and the tiles' sums to them. -/

/-- Row `r` of block `i`. -/
def rix (i : Fin 16) (r : Fin 256) : Fin 4096 := ⟨256 * i.val + r.val, by omega⟩

theorem sum_blocks (f : Fin 4096 → ℝ) : ∑ S, f S = ∑ j, ∑ s, f (rix j s) := by
  rw [← Fintype.sum_prod_type']
  refine (Fintype.sum_equiv (finProdFinEquiv (m := 16) (n := 256)) _ _ fun x => ?_).symm
  refine congrArg f (Fin.ext ?_)
  show 256 * x.1.val + x.2.val = x.2.val + 256 * x.1.val
  omega

/-- The sum over the columns before block `n`. -/
def pre (n : ℕ) (f : Fin 4096 → ℝ) : ℝ := ∑ S, if S.val < 256 * n then f S else 0

theorem pre_zero (f : Fin 4096 → ℝ) : pre 0 f = 0 := by
  unfold pre
  exact Finset.sum_eq_zero fun S _ => if_neg (by omega)

theorem pre_succ (n : Fin 16) (f : Fin 4096 → ℝ) : pre (n.val + 1) f = pre n.val f + ∑ s, f (rix n s) := by
  unfold pre
  rw [sum_blocks, sum_blocks (fun S => if S.val < 256 * n.val then f S else 0)]
  have : (∑ s, f (rix n s)) = ∑ j, if j = n then ∑ s, f (rix j s) else 0 := by
    rw [Finset.sum_ite_eq' Finset.univ n]; simp
  rw [this, ← Finset.sum_add_distrib]
  refine Finset.sum_congr rfl fun j _ => ?_
  by_cases hj : j = n
  · subst hj
    rw [if_pos rfl]
    rw [Finset.sum_eq_zero (s := Finset.univ) (f := fun s : Fin 256 => if (rix j s).val < 256 * j.val then f (rix j s) else 0) fun s _ => if_neg (by
      show ¬ 256 * j.val + s.val < 256 * j.val; omega), zero_add]
    refine Finset.sum_congr rfl fun s _ => if_pos ?_
    show 256 * j.val + s.val < 256 * (j.val + 1)
    omega
  · rw [if_neg hj, add_zero]
    have hj' : j.val ≠ n.val := fun h => hj (Fin.ext h)
    refine Finset.sum_congr rfl fun s _ => ?_
    have e : (rix j s).val < 256 * (n.val + 1) ↔ (rix j s).val < 256 * n.val := by
      show 256 * j.val + s.val < _ ↔ 256 * j.val + s.val < _
      have := s.isLt
      omega
    simp only [e]

/-- The columns past one of block `j`: those of the block, then the later blocks'. -/
theorem sum_after (j : Fin 16) (s : Fin 256) (f : Fin 4096 → ℝ) :
    (∑ S, if (rix j s).val < S.val then f S else 0) = (∑ s', if s.val < s'.val then f (rix j s') else 0) + ∑ S, if (rix j ⟨255, by decide⟩).val < S.val then f S else 0 := by
  rw [sum_blocks, sum_blocks (fun S => if (rix j ⟨255, by decide⟩).val < S.val then f S else 0)]
  have : (∑ s' : Fin 256, if s.val < s'.val then f (rix j s') else 0) = ∑ j', if j' = j then ∑ s' : Fin 256, (if s.val < s'.val then f (rix j' s') else 0) else 0 := by
    rw [Finset.sum_ite_eq' Finset.univ j]; simp
  rw [this, ← Finset.sum_add_distrib]
  refine Finset.sum_congr rfl fun j' _ => ?_
  have hs := s.isLt
  by_cases hj : j' = j
  · subst hj
    rw [if_pos rfl]
    rw [Finset.sum_eq_zero (s := Finset.univ) (f := fun s' : Fin 256 => if (rix j' ⟨255, by decide⟩).val < (rix j' s').val then f (rix j' s') else 0) fun s' _ => if_neg (by
      show ¬ 256 * j'.val + 255 < 256 * j'.val + s'.val; omega), add_zero]
    refine Finset.sum_congr rfl fun s' _ => ?_
    have e : (rix j' s).val < (rix j' s').val ↔ s.val < s'.val := by
      show 256 * j'.val + s.val < 256 * j'.val + s'.val ↔ _
      omega
    simp only [e]
  · rw [if_neg hj, zero_add]
    have hj' : j'.val ≠ j.val := fun h => hj (Fin.ext h)
    refine Finset.sum_congr rfl fun s' _ => ?_
    have e : (rix j s).val < (rix j' s').val ↔ (rix j ⟨255, by decide⟩).val < (rix j' s').val := by
      show 256 * j.val + s.val < 256 * j'.val + s'.val ↔ 256 * j.val + 255 < 256 * j'.val + s'.val
      have := s'.isLt
      omega
    simp only [e]

/-- The columns before one of block `j`: the earlier blocks', then those of the block. -/
theorem sum_before (j : Fin 16) (s : Fin 256) (f : Fin 4096 → ℝ) :
    (∑ S, if S.val < (rix j s).val then f S else 0) = (∑ s', if s'.val < s.val then f (rix j s') else 0) + pre j.val f := by
  unfold pre
  rw [sum_blocks, sum_blocks (fun S => if S.val < 256 * j.val then f S else 0)]
  have : (∑ s' : Fin 256, if s'.val < s.val then f (rix j s') else 0) = ∑ j', if j' = j then ∑ s' : Fin 256, (if s'.val < s.val then f (rix j' s') else 0) else 0 := by
    rw [Finset.sum_ite_eq' Finset.univ j]; simp
  rw [this, ← Finset.sum_add_distrib]
  refine Finset.sum_congr rfl fun j' _ => ?_
  have hs := s.isLt
  by_cases hj : j' = j
  · subst hj
    rw [if_pos rfl]
    rw [Finset.sum_eq_zero (s := Finset.univ) (f := fun s' : Fin 256 => if (rix j' s').val < 256 * j'.val then f (rix j' s') else 0) fun s' _ => if_neg (by
      show ¬ 256 * j'.val + s'.val < 256 * j'.val; omega), add_zero]
    refine Finset.sum_congr rfl fun s' _ => ?_
    have e : (rix j' s').val < (rix j' s).val ↔ s'.val < s.val := by
      show 256 * j'.val + s'.val < 256 * j'.val + s.val ↔ _
      omega
    simp only [e]
  · rw [if_neg hj, zero_add]
    have hj' : j'.val ≠ j.val := fun h => hj (Fin.ext h)
    refine Finset.sum_congr rfl fun s' _ => ?_
    have e : (rix j' s').val < (rix j s).val ↔ (rix j' s').val < 256 * j.val := by
      show 256 * j'.val + s'.val < 256 * j.val + s.val ↔ 256 * j'.val + s'.val < 256 * j.val
      have := s'.isLt
      omega
    simp only [e]

section
variable (Qa Oa Ka Va : Fin 4096 → Fin 128 → ℝ) (h : Fin 2)

/-- Head `h`'s lanes. -/
def hd (X : Fin 4096 → Fin 128 → ℝ) (R : Fin 4096) (c : Fin 128) : ℝ := if c.val / 64 = h.val then X R c else 0
def blk (i : Fin 16) (X : Fin 4096 → Fin 128 → ℝ) : Fin 256 → Fin 128 → ℝ := fun r c => X (rix i r) c

/-- Scores; the weights; the weights' gradient times the weights; the scores' gradient. -/
def gz (R S : Fin 4096) : ℝ := ∑ c, hd h Qa R c * hd h Ka S c
def gls (R S : Fin 4096) : ℝ := gz Qa Ka h R S - spr (gz Qa Ka h R S)
def gstay (R S : Fin 4096) : ℝ := if S.val < R.val then - spr (gz Qa Ka h R S) else 0
def gbtw (R S : Fin 4096) : ℝ := ∑ S', if S.val < S'.val then gstay Qa Ka h R S' else 0
def gw (R S : Fin 4096) : ℝ := if S.val < R.val then Real.exp (gls Qa Ka h R S + gbtw Qa Ka h R S) else 0
def gg (R S : Fin 4096) : ℝ := gw Qa Ka h R S * ∑ c, hd h Oa R c * hd h Va S c
def gpre (R S : Fin 4096) : ℝ := ∑ S', if S'.val < S.val then gg Qa Oa Ka Va h R S' else 0
def gd (R S : Fin 4096) : ℝ := if S.val < R.val then gg Qa Oa Ka Va h R S * (1 - Real.exp (gls Qa Ka h R S))
  - gpre Qa Oa Ka Va h R S * Real.exp (gls Qa Ka h R S) else 0

theorem mask_blk (i : Fin 16) (X : Fin 4096 → Fin 128 → ℝ) (r : Fin 256) (c : Fin 128) : mask h (blk i X) r c = hd h X (rix i r) c := rfl

theorem cutr_blk (i j : Fin 16) (hij : j ≤ i) (x : Fin 256 → Fin 256 → ℝ) (r s : Fin 256) :
    cutr (decide (j = i)) x r s = if (rix j s).val < (rix i r).val then x r s else 0 := by
  unfold cutr
  have hs := s.isLt
  by_cases hd : j = i
  · subst hd
    rw [if_pos (decide_eq_true rfl)]
    have e : (rix j s).val < (rix j r).val ↔ s.val < r.val := by
      show 256 * j.val + s.val < 256 * j.val + r.val ↔ _
      omega
    simp only [e]
  · rw [if_neg (by simpa using hd), if_pos]
    have : j.val < i.val := lt_of_le_of_ne hij fun h => hd (Fin.ext h)
    show 256 * j.val + s.val < 256 * i.val + r.val
    omega

variable (i j : Fin 16) (hij : j ≤ i) (run : Fin 2 → Fin 256 → ℝ) (hrun : ∀ h r, run h r = gbtw Qa Ka h (rix i r) (rix j ⟨255, by decide⟩))
include hij hrun

theorem tw_blk (r s : Fin 256) : tw (decide (j = i)) (blk i Qa) (blk j Ka) run h r s = gw Qa Ka h (rix i r) (rix j s) := by
  unfold tw gw
  rw [cutr_blk i j hij]
  refine if_congr Iff.rfl (congrArg Real.exp ?_) rfl
  show gls Qa Ka h (rix i r) (rix j s) + _ = _
  refine congrArg (gls Qa Ka h (rix i r) (rix j s) + ·) ?_
  unfold gbtw
  rw [sum_after, hrun]
  refine congrArg₂ (· + ·) (Finset.sum_congr rfl fun s' _ => ?_) rfl
  unfold tst
  rw [cutr_blk i j hij]
  rfl

theorem tg_blk (r s : Fin 256) : tg (decide (j = i)) (blk i Qa) (blk i Oa) (blk j Ka) (blk j Va) run h r s = gg Qa Oa Ka Va h (rix i r) (rix j s) := by
  unfold tg gg
  rw [tw_blk Qa Ka h i j hij run hrun]
  rfl

theorem td_blk (r s : Fin 256) : td (decide (j = i)) (blk i Qa) (blk i Oa) (blk j Ka) (blk j Va) run h (fun r => pre j.val (gg Qa Oa Ka Va h (rix i r))) r s
    = gd Qa Oa Ka Va h (rix i r) (rix j s) := by
  unfold td gd
  rw [cutr_blk i j hij]
  refine if_congr Iff.rfl ?_ rfl
  rw [tg_blk Qa Oa Ka Va h i j hij run hrun]
  unfold gpre
  rw [sum_before]
  simp only [tg_blk Qa Oa Ka Va h i j hij run hrun]
  rfl
end

section
variable (Qa Oa Ka Va : Fin 4096 → Fin 128 → ℝ) (i : Fin 16) (A8 A9 : Fin 4096 → Fin 128 → ℝ)

/-- A row of the query gradient, by column; a query block's part of a row of the key gradient and of the value gradient. -/
def qpart (R : Fin 4096) (c : Fin 128) (S : Fin 4096) : ℝ := gd Qa Oa Ka Va 0 R S * hd 0 Ka S c + gd Qa Oa Ka Va 1 R S * hd 1 Ka S c
def kpart (S : Fin 4096) (c : Fin 128) : ℝ := ∑ r, gd Qa Oa Ka Va 0 (rix i r) S * hd 0 Qa (rix i r) c + ∑ r, gd Qa Oa Ka Va 1 (rix i r) S * hd 1 Qa (rix i r) c
def vpart (S : Fin 4096) (c : Fin 128) : ℝ := ∑ r, gw Qa Ka 0 (rix i r) S * hd 0 Oa (rix i r) c + ∑ r, gw Qa Ka 1 (rix i r) S * hd 1 Oa (rix i r) c

/-- What a grid point carries after `n` of its key blocks. -/
def after (n : ℕ) : State Ideal :=
  ((co fun r (_ : Fin 1) => pre n (gg Qa Oa Ka Va 0 (rix i r)), co fun r (_ : Fin 1) => pre n (gg Qa Oa Ka Va 1 (rix i r)), co fun r c => pre n (qpart Qa Oa Ka Va (rix i r) c)),
    co (φ := .f32) fun S c => A8 S c + if S.val < 256 * n then kpart Qa Oa Ka Va i S c else 0,
    co (φ := .f32) fun S c => A9 S c + if S.val < 256 * n then vpart Qa Oa Ka i S c else 0)

theorem rows_co (n : ℕ) (hn : n < 16) (X : Fin 4096 → Fin 128 → ℝ) : rows (F := Ideal) (e := .f32) (Fin.ofNat 16 n) (co (φ := .f32) X) = co (φ := .f32) (blk ⟨n, hn⟩ X) := by
  funext y
  unfold rows co blk
  refine congrArg (fun x : ℝ => (x : EReal)) (congrArg (X · _) (Fin.ext ?_))
  show 256 * (n % 16) + _ = 256 * n + _
  rw [Nat.mod_eq_of_lt hn]

theorem rows_co16 (n : ℕ) (hn : n < 16) (X : Fin 4096 → Fin 128 → ℝ) : rows (F := Ideal) (e := .bf16) (Fin.ofNat 16 n) (co (φ := .bf16) X) = co (φ := .bf16) (blk ⟨n, hn⟩ X) := by
  funext y
  unfold rows co blk
  refine congrArg (fun x : ℝ => (x : EReal)) (congrArg (X · _) (Fin.ext ?_))
  show 256 * (n % 16) + _ = 256 * n + _
  rw [Nat.mod_eq_of_lt hn]

theorem put_co (n : ℕ) (hn : n < 16) (w : Fin 256 → Fin 128 → ℝ) (X : Fin 4096 → Fin 128 → ℝ) :
    put (F := Ideal) (Fin.ofNat 16 n) (co (φ := .f32) w) (co (φ := .f32) X) = co (φ := .f32) fun S c => if S.val / 256 = n then w ⟨S.val % 256, Nat.mod_lt _ (by decide)⟩ c else X S c := by
  funext y
  unfold put co
  rw [Fin.val_ofNat, Nat.mod_eq_of_lt hn]
  exact (apply_ite (fun x : ℝ => (x : EReal)) _ _ _).symm

theorem put_add (n : Fin 16) (A w : Fin 4096 → Fin 128 → ℝ) (S : Fin 4096) (c : Fin 128) :
    (if S.val / 256 = n.val then (A (rix n ⟨S.val % 256, Nat.mod_lt _ (by decide)⟩) c + if (rix n ⟨S.val % 256, Nat.mod_lt _ (by decide)⟩).val < 256 * n.val then w (rix n ⟨S.val % 256, Nat.mod_lt _ (by decide)⟩) c else 0)
        + w (rix n ⟨S.val % 256, Nat.mod_lt _ (by decide)⟩) c
      else A S c + if S.val < 256 * n.val then w S c else 0) = A S c + if S.val < 256 * (n.val + 1) then w S c else 0 := by
  by_cases hS : S.val / 256 = n.val
  · have e : rix n ⟨S.val % 256, Nat.mod_lt _ (by decide)⟩ = S := Fin.ext (by show 256 * n.val + S.val % 256 = S.val; omega)
    rw [if_pos hS, e, if_neg (by omega), if_pos (by omega), add_zero]
  · rw [if_neg hS]
    have e : S.val < 256 * (n.val + 1) ↔ S.val < 256 * n.val := by omega
    simp only [e]

theorem step_after (ru : Fin 2 → Fin 256 → Fin 128 → ℝ)
    (hru : ∀ h r (j : Fin 16), ru h r ⟨j.val, by omega⟩ = gbtw Qa Ka h (rix i r) (rix j ⟨255, by decide⟩)) (n : ℕ) (hn : n < 16) (hni : n ≤ i.val) :
    step (qry (blk i Qa) (blk i Oa) ru) (decide ((⟨n, hn⟩ : Fin 16) = i)) (co (φ := .bf16) Ka) (co (φ := .bf16) Va) n (after Qa Oa Ka Va i A8 A9 n) = after Qa Oa Ka Va i A8 A9 (n + 1) := by
  have hw := fun h => tw_blk Qa Ka h i ⟨n, hn⟩ hni (runj ru n (by omega)) fun h r => hru h r ⟨n, hn⟩
  have hg := fun h => tg_blk Qa Oa Ka Va h i ⟨n, hn⟩ hni (runj ru n (by omega)) fun h r => hru h r ⟨n, hn⟩
  have hd' := fun h => td_blk Qa Oa Ka Va h i ⟨n, hn⟩ hni (runj ru n (by omega)) fun h r => hru h r ⟨n, hn⟩
  dsimp only at hd'
  unfold step
  dsimp only [after]
  rw [rows_co16 n hn, rows_co16 n hn, rows_co n hn, rows_co n hn]
  rw [carry_co _ _ _ _ _ _ n (by omega), dkey_co _ _ _ _ _ _ n (by omega), dval_co _ _ _ _ _ n (by omega), put_co n hn, put_co n hn]
  simp only [hw, hg, hd', mask_blk]
  refine Prod.ext (Prod.ext ?_ (Prod.ext ?_ ?_)) (Prod.ext ?_ ?_)
  all_goals dsimp only
  · exact congrArg (co (φ := .f32)) (funext fun r => funext fun _ => (pre_succ ⟨n, hn⟩ _).symm)
  · exact congrArg (co (φ := .f32)) (funext fun r => funext fun _ => (pre_succ ⟨n, hn⟩ _).symm)
  · refine congrArg (co (φ := .f32)) (funext fun r => funext fun c => ?_)
    rw [add_assoc, ← Finset.sum_add_distrib]
    exact (pre_succ ⟨n, hn⟩ (qpart Qa Oa Ka Va (rix i r) c)).symm
  · exact congrArg (co (φ := .f32)) (funext fun S => funext fun c => put_add ⟨n, hn⟩ A8 (kpart Qa Oa Ka Va i) S c)
  · exact congrArg (co (φ := .f32)) (funext fun S => funext fun c => put_add ⟨n, hn⟩ A9 (vpart Qa Oa Ka i) S c)

theorem steps_after (ru : Fin 2 → Fin 256 → Fin 128 → ℝ)
    (hru : ∀ h r (j : Fin 16), ru h r ⟨j.val, by omega⟩ = gbtw Qa Ka h (rix i r) (rix j ⟨255, by decide⟩)) : ∀ n, n ≤ i.val →
    steps (qry (blk i Qa) (blk i Oa) ru) (co (φ := .bf16) Ka) (co (φ := .bf16) Va) n (after Qa Oa Ka Va i A8 A9 0) = after Qa Oa Ka Va i A8 A9 n
  | 0, _ => rfl
  | n + 1, hn => by
    unfold steps
    rw [steps_after ru hru n (by omega)]
    have := step_after Qa Oa Ka Va i A8 A9 ru hru n (by omega) (by omega)
    rwa [decide_eq_false (fun h : (⟨n, _⟩ : Fin 16) = i => by have := congrArg Fin.val h; dsimp only at this; omega)] at this

/-- A whole grid point: the query gradient's rows, and its parts of the key and the value gradients. -/
theorem point_after (ru : Fin 2 → Fin 256 → Fin 128 → ℝ)
    (hru : ∀ h r (j : Fin 16), ru h r ⟨j.val, by omega⟩ = gbtw Qa Ka h (rix i r) (rix j ⟨255, by decide⟩)) :
    let r := step (qry (blk i Qa) (blk i Oa) ru) true (co (φ := .bf16) Ka) (co (φ := .bf16) Va) i.val (steps (qry (blk i Qa) (blk i Oa) ru) (co (φ := .bf16) Ka) (co (φ := .bf16) Va) i.val (after Qa Oa Ka Va i A8 A9 0))
    r.1.2.2 = co (fun r c => ∑ S, qpart Qa Oa Ka Va (rix i r) c S) ∧ r.2.1 = co (φ := .f32) (fun S c => A8 S c + kpart Qa Oa Ka Va i S c) ∧ r.2.2 = co (φ := .f32) (fun S c => A9 S c + vpart Qa Oa Ka i S c) := by
  intro r
  have e : r = after Qa Oa Ka Va i A8 A9 (i.val + 1) := by
    unfold r
    rw [steps_after Qa Oa Ka Va i A8 A9 ru hru i.val le_rfl]
    have := step_after Qa Oa Ka Va i A8 A9 ru hru i.val i.isLt le_rfl
    rwa [decide_eq_true rfl] at this
  rw [e]
  dsimp only [after]
  have hz : ∀ h (R S : Fin 4096), ¬ S.val < R.val → gd Qa Oa Ka Va h R S = 0 := fun h R S hn => if_neg hn
  have hw : ∀ h (R S : Fin 4096), ¬ S.val < R.val → gw Qa Ka h R S = 0 := fun h R S hn => if_neg hn
  refine ⟨congrArg (co (φ := .f32)) (funext fun r => funext fun c => ?_), congrArg (co (φ := .f32)) (funext fun S => funext fun c => congrArg (A8 S c + ·) ?_), congrArg (co (φ := .f32)) (funext fun S => funext fun c => congrArg (A9 S c + ·) ?_)⟩
  · unfold pre
    refine Finset.sum_congr rfl fun S _ => ?_
    split_ifs with hS
    · rfl
    · have hn : ¬ S.val < (rix i r).val := by show ¬ S.val < 256 * i.val + r.val; omega
      unfold qpart
      rw [hz 0 _ _ hn, hz 1 _ _ hn, zero_mul, zero_mul, add_zero]
  · split_ifs with hS
    · rfl
    · unfold kpart
      symm
      rw [Finset.sum_eq_zero, Finset.sum_eq_zero, add_zero]
      all_goals intro r _; rw [hz _ _ _ (by show ¬ S.val < 256 * i.val + r.val; omega), zero_mul]
  · split_ifs with hS
    · rfl
    · unfold vpart
      symm
      rw [Finset.sum_eq_zero, Finset.sum_eq_zero, add_zero]
      all_goals intro r _; rw [hw _ _ _ (by show ¬ S.val < 256 * i.val + r.val; omega), zero_mul]
end

end Cert.Kernel2Ideal.Att
end
-- ==== Proof.AttOuts.lean ====
module

public import proofs.«01_k».proof.Proof.AttSum

@[expose] public section

set_option maxRecDepth 16384

noncomputable section

namespace Cert.Kernel2Ideal.Att

open Idealize.ShloMosaic Idealize.ShloMosaic.TcCoe Idealize.ShloMosaic.Tactic
open Gen

variable (m : (ℓ : Loc nD τ sig) → Buf (Elt Ideal) ℓ)

/-! What each grid point leaves, over real numbers, with every key block visited. -/

theorem trips1 : ∀ t : Fin cfg0.N, (k0_t1_loop (grid0.coords t) 0#32).trips = (t.val % 16 - 1) / 2 := (by decide +kernel : ∀ t : Fin grid0.N, _)
theorem trips2 : ∀ t : Fin cfg0.N, (k0_t2_loop (grid0.coords t) 0#32).trips = 0 := (by decide +kernel : ∀ t : Fin grid0.N, _)
theorem second_iff : ∀ t : Fin cfg0.N, (k0_cond2 (grid0.coords t) 0#32 = 1#1 ↔ 2 ≤ t.val % 16 ∧ t.val % 2 = 0) := (by decide +kernel : ∀ t : Fin grid0.N, _)

theorem bits_pos_zero : (FloatOps.ofBits (F := Ideal) .f32 0x00000000#32) = ((0 : ℝ) : EReal) := bits_zero

theorem after_zero (Qa Oa Ka Va : Fin 4096 → Fin 128 → ℝ) (i : Fin 16) (A8 A9 : Fin 4096 → Fin 128 → ℝ) :
    after Qa Oa Ka Va i A8 A9 0 = ((k0_pay249 (F := Ideal), k0_pay250 (F := Ideal), k0_pay251 (F := Ideal)), co (φ := .f32) A8, co (φ := .f32) A9) := by
  unfold after
  simp only [pre_zero, Nat.mul_zero, Nat.not_lt_zero, if_false, add_zero]
  refine Prod.ext (Prod.ext ?_ (Prod.ext ?_ ?_)) rfl
  all_goals exact funext fun y => bits_pos_zero.symm

theorem pay236_co : k0_pay236 (F := Ideal) = co (φ := .f32) fun _ _ => 0 := funext fun y => bits_pos_zero
theorem pay237_co : k0_pay237 (F := Ideal) = co (φ := .f32) fun _ _ => 0 := funext fun y => bits_pos_zero

/-- A query block's row sums past each key block. -/
def Sums (Qa Ka : Fin 4096 → Fin 128 → ℝ) (i : Fin 16) (ru : Fin 2 → Fin 256 → Fin 128 → ℝ) : Prop :=
  ∀ h r (j : Fin 16), ru h r ⟨j.val, by omega⟩ = gbtw Qa Ka h (rix i r) (rix j ⟨255, by decide⟩)

section
variable (Qa Oa Ka Va : Fin 4096 → Fin 128 → ℝ) (i : Fin 16) (A8 A9 : Fin 4096 → Fin 128 → ℝ) (ru : Fin 2 → Fin 256 → Fin 128 → ℝ)
  (hru : Sums Qa Ka i ru)
  (c : Dev nD) (t : Fin cfg0.N) (hi : i.val = t.val % 16)
  (h0 : iblk m c 0 t = co (φ := .bf16) (blk i Qa)) (h1 : iblk m c 1 t = co (φ := .bf16) Ka) (h2 : iblk m c 2 t = co (φ := .bf16) Va)
  (h3 : iblk m c 3 t = co (φ := .f32) (blk i Oa)) (h4 : iblk m c 4 t = co3 ru)
include hru hi h0 h1 h2 h3 h4

/-- What one grid point leaves, its key blocks visited in order. -/
theorem point_at : ∀ r, r = step (query (iblk m c 0 t) (iblk m c 3 t) (iblk m c 4 t)) true (iblk m c 1 t) (iblk m c 2 t) (grid0.coords t 1).val
      (steps (query (iblk m c 0 t) (iblk m c 3 t) (iblk m c 4 t)) (iblk m c 1 t) (iblk m c 2 t) (grid0.coords t 1).val
        ((k0_pay249 (F := Ideal), k0_pay250 (F := Ideal), k0_pay251 (F := Ideal)), co (φ := .f32) A8, co (φ := .f32) A9)) →
    r.1.2.2 = co (φ := .f32) (fun r c => ∑ S, qpart Qa Oa Ka Va (rix i r) c S) ∧ r.2.1 = co (φ := .f32) (fun S c => A8 S c + kpart Qa Oa Ka Va i S c) ∧ r.2.2 = co (φ := .f32) (fun S c => A9 S c + vpart Qa Oa Ka i S c) := by
  rw [h0, h1, h2, h3, h4, coords_one t, ← hi, ← after_zero Qa Oa Ka Va i A8 A9]
  rintro r rfl
  exact point_after Qa Oa Ka Va i A8 A9 ru hru

set_option maxHeartbeats 1600000 in
theorem out_at (hA : i.val = 0 → A8 = (fun _ _ => 0) ∧ A9 = (fun _ _ => 0)) : out m (starts_ideal m) c t (co (φ := .f32) A8) (co (φ := .f32) A9)
    = (co (φ := .f32) (fun r c => ∑ S, qpart Qa Oa Ka Va (rix i r) c S), co (φ := .f32) (fun S c => A8 S c + kpart Qa Oa Ka Va i S c), co (φ := .f32) (fun S c => A9 S c + vpart Qa Oa Ka i S c)) := by
  have hp := point_at m Qa Oa Ka Va i A8 A9 ru hru c t hi h0 h1 h2 h3 h4 _ rfl
  have hs : startAt m c t = 0#32 := start_ideal m c t
  have hc := coords_one t
  have e1 := trips1 t
  have e2 := trips2 t
  have e3 := second_iff t
  unfold out
  split_ifs with hz hb
  · obtain ⟨q8, q9⟩ := hA (hi.trans hz)
    subst q8 q9
    have hr := runA_steps c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
      (iblk m c 0 t) (iblk m c 1 t) (iblk m c 2 t) (iblk m c 3 t) (iblk m c 4 t) (point_of m (starts_ideal m) c t True False (by simp [hz]) (by simp [even_first m (starts_ideal m) c t hz])) hs (hc.trans hz) 0 rfl (by rw [e1, hz]) e2
    rw [pay236_co, pay237_co] at hr
    obtain ⟨g1, g2, g3⟩ := hr
    have g1 := g1.trans hp.1
    have g2 := g2.trans hp.2.1
    have g3 := g3.trans hp.2.2
    refine Prod.ext ?_ (Prod.ext ?_ ?_)
    · exact g1
    · exact g2
    · exact g3
  · have hb' := hb
    rw [hs, e3] at hb'
    have hr := runB_steps c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
      (iblk m c 0 t) (iblk m c 1 t) (iblk m c 2 t) (iblk m c 3 t) (iblk m c 4 t) (co (φ := .f32) A8) (co (φ := .f32) A9) (point_of m (starts_ideal m) c t False True (by simp [hz]) (by simp [hb])) hs (by rw [hc]; exact hb'.1) ((t.val % 16 - 1) / 2) (by rw [hc]; omega) e1 e2
    obtain ⟨g1, g2, g3⟩ := hr
    have g1 := g1.trans hp.1
    have g2 := g2.trans hp.2.1
    have g3 := g3.trans hp.2.2
    refine Prod.ext ?_ (Prod.ext ?_ ?_)
    · exact g1
    · exact g2
    · exact g3
  · have hb' := hb
    rw [hs, e3] at hb'
    have hr := runC_steps c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
      (iblk m c 0 t) (iblk m c 1 t) (iblk m c 2 t) (iblk m c 3 t) (iblk m c 4 t) (co (φ := .f32) A8) (co (φ := .f32) A9) (point_of m (starts_ideal m) c t False False (by simp [hz]) (by simp [hb])) hs (by rw [hc]; omega) ((t.val % 16 - 1) / 2) (by rw [hc]; omega) e1 e2
    obtain ⟨g1, g2, g3⟩ := hr
    have g1 := g1.trans hp.1
    have g2 := g2.trans hp.2.1
    have g3 := g3.trans hp.2.2
    refine Prod.ext ?_ (Prod.ext ?_ ?_)
    · exact g1
    · exact g2
    · exact g3
end

end Cert.Kernel2Ideal.Att
end
-- ==== Proof.AttGrid.lean ====
module

public import proofs.«01_k».proof.Proof.AttOuts

@[expose] public section

set_option maxRecDepth 16384

noncomputable section

namespace Cert.Kernel2Ideal.Att

open Idealize.ShloMosaic Idealize.ShloMosaic.TcCoe Idealize.ShloMosaic.Tactic
open Idealize.ShloMosaic.Pipeline (Dat Cfg Window)
open Gen

variable (m : (ℓ : Loc nD τ sig) → Buf (Elt Ideal) ℓ)

/-! The three result arrays of the call, over real numbers. -/

/-- The pair of heads and the query block of a grid point. -/
def pairOf (t : Fin cfg0.N) : Fin 8 := ⟨t.val / 16, by have : t.val < 128 := t.isLt; omega⟩
def blockOf (t : Fin cfg0.N) : Fin 16 := ⟨t.val % 16, Nat.mod_lt _ (by decide)⟩

/-- The sum over the query blocks up to one. -/
def upto (n : ℕ) (f : Fin 16 → ℝ) : ℝ := ∑ i : Fin 16, if i.val ≤ n then f i else 0

theorem upto_zero (f : Fin 16 → ℝ) : upto 0 f = f 0 := by
  unfold upto
  rw [Finset.sum_eq_single (0 : Fin 16) (fun i _ h => if_neg fun h' => h (Fin.ext (Nat.le_zero.mp h'))) fun h => absurd (Finset.mem_univ _) h]
  exact if_pos le_rfl

theorem upto_succ (n : ℕ) (hn : n + 1 < 16) (f : Fin 16 → ℝ) : upto (n + 1) f = upto n f + f ⟨n + 1, hn⟩ := by
  unfold upto
  have : f ⟨n + 1, hn⟩ = ∑ i : Fin 16, if i = ⟨n + 1, hn⟩ then f i else 0 := by
    rw [Finset.sum_ite_eq' Finset.univ]; simp
  rw [this, ← Finset.sum_add_distrib]
  refine Finset.sum_congr rfl fun i _ => ?_
  by_cases hi : i = ⟨n + 1, hn⟩
  · subst hi
    rw [if_pos le_rfl, if_neg (by simp), if_pos rfl, zero_add]
  · have hv : i.val ≠ n + 1 := fun h => hi (Fin.ext h)
    rw [if_neg hi, add_zero]
    have e : i.val ≤ n + 1 ↔ i.val ≤ n := by omega
    simp only [e]

theorem upto_all (f : Fin 16 → ℝ) : upto 15 f = ∑ i, f i :=
  Finset.sum_congr rfl fun i _ => if_pos (by omega)

/-- A column's pair and its lane there. -/
def colPair (C : Fin 1024) : Fin 8 := ⟨C.val / 128, by omega⟩
def colLane (C : Fin 1024) : Fin 128 := ⟨C.val % 128, Nat.mod_lt _ (by decide)⟩

/-- A block of pairs' arrays is the block of the whole array. -/
theorem at_col (G : Fin 8 → Fin 4096 → Fin 128 → ℝ) (R R' : Fin 4096) (C : Fin 1024) (p : Fin 8) (l : Fin 128) (hR : R.val = R'.val) (hC : C.val = p.val * 128 + l.val) :
    ((G p R' l : ℝ) : EReal) = ((G (colPair C) R (colLane C) : ℝ) : EReal) := by
  have h1 : colPair C = p := Fin.ext (by show C.val / 128 = _; omega)
  have h2 : colLane C = l := Fin.ext (by show C.val % 128 = _; omega)
  rw [h1, h2, Fin.ext hR]

theorem idx5 : ∀ t : Fin cfg0.N, win0_5.index t = ![t.val % 16, t.val / 16] ∧ win0_6.index t = ![0, t.val / 16] ∧ win0_7.index t = ![0, t.val / 16] :=
  (by decide +kernel : ∀ t : Fin grid0.N, _)

section
variable (Qa Oa Ka Va : Fin 8 → Fin 4096 → Fin 128 → ℝ) (ru : Fin 8 → Fin 16 → Fin 2 → Fin 256 → Fin 128 → ℝ) (c : Dev nD)

/-- The blocks the call finds hold the pairs' arrays and, for every key block, the row sums past it. -/
structure Finds : Prop where
  sums : ∀ p i, Sums (Qa p) (Ka p) i (ru p i)
  q : ∀ t, iblk m c 0 t = co (φ := .bf16) (blk (blockOf t) (Qa (pairOf t)))
  k : ∀ t, iblk m c 1 t = co (φ := .bf16) (Ka (pairOf t))
  v : ∀ t, iblk m c 2 t = co (φ := .bf16) (Va (pairOf t))
  o : ∀ t, iblk m c 3 t = co (φ := .f32) (blk (blockOf t) (Oa (pairOf t)))
  r : ∀ t, iblk m c 4 t = co3 (ru (pairOf t) (blockOf t))

variable (H : Finds m Qa Oa Ka Va ru c)
include H

theorem outs_at (n : ℕ) (hn : n < cfg0.N) : outsAt m (starts_ideal m) c n hn
    = (co (φ := .f32) (fun r l => ∑ S, qpart (Qa (pairOf ⟨n, hn⟩)) (Oa (pairOf ⟨n, hn⟩)) (Ka (pairOf ⟨n, hn⟩)) (Va (pairOf ⟨n, hn⟩)) (rix (blockOf ⟨n, hn⟩) r) l S),
      co (φ := .f32) (fun S l => upto (n % 16) fun i => kpart (Qa (pairOf ⟨n, hn⟩)) (Oa (pairOf ⟨n, hn⟩)) (Ka (pairOf ⟨n, hn⟩)) (Va (pairOf ⟨n, hn⟩)) i S l),
      co (φ := .f32) (fun S l => upto (n % 16) fun i => vpart (Qa (pairOf ⟨n, hn⟩)) (Oa (pairOf ⟨n, hn⟩)) (Ka (pairOf ⟨n, hn⟩)) i S l)) := by
  induction n with
  | zero =>
    rw [show outsAt m (starts_ideal m) c 0 hn = _ from outsAt_first m (starts_ideal m) c ⟨0, hn⟩ rfl (co (φ := .f32) fun _ _ => 0) (co (φ := .f32) fun _ _ => 0)]
    rw [out_at m _ _ _ _ (blockOf ⟨0, hn⟩) _ _ _ (H.sums (pairOf ⟨0, hn⟩) (blockOf ⟨0, hn⟩)) c ⟨0, hn⟩ rfl (H.q _) (H.k _) (H.v _) (H.o _) (H.r _) fun _ => ⟨rfl, rfl⟩]
    simp only [zero_add, Nat.zero_mod, upto_zero]
    rfl
  | succ n ih =>
    have ih := ih (Nat.lt_of_succ_lt hn)
    by_cases h0 : (n + 1) % 16 = 0
    · rw [show outsAt m (starts_ideal m) c (n + 1) hn = _ from outsAt_first m (starts_ideal m) c ⟨n + 1, hn⟩ h0 (co (φ := .f32) fun _ _ => 0) (co (φ := .f32) fun _ _ => 0)]
      rw [out_at m _ _ _ _ (blockOf ⟨n + 1, hn⟩) _ _ _ (H.sums (pairOf ⟨n + 1, hn⟩) (blockOf ⟨n + 1, hn⟩)) c ⟨n + 1, hn⟩ rfl (H.q _) (H.k _) (H.v _) (H.o _) (H.r _) fun _ => ⟨rfl, rfl⟩]
      have hb : blockOf ⟨n + 1, hn⟩ = 0 := Fin.ext h0
      simp only [zero_add, h0, upto_zero, hb]
    · have hp : pairOf ⟨n, Nat.lt_of_succ_lt hn⟩ = pairOf ⟨n + 1, hn⟩ := Fin.ext (by show n / 16 = (n + 1) / 16; omega)
      have hb : (n + 1) % 16 = n % 16 + 1 := by omega
      rw [show outsAt m (starts_ideal m) c (n + 1) hn = _ from outsAt_pos m (starts_ideal m) c ⟨n + 1, hn⟩ (Nat.succ_ne_zero n)]
      simp only [Nat.add_sub_cancel]
      rw [ih, hp]
      dsimp only
      rw [out_at m _ _ _ _ (blockOf ⟨n + 1, hn⟩) _ _ _ (H.sums (pairOf ⟨n + 1, hn⟩) (blockOf ⟨n + 1, hn⟩)) c ⟨n + 1, hn⟩ rfl (H.q _) (H.k _) (H.v _) (H.o _) (H.r _) fun h => absurd h h0]
      have hb' : blockOf ⟨n + 1, hn⟩ = ⟨n % 16 + 1, by omega⟩ := Fin.ext hb
      simp only [hb, upto_succ _ (show n % 16 + 1 < 16 by omega), hb']

theorem dq_arr : (dats m (starts_ideal m) 0 c).arrAt 5 cfg0.N
    = co (φ := .f32) fun R C => ∑ S, qpart (Qa (colPair C)) (Oa (colPair C)) (Ka (colPair C)) (Va (colPair C)) R (colLane C) S := by
  refine (dats m (starts_ideal m) 0 c).arrAt_eq_of_covers 5 _ (by decide +kernel) fun t _ y => ?_
  blk_simp
  rw [after5, outs_at m Qa Oa Ka Va ru c H]
  dsimp only
  refine at_col (fun p R l => ∑ S, qpart (Qa p) (Oa p) (Ka p) (Va p) R l S) _ (rix (blockOf t) (y 0)) _ (pairOf t) (y 1) ?_ ?_
  · blk_simp
    rw [(idx5 t).1]
    show t.val % 16 * 256 + (y 0).val = 256 * (t.val % 16) + (y 0).val
    omega
  · blk_simp
    rw [(idx5 t).1]
    rfl

theorem dk_arr : (dats m (starts_ideal m) 0 c).arrAt 6 cfg0.N
    = co (φ := .f32) fun S C => ∑ i, kpart (Qa (colPair C)) (Oa (colPair C)) (Ka (colPair C)) (Va (colPair C)) i S (colLane C) := by
  refine (dats m (starts_ideal m) 0 c).arrAt_eq_of_covers 6 _ (by decide +kernel) fun t hf y => ?_
  have ht : t.val % 16 = 15 := (flush0_6 t).mp hf
  blk_simp
  rw [after6, outs_at m Qa Oa Ka Va ru c H, ht]
  simp only [upto_all]
  refine at_col (fun p S l => ∑ i, kpart (Qa p) (Oa p) (Ka p) (Va p) i S l) _ (y 0) _ (pairOf t) (y 1) ?_ ?_
  · blk_simp
    rw [(idx5 t).2.1]
    show 0 * 4096 + (y 0).val = (y 0).val
    omega
  · blk_simp
    rw [(idx5 t).2.1]
    rfl

theorem dv_arr : (dats m (starts_ideal m) 0 c).arrAt 7 cfg0.N
    = co (φ := .f32) fun S C => ∑ i, vpart (Qa (colPair C)) (Oa (colPair C)) (Ka (colPair C)) i S (colLane C) := by
  refine (dats m (starts_ideal m) 0 c).arrAt_eq_of_covers 7 _ (by decide +kernel) fun t hf y => ?_
  have ht : t.val % 16 = 15 := (flush0_7 t).mp hf
  blk_simp
  rw [after7, outs_at m Qa Oa Ka Va ru c H, ht]
  simp only [upto_all]
  refine at_col (fun p S l => ∑ i, vpart (Qa p) (Oa p) (Ka p) i S l) _ (y 0) _ (pairOf t) (y 1) ?_ ?_
  · blk_simp
    rw [(idx5 t).2.2]
    show 0 * 4096 + (y 0).val = (y 0).val
    omega
  · blk_simp
    rw [(idx5 t).2.2]
    rfl
end

end Cert.Kernel2Ideal.Att
end
-- ==== Proof.AttEntry.lean ====
module

public import proofs.«01_k».proof.Proof.AttGrid
public import Idealize.ShloMosaic.Lib.StableHlo.RunRead

@[expose] public section

set_option maxRecDepth 16384

noncomputable section

namespace Cert.Kernel2Ideal.Att

open Idealize.ShloMosaic Idealize.ShloMosaic.TcCoe Idealize.ShloMosaic.Tactic
open Idealize.ShloMosaic.Pipeline (Dat Cfg Window)
open Gen

/-! The operands the call finds: the host lines before it, as terms of the arguments. -/

abbrev A4 := FVec Ideal S1x16x4096x64 .f32
abbrev Sq := FVec Ideal S1x16x4096x4096 .f32

/-- One row per token, the heads' columns side by side. -/
def flatH (x : A4) : FVec Ideal S4096x1024 .f32 :=
  shapeCast S4096x1024 (transpose S4096x16x64 [1, 0, 2] (shapeCast S16x4096x64 x shapeCasts_S1x16x4096x64_S16x4096x64) transposes_S16x4096x64_S4096x16x64_1_0_2) shapeCasts_S4096x16x64_S4096x1024

def packedH (q k v : A4) : FVec Ideal S4096x3072 .bf16 :=
  truncf .bf16 (concatenate S4096x3072 1 [⟨S4096x1024, flatH (mulf q (broadcastInDim S1x16x4096x64 ![] bcast_S_S1x16x4096x64 (constant S_ .f32 0x3E000000#32)))⟩, ⟨S4096x1024, flatH k⟩, ⟨S4096x1024, flatH v⟩] concatenates_S4096x1024_S4096x1024_S4096x1024_S4096x3072_d1) bitsLt_bf16_f32

def scoresH (q k : A4) : Sq := mulf (Host.dotGeneral dot_S1x16x4096x64_S1x16x4096x64_S1x16x4096x4096_3_3_2_2_01_01 none q k) (broadcastInDim S1x16x4096x4096 ![] bcast_S_S1x16x4096x4096 (constant S_ .f32 0x3E000000#32))

def zeroH : Sq := broadcastInDim S1x16x4096x4096 ![] bcast_S_S1x16x4096x4096 (constant S_ .f32 0x00000000#32)

def softplusH (x : Sq) : Sq :=
  select (cmpf .une (subf x zeroH) (subf x zeroH)) (addf x zeroH) (addf (maximumf x zeroH) (Host.log1p (Host.exp (Host.negf (Host.absf (subf x zeroH))))))

def causalH : IVec S4096x4096 1 :=
  cmpi .slt (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

def stayH (q k : A4) : Sq :=
  select (broadcastInDim S1x16x4096x4096 ![2, 3] bcast_S4096x4096_S1x16x4096x4096_2_3 causalH) (Host.negf (softplusH (Host.negf (Host.negf (scoresH q k))))) zeroH

def betweenH (q k : A4) : Sq :=
  subf (Host.reduceWindowAdd ![1, 1, 1, 4096] ![1, 1, 1, 1] ![0, 0, 0, 0] ![0, 0, 0, 4095] (stayH q k) (broadcastInDim S_ ![] bcast_S_S_ (constant S_ .f32 0x00000000#32)) reduceWindows_S1x16x4096x4096_S1x16x4096x4096_w1s1p0_0_w1s1p0_0_w1s1p0_0_w4096s1p0_4095 h_S_) (stayH q k)

def runsH (q k : A4) : FVec Ideal S256x256x128 .f32 :=
  pad S256x256x128 ![0, 0, 0] ![0, 0, 112] ![0, 0, 0]
    (shapeCast S256x256x16 (transpose S8x16x2x256x16 [0, 2, 1, 3, 4]
      (shapeCast S8x2x16x256x16 (extractStridedSlice S8x2x16x256x16x1 ![0, 0, 0, 0, 0, 255] (shapeCast S8x2x16x256x16x256 (betweenH q k) shapeCasts_S1x16x4096x4096_S8x2x16x256x16x256) slices_S8x2x16x256x16x256_S8x2x16x256x16x1_0_0_0_0_0_255)
        shapeCasts_S8x2x16x256x16x1_S8x2x16x256x16) transposes_S8x2x16x256x16_S8x16x2x256x16_0_2_1_3_4) shapeCasts_S8x16x2x256x16_S256x256x16)
    (sitofp .f32 (constantI S_ 32 0#32)) pads_S256x256x16_S256x256x128_000_000_01120 h_S_

variable (m : (ℓ : Loc nD τ sig) → Buf (Elt Ideal) ℓ) (c : Dev nD)

theorem entry36 : V m c main_v36 = flatH (m ((c : Thread nD τ).loc main_arg3)) := by
  show StableHlo.after (List.flatten [hostOps0, hostOps0_1, hostOps0_2, hostOps0_3, hostOps0_4, hostOps0_5, hostOps0_6, hostOps0_7]) (fun b => m (c, b)) (Proc.devRef .tc _) = _
  simp only [hostOps0, hostOps0_1, hostOps0_2, hostOps0_3, hostOps0_4, hostOps0_5, hostOps0_6, hostOps0_7, List.flatten_cons, List.flatten_nil, List.append_nil, List.cons_append, List.nil_append]
  after_reads_simp
  rfl

theorem entry33 : V m c main_v33 = packedH (m ((c : Thread nD τ).loc main_arg0)) (m ((c : Thread nD τ).loc main_arg1)) (m ((c : Thread nD τ).loc main_arg2)) := by
  show StableHlo.after (List.flatten [hostOps0, hostOps0_1, hostOps0_2, hostOps0_3, hostOps0_4, hostOps0_5, hostOps0_6, hostOps0_7]) (fun b => m (c, b)) (Proc.devRef .tc _) = _
  simp only [hostOps0, hostOps0_1, hostOps0_2, hostOps0_3, hostOps0_4, hostOps0_5, hostOps0_6, hostOps0_7, List.flatten_cons, List.flatten_nil, List.append_nil, List.cons_append, List.nil_append]
  after_reads_simp

  rfl

theorem entry20 : V m c main_v20 = runsH (m ((c : Thread nD τ).loc main_arg0)) (m ((c : Thread nD τ).loc main_arg1)) := by
  show StableHlo.after (List.flatten [hostOps0, hostOps0_1, hostOps0_2, hostOps0_3, hostOps0_4, hostOps0_5, hostOps0_6, hostOps0_7]) (fun b => m (c, b)) (Proc.devRef .tc _) = _
  simp only [hostOps0, hostOps0_1, hostOps0_2, hostOps0_3, hostOps0_4, hostOps0_5, hostOps0_6, hostOps0_7, List.flatten_cons, List.flatten_nil, List.append_nil, List.cons_append, List.nil_append]
  after_reads_simp
  simp only [StableHlo.TRef.ofBuf_toBuf]
  simp -implicitDefEqProofs only [StableHlo.TRef.toBuf, StableHlo.TRef.ofBuf, cast_eq]

  rfl

end Cert.Kernel2Ideal.Att
end
-- ==== Proof.AttWindow.lean ====
module

public import Idealize.ShloMosaic.Lib.Pointwise.Index
public import Idealize.ShloMosaic.PureOps.Ideal

@[expose] public section

noncomputable section

namespace Cert.Att

open Idealize.ShloMosaic

/-! Running sums along the last of four axes, as they print: a window as long as the axis. -/

/-- A fold that adds is a sum. -/
theorem foldl_add {α : Type*} (g : α → EReal) : ∀ (l : List α) (v : EReal), l.foldl (fun r n => r + g n) v = v + (l.map g).sum
  | [], v => by simp
  | a :: l, v => by rw [List.foldl_cons, foldl_add g l, List.map_cons, List.sum_cons, add_assoc]

/-- A shifted sum, over the positions it lands on. -/
theorem sum_shift {M : Type*} [AddCommMonoid M] {n : ℕ} (lo j : ℕ) (f : Fin n → M) :
    (∑ w : Fin n, if h : lo ≤ j + w.val ∧ j + w.val - lo < n then f ⟨j + w.val - lo, h.2⟩ else 0)
      = ∑ s : Fin n, if j ≤ s.val + lo ∧ s.val + lo - j < n then f s else 0 := by
  have e1 : ∀ w : Fin n, (if h : lo ≤ j + w.val ∧ j + w.val - lo < n then f ⟨j + w.val - lo, h.2⟩ else 0)
      = ∑ s : Fin n, if s.val + lo = j + w.val then f s else 0 := fun w => by
    by_cases h : lo ≤ j + w.val ∧ j + w.val - lo < n
    · rw [dif_pos h, Finset.sum_eq_single (⟨j + w.val - lo, h.2⟩ : Fin n) (fun s _ hs => if_neg fun e => hs (Fin.ext (by show s.val = j + w.val - lo; omega))) fun h' => absurd (Finset.mem_univ _) h']
      exact (if_pos (by show j + w.val - lo + lo = _; omega)).symm
    · rw [dif_neg h]
      exact (Finset.sum_eq_zero fun s _ => if_neg fun e => h ⟨by omega, by have := s.isLt; omega⟩).symm
  have e2 : ∀ s : Fin n, (if j ≤ s.val + lo ∧ s.val + lo - j < n then f s else 0)
      = ∑ w : Fin n, if s.val + lo = j + w.val then f s else 0 := fun s => by
    by_cases h : j ≤ s.val + lo ∧ s.val + lo - j < n
    · rw [if_pos h, Finset.sum_eq_single (⟨s.val + lo - j, h.2⟩ : Fin n) (fun w _ hw => if_neg fun e => hw (Fin.ext (by show w.val = s.val + lo - j; omega))) fun h' => absurd (Finset.mem_univ _) h']
      exact (if_pos (by show s.val + lo = j + (s.val + lo - j); omega)).symm
    · rw [if_neg h]
      exact (Finset.sum_eq_zero fun w _ => if_neg fun e => h ⟨by omega, by have := w.isLt; omega⟩).symm
  simp only [e1, e2]
  exact Finset.sum_comm

theorem window_sum {a b c n lo up : ℕ} {φ : FTy} (x : FVec Ideal ⟨4, ![a, b, c, n]⟩ φ) {u : Shape} (init : FVec Ideal u φ)
    (h : (⟨4, ![a, b, c, n]⟩ : Shape).ReduceWindows ![1, 1, 1, n] ![1, 1, 1, 1] ![0, 0, 0, lo] ![0, 0, 0, up] ⟨4, ![a, b, c, n]⟩) (hu : 0 < u.numel)
    (hi : ∀ i, init i = (0 : EReal)) (j : (⟨4, ![a, b, c, n]⟩ : Shape).Idx) :
    Host.reduceWindowAdd ![1, 1, 1, n] ![1, 1, 1, 1] ![0, 0, 0, lo] ![0, 0, 0, up] x init h hu j
      = ∑ s : Fin n, if (j 3).val ≤ s.val + lo ∧ s.val + lo - (j 3).val < n then (x (ix4 (j 0) (j 1) (j 2) s) : EReal) else 0 := by
  refine Eq.trans ?_ (sum_shift (M := EReal) lo (j 3).val fun s => x (ix4 (j 0) (j 1) (j 2) s))
  show Host.reduceWindow (· + ·) ![1, 1, 1, n] ![1, 1, 1, 1] ![0, 0, 0, lo] ![0, 0, 0, up] x (fun _ : (⟨0, ![]⟩ : Shape).Idx => init (Shape.Idx.first hu)) h (by decide) j = _
  unfold Host.reduceWindow
  rw [hi]
  dsimp only
  rw [foldl_add, zero_add, ← List.ofFn_eq_map, List.sum_ofFn]
  rw [Equiv.sum_comp (Shape.rowMajor ⟨4, ![1, 1, 1, n]⟩).symm (fun w => if hin : ∀ a', (![0, 0, 0, lo] : Fin 4 → ℕ) a' ≤ (j (a'.cast h.1.symm)).val * (![1, 1, 1, 1] : Fin 4 → ℕ) a' + (w a').val ∧ (j (a'.cast h.1.symm)).val * (![1, 1, 1, 1] : Fin 4 → ℕ) a' + (w a').val - (![0, 0, 0, lo] : Fin 4 → ℕ) a' < (![a, b, c, n] : Fin 4 → ℕ) a' then x (fun a' => ⟨_, (hin a').2⟩) else (0 : EReal))]
  rw [sum_idx4]
  simp only [Fin.sum_univ_one]
  refine Finset.sum_congr rfl fun w _ => ?_
  have hj0 := (j 0).isLt
  have hj1 := (j 1).isLt
  have hj2 := (j 2).isLt
  by_cases hw : lo ≤ (j 3).val + w.val ∧ (j 3).val + w.val - lo < n
  · rw [dif_pos hw]
    rw [dif_pos fun a' => by
      match a' with
      | ⟨0, _⟩ => exact ⟨Nat.zero_le _, by show (j 0).val * 1 + 0 - 0 < a; have : (j 0).val < a := hj0; omega⟩
      | ⟨1, _⟩ => exact ⟨Nat.zero_le _, by show (j 1).val * 1 + 0 - 0 < b; have : (j 1).val < b := hj1; omega⟩
      | ⟨2, _⟩ => exact ⟨Nat.zero_le _, by show (j 2).val * 1 + 0 - 0 < c; have : (j 2).val < c := hj2; omega⟩
      | ⟨3, _⟩ => exact ⟨by show lo ≤ (j 3).val * 1 + w.val; omega, by show (j 3).val * 1 + w.val - lo < n; omega⟩]
    refine congrArg x (funext fun a' => Fin.ext ?_)
    match a' with
    | ⟨0, _⟩ => show (j 0).val * 1 + 0 - 0 = (j 0).val; omega
    | ⟨1, _⟩ => show (j 1).val * 1 + 0 - 0 = (j 1).val; omega
    | ⟨2, _⟩ => show (j 2).val * 1 + 0 - 0 = (j 2).val; omega
    | ⟨3, _⟩ => show (j 3).val * 1 + w.val - lo = (j 3).val + w.val - lo; omega
  · rw [dif_neg hw, dif_neg fun hin => hw ?_]
    have h3 := hin 3
    change lo ≤ (j 3).val * 1 + w.val ∧ (j 3).val * 1 + w.val - lo < n at h3
    rw [Nat.mul_one] at h3
    exact h3

/-- With nothing before it, the window sums from the position on. -/
theorem suffix_sum {a b c n up : ℕ} {φ : FTy} (x : FVec Ideal ⟨4, ![a, b, c, n]⟩ φ) {u : Shape} (init : FVec Ideal u φ)
    (h : (⟨4, ![a, b, c, n]⟩ : Shape).ReduceWindows ![1, 1, 1, n] ![1, 1, 1, 1] ![0, 0, 0, 0] ![0, 0, 0, up] ⟨4, ![a, b, c, n]⟩) (hu : 0 < u.numel)
    (hi : ∀ i, init i = (0 : EReal)) (j : (⟨4, ![a, b, c, n]⟩ : Shape).Idx) :
    Host.reduceWindowAdd ![1, 1, 1, n] ![1, 1, 1, 1] ![0, 0, 0, 0] ![0, 0, 0, up] x init h hu j
      = ∑ s : Fin n, if (j 3).val ≤ s.val then (x (ix4 (j 0) (j 1) (j 2) s) : EReal) else 0 := by
  rw [window_sum x init h hu hi j]
  refine Finset.sum_congr rfl fun s _ => if_congr ?_ rfl rfl
  have := s.isLt
  constructor <;> intro <;> omega

/-- With all but one position before it, the window sums up to the position. -/
theorem prefix_sum {a b c n lo : ℕ} (hn : lo + 1 = n) {φ : FTy} (x : FVec Ideal ⟨4, ![a, b, c, n]⟩ φ) {u : Shape} (init : FVec Ideal u φ)
    (h : (⟨4, ![a, b, c, n]⟩ : Shape).ReduceWindows ![1, 1, 1, n] ![1, 1, 1, 1] ![0, 0, 0, lo] ![0, 0, 0, 0] ⟨4, ![a, b, c, n]⟩) (hu : 0 < u.numel)
    (hi : ∀ i, init i = (0 : EReal)) (j : (⟨4, ![a, b, c, n]⟩ : Shape).Idx) :
    Host.reduceWindowAdd ![1, 1, 1, n] ![1, 1, 1, 1] ![0, 0, 0, lo] ![0, 0, 0, 0] x init h hu j
      = ∑ s : Fin n, if s.val ≤ (j 3).val then (x (ix4 (j 0) (j 1) (j 2) s) : EReal) else 0 := by
  rw [window_sum x init h hu hi j]
  have hj : (j 3).val < n := (j 3).isLt
  refine Finset.sum_congr rfl fun s _ => if_congr ?_ rfl rfl
  have := s.isLt
  constructor <;> intro <;> omega

end Cert.Att
end
-- ==== Proof.AttHeads.lean ====
module

public import proofs.«01_k».proof.Proof.AttSum
public import proofs.«01_k».proof.Proof.AttWindow

@[expose] public section

set_option maxRecDepth 16384

noncomputable section

namespace Cert.Kernel2Ideal.Att

open Idealize.ShloMosaic Idealize.ShloMosaic.TcCoe Idealize.ShloMosaic.Tactic

/-! Every head's square arrays over real numbers, and the host's operations on them. -/

abbrev Rows := Fin 16 → Fin 4096 → Fin 64 → ℝ
abbrev Square := Fin 16 → Fin 4096 → Fin 4096 → ℝ

def ar4 (f : Rows) : FVec Ideal ⟨4, ![1, 16, 4096, 64]⟩ .f32 := fun i => ((f (i 1) (i 2) (i 3) : ℝ) : EReal)
def sqr4 (f : Square) : FVec Ideal ⟨4, ![1, 16, 4096, 4096]⟩ .f32 := fun i => ((f (i 1) (i 2) (i 3) : ℝ) : EReal)

section
variable (f g : Square)

theorem neg_sq : Host.negf (sqr4 f) = sqr4 fun H R S => - f H R S := by
  funext i; exact (EReal.coe_neg _).symm
theorem add_sq : addf (sqr4 f) (sqr4 g) = sqr4 fun H R S => f H R S + g H R S := by
  funext i; exact (EReal.coe_add _ _).symm
theorem sub_sq : subf (sqr4 f) (sqr4 g) = sqr4 fun H R S => f H R S - g H R S := by
  funext i; exact (EReal.coe_sub _ _).symm
theorem mul_sq : mulf (sqr4 f) (sqr4 g) = sqr4 fun H R S => f H R S * g H R S := by
  funext i; exact (EReal.coe_mul _ _).symm
theorem exp_sq : Host.exp (sqr4 f) = sqr4 fun H R S => Real.exp (f H R S) := by
  funext i; exact Ideal.exp_coe _

/-- jax's softplus, as it prints. -/
def softplusOf (zero x : FVec Ideal ⟨4, ![1, 16, 4096, 4096]⟩ .f32) : FVec Ideal ⟨4, ![1, 16, 4096, 4096]⟩ .f32 :=
  select (cmpf .une (subf x zero) (subf x zero)) (addf x zero) (addf (maximumf x zero) (Host.log1p (Host.exp (Host.negf (Host.absf (subf x zero))))))

/-- Its derivative, as it prints. -/
def slopeOf (zero top x : FVec Ideal ⟨4, ![1, 16, 4096, 4096]⟩ .f32) : FVec Ideal ⟨4, ![1, 16, 4096, 4096]⟩ .f32 :=
  Host.exp (subf (select (cmpf .oeq x top) zero x) (select (cmpf .oeq (softplusOf zero x) top) zero (softplusOf zero x)))

/-- The strict causal mask, for every head. -/
def causal4 : IVec ⟨4, ![1, 16, 4096, 4096]⟩ 1 := fun i => if (i 3).val < (i 2).val then 1#1 else 0#1

theorem softplus_sq : softplusOf (sqr4 fun _ _ _ => 0) (sqr4 f) = sqr4 fun H R S => spr (f H R S) := by
  funext i
  unfold softplusOf sqr4
  pointwise
  rw [EReal.coe_zero, sub_zero, if_neg (by simp)]
  refine Eq.trans ?_ (softp_at _)
  rw [zero_sub]
  rfl

theorem slope_sq : slopeOf (sqr4 fun _ _ _ => 0) (fun _ => (⊤ : EReal)) (sqr4 f) = sqr4 fun H R S => Real.exp (f H R S - spr (f H R S)) := by
  unfold slopeOf
  rw [softplus_sq]
  funext i
  unfold sqr4
  pointwise
  rw [if_neg (EReal.coe_ne_top _), if_neg (EReal.coe_ne_top _), ← EReal.coe_sub]
  exact Ideal.exp_coe _

theorem select_sq : select causal4 (sqr4 f) (sqr4 g) = sqr4 fun H R S => if S.val < R.val then f H R S else g H R S := by
  funext i
  show Scalar.select (if (i 3).val < (i 2).val then 1#1 else 0#1) _ _ = _
  rw [select_if]
  exact (apply_ite (fun x : ℝ => (x : EReal)) _ _ _).symm
end

/-- Sums of a row's later entries with its own, and of its earlier ones with its own. -/
theorem later_sq (f : Square) {u : Shape} (init : FVec Ideal u .f32) (h) (hu : 0 < u.numel) (hi : ∀ i, init i = (0 : EReal)) :
    Host.reduceWindowAdd (s := ⟨4, ![1, 16, 4096, 4096]⟩) (t := ⟨4, ![1, 16, 4096, 4096]⟩) ![1, 1, 1, 4096] ![1, 1, 1, 1] ![0, 0, 0, 0] ![0, 0, 0, 4095] (sqr4 f) init h hu
      = sqr4 fun H R S => ∑ S', if S.val ≤ S'.val then f H R S' else 0 := by
  funext i
  rw [Cert.Att.suffix_sum _ _ _ _ hi i]
  refine Eq.trans ?_ (coe_sum Finset.univ _).symm
  exact Finset.sum_congr rfl fun s _ => (apply_ite (fun x : ℝ => (x : EReal)) _ _ _).symm

theorem earlier_sq (f : Square) {u : Shape} (init : FVec Ideal u .f32) (h) (hu : 0 < u.numel) (hi : ∀ i, init i = (0 : EReal)) :
    Host.reduceWindowAdd (s := ⟨4, ![1, 16, 4096, 4096]⟩) (t := ⟨4, ![1, 16, 4096, 4096]⟩) ![1, 1, 1, 4096] ![1, 1, 1, 1] ![0, 0, 0, 4095] ![0, 0, 0, 0] (sqr4 f) init h hu
      = sqr4 fun H R S => ∑ S', if S'.val ≤ S.val then f H R S' else 0 := by
  funext i
  rw [Cert.Att.prefix_sum rfl _ _ _ _ hi i]
  refine Eq.trans ?_ (coe_sum Finset.univ _).symm
  exact Finset.sum_congr rfl fun s _ => (apply_ite (fun x : ℝ => (x : EReal)) _ _ _).symm

/-! The gradients from the scores and the weights' cotangents. -/
section
variable (z a : Square)

def fstay : Square := fun H R S => if S.val < R.val then - spr (z H R S) else 0
def fbtw : Square := fun H R S => ∑ S', if S.val < S'.val then fstay z H R S' else 0
def fw : Square := fun H R S => if S.val < R.val then Real.exp (z H R S - spr (z H R S) + fbtw z H R S) else 0
def fg : Square := fun H R S => fw z H R S * a H R S
def fpre : Square := fun H R S => ∑ S', if S'.val < S.val then fg z a H R S' else 0
def fd : Square := fun H R S => if S.val < R.val then fg z a H R S * (1 - Real.exp (z H R S - spr (z H R S))) - fpre z a H R S * Real.exp (z H R S - spr (z H R S)) else 0

end

/-- A pair of rows' products, scaled and not. -/
def zR (q k : Rows) : Square := fun H R S => (∑ d, q H R d * k H S d) * (1 / 8)
def aR (o v : Rows) : Square := fun H R S => ∑ d, o H R d * v H S d

theorem exp_spr (z : ℝ) : Real.exp (spr z) = 1 + Real.exp z := by
  unfold spr
  rw [Real.exp_add, Real.exp_log (by positivity)]
  rcases le_total 0 z with h | h
  · rw [max_eq_left h, abs_of_nonneg h, mul_add, ← Real.exp_add]
    simp [add_comm]
  · rw [max_eq_right h, abs_of_nonpos h]
    simp
theorem spr_neg (z : ℝ) : spr (-z) = spr z - z := by
  unfold spr
  rw [abs_neg]
  rcases le_total 0 z with h | h
  · rw [max_eq_left h, max_eq_right (neg_nonpos.mpr h)]; ring
  · rw [max_eq_right h, max_eq_left (neg_nonneg.mpr h)]; ring
theorem stay_exp (z : ℝ) : Real.exp (- spr z) = 1 - Real.exp (z - spr z) := by
  rw [Real.exp_sub, Real.exp_neg, exp_spr]
  have : (1 + Real.exp z) ≠ 0 := by positivity
  field_simp
  ring

theorem bits_eighth : (Scalar.ofBits (F := Ideal) .f32 0x3E000000#32 : EReal) = ((1 / 8 : ℝ) : EReal) := by
  show Ideal.ofBits .f32 _ = _
  simp [Ideal.ofBits, Ideal.ieee]
  rw [← EReal.coe_mul]; norm_num
theorem bits_top : (Scalar.ofBits (F := Ideal) .f32 0x7F800000#32 : EReal) = ⊤ := by
  show Ideal.ofBits .f32 _ = _
  simp [Ideal.ofBits, Ideal.ieee]

/-- A sum with its own entry, less that entry. -/
theorem sum_le_sub {n : ℕ} (f : Fin n → ℝ) (S : Fin n) : (∑ S', if S.val ≤ S'.val then f S' else 0) - f S = ∑ S', if S.val < S'.val then f S' else 0 := by
  have e : f S = ∑ S', if S' = S then f S' else 0 := by rw [Finset.sum_ite_eq' Finset.univ S]; simp
  rw [sub_eq_iff_eq_add]
  conv_rhs => rw [e]
  rw [← Finset.sum_add_distrib]
  refine Finset.sum_congr rfl fun S' _ => ?_
  by_cases h : S' = S
  · subst h; simp
  · have : S'.val ≠ S.val := fun h' => h (Fin.ext h')
    rw [if_neg h, add_zero]
    exact if_congr (by omega) rfl rfl
theorem sum_ge_sub {n : ℕ} (f : Fin n → ℝ) (S : Fin n) : - f S + (∑ S', if S'.val ≤ S.val then f S' else 0) = ∑ S', if S'.val < S.val then f S' else 0 := by
  have e : f S = ∑ S', if S' = S then f S' else 0 := by rw [Finset.sum_ite_eq' Finset.univ S]; simp
  rw [neg_add_eq_iff_eq_add]
  conv_rhs => rw [e]
  rw [← Finset.sum_add_distrib]
  refine Finset.sum_congr rfl fun S' _ => ?_
  by_cases h : S' = S
  · subst h; simp
  · have : S'.val ≠ S.val := fun h' => h (Fin.ext h')
    rw [if_neg h, zero_add]
    exact if_congr (by omega) rfl rfl

end Cert.Kernel2Ideal.Att
end
-- ==== Proof.AttRef.lean ====
module

public import proofs.«01_k».proof.Proof.AttHeads
public import proofs.«01_k».proof.Proof.Gen.Reference2Ideal.Run

@[expose] public section

set_option maxRecDepth 16384

noncomputable section

namespace Cert.Reference2Ideal.Att

open Idealize.ShloMosaic Idealize.ShloMosaic.TcCoe Idealize.ShloMosaic.Tactic
open Cert.Kernel2Ideal.Att (Rows Square ar4 sqr4 softplusOf slopeOf causal4 fstay fbtw fw fg fpre fd spr coe_sum zR aR)
open Facts₀ Facts

/-! The reference's results: its lines as terms of the arguments, and over real numbers. -/

abbrev A4 := FVec Ideal S1x16x4096x64 .f32
abbrev Sq := FVec Ideal S1x16x4096x4096 .f32

def splat (w : BitVec 32) : Sq := broadcastInDim S1x16x4096x4096 ![] bcast_S_S1x16x4096x4096 (constant S_ .f32 w)
def zero0 : FVec Ideal S_ .f32 := broadcastInDim S_ ![] bcast_S_S_ (constant S_ .f32 0x00000000#32)
def scoresR (q k : A4) : Sq := mulf (Host.dotGeneral dot_S1x16x4096x64_S1x16x4096x64_S1x16x4096x4096_3_3_2_2_01_01 none q k) (splat 0x3E000000#32)
def causalR : IVec S1x16x4096x4096 1 :=
  broadcastInDim S1x16x4096x4096 ![2, 3] bcast_S4096x4096_S1x16x4096x4096_2_3
    (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))
def stayR (z : Sq) : Sq := select causalR (Host.negf (softplusOf (splat 0x00000000#32) (Host.negf (Host.negf z)))) (splat 0x00000000#32)
def btwR (z : Sq) : Sq :=
  subf (Host.reduceWindowAdd ![1, 1, 1, 4096] ![1, 1, 1, 1] ![0, 0, 0, 0] ![0, 0, 0, 4095] (stayR z) zero0 reduceWindows_S1x16x4096x4096_S1x16x4096x4096_w1s1p0_0_w1s1p0_0_w1s1p0_0_w4096s1p0_4095 h_S_) (stayR z)
def expR (z : Sq) : Sq := Host.exp (addf (Host.negf (softplusOf (splat 0x00000000#32) (Host.negf z))) (btwR z))
def weightsR (z : Sq) : Sq := select causalR (expR z) (splat 0x00000000#32)
def gradR (z a : Sq) : Sq := mulf (select causalR a (splat 0x00000000#32)) (expR z)
def beforeR (z a : Sq) : Sq :=
  select causalR (addf (Host.negf (gradR z a))
    (Host.reduceWindowAdd ![1, 1, 1, 4096] ![1, 1, 1, 1] ![0, 0, 0, 4095] ![0, 0, 0, 0] (gradR z a) zero0 reduceWindows_S1x16x4096x4096_S1x16x4096x4096_w1s1p0_0_w1s1p0_0_w1s1p0_0_w4096s1p4095_0 h_S_)) (splat 0x00000000#32)
def scoreGradR (z a : Sq) : Sq :=
  mulf (addf (Host.negf (mulf (Host.negf (gradR z a)) (slopeOf (splat 0x00000000#32) (splat 0x7F800000#32) (Host.negf z))))
    (Host.negf (Host.negf (mulf (Host.negf (beforeR z a)) (slopeOf (splat 0x00000000#32) (splat 0x7F800000#32) (Host.negf (Host.negf z))))))) (splat 0x3E000000#32)
def overR (q k : A4) : Sq := Host.dotGeneral dot_S1x16x4096x64_S1x16x4096x64_S1x16x4096x4096_3_3_2_2_01_01 none q k
def dqR (q k v o : A4) : A4 := Host.dotGeneral dot_S1x16x4096x4096_S1x16x4096x64_S1x16x4096x64_3_2_2_3_01_01 none (scoreGradR (scoresR q k) (overR o v)) k
def dkR (q k v o : A4) : A4 := Host.dotGeneral dot_S1x16x4096x4096_S1x16x4096x64_S1x16x4096x64_2_2_3_3_01_01 none (scoreGradR (scoresR q k) (overR o v)) q
def dvR (q k o : A4) : A4 := transpose S1x16x4096x64 [0, 1, 3, 2] (Host.dotGeneral dot_S1x16x4096x64_S1x16x4096x4096_S1x16x64x4096_2_2_3_3_01_01 none o (weightsR (scoresR q k))) transposes_S1x16x64x4096_S1x16x4096x64_0_1_3_2

section
variable (m : (ℓ : Loc nD τ sig) → Buf (Elt Ideal) ℓ) (c : Dev nD)

theorem dq_term : Value.res_main_v36 (F := Ideal) m c = dqR (m (c.tc.loc main_arg0)) (m (c.tc.loc main_arg1)) (m (c.tc.loc main_arg2)) (m (c.tc.loc main_arg3)) := by
  sl_kernel_rfl
theorem dk_term : Value.res_main_v35 (F := Ideal) m c = dkR (m (c.tc.loc main_arg0)) (m (c.tc.loc main_arg1)) (m (c.tc.loc main_arg2)) (m (c.tc.loc main_arg3)) := by
  sl_kernel_rfl
theorem dv_term : Value.res_main_v21 (F := Ideal) m c = dvR (m (c.tc.loc main_arg0)) (m (c.tc.loc main_arg1)) (m (c.tc.loc main_arg3)) := by
  sl_kernel_rfl
end

section
variable (z a : Square)

theorem splat_zero : splat 0x00000000#32 = sqr4 fun _ _ _ => 0 := by
  funext i; exact Cert.Kernel2Ideal.Att.bits_zero
theorem splat_top : splat 0x7F800000#32 = fun _ => (⊤ : EReal) := by
  funext i; exact Cert.Kernel2Ideal.Att.bits_top
theorem splat_eighth : splat 0x3E000000#32 = sqr4 fun _ _ _ => 1 / 8 := by
  funext i; exact Cert.Kernel2Ideal.Att.bits_eighth
theorem zero0_at (i : S_.Idx) : zero0 i = (0 : EReal) := Cert.Kernel2Ideal.Att.bits_zero
theorem causal_at : causalR = causal4 := by
  funext i
  have h3 : (i 3).val < 4096 := (i 3).isLt
  have h2 : (i 2).val < 4096 := (i 2).isLt
  unfold causalR
  pointwise
  exact Cert.Kernel2Ideal.Att.slt_word h3 h2

theorem stay_sq : stayR (sqr4 z) = sqr4 (fstay z) := by
  unfold stayR
  rw [splat_zero, causal_at]
  simp only [Cert.Kernel2Ideal.Att.neg_sq, Cert.Kernel2Ideal.Att.softplus_sq, Cert.Kernel2Ideal.Att.select_sq, neg_neg]
  rfl
theorem btw_sq : btwR (sqr4 z) = sqr4 (fbtw z) := by
  unfold btwR
  rw [stay_sq, Cert.Kernel2Ideal.Att.later_sq _ _ _ _ zero0_at, Cert.Kernel2Ideal.Att.sub_sq]
  exact congrArg sqr4 (funext fun H => funext fun R => funext fun S => Cert.Kernel2Ideal.Att.sum_le_sub _ _)
theorem expR_sq : expR (sqr4 z) = sqr4 fun H R S => Real.exp (z H R S - spr (z H R S) + fbtw z H R S) := by
  unfold expR
  rw [splat_zero, btw_sq]
  simp only [Cert.Kernel2Ideal.Att.neg_sq, Cert.Kernel2Ideal.Att.softplus_sq, Cert.Kernel2Ideal.Att.add_sq, Cert.Kernel2Ideal.Att.exp_sq, Cert.Kernel2Ideal.Att.spr_neg, neg_sub]
theorem weights_sq : weightsR (sqr4 z) = sqr4 (fw z) := by
  unfold weightsR
  rw [splat_zero, causal_at, expR_sq, Cert.Kernel2Ideal.Att.select_sq]
  rfl
theorem grad_sq : gradR (sqr4 z) (sqr4 a) = sqr4 (fg z a) := by
  unfold gradR
  rw [splat_zero, causal_at, expR_sq, Cert.Kernel2Ideal.Att.select_sq, Cert.Kernel2Ideal.Att.mul_sq]
  refine congrArg sqr4 (funext fun H => funext fun R => funext fun S => ?_)
  unfold fg fw
  split_ifs
  · exact mul_comm _ _
  · rw [zero_mul, zero_mul]
theorem before_sq : beforeR (sqr4 z) (sqr4 a) = sqr4 fun H R S => if S.val < R.val then fpre z a H R S else 0 := by
  unfold beforeR
  rw [splat_zero, causal_at, grad_sq, Cert.Kernel2Ideal.Att.earlier_sq _ _ _ _ zero0_at, Cert.Kernel2Ideal.Att.neg_sq, Cert.Kernel2Ideal.Att.add_sq, Cert.Kernel2Ideal.Att.select_sq]
  refine congrArg sqr4 (funext fun H => funext fun R => funext fun S => if_congr Iff.rfl ?_ rfl)
  exact Cert.Kernel2Ideal.Att.sum_ge_sub _ _
theorem scoreGrad_sq : scoreGradR (sqr4 z) (sqr4 a) = sqr4 fun H R S => fd z a H R S * (1 / 8) := by
  unfold scoreGradR
  rw [splat_zero, splat_top, splat_eighth, grad_sq, before_sq]
  simp only [Cert.Kernel2Ideal.Att.neg_sq, Cert.Kernel2Ideal.Att.slope_sq, Cert.Kernel2Ideal.Att.mul_sq, Cert.Kernel2Ideal.Att.add_sq]
  refine congrArg sqr4 (funext fun H => funext fun R => funext fun S => congrArg (· * (1 / 8 : ℝ)) ?_)
  rw [Cert.Kernel2Ideal.Att.spr_neg, neg_neg, show - z H R S - (spr (z H R S) - z H R S) = - spr (z H R S) by ring, Cert.Kernel2Ideal.Att.stay_exp]
  unfold fd
  split_ifs with h
  · rw [neg_mul, neg_neg, neg_neg, neg_mul]
    exact (sub_eq_add_neg _ _).symm
  · have : fg z a H R S = 0 := by unfold fg fw; rw [if_neg h, zero_mul]
    rw [this]; simp

end

section
variable (q k v o : Rows)

theorem over_sq : overR (ar4 o) (ar4 v) = sqr4 (aR o v) := by
  funext i
  unfold overR ar4 sqr4 aR
  pointwise
  simp only [coe_sum, EReal.coe_mul]
theorem scores_sq : scoresR (ar4 q) (ar4 k) = sqr4 (zR q k) := by
  unfold scoresR
  rw [splat_eighth]
  exact (congrArg (mulf · _) (over_sq k q)).trans (Cert.Kernel2Ideal.Att.mul_sq _ _)

theorem dq_real : dqR (ar4 q) (ar4 k) (ar4 v) (ar4 o) = ar4 fun H R d => ∑ S, fd (zR q k) (aR o v) H R S * (1 / 8) * k H S d := by
  unfold dqR
  rw [over_sq, scores_sq, scoreGrad_sq]
  funext i
  unfold ar4 sqr4
  pointwise
  simp only [coe_sum, EReal.coe_mul]
theorem dk_real : dkR (ar4 q) (ar4 k) (ar4 v) (ar4 o) = ar4 fun H S d => ∑ R, fd (zR q k) (aR o v) H R S * (1 / 8) * q H R d := by
  unfold dkR
  rw [over_sq, scores_sq, scoreGrad_sq]
  funext i
  unfold ar4 sqr4
  pointwise
  simp only [coe_sum, EReal.coe_mul]
theorem dv_real : dvR (ar4 q) (ar4 k) (ar4 o) = ar4 fun H S d => ∑ R, o H R d * fw (zR q k) H R S := by
  unfold dvR
  rw [scores_sq, weights_sq]
  funext i
  unfold ar4 sqr4
  pointwise
  simp only [coe_sum, EReal.coe_mul]
end

end Cert.Reference2Ideal.Att
end
-- ==== Proof.AttHost.lean ====
module

public import proofs.«01_k».proof.Proof.AttEntry
public import proofs.«01_k».proof.Proof.AttRef

@[expose] public section

set_option maxRecDepth 16384

noncomputable section

namespace Cert.Kernel2Ideal.Att

open Idealize.ShloMosaic Idealize.ShloMosaic.TcCoe Idealize.ShloMosaic.Tactic
open Idealize.ShloMosaic.Pipeline (Dat Cfg Window)
open Gen

/-! What the call finds and leaves, head by head over real numbers. -/

/-- Head `h` of pair `p`. -/
def headOf (p : Fin 8) (h : Fin 2) : Fin 16 := ⟨2 * p.val + h.val, by omega⟩
/-- A pair's heads side by side. -/
def pair (x : Rows) (p : Fin 8) : Fin 4096 → Fin 128 → ℝ := fun R c => x (headOf p ⟨c.val / 64, by omega⟩) R ⟨c.val % 64, Nat.mod_lt _ (by decide)⟩

/-- The rows with the scale. -/
def scaled (q : Rows) : Rows := fun H R d => q H R d * (1 / 8)

/-- The rows' sums past each key block. -/
def runsOf (q k : Rows) (p : Fin 8) (i : Fin 16) (h : Fin 2) (r : Fin 256) (l : Fin 128) : ℝ :=
  if hl : l.val < 16 then fbtw (zR q k) (headOf p h) (rix i r) (rix ⟨l.val, hl⟩ ⟨255, by decide⟩) else 0

theorem sum_hd (x y : Rows) (p : Fin 8) (h : Fin 2) (R S : Fin 4096) :
    ∑ c, hd h (pair x p) R c * hd h (pair y p) S c = ∑ d, x (headOf p h) R d * y (headOf p h) S d := by
  rw [← Equiv.sum_comp (finProdFinEquiv (m := 2) (n := 64)) (fun c : Fin 128 => hd h (pair x p) R c * hd h (pair y p) S c), Fintype.sum_prod_type]
  rw [Finset.sum_eq_single h]
  · refine Finset.sum_congr rfl fun d _ => ?_
    have e1 : (d.val + 64 * h.val) / 64 = h.val := by omega
    have e2 : (d.val + 64 * h.val) % 64 = d.val := by omega
    unfold hd pair
    show (if (d.val + 64 * h.val) / 64 = h.val then _ else _) * (if (d.val + 64 * h.val) / 64 = h.val then _ else _) = _
    rw [if_pos e1, if_pos e1]
    refine congrArg₂ (· * ·) (congrArg₂ (fun H d => x H R d) (congrArg (headOf p) (Fin.ext e1)) (Fin.ext e2)) (congrArg₂ (fun H d => y H S d) (congrArg (headOf p) (Fin.ext e1)) (Fin.ext e2))
  · intro h' _ hne
    refine Finset.sum_eq_zero fun d _ => ?_
    have e1 : (d.val + 64 * h'.val) / 64 = h'.val := by omega
    unfold hd
    show (if (d.val + 64 * h'.val) / 64 = h.val then _ else _) * _ = _
    rw [e1, if_neg fun e => hne (Fin.ext e), zero_mul]
  · exact fun h' => absurd (Finset.mem_univ _) h'

section
variable (q k v o : Rows) (p : Fin 8) (h : Fin 2)

theorem gz_pair (R S : Fin 4096) : gz (pair (scaled q) p) (pair k p) h R S = zR q k (headOf p h) R S := by
  unfold gz zR
  rw [sum_hd, Finset.sum_mul]
  refine Finset.sum_congr rfl fun d _ => ?_
  unfold scaled
  ring

theorem gbtw_pair (R S : Fin 4096) : gbtw (pair (scaled q) p) (pair k p) h R S = fbtw (zR q k) (headOf p h) R S := by
  unfold gbtw fbtw gstay fstay
  simp only [gz_pair]

theorem gw_pair (R S : Fin 4096) : gw (pair (scaled q) p) (pair k p) h R S = fw (zR q k) (headOf p h) R S := by
  unfold gw fw gls
  simp only [gz_pair, gbtw_pair]

theorem gd_pair (R S : Fin 4096) : gd (pair (scaled q) p) (pair o p) (pair k p) (pair v p) h R S = fd (zR q k) (aR o v) (headOf p h) R S := by
  unfold gd fd gpre fpre gg fg gls
  simp only [gz_pair, gw_pair, sum_hd]
  rfl

theorem sums_pair (i : Fin 16) : Sums (pair (scaled q) p) (pair k p) i (runsOf q k p i) := by
  intro h r j
  rw [gbtw_pair]
  unfold runsOf
  exact dif_pos j.isLt
end

theorem runs_real (q k : Rows) (y : S256x256x128.Idx) : runsH (ar4 q) (ar4 k) y
    = ((runsOf q k ⟨(y 0).val / 32, by have : (y 0).val < 256 := (y 0).isLt; omega⟩ ⟨(y 0).val / 2 % 16, Nat.mod_lt _ (by decide)⟩ ⟨(y 0).val % 2, Nat.mod_lt _ (by decide)⟩ (y 1) (y 2) : ℝ) : EReal) := by
  have e : betweenH (ar4 q) (ar4 k) = sqr4 (fbtw (zR q k)) := (show betweenH (ar4 q) (ar4 k) = Cert.Reference2Ideal.Att.btwR (Cert.Reference2Ideal.Att.scoresR (ar4 q) (ar4 k)) from rfl).trans
    (by rw [Cert.Reference2Ideal.Att.scores_sq, Cert.Reference2Ideal.Att.btw_sq])
  unfold runsH
  rw [e]
  unfold sqr4
  pointwise
  unfold runsOf
  split_ifs with hl
  · refine congrArg (fun x : ℝ => (x : EReal)) ?_
    have e3 : ∀ (H H' : Fin 16) (R R' S S' : Fin 4096), H.val = H'.val → R.val = R'.val → S.val = S'.val → fbtw (zR q k) H R S = fbtw (zR q k) H' R' S' :=
      fun H H' R R' S S' h1 h2 h3 => by rw [Fin.ext h1, Fin.ext h2, Fin.ext h3]
    refine e3 _ _ _ _ _ _ ?_ ?_ ?_
    · show (y 0).val / 32 * 2 + (y 0).val % 2 = 2 * ((y 0).val / 32) + (y 0).val % 2
      omega
    · show (y 0).val / 2 % 16 * 256 + (y 1).val = 256 * ((y 0).val / 2 % 16) + (y 1).val
      omega
    · show (y 2).val * 256 + 255 = 256 * (y 2).val + 255
      omega
  · show (((0#32 : BitVec 32).toInt : ℝ) : EReal) = _
    simp

theorem flat_real (x : Rows) (y : S4096x1024.Idx) : flatH (ar4 x) y = ((pair x (colPair (y 1)) (y 0) (colLane (y 1)) : ℝ) : EReal) := by
  have hy : (y 1).val < 1024 := (y 1).isLt
  unfold flatH ar4
  pointwise
  refine congrArg (fun x : ℝ => (x : EReal)) ?_
  unfold pair
  refine congrArg₂ (fun H d => x H (y 0) d) (Fin.ext ?_) (Fin.ext ?_)
  · show (y 1).val / 64 = 2 * ((y 1).val / 128) + (y 1).val % 128 / 64
    omega
  · show (y 1).val % 64 = (y 1).val % 128 % 64
    omega

theorem scale_real (q : Rows) : mulf (ar4 q) (broadcastInDim S1x16x4096x64 ![] bcast_S_S1x16x4096x64 (constant S_ .f32 0x3E000000#32)) = ar4 (scaled q) := by
  funext i
  show ar4 q i * (Scalar.ofBits (F := Ideal) .f32 0x3E000000#32 : EReal) = _
  rw [bits_eighth]
  exact (EReal.coe_mul _ _).symm

/-- A pair's column of queries, of keys and of values in the packed operand. -/
theorem packed_real (q k v : Rows) (R : Fin 4096) (p : Fin 8) (l : Fin 128) :
    packedH (ar4 q) (ar4 k) (ar4 v) (ix2 R ⟨p.val * 128 + l.val, by omega⟩) = ((pair (scaled q) p R l : ℝ) : EReal)
    ∧ packedH (ar4 q) (ar4 k) (ar4 v) (ix2 R ⟨(8 + p.val) * 128 + l.val, by omega⟩) = ((pair k p R l : ℝ) : EReal)
    ∧ packedH (ar4 q) (ar4 k) (ar4 v) (ix2 R ⟨(16 + p.val) * 128 + l.val, by omega⟩) = ((pair v p R l : ℝ) : EReal) := by
  have hcol : ∀ (x : Rows) (C : Fin 1024), C.val = p.val * 128 + l.val → ((pair x (colPair C) R (colLane C) : ℝ) : EReal) = ((pair x p R l : ℝ) : EReal) :=
    fun x C hC => (at_col (pair x) R R C p l rfl hC).symm
  unfold packedH
  rw [scale_real]
  refine ⟨?_, ?_, ?_⟩
  · pointwise
    rw [dif_pos (by omega)]
    rw [flat_real]
    exact hcol (scaled q) _ (by rfl)
  · pointwise
    rw [dif_neg (by omega), dif_pos (by omega)]
    rw [flat_real]
    exact hcol k _ (by show (8 + p.val) * 128 + l.val - 1024 = _; omega)
  · pointwise
    rw [dif_neg (by omega), dif_neg (by omega)]
    rw [flat_real]
    exact hcol v _ (by show (16 + p.val) * 128 + l.val - 1024 - 1024 = _; omega)

theorem runs_at (q k : Rows) (p p' : Fin 8) (i i' : Fin 16) (h h' : Fin 2) (r r' : Fin 256) (l l' : Fin 128) (e0 : p.val = p'.val) (e1 : i.val = i'.val) (e2 : h.val = h'.val)
    (e3 : r.val = r'.val) (e4 : l.val = l'.val) : runsOf q k p i h r l = runsOf q k p' i' h' r' l' := by
  rw [Fin.ext e0, Fin.ext e1, Fin.ext e2, Fin.ext e3, Fin.ext e4]

theorem idx_in : ∀ t : Fin cfg0.N, win0_0.index t = ![t.val % 16, t.val / 16] ∧ win0_1.index t = ![0, 8 + t.val / 16] ∧ win0_2.index t = ![0, 16 + t.val / 16]
    ∧ win0_3.index t = ![t.val % 16, t.val / 16] ∧ win0_4.index t = ![t.val, 0, 0] :=
  (by decide +kernel : ∀ t : Fin grid0.N, _)

section
variable (m : (ℓ : Loc nD τ sig) → Buf (Elt Ideal) ℓ) (c : Dev nD) (q k v o : Rows)
  (hq : m ((c : Thread nD τ).loc main_arg0) = ar4 q) (hk : m ((c : Thread nD τ).loc main_arg1) = ar4 k) (hv : m ((c : Thread nD τ).loc main_arg2) = ar4 v)
  (ho : m ((c : Thread nD τ).loc main_arg3) = ar4 o)
include hq hk hv ho

set_option maxHeartbeats 1000000 in
theorem finds : Finds m (pair (scaled q)) (pair o) (pair k) (pair v) (runsOf q k) c where
  sums p i := sums_pair q k p i
  q t := by
    funext y
    blk_simp [iblk]
    rw [entry33, hq, hk, hv]
    refine (congrArg _ (funext fun a => Fin.ext ?_)).trans (packed_real q k v (rix (blockOf t) (y 0)) (pairOf t) (y 1)).1
    match a with
    | ⟨0, _⟩ => blk_simp; rw [(idx_in t).1]; show t.val % 16 * 256 + (y 0).val = 256 * (t.val % 16) + (y 0).val; omega
    | ⟨1, _⟩ => blk_simp; rw [(idx_in t).1]; rfl
  k t := by
    funext y
    blk_simp [iblk]
    rw [entry33, hq, hk, hv]
    refine (congrArg _ (funext fun a => Fin.ext ?_)).trans (packed_real q k v (y 0) (pairOf t) (y 1)).2.1
    match a with
    | ⟨0, _⟩ => blk_simp; rw [(idx_in t).2.1]; show 0 * 4096 + (y 0).val = (y 0).val; omega
    | ⟨1, _⟩ => blk_simp; rw [(idx_in t).2.1]; rfl
  v t := by
    funext y
    blk_simp [iblk]
    rw [entry33, hq, hk, hv]
    refine (congrArg _ (funext fun a => Fin.ext ?_)).trans (packed_real q k v (y 0) (pairOf t) (y 1)).2.2
    match a with
    | ⟨0, _⟩ => blk_simp; rw [(idx_in t).2.2.1]; show 0 * 4096 + (y 0).val = (y 0).val; omega
    | ⟨1, _⟩ => blk_simp; rw [(idx_in t).2.2.1]; rfl
  o t := by
    funext y
    blk_simp [iblk]
    rw [entry36, ho, flat_real]
    refine (at_col (pair o) _ (rix (blockOf t) (y 0)) _ (pairOf t) (y 1) ?_ ?_).symm
    · blk_simp; rw [(idx_in t).2.2.2.1]; show t.val % 16 * 256 + (y 0).val = 256 * (t.val % 16) + (y 0).val; omega
    · blk_simp; rw [(idx_in t).2.2.2.1]; rfl
  r t := by
    funext y
    blk_simp [iblk]
    rw [entry20, hq, hk, runs_real]
    have hy : (y 0).val < 2 := (y 0).isLt
    have ht : t.val < 128 := t.isLt
    have e0 : ((win0_4.blk t).view.emb y 0).val = t.val * 2 + (y 0).val := by blk_simp; rw [(idx_in t).2.2.2.2]; rfl
    have e1 : ((win0_4.blk t).view.emb y 1).val = (y 1).val := by blk_simp; rw [(idx_in t).2.2.2.2]; show 0 * 256 + (y 1).val = _; omega
    have e2 : ((win0_4.blk t).view.emb y 2).val = (y 2).val := by blk_simp; rw [(idx_in t).2.2.2.2]; show 0 * 128 + (y 2).val = _; omega
    generalize (win0_4.blk t).view.emb y = w at e0 e1 e2 ⊢
    have w0 : (w 0).val / 32 = t.val / 16 := by rw [e0]; omega
    have w1 : (w 0).val / 2 % 16 = t.val % 16 := by rw [e0]; omega
    have w2 : (w 0).val % 2 = (y 0).val := by rw [e0]; omega
    exact congrArg (fun x : ℝ => (x : EReal)) (runs_at q k _ (pairOf t) _ (blockOf t) _ (y 0) _ (y 1) _ (y 2) w0 w1 w2 e1 e2)
end

end Cert.Kernel2Ideal.Att
end
-- ==== Proof.AttValue.lean ====
module

public import proofs.«01_k».proof.Proof.AttHost

@[expose] public section

set_option maxRecDepth 16384

noncomputable section

namespace Cert.Kernel2Ideal.Att

open Idealize.ShloMosaic Idealize.ShloMosaic.TcCoe Idealize.ShloMosaic.Tactic Idealize.SL.Sem
open Idealize.ShloMosaic.Pipeline (Dat Cfg Window)
open Gen

/-! The program's results, head by head over real numbers. -/

/-- The columns' heads apart again. -/
def headsH (x : FVec Ideal S4096x1024 .f32) : A4 :=
  broadcastInDim S1x16x4096x64 ![1, 2, 3] bcast_S16x4096x64_S1x16x4096x64_1_2_3 (transpose S16x4096x64 [1, 0, 2] (shapeCast S4096x16x64 x shapeCasts_S4096x1024_S4096x16x64) transposes_S4096x16x64_S16x4096x64_1_0_2)

def scaleH (x : FVec Ideal S4096x1024 .f32) : FVec Ideal S4096x1024 .f32 := mulf x (broadcastInDim S4096x1024 ![] bcast_S_S4096x1024 (constant S_ .f32 0x3E000000#32))

section
variable (W : Valuation τ sig (Elt Ideal))

theorem tail42 : StableHlo.after (List.flatten [hostOps1]) W (Proc.devRef .tc main_v42) = headsH (scaleH (W (Proc.devRef .tc main_v37_0))) := by
  simp only [hostOps1, List.flatten_cons, List.flatten_nil, List.append_nil, List.cons_append, List.nil_append]
  after_reads_simp
  rfl
theorem tail45 : StableHlo.after (List.flatten [hostOps1]) W (Proc.devRef .tc main_v45) = headsH (W (Proc.devRef .tc main_v37_1)) := by
  simp only [hostOps1, List.flatten_cons, List.flatten_nil, List.append_nil, List.cons_append, List.nil_append]
  after_reads_simp
  rfl
theorem tail48 : StableHlo.after (List.flatten [hostOps1]) W (Proc.devRef .tc main_v48) = headsH (W (Proc.devRef .tc main_v37_2)) := by
  simp only [hostOps1, List.flatten_cons, List.flatten_nil, List.append_nil, List.cons_append, List.nil_append]
  after_reads_simp
  rfl
end

theorem heads_real (G : Fin 8 → Fin 4096 → Fin 128 → ℝ) : headsH (co fun R C => G (colPair C) R (colLane C))
    = ar4 fun H R d => G ⟨H.val / 2, by omega⟩ R ⟨H.val % 2 * 64 + d.val, by omega⟩ := by
  funext i
  unfold headsH ar4 co
  pointwise
  have h1 : (i 1).val < 16 := (i 1).isLt
  have h3 : (i 3).val < 64 := (i 3).isLt
  refine congrArg (fun x : ℝ => (x : EReal)) (congrArg₂ (fun p l => G p (i 2) l) (Fin.ext ?_) (Fin.ext ?_))
  · show ((i 1).val * 64 + (i 3).val) / 128 = (i 1).val / 2
    omega
  · show ((i 1).val * 64 + (i 3).val) % 128 = (i 1).val % 2 * 64 + (i 3).val
    omega

theorem scale_co (f : Fin 4096 → Fin 1024 → ℝ) : scaleH (co f) = co fun R C => f R C * (1 / 8) := by
  funext i
  show co f i * (Scalar.ofBits (F := Ideal) .f32 0x3E000000#32 : EReal) = _
  rw [bits_eighth]
  exact (EReal.coe_mul _ _).symm

section
variable (q k v o : Rows) (H : Fin 16) (d : Fin 64)

theorem headOf_div : headOf ⟨H.val / 2, by omega⟩ ⟨H.val % 2, Nat.mod_lt _ (by decide)⟩ = H := Fin.ext (by show 2 * (H.val / 2) + H.val % 2 = H.val; omega)

/-- A head's column of its pair. -/
theorem pair_col (x : Rows) (R : Fin 4096) : pair x ⟨H.val / 2, by omega⟩ R ⟨H.val % 2 * 64 + d.val, by omega⟩ = x H R d := by
  unfold pair
  refine congrArg₂ (fun H d => x H R d) (Fin.ext ?_) (Fin.ext ?_)
  · show 2 * (H.val / 2) + (H.val % 2 * 64 + d.val) / 64 = H.val
    omega
  · show (H.val % 2 * 64 + d.val) % 64 = d.val
    omega

/-- Of a sum over a pair's two heads, a column keeps its own head's part. -/
theorem two_heads (g : Fin 2 → ℝ) (x : Rows) (R : Fin 4096) :
    g 0 * hd 0 (pair x ⟨H.val / 2, by omega⟩) R ⟨H.val % 2 * 64 + d.val, by omega⟩ + g 1 * hd 1 (pair x ⟨H.val / 2, by omega⟩) R ⟨H.val % 2 * 64 + d.val, by omega⟩
      = g ⟨H.val % 2, Nat.mod_lt _ (by decide)⟩ * x H R d := by
  unfold hd
  rw [pair_col]
  have e : (H.val % 2 * 64 + d.val) / 64 = H.val % 2 := by omega
  show g 0 * (if (H.val % 2 * 64 + d.val) / 64 = 0 then _ else _) + g 1 * (if (H.val % 2 * 64 + d.val) / 64 = 1 then _ else _) = _
  rw [e]
  rcases Nat.mod_two_eq_zero_or_one H.val with h | h
  · rw [if_pos h, if_neg (by omega), mul_zero, add_zero]
    exact congrArg (g · * _) (Fin.ext h.symm)
  · rw [if_neg (by omega), if_pos h, mul_zero, zero_add]
    exact congrArg (g · * _) (Fin.ext h.symm)

theorem q_real (R : Fin 4096) :
    (∑ S, qpart (pair (scaled q) ⟨H.val / 2, by omega⟩) (pair o ⟨H.val / 2, by omega⟩) (pair k ⟨H.val / 2, by omega⟩) (pair v ⟨H.val / 2, by omega⟩) R ⟨H.val % 2 * 64 + d.val, by omega⟩ S) * (1 / 8)
      = ∑ S, fd (zR q k) (aR o v) H R S * (1 / 8) * k H S d := by
  rw [Finset.sum_mul]
  refine Finset.sum_congr rfl fun S _ => ?_
  unfold qpart
  rw [two_heads H d (fun h => gd _ _ _ _ h R S) k S, gd_pair, headOf_div]
  ring

theorem k_real (S : Fin 4096) :
    (∑ i, kpart (pair (scaled q) ⟨H.val / 2, by omega⟩) (pair o ⟨H.val / 2, by omega⟩) (pair k ⟨H.val / 2, by omega⟩) (pair v ⟨H.val / 2, by omega⟩) i S ⟨H.val % 2 * 64 + d.val, by omega⟩)
      = ∑ R, fd (zR q k) (aR o v) H R S * (1 / 8) * q H R d := by
  rw [sum_blocks]
  refine Finset.sum_congr rfl fun i _ => ?_
  unfold kpart
  rw [← Finset.sum_add_distrib]
  refine Finset.sum_congr rfl fun r _ => ?_
  rw [two_heads H d (fun h => gd _ _ _ _ h (rix i r) S) (scaled q) (rix i r), gd_pair, headOf_div]
  unfold scaled
  ring

theorem v_real (S : Fin 4096) :
    (∑ i, vpart (pair (scaled q) ⟨H.val / 2, by omega⟩) (pair o ⟨H.val / 2, by omega⟩) (pair k ⟨H.val / 2, by omega⟩) i S ⟨H.val % 2 * 64 + d.val, by omega⟩)
      = ∑ R, o H R d * fw (zR q k) H R S := by
  rw [sum_blocks]
  refine Finset.sum_congr rfl fun i _ => ?_
  unfold vpart
  rw [← Finset.sum_add_distrib]
  refine Finset.sum_congr rfl fun r _ => ?_
  rw [two_heads H d (fun h => gw _ _ h (rix i r) S) o (rix i r), gw_pair, headOf_div]
  ring
end

section
variable (m : (ℓ : Loc nD τ sig) → Buf (Elt Ideal) ℓ) (c : Dev nD) (q k v o : Rows)
  (hq : m ((c : Thread nD τ).loc main_arg0) = ar4 q) (hk : m ((c : Thread nD τ).loc main_arg1) = ar4 k) (hv : m ((c : Thread nD τ).loc main_arg2) = ar4 v)
  (ho : m ((c : Thread nD τ).loc main_arg3) = ar4 o)
include hq hk hv ho

theorem result42 : Pipeline.afterTail₀ cfgs (dats m (starts_ideal m)) 0 (V0 m) [hostOps1] c main_v42 = ar4 fun H R d => ∑ S, fd (zR q k) (aR o v) H R S * (1 / 8) * k H S d := by
  refine (tail42 _).trans ?_
  rw [show Pipeline.withArrays (cfgs 0).spec c (V0 m c) (fun w => (dats m (starts_ideal m) 0 c).arrAt w (cfgs 0).N) (Proc.devRef .tc main_v37_0) = (dats m (starts_ideal m) 0 c).arrAt 5 cfg0.N from
    (dats m (starts_ideal m) 0 c).withArrays_arrAt launch₀0.sharedIn (V0 m c) (A_eq m (starts_ideal m) c) 5]
  rw [dq_arr m _ _ _ _ _ c (finds m c q k v o hq hk hv ho), scale_co]
  refine (heads_real fun p R l => (∑ S, qpart (pair (scaled q) p) (pair o p) (pair k p) (pair v p) R l S) * (1 / 8)).trans ?_
  exact congrArg ar4 (funext fun H => funext fun R => funext fun d => q_real q k v o H d R)
theorem result45 : Pipeline.afterTail₀ cfgs (dats m (starts_ideal m)) 0 (V0 m) [hostOps1] c main_v45 = ar4 fun H S d => ∑ R, fd (zR q k) (aR o v) H R S * (1 / 8) * q H R d := by
  refine (tail45 _).trans ?_
  rw [show Pipeline.withArrays (cfgs 0).spec c (V0 m c) (fun w => (dats m (starts_ideal m) 0 c).arrAt w (cfgs 0).N) (Proc.devRef .tc main_v37_1) = (dats m (starts_ideal m) 0 c).arrAt 6 cfg0.N from
    (dats m (starts_ideal m) 0 c).withArrays_arrAt launch₀0.sharedIn (V0 m c) (A_eq m (starts_ideal m) c) 6]
  rw [dk_arr m _ _ _ _ _ c (finds m c q k v o hq hk hv ho)]
  refine (heads_real fun p S l => ∑ i, kpart (pair (scaled q) p) (pair o p) (pair k p) (pair v p) i S l).trans ?_
  exact congrArg ar4 (funext fun H => funext fun R => funext fun d => k_real q k v o H d R)
theorem result48 : Pipeline.afterTail₀ cfgs (dats m (starts_ideal m)) 0 (V0 m) [hostOps1] c main_v48 = ar4 fun H S d => ∑ R, o H R d * fw (zR q k) H R S := by
  refine (tail48 _).trans ?_
  rw [show Pipeline.withArrays (cfgs 0).spec c (V0 m c) (fun w => (dats m (starts_ideal m) 0 c).arrAt w (cfgs 0).N) (Proc.devRef .tc main_v37_2) = (dats m (starts_ideal m) 0 c).arrAt 7 cfg0.N from
    (dats m (starts_ideal m) 0 c).withArrays_arrAt launch₀0.sharedIn (V0 m c) (A_eq m (starts_ideal m) c) 7]
  rw [dv_arr m _ _ _ _ _ c (finds m c q k v o hq hk hv ho)]
  refine (heads_real fun p S l => ∑ i, vpart (pair (scaled q) p) (pair o p) (pair k p) i S l).trans ?_
  exact congrArg ar4 (funext fun H => funext fun R => funext fun d => v_real q k o H d R)
end

/-- The run: the three results, and the arguments as they began. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v42) = Pipeline.afterTail₀ cfgs (dats m (starts_ideal m)) 0 (V0 m) [hostOps1] c main_v42
      ∧ r.2.mem ((c.tc : Thread nD τ).loc main_v45) = Pipeline.afterTail₀ cfgs (dats m (starts_ideal m)) 0 (V0 m) [hostOps1] c main_v45
      ∧ r.2.mem ((c.tc : Thread nD τ).loc main_v48) = Pipeline.afterTail₀ cfgs (dats m (starts_ideal m)) 0 (V0 m) [hostOps1] c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h.1 c).2 main_v42 (Pipeline.mem_restRefs_of main_v42 (by decide) (by decide)),
     (h.1 c).2 main_v45 (Pipeline.mem_restRefs_of main_v45 (by decide) (by decide)),
     (h.1 c).2 main_v48 (Pipeline.mem_restRefs_of main_v48 (by decide) (by decide)),
     ((h.1 c).2 main_arg0 (Pipeline.mem_restRefs_of main_arg0 (by decide) (by decide))).trans (W_main_arg0 m (dats m (starts_ideal m)) c),
     ((h.1 c).2 main_arg1 (Pipeline.mem_restRefs_of main_arg1 (by decide) (by decide))).trans (W_main_arg1 m (dats m (starts_ideal m)) c),
     ((h.1 c).2 main_arg2 (Pipeline.mem_restRefs_of main_arg2 (by decide) (by decide))).trans (W_main_arg2 m (dats m (starts_ideal m)) c),
     ((h.1 c).2 main_arg3 (Pipeline.mem_restRefs_of main_arg3 (by decide) (by decide))).trans (W_main_arg3 m (dats m (starts_ideal m)) c)⟩) (run_main m ρ (starts_ideal m))

end Cert.Kernel2Ideal.Att
end
-- ==== Proof.Finite.lean ====
module

public import Idealize.ShloMosaic.PureOps.Reduce
public import Idealize.ShloMosaic.PureOps.Ideal
public import Idealize.ShloMosaic.Lib.WordCmp
public import Idealize.ShloMosaic.Lib.Pointwise.Index

@[expose] public section

set_option maxRecDepth 16384

noncomputable section

namespace Cert.Finite

open Idealize.ShloMosaic

theorem all_lt_of_foldl {ι : Type} (x : ι → EReal) : ∀ (l : List ι) (a : EReal),
    l.foldl (fun r i => max r (x i)) a < ⊤ → a < ⊤ ∧ ∀ i ∈ l, x i < ⊤
  | [], _, h => ⟨h, fun _ hi => absurd hi List.not_mem_nil⟩
  | b :: l, a, h => by
    have := all_lt_of_foldl x l _ h
    refine ⟨(le_max_left _ _).trans_lt this.1, fun i hi => ?_⟩
    rcases List.mem_cons.1 hi with rfl | hi
    · exact (le_max_right _ _).trans_lt this.1
    · exact this.2 i hi

/-- An extended real whose absolute value is below infinity is a real. -/
theorem real_of_abs {x : EReal} (h : max x (-x) < ⊤) : x = ((x.toReal : ℝ) : EReal) := by
  induction x using EReal.rec with
  | bot => simp at h
  | top => simp at h
  | coe r => simp

theorem top_bits : (FloatOps.ofBits .f32 0x7F800000#32 : Ideal .f32) = (⊤ : EReal) := by
  simp [FloatOps.ofBits, Ideal.ofBits, Ideal.ieee]

/-- One test of a precondition: the largest absolute value of an array, reduced to a scalar, is below infinity, so every
    entry is a real. -/
theorem entries {s t : Shape} {axes : List (Fin s.rank)} (x : FVec Ideal s .f32) (h : s.ReducesTo axes t) (hu : 0 < t.numel) (j : t.Idx)
    (hall : ∀ i, h.drop i = j)
    (hx : cmpf .olt (Host.reduce FloatOps.maximumf (Host.absf x) (constant (F := Ideal) t .f32 0xFF800000#32) h hu)
      (constant (F := Ideal) t .f32 0x7F800000#32) j = 1#1) (i : s.Idx) : x i = (((x i).toReal : ℝ) : EReal) := by
  have hlt : Host.reduce FloatOps.maximumf (Host.absf x) (constant (F := Ideal) t .f32 0xFF800000#32) h hu j < (⊤ : EReal) := by
    rw [← top_bits]
    exact (WordCmp.ofBool_decide_eq_one_iff _).1 hx
  rw [Host.reduce_eq_foldl] at hlt
  have := (all_lt_of_foldl (fun i => (Host.absf x i : EReal)) _ _ hlt).2 i (by simpa [hall] using ⟨_, s.rowMajor.symm_apply_apply i⟩)
  exact real_of_abs this

/-- A conjunction of tests holds where each of them does. -/
theorem both {t : Shape} (a b : IVec t 1) (j : t.Idx) (h : andi a b j = 1#1) : a j = 1#1 ∧ b j = 1#1 := by
  have : a j &&& b j = 1#1 := h
  generalize a j = x at this ⊢
  generalize b j = y at this ⊢
  revert x y; decide

end Cert.Finite
end
-- ==== Proof.AttClaim.lean ====
module

public import proofs.«01_k».proof.Defs
public import proofs.«01_k».proof.Proof.AttFrame
public import proofs.«01_k».proof.Proof.AttValue
public import proofs.«01_k».proof.Proof.AttRef
public import proofs.«01_k».proof.Proof.Finite
public import proofs.«01_k».proof.Pre_finite2
public import Idealize.ShloMosaic.Lib.Claim

@[expose] public section

set_option maxRecDepth 16384

noncomputable section

namespace Cert.Proof.Att

open Idealize.ShloMosaic Idealize.SL.Sem Cert.Kernel2Ideal.Att

theorem pre_facts : Cert.Pre_finite2.Facts where
  reducesTo_S1x16x4096x64_S_d0_1_2_3 := by decide
  h_S_ := by decide

/-- An array of real entries, by head, row and lane. -/
theorem rows_of (x : FVec Ideal ⟨4, ![1, 16, 4096, 64]⟩ .f32) (h : ∀ i, x i = (((x i).toReal : ℝ) : EReal)) :
    ∃ f : Rows, x = ar4 f := by
  refine ⟨fun H R d => (x (ix4 0 H R d)).toReal, funext fun i => ?_⟩
  have hi : ix4 (0 : Fin 1) (i 1) (i 2) (i 3) = i := by
    refine Eq.trans ?_ (ix4_eta i)
    exact congrArg (fun a : Fin 1 => ix4 a (i 1) (i 2) (i 3)) (Subsingleton.elim _ _)
  exact (h i).trans (congrArg (fun j => (((x j).toReal : ℝ) : EReal)) hi.symm)

/-- The precondition makes the four argument arrays arrays of reals. -/
theorem reals [hP : Cert.Pre_finite2.Facts] (q k v o : FVec Ideal ⟨4, ![1, 16, 4096, 64]⟩ .f32)
    (h : Cert.Pre_finite2.fn (F := Ideal) q k v o = fun _ => 1#1) :
    (∃ f : Rows, q = ar4 f) ∧ (∃ f : Rows, k = ar4 f) ∧ (∃ f : Rows, v = ar4 f) ∧ ∃ f : Rows, o = ar4 f := by
  have h0 := congrFun h (fun a => a.elim0)
  obtain ⟨h0, ho⟩ := Finite.both _ _ _ h0
  obtain ⟨h0, hv⟩ := Finite.both _ _ _ h0
  obtain ⟨hq, hk⟩ := Finite.both _ _ _ h0
  have one : ∀ i, hP.reducesTo_S1x16x4096x64_S_d0_1_2_3.drop i = (fun a => a.elim0) := fun i => funext fun a => a.elim0
  exact ⟨rows_of q (Finite.entries q _ _ _ one hq), rows_of k (Finite.entries k _ _ _ one hk),
    rows_of v (Finite.entries v _ _ _ one hv), rows_of o (Finite.entries o _ _ _ one ho)⟩

theorem value [hP : Cert.Pre_finite2.Facts] : Cert.algebraic_Kernel2Ideal_Reference2Ideal_pre_finite2 := by
  intro m g m' g' hpre hagree
  refine ⟨_, _, _, Cert.Kernel2Ideal.Att.run_value m g, θ_run_mono (Cert.Reference2Ideal.Value.run m' g') fun r h c => ?_⟩
  obtain ⟨⟨q, hq⟩, ⟨k, hk⟩, ⟨v, hv⟩, ⟨o, ho⟩⟩ := reals _ _ _ _ (hpre c)
  obtain ⟨h0, h1, h2, h3⟩ := hagree c
  obtain ⟨e0, e1, e2, hargs⟩ := h c
  refine ⟨e0.trans ?_, e1.trans ?_, e2.trans ?_, hargs⟩
  · rw [Cert.Reference2Ideal.Att.dq_term, h0, h1, h2, h3, hq, hk, hv, ho, Cert.Reference2Ideal.Att.dq_real]
    exact (result42 m c q k v o hq hk hv ho).symm
  · rw [Cert.Reference2Ideal.Att.dk_term, h0, h1, h2, h3, hq, hk, hv, ho, Cert.Reference2Ideal.Att.dk_real]
    exact (result45 m c q k v o hq hk hv ho).symm
  · rw [Cert.Reference2Ideal.Att.dv_term, h0, h1, h3, hq, hk, ho, Cert.Reference2Ideal.Att.dv_real]
    exact (result48 m c q k v o hq hk hv ho).symm

end Cert.Proof.Att
end
-- ==== Proof.Frames.lean ====
module

public import proofs.«01_k».proof.Defs
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Reference5Ideal
public import proofs.«01_k».proof.Proof.Gen.Reference5Ideal.Run
public import proofs.«01_k».proof.Proof.Gen.Reference6Ideal
public import proofs.«01_k».proof.Proof.Gen.Reference6Ideal.Run
public import proofs.«01_k».proof.Proof.Gen.Reference9Ideal
public import proofs.«01_k».proof.Proof.Gen.Reference9Ideal.Run
public import proofs.«01_k».proof.Proof.Gen.Reference10Ideal
public import proofs.«01_k».proof.Proof.Gen.Reference10Ideal.Run
public import proofs.«01_k».proof.Proof.Gen.Reference11Ideal
public import proofs.«01_k».proof.Proof.Gen.Reference11Ideal.Run
public import proofs.«01_k».proof.Proof.Gen.Reference12Ideal
public import proofs.«01_k».proof.Proof.Gen.Reference12Ideal.Run
public import proofs.«01_k».proof.Proof.Gen.Reference13Ideal
public import proofs.«01_k».proof.Proof.Gen.Reference13Ideal.Run
public import proofs.«01_k».proof.Proof.Gen.Reference14Ideal
public import proofs.«01_k».proof.Proof.Gen.Reference14Ideal.Run
public import proofs.«01_k».proof.Proof.Gen.Reference15Ideal
public import proofs.«01_k».proof.Proof.Gen.Reference15Ideal.Run
public import proofs.«01_k».proof.Proof.Gen.Reference16Ideal
public import proofs.«01_k».proof.Proof.Gen.Reference16Ideal.Run
public import Idealize.ShloMosaic.Adequacy
public import Idealize.ShloMosaic.Lib.Claim
public import Idealize.ShloMosaic.Init

@[expose] public section

set_option maxRecDepth 16384

noncomputable section

namespace Cert.Proof

open Idealize.ShloMosaic Idealize.SL.Sem

theorem frame_reference3 : Cert.quiescent_Reference3Ideal := fun m g _ =>
  θ_run_mono (Cert.Reference3Ideal.Value.run m g) fun r h =>
    ⟨fun c => (h c).2, sem_eq_zero_of_no_sems (by decide) r.2⟩

theorem frame_reference4 : Cert.quiescent_Reference4Ideal := fun m g _ =>
  θ_run_mono (Cert.Reference4Ideal.Value.run m g) fun r h =>
    ⟨fun c => (h c).2.2.2, sem_eq_zero_of_no_sems (by decide) r.2⟩

theorem frame_reference5 : Cert.quiescent_Reference5Ideal := fun m g _ =>
  θ_run_mono (Cert.Reference5Ideal.Value.run m g) fun r h =>
    ⟨fun c => (h c).2.2.2, sem_eq_zero_of_no_sems (by decide) r.2⟩

theorem frame_reference6 : Cert.quiescent_Reference6Ideal := fun m g _ =>
  θ_run_mono (Cert.Reference6Ideal.Value.run m g) fun r h =>
    ⟨fun c => (h c).2.2.2, sem_eq_zero_of_no_sems (by decide) r.2⟩

theorem frame_reference9 : Cert.quiescent_Reference9Ideal := fun m g _ =>
  θ_run_mono (Cert.Reference9Ideal.Value.run m g) fun r h =>
    ⟨fun c => (h c).2, sem_eq_zero_of_no_sems (by decide) r.2⟩

theorem frame_reference10 : Cert.quiescent_Reference10Ideal := fun m g _ =>
  θ_run_mono (Cert.Reference10Ideal.Value.run m g) fun r h =>
    ⟨fun c => (h c).2.2, sem_eq_zero_of_no_sems (by decide) r.2⟩

theorem frame_reference11 : Cert.quiescent_Reference11Ideal := fun m g _ =>
  θ_run_mono (Cert.Reference11Ideal.Value.run m g) fun r h =>
    ⟨fun c => (h c).2.2, sem_eq_zero_of_no_sems (by decide) r.2⟩

theorem frame_reference12 : Cert.quiescent_Reference12Ideal := fun m g _ =>
  θ_run_mono (Cert.Reference12Ideal.Value.run m g) fun r h =>
    ⟨fun c => (h c).2, sem_eq_zero_of_no_sems (by decide) r.2⟩

theorem frame_reference13 : Cert.quiescent_Reference13Ideal := fun m g _ =>
  θ_run_mono (Cert.Reference13Ideal.Value.run m g) fun r h =>
    ⟨fun c => (h c).2.2, sem_eq_zero_of_no_sems (by decide) r.2⟩

theorem frame_reference14 : Cert.quiescent_Reference14Ideal := fun m g _ =>
  θ_run_mono (Cert.Reference14Ideal.Value.run m g) fun r h =>
    ⟨fun c => (h c).2, sem_eq_zero_of_no_sems (by decide) r.2⟩

theorem frame_reference15 : Cert.quiescent_Reference15Ideal := fun m g _ =>
  θ_run_mono (Cert.Reference15Ideal.Value.run m g) fun r h =>
    ⟨fun c => (h c).2, sem_eq_zero_of_no_sems (by decide) r.2⟩

theorem frame_reference16 : Cert.quiescent_Reference16Ideal := fun m g _ =>
  θ_run_mono (Cert.Reference16Ideal.Value.run m g) fun r h =>
    ⟨fun c => (h c).2.2.2.2, sem_eq_zero_of_no_sems (by decide) r.2⟩

end Cert.Proof
end
-- ==== Proof.FwdTile.lean ====
module

public import proofs.«01_k».proof.Proof.Gen.Kernel8Ideal.Skeleton
public import proofs.«01_k».proof.Proof.AttTile

@[expose] public section

set_option maxRecDepth 65536
set_option maxHeartbeats 4000000

noncomputable section

namespace Cert.Kernel8Ideal.Fwd

open Idealize.ShloMosaic Idealize.ShloMosaic.TcCoe Idealize.ShloMosaic.Tactic
open Gen
open Cert.Kernel2Ideal.Att (scores lsig lstay cut weights hw gadd overKeys lanes zero headL headR)

variable {F : FTy → Type} [FloatOps F] [Named F]

/-! One tile of the forward call, in the terms of the backward call's tiles: what one head carries over the key blocks is
    its row sum, its weighted values and the row sums it meets. -/

abbrev Head (F : FTy → Type) [FloatOps F] := FVec F S256x1 .f32 × FVec F S256x128 .f32 × FVec F S256x128 .f32

/-- What the tiles of a query block share: the lane numbers, the triangle, the two heads' queries. -/
structure Query (F : FTy → Type) where
  lane : IVec S1x128 32
  later : FVec F S256x256 .bf16
  q0 : FVec F S256x128 .bf16
  q1 : FVec F S256x128 .bf16

/-- One head of a tile. -/
def headStep (d : Bool) (lane : IVec S1x128 32) (later : FVec F S256x256 .bf16) (q : FVec F S256x128 .bf16) (j : BitVec 32)
    (k v : Vec F S256x128 .bf16) (s : Head F) : Head F :=
  (gadd s.1 (cut d (lstay (scores q (shapeCast S256x128 k shapeCasts_S256x128_S256x128)))),
    addf s.2.1 (overKeys (hw d later s.1 (scores q (shapeCast S256x128 k shapeCasts_S256x128_S256x128))) (shapeCast S256x128 v shapeCasts_S256x128_S256x128)),
    select (lanes (cmpi .eq lane (broadcast S1x128 j))) (broadcastTo S256x128 (shapeCast S256x1 s.1 shapeCasts_S256x1_S256x1) broadcasts_S256x1_S256x128) s.2.2)

abbrev St (F : FTy → Type) [FloatOps F] := FVec F S256x1 .f32 × FVec F S256x128 .f32 × FVec F S256x128 .f32 × FVec F S256x1 .f32 × FVec F S256x128 .f32 × FVec F S256x128 .f32

/-- A tile: both heads. -/
def tile (Q : Query F) (d : Bool) (j : BitVec 32) (k v : Vec F S256x128 .bf16) (s : St F) : St F :=
  let a := headStep d Q.lane Q.later Q.q0 j k v (s.1, s.2.1, s.2.2.1)
  let b := headStep d Q.lane Q.later Q.q1 j k v (s.2.2.2.1, s.2.2.2.2.1, s.2.2.2.2.2)
  (a.1, a.2.1, a.2.2, b.1, b.2.1, b.2.2)

/-- What a query block shares, from its own block. -/
def query (q : Vec F S256x128 .bf16) : Query F :=
  ⟨iota .tc S1x128 32 [1] iota_S1x128_d1_w32, k0_pay69, k0_pay71 q, k0_pay72 q⟩

/-- Nothing met yet. -/
def none0 : St F := (k0_pay74, k0_pay75, k0_pay73, k0_pay74, k0_pay75, k0_pay73)

/-- The first query block: one tile. -/
theorem first_eq (i : grid0.Coords) (hi : k0_cond1 i = 1#1) (q k v : Vec F S256x128 .bf16) :
    (k0_pay78 (k0_pay21 (k0_pay71 q) k0_pay76 k), k0_pay81 (k0_pay17 v) (k0_pay20 (k0_pay71 q) k) (k0_pay26 (k0_pay71 q) k0_pay76 k) (k0_pay27 (k0_pay71 q) k0_pay76 k) (constant S256x256 .f32 0x00000000#32),
      k0_pay77 (F := F) i, k0_pay80 (k0_pay25 (k0_pay72 q) k0_pay76 k), k0_pay82 (k0_pay17 v) (k0_pay24 (k0_pay72 q) k) (k0_pay25 (k0_pay72 q) k0_pay76 k), k0_pay79 (F := F) i)
    = tile (query q) true (BitVec.ofNat 32 (i 1).val) k v none0 := by
  rfl

/-- A later query block's first two tiles: the diagonal one and the one before it. -/
theorem second_eq (i : grid0.Coords) (q k v k' v' : Vec F S256x128 .bf16) :
    (let j : BitVec 32 := BitVec.ofNat 32 (i 1).val
     let v16 := k0_pay71 q; let v20 := k0_pay72 q
     let v97 := k0_pay34 v16 k; let v101 := k0_pay35 v16 k0_pay76 k; let v102 := k0_pay36 v20 k; let v104 := k0_pay37 v20 k; let v111 := k0_pay38 v20 k
     let v82 := k0_pay30 k'
     let v113 := k0_pay40 v102 v104 v111; let v117 := k0_pay41 k0_pay76 v104 v111; let v129 := k0_pay44 v16 v82; let v131 := k0_pay45 v16 v82
     let v143 := k0_pay48 v20 v82; let v145 := k0_pay49 v20 v82; let v156 := k0_pay50 k0_pay69 k0_pay74 v97 v101
     let cst : F .f32 := Scalar.ofBits .f32 0x00000000#32
     let v158 := k0_pay51 k0_pay76 v156 cst; let v171 := k0_pay52 k0_pay69 k0_pay74 k0_pay76 v113 v117
     let v3 := iota .tc S1x128 32 [1] iota_S1x128_d1_w32
     let v178 := k0_pay53 j v3 (k0_pay73 (F := F)) k0_pay74; let v181 := k0_pay54 k0_pay74 v101
     let v188 := k0_pay55 j v3 (k0_pay73 (F := F)) k0_pay74; let v191 := k0_pay56 k0_pay74 v117
     let v202 := k0_pay57 k0_pay69 k0_pay74 v101 v129 v131
     (k0_pay84 v131 v181, k0_pay87 (k0_pay29 v) (k0_pay31 v') v158 v202, k0_pay83 (Scalar.subi j 1#32) v178 v181, k0_pay86 v145 v191,
       k0_pay88 (k0_pay29 v) (k0_pay31 v') v143 v171 v191 (k0_pay59 v145) (k0_pay60 k0_pay69 v145) (constant S256x256 .f32 0x00000000#32),
       k0_pay85 (Scalar.subi j 1#32) v188 v191))
    = tile (query q) false (Scalar.subi (BitVec.ofNat 32 (i 1).val) 1#32) k' v' (tile (query q) true (BitVec.ofNat 32 (i 1).val) k v none0) := by
  rfl

/-- The key blocks a trip of the loop handles. -/
def blockA (i : grid0.Coords) (n : BitVec 32) : BitVec 32 := Scalar.subi (Scalar.subi (BitVec.ofNat 32 (i 1).val) 2#32) (Scalar.muli 2#32 n)
def blockB (i : grid0.Coords) (n : BitVec 32) : BitVec 32 := Scalar.subi (Scalar.subi (BitVec.ofNat 32 (i 1).val) 3#32) (Scalar.muli 2#32 n)

/-- What a trip of the loop makes of what is carried. -/
def trip (i : grid0.Coords) (n : BitVec 32) (v16 v20 : FVec F S256x128 .bf16) (v10 : FVec F S256x256 .bf16) (v3 : IVec S1x128 32)
    (k v k' v' : Vec F S256x128 .bf16) (s : St F) : St F :=
  let v105 := k0_pay96 v16 k; let v108 := k0_pay98 v20 k; let v109 := k0_pay99 v20 k; let v88 := k0_pay91 k'
  let v117 := k0_pay101 (k0_pay97 v20 k) v108 v109; let v119 := k0_pay102 v108 v109
  let v133 := k0_pay106 v16 v88; let v147 := k0_pay110 v20 v88
  let v179 := k0_pay115 s.1 v105; let v189 := k0_pay117 s.2.2.2.1 v119
  (k0_pay11 v133 v179,
    k0_pay14 s.2.1 (k0_pay90 v) (k0_pay92 v') (k0_pay112 s.1 (k0_pay95 v16 k) (k0_pay111 v10 v105)) (k0_pay118 v10 s.1 v105 (k0_pay105 v16 v88) v133),
    k0_pay10 v3 (blockB i n) (k0_pay114 v3 s.1 s.2.2.1 (blockA i n)) v179,
    k0_pay13 v147 v189,
    k0_pay15 s.2.2.2.2.1 (k0_pay90 v) (k0_pay92 v') (k0_pay109 v20 v88) (k0_pay113 v10 s.2.2.2.1 v117 v119) v189 (k0_pay120 v10 v147) (k0_pay121 v10 v147),
    k0_pay12 v3 (blockB i n) (k0_pay116 v3 s.2.2.2.1 s.2.2.2.2.2 (blockA i n)) v189)

theorem trip_eq (i : grid0.Coords) (n : BitVec 32) (Q : Query F) (k v k' v' : Vec F S256x128 .bf16) (s : St F) :
    trip i n Q.q0 Q.q1 Q.later Q.lane k v k' v' s = tile Q false (blockB i n) k' v' (tile Q false (blockA i n) k v s) := by
  rfl

/-- The last key block, where an odd number was left. -/
theorem last_eq (Q : Query F) (k v : Vec F S256x128 .bf16) (s : St F) :
    (k0_pay4 s.2.1 (k0_pay62 v) (k0_pay67 Q.later Q.q0 s.1 k), k0_pay2 Q.lane s.1 s.2.2.1,
      k0_pay5 Q.later s.2.2.2.1 s.2.2.2.2.1 (k0_pay62 v) (k0_pay65 Q.q1 k) (k0_pay66 Q.q1 k), k0_pay3 Q.lane s.2.2.2.1 s.2.2.2.2.2)
    = (let r := tile Q false 0#32 k v s; (r.2.1, r.2.2.1, r.2.2.2.2.1, r.2.2.2.2.2)) := by
  rfl

end Cert.Kernel8Ideal.Fwd

end
-- ==== Proof.FwdReal.lean ====
module

public import proofs.«01_k».proof.Proof.FwdTile
public import proofs.«01_k».proof.Proof.AttSum
public import Idealize.ShloMosaic.Lib.Pipeline.Value

@[expose] public section

set_option maxRecDepth 16384

noncomputable section

namespace Cert.Kernel8Ideal.Fwd

open Idealize.ShloMosaic Idealize.ShloMosaic.TcCoe Idealize.ShloMosaic.Tactic
open Gen
open Cert.Kernel2Ideal.Att (scores lsig lstay cut weights hw gadd overKeys lanes zero headL headR co mask tw tst tz cutr spr rix blk hd gz gls gstay gbtw gw pre)

/-! The forward call's tiles over real numbers. -/

/-- Queries cut to a head see only that head's lanes of the keys. -/
theorem scores_half (h : Fin 2) (q k : Fin 256 → Fin 128 → ℝ) :
    scores (F := Ideal) (co (mask h q)) (co k) = scores (F := Ideal) (co (mask h q)) (co (mask h k)) := by
  rw [Cert.Kernel2Ideal.Att.scores_co, Cert.Kernel2Ideal.Att.scores_co]
  refine congrArg (co (φ := .f32)) (funext fun r => funext fun s => Finset.sum_congr rfl fun c _ => ?_)
  unfold mask
  split_ifs
  · rfl
  · rw [zero_mul, zero_mul]

/-- A query block's two heads. -/
theorem query0_co (q : Fin 256 → Fin 128 → ℝ) : (query (F := Ideal) (co (φ := .bf16) q)).q0 = co (mask 0 q) :=
  (show (query (F := Ideal) (co (φ := .bf16) q)).q0 = headL (F := Ideal) Cert.Kernel2Ideal.Gen.k0_pay238 (co (φ := .bf16) q) from rfl).trans (Cert.Kernel2Ideal.Att.headL_co q)
theorem query1_co (q : Fin 256 → Fin 128 → ℝ) : (query (F := Ideal) (co (φ := .bf16) q)).q1 = co (mask 1 q) :=
  (show (query (F := Ideal) (co (φ := .bf16) q)).q1 = headR (F := Ideal) Cert.Kernel2Ideal.Gen.k0_pay238 (co (φ := .bf16) q) from rfl).trans (Cert.Kernel2Ideal.Att.headR_co q)

/-- One head of a tile: its rows' sums and its weighted values. -/
theorem headStep_co (d : Bool) (lane : IVec S1x128 32) (w : BitVec 32) (q k v : Fin 256 → Fin 128 → ℝ) (run : Fin 2 → Fin 256 → ℝ) (h : Fin 2)
    (acc : Fin 256 → Fin 128 → ℝ) (y : FVec Ideal S256x128 .f32) :
    (headStep (F := Ideal) d lane k0_pay69 (co (mask h q)) w (co (φ := .bf16) k) (co (φ := .bf16) v) (co (fun r (_ : Fin 1) => run h r), co acc, y)).1
        = co (fun r (_ : Fin 1) => run h r + ∑ s, tst d q k h r s)
    ∧ (headStep (F := Ideal) d lane k0_pay69 (co (mask h q)) w (co (φ := .bf16) k) (co (φ := .bf16) v) (co (fun r (_ : Fin 1) => run h r), co acc, y)).2.1
        = co (fun r c => acc r c + ∑ s, tw d q k run h r s * v s c) := by
  unfold headStep
  rw [shapeCast_self, shapeCast_self, scores_half]
  dsimp only
  constructor
  · rw [Cert.Kernel2Ideal.Att.scores_co, Cert.Kernel2Ideal.Att.lstay_co, Cert.Kernel2Ideal.Att.cut_co, Cert.Kernel2Ideal.Att.gadd_co]
    rfl
  · rw [show k0_pay69 (F := Ideal) = Cert.Kernel2Ideal.Gen.k0_pay239 (F := Ideal) from rfl, Cert.Kernel2Ideal.Att.hw_co, Cert.Kernel2Ideal.Att.overKeys_co]
    funext i
    exact (EReal.coe_add _ _).symm

/-- The sum over the columns from block `n` on. -/
def post (n : ℕ) (f : Fin 4096 → ℝ) : ℝ := ∑ S, if 256 * n ≤ S.val then f S else 0

theorem post_zero (f : Fin 4096 → ℝ) : post 0 f = ∑ S, f S := by
  unfold post
  exact Finset.sum_congr rfl fun S _ => if_pos (by omega)

theorem post_pre (n : ℕ) (f : Fin 4096 → ℝ) : pre n f + post n f = ∑ S, f S := by
  unfold pre post
  rw [← Finset.sum_add_distrib]
  refine Finset.sum_congr rfl fun S _ => ?_
  by_cases h : S.val < 256 * n
  · rw [if_pos h, if_neg (by omega), add_zero]
  · rw [if_neg h, if_pos (by omega), zero_add]

theorem post_block (n : Fin 16) (f : Fin 4096 → ℝ) : post n.val f = post (n.val + 1) f + ∑ s, f (rix n s) := by
  have h1 := post_pre n.val f
  have h2 := post_pre (n.val + 1) f
  rw [Cert.Kernel2Ideal.Att.pre_succ] at h2
  linarith

/-- Past the diagonal block there is nothing. -/
theorem post_none (n : ℕ) (f : Fin 4096 → ℝ) (h : ∀ S : Fin 4096, 256 * n ≤ S.val → f S = 0) : post n f = 0 := by
  unfold post
  refine Finset.sum_eq_zero fun S _ => ?_
  split_ifs with hS
  · exact h S hS
  · rfl

section
variable (Qa Ka Va : Fin 4096 → Fin 128 → ℝ) (i : Fin 16)

/-- A head's row sums and weighted values over the key blocks from `n` on. -/
def runTo (n : ℕ) (h : Fin 2) (r : Fin 256) : ℝ := post n (gstay Qa Ka h (rix i r))
def accTo (n : ℕ) (h : Fin 2) (r : Fin 256) (c : Fin 128) : ℝ := post n fun S => gw Qa Ka h (rix i r) S * Va S c

theorem runTo_btw (j : Fin 16) (h : Fin 2) (r : Fin 256) : runTo Qa Ka i (j.val + 1) h r = gbtw Qa Ka h (rix i r) (rix j ⟨255, by decide⟩) := by
  unfold runTo gbtw post
  refine Finset.sum_congr rfl fun S _ => if_congr ?_ rfl rfl
  show 256 * (j.val + 1) ≤ S.val ↔ 256 * j.val + 255 < S.val
  omega

/-- What is carried with the key blocks from `n` on done. -/
structure Inv (n : ℕ) (s : St Ideal) : Prop where
  run0 : s.1 = co fun r (_ : Fin 1) => runTo Qa Ka i n 0 r
  acc0 : s.2.1 = co (accTo Qa Ka Va i n 0)
  run1 : s.2.2.2.1 = co fun r (_ : Fin 1) => runTo Qa Ka i n 1 r
  acc1 : s.2.2.2.2.1 = co (accTo Qa Ka Va i n 1)

theorem none_inv : Inv Qa Ka Va i (i.val + 1) none0 := by
  have hS : ∀ (r : Fin 256) (S : Fin 4096), 256 * (i.val + 1) ≤ S.val → ¬ S.val < (rix i r).val := by
    intro r S h h'
    have h'' : S.val < 256 * i.val + r.val := h'
    omega
  have hr : ∀ h r, runTo Qa Ka i (i.val + 1) h r = 0 := fun h r => post_none _ _ fun S hs => if_neg (hS r S hs)
  have ha : ∀ h r c, accTo Qa Ka Va i (i.val + 1) h r c = 0 := fun h r c => post_none _ _ fun S hs => by
    rw [show gw Qa Ka h (rix i r) S = 0 from if_neg (hS r S hs), zero_mul]
  constructor
  · simp only [hr]; funext y; exact Cert.Kernel2Ideal.Att.bits_zero
  · rw [show accTo Qa Ka Va i (i.val + 1) 0 = fun _ _ => 0 from funext fun r => funext fun c => ha 0 r c]; funext y; exact Cert.Kernel2Ideal.Att.bits_zero
  · simp only [hr]; funext y; exact Cert.Kernel2Ideal.Att.bits_zero
  · rw [show accTo Qa Ka Va i (i.val + 1) 1 = fun _ _ => 0 from funext fun r => funext fun c => ha 1 r c]; funext y; exact Cert.Kernel2Ideal.Att.bits_zero

/-- A head's step takes one more key block in. -/
theorem headStep_to (j : Fin 16) (hij : j ≤ i) (h : Fin 2) (lane : IVec S1x128 32) (w : BitVec 32) (y : FVec Ideal S256x128 .f32) :
    (headStep (F := Ideal) (decide (j = i)) lane k0_pay69 (co (mask h (blk i Qa))) w (co (φ := .bf16) (blk j Ka)) (co (φ := .bf16) (blk j Va))
        (co (fun r (_ : Fin 1) => runTo Qa Ka i (j.val + 1) h r), co (accTo Qa Ka Va i (j.val + 1) h), y)).1 = co (fun r (_ : Fin 1) => runTo Qa Ka i j.val h r)
    ∧ (headStep (F := Ideal) (decide (j = i)) lane k0_pay69 (co (mask h (blk i Qa))) w (co (φ := .bf16) (blk j Ka)) (co (φ := .bf16) (blk j Va))
        (co (fun r (_ : Fin 1) => runTo Qa Ka i (j.val + 1) h r), co (accTo Qa Ka Va i (j.val + 1) h), y)).2.1 = co (accTo Qa Ka Va i j.val h) := by
  obtain ⟨h1, h2⟩ := headStep_co (decide (j = i)) lane w (blk i Qa) (blk j Ka) (blk j Va) (runTo Qa Ka i (j.val + 1)) h (accTo Qa Ka Va i (j.val + 1) h) y
  refine ⟨h1.trans (congrArg (co (φ := .f32)) (funext fun r => funext fun _ => ?_)), h2.trans (congrArg (co (φ := .f32)) (funext fun r => funext fun c => ?_))⟩
  · unfold runTo
    rw [post_block j]
    refine congrArg (_ + ·) (Finset.sum_congr rfl fun s _ => ?_)
    unfold tst
    rw [Cert.Kernel2Ideal.Att.cutr_blk i j hij]
    rfl
  · unfold accTo
    rw [post_block j]
    refine congrArg (_ + ·) (Finset.sum_congr rfl fun s _ => ?_)
    rw [Cert.Kernel2Ideal.Att.tw_blk Qa Ka h i j hij _ (fun h r => runTo_btw Qa Ka i j h r)]
    rfl

set_option maxHeartbeats 4000000 in
theorem tile_inv (j : Fin 16) (hij : j ≤ i) (w : BitVec 32) (s : St Ideal) (H : Inv Qa Ka Va i (j.val + 1) s) :
    Inv Qa Ka Va i j.val (tile (query (F := Ideal) (co (φ := .bf16) (blk i Qa))) (decide (j = i)) w (co (φ := .bf16) (blk j Ka)) (co (φ := .bf16) (blk j Va)) s) := by
  obtain ⟨s1, s2, s3, s4, s5, s6⟩ := s
  obtain ⟨e1, e2, e3, e4⟩ := H
  dsimp only at e1 e2 e3 e4
  subst e1 e2 e3 e4
  unfold tile
  rw [query0_co, query1_co]
  obtain ⟨a1, a2⟩ := headStep_to Qa Ka Va i j hij 0 (query (F := Ideal) (co (φ := .bf16) (blk i Qa))).lane w s3
  obtain ⟨b1, b2⟩ := headStep_to Qa Ka Va i j hij 1 (query (F := Ideal) (co (φ := .bf16) (blk i Qa))).lane w s6
  exact ⟨a1, a2, b1, b2⟩

set_option maxHeartbeats 4000000 in
/-- The block a grid point leaves: each lane its own head's weighted values. -/
theorem out_inv (s : St Ideal) (H : Inv Qa Ka Va i 0 s) : k0_pay6 (F := Ideal) k0_pay68 s.2.1 s.2.2.2.2.1
    = co (φ := .f32) fun r c => ∑ S, gw Qa Ka ⟨c.val / 64, by omega⟩ (rix i r) S * Va S c := by
  rw [H.acc0, H.acc1]
  funext y
  have hy : (y 1).val < 128 := (y 1).isLt
  unfold k0_pay6
  pointwise
  rw [show (k0_pay68 (ix2 0 (y 1)) : BitVec 1) = if (y 1).val < 64 then 1#1 else 0#1 from Cert.Kernel2Ideal.Att.pay238_at _, Cert.Kernel2Ideal.Att.select_if]
  unfold co accTo
  rw [post_zero, post_zero]
  split_ifs with h
  · exact congrArg (fun h : Fin 2 => ((∑ S, gw Qa Ka h (rix i (y 0)) S * Va S (y 1) : ℝ) : EReal)) (Fin.ext (by show 0 = (y 1).val / 64; omega))
  · exact congrArg (fun h : Fin 2 => ((∑ S, gw Qa Ka h (rix i (y 0)) S * Va S (y 1) : ℝ) : EReal)) (Fin.ext (by show 1 = (y 1).val / 64; omega))
end

end Cert.Kernel8Ideal.Fwd
end
-- ==== Proof.FwdKit.lean ====
module

public import proofs.«01_k».proof.Proof.Gen.Kernel8Ideal.Launch
public import proofs.«01_k».proof.Proof.Gen.Kernel8Ideal.Points
public import proofs.«01_k».proof.Proof.Gen.Kernel8Ideal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel8Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F] [Named F]
variable (m : (ℓ : Loc nD τ sig) → Buf (Elt F) ℓ) (ρ : Dev nD → PrngReg)

/-- A core's buffers when the region is entered: what the host operations before it leave of the launch's. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

/-- The host operations allocate nothing. -/
theorem fresh_before : (hostOps0 : List (HloOp τ sig (Elt F))).Forall fun op => op.fresh = ∅ := by
  simp only [List.Forall]; repeat' constructor
theorem fresh_after : (hostOps1 : List (HloOp τ sig (Elt F))).Forall fun op => op.fresh = ∅ := by
  simp only [List.Forall]; repeat' constructor

/-- The program is the host operations, the region, and the host operations on its results. -/
theorem hmain (𝒱 : Variants) : Pipeline.HMainK (Ix := Unit) (Name := ℕ) (U := UR sig nD τ) (Lvl := ℕ) cfgs 0 defs₀ 𝒱 m (main (F := F)) (V m)
      (fun _ => Pipeline.chain ([hostOps1].map StableHlo.seq)) :=
  Pipeline.hmain_around cfgs 0 defs₀ 𝒱 m main [hostOps0] [hostOps1] (by simp only [List.Forall]; exact hostOps0_sub)
    (by simp only [List.Forall]; exact fresh_before) main_chain

theorem tail_mem {ops : List (HloOp τ sig (Elt F))} (h : ops ∈ ([hostOps1 (F := F)] : List (List (HloOp τ sig (Elt F))))) : ops = hostOps1 (F := F) :=
  List.mem_singleton.mp h

theorem tail_sub : ∀ ops ∈ ([hostOps1 (F := F)] : List (List (HloOp τ sig (Elt F)))), ∀ op ∈ ops,
    op.bufs ⊆ Pipeline.tailRefs sig Pipeline.Prefetch.none spec0 := by
  rw [Pipeline.tailRefs_none spec0 (launch₀0 (F := F)).win.arr_unscoped]
  intro ops hops op hop
  obtain rfl := tail_mem hops
  exact Pipeline.sub_ucRefs op ((List.forall_iff_forall_mem.mp hostOps1_sub) op hop)

theorem tail_fresh : ∀ ops ∈ ([hostOps1 (F := F)] : List (List (HloOp τ sig (Elt F)))), ∀ op ∈ ops, op.fresh = ∅ := by
  intro ops hops op hop
  obtain rfl := tail_mem hops
  exact (List.forall_iff_forall_mem.mp fresh_after) op hop

/-- A buffer the host operations before the region do not write, and one those after it do not. -/
def Untouched (b : Ref sig .tc) : Prop :=
  ((hostOps0 : List (HloOp τ sig (Elt F))).Forall fun op => Proc.devRef .tc b ∉ op.writes)
    ∧ (hostOps1 : List (HloOp τ sig (Elt F))).Forall fun op => Proc.devRef .tc b ∉ op.writes

theorem tail_keeps : ∀ ops ∈ ([hostOps1 (F := F)] : List (List (HloOp τ sig (Elt F)))), ∀ op ∈ ops,
    ∀ w, Proc.devRef .tc (Pipeline.arrRef spec0 w) ∉ op.writes := by
  intro ops hops op hop
  obtain rfl := tail_mem hops
  simp only [hostOps1, List.mem_cons, List.mem_nil_iff, or_false] at hop
  rcases hop with rfl | rfl | rfl
  all_goals
    intro w; fin_cases w <;> simp only [StableHlo.unary_writes, StableHlo.reshape_writes, Finset.mem_singleton] <;> exact StableHlo.devRef_ne_of_ne (by decide)

theorem untouched (b : Ref sig .tc) (h : b = main_arg0 ∨ b = main_arg1 ∨ b = main_arg2) : Untouched (F := F) b := by
  rcases h with rfl | rfl | rfl
  all_goals
    refine ⟨?_, ?_⟩
    all_goals
      simp only [hostOps0, hostOps1, List.Forall, StableHlo.nullary_writes, StableHlo.unary_writes, StableHlo.binary_writes, StableHlo.ternary_writes, StableHlo.quaternary_writes,
        StableHlo.reshape_writes, StableHlo.nary_writes, Finset.mem_singleton]
      repeat' apply And.intro
      all_goals exact StableHlo.devRef_ne_of_ne (by decide)

/-- Such a buffer enters the region as launched, -/
theorem V_arg {b : Ref sig .tc} (h : Untouched (F := F) b) (c : Dev nD) : V m c b = m ((c : Thread nD τ).loc b) :=
  StableHlo.after_of_forall_not_mem (b := Proc.devRef .tc b) _ _ (by
    rw [List.flatten_cons, List.flatten_nil, List.append_nil]; exact List.forall_iff_forall_mem.mp h.1)

/-- and ends so. -/
theorem W_arg {b : Ref sig .tc} (h : Untouched (F := F) b) (hb : ∀ w, Pipeline.arrRef spec0 w ≠ b)
    (dats : (p : Fin _) → (c : Dev nD) → Dat τ (Elt F) Unit ℕ (UR sig nD τ) ℕ (cfgs (F := F) p) c) (c : Dev nD) :
    Pipeline.afterTail₀ (cfgs (F := F)) dats 0 (V0 m) [hostOps1] c b = m ((c : Thread nD τ).loc b) := by
  unfold Pipeline.afterTail₀
  rw [StableHlo.after_of_forall_not_mem (b := Proc.devRef .tc b) _ _ (by
      rw [List.flatten_cons, List.flatten_nil, List.append_nil]; exact List.forall_iff_forall_mem.mp h.2),
    Pipeline.withArrays_of_ne _ c (V0 m c) _ b hb]
  exact V_arg m h c

/-- A window's block at a grid point, read off its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The three inputs' staging buffers hold their blocks at every point, for any proof data that starts from the
    region's arrays and keeps those blocks. -/
theorem before0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The frame from a run of the region: the three arguments are staged by no window and written by no host operation. -/
theorem frame_of (dats : (p : Fin 1) → (c : Dev nD) → Dat τ (Elt F) Unit ℕ (UR sig nD τ) ℕ (cfgs (F := F) p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by exact (by decide : ∀ w, Pipeline.arrRef spec0 w ≠ main_arg0)))).trans (W_arg m (untouched _ (.inl rfl)) (by exact (by decide : ∀ w, Pipeline.arrRef spec0 w ≠ main_arg0)) dats c),
      ((h c).2 main_arg1 (Pipeline.mem_restRefs_of main_arg1 (by decide) (by exact (by decide : ∀ w, Pipeline.arrRef spec0 w ≠ main_arg1)))).trans (W_arg m (untouched _ (.inr (.inl rfl))) (by exact (by decide : ∀ w, Pipeline.arrRef spec0 w ≠ main_arg1)) dats c),
      ((h c).2 main_arg2 (Pipeline.mem_restRefs_of main_arg2 (by decide) (by exact (by decide : ∀ w, Pipeline.arrRef spec0 w ≠ main_arg2)))).trans (W_arg m (untouched _ (.inr (.inr rfl))) (by exact (by decide : ∀ w, Pipeline.arrRef spec0 w ≠ main_arg2)) dats c)⟩) h

end Cert.Kernel8Ideal.Fwd

end
-- ==== Proof.FwdBody.lean ====
module

public import proofs.«01_k».proof.Proof.FwdKit
public import proofs.«01_k».proof.Proof.FwdTile
public import Idealize.ShloMosaic.Lib.VecWindow

@[expose] public section

set_option maxRecDepth 16384
set_option maxHeartbeats 4000000

noncomputable section

namespace Cert.Kernel8Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F] [Named F]

/-- The number of pairs of key blocks before a query block's last pair, as the loop computes it. -/
def pairs (i : grid0.Coords) : BitVec 32 :=
  let x := Scalar.maxsi (Scalar.subi (BitVec.ofNat 32 (i 1).val) 1#32) 0#32
  Scalar.select (Scalar.andi (Scalar.cmpi .ne (Scalar.subi (Scalar.extui (Scalar.cmpi .sgt x 0#32)) (Scalar.extui (Scalar.cmpi .slt x 0#32)))
      (Scalar.subi (Scalar.extui (Scalar.cmpi .sgt 2#32 0#32)) (Scalar.extui (Scalar.cmpi .slt 2#32 0#32)))) (Scalar.cmpi .ne (Scalar.remsi x 2#32) 0#32))
    (Scalar.subi (Scalar.divsi x 2#32) 1#32) (Scalar.divsi x 2#32)

/-- Whether one key block is left after the loop. -/
def odd (i : grid0.Coords) : BitVec 1 :=
  let x := Scalar.maxsi (Scalar.subi (BitVec.ofNat 32 (i 1).val) 1#32) 0#32
  let d := Scalar.select (Scalar.cmpi .eq 2#32 0#32) 1#32 2#32
  let r := Scalar.remsi x d
  Scalar.cmpi .eq (Scalar.select (Scalar.andi (Scalar.xori (Scalar.cmpi .slt r 0#32) (Scalar.cmpi .slt d 0#32)) (Scalar.cmpi .ne r 0#32)) (Scalar.addi r d) r) 1#32

/-- Whether some row of the two heads still takes part. -/
def alive (s : St F) : BitVec 1 := Scalar.cmpf .oge (k0_pay9 s.1 s.2.2.2.1) (Named.named κ "dead" 0xC2D00000#32)

/-- The loop's test, and the test of the block left after it. -/
def goesOn (i : grid0.Coords) (n : BitVec 32) (s : St F) : BitVec 1 := Scalar.andi (Scalar.cmpi .slt n (pairs i)) (alive s)
def takesLast (i : grid0.Coords) (s : St F) : BitVec 1 := Scalar.cmpi .ne (Scalar.extui (Scalar.andi (odd i) (alive s))) 0#32

section
variable (i : grid0.Coords) (arg3 arg4 : Memref sig .tc .vmem S4096x128 .bf16)
  (X3 : BufTy.Contents (Elt F) arg3.view.ty) (X4 : BufTy.Contents (Elt F) arg4.view.ty)

/-- The rows of a whole column read at an offset. -/
abbrev rows (arg : Memref sig .tc .vmem S4096x128 .bf16) (X : BufTy.Contents (Elt F) arg.view.ty) (off : Fin 2 → ℕ)
    (inb : ∀ a, off a + S256x128.size a ≤ S4096x128.size a) : Vec F S256x128 .bf16 :=
  View.readAt (Elt F) arg.view (Rect.unit (s := S4096x128) off S256x128.size inb).toLoadRect X

/-- One trip on the memory's rows. -/
def tripAt (v16 v20 : FVec F S256x128 .bf16) (v10 : FVec F S256x256 .bf16) (v3 : IVec S1x128 32) (n : BitVec 32) (h : k0_chk1 i n) (s : St F) : St F :=
  trip i n v16 v20 v10 v3 (rows arg3 X3 _ (k0_off4_inb i n h 0)) (rows arg4 X4 _ (k0_off4_inb i n h 0))
    (rows arg3 X3 _ (k0_off4_inb i n h 1)) (rows arg4 X4 _ (k0_off4_inb i n h 1)) s

open Classical in
/-- The loop with so many trips to go at most. -/
def loop (v16 v20 : FVec F S256x128 .bf16) (v10 : FVec F S256x256 .bf16) (v3 : IVec S1x128 32) : ℕ → BitVec 32 → St F → BitVec 32 × St F
  | 0, n, s => (n, s)
  | k + 1, n, s => if h : k0_chk1 i n then
      if goesOn i n s = 1#1 then loop v16 v20 v10 v3 k (Scalar.addi n 1#32) (tripAt i arg3 arg4 X3 X4 v16 v20 v10 v3 n h s) else (n, s)
    else (n, s)

open Classical in
/-- What is carried when the loop begins, -/
def entered (q : Vec F S256x128 .bf16) : St F :=
  if h : k0_cond1 i = 1#1 then
    tile (query q) true (BitVec.ofNat 32 (i 1).val) (rows arg3 X3 _ (k0_off1_inb i h)) (rows arg4 X4 _ (k0_off1_inb i h)) none0
  else
    tile (query q) false (Scalar.subi (BitVec.ofNat 32 (i 1).val) 1#32) (rows arg3 X3 _ (k0_off3_inb i h)) (rows arg4 X4 _ (k0_off3_inb i h))
      (tile (query q) true (BitVec.ofNat 32 (i 1).val) (rows arg3 X3 _ (k0_off2_inb i h)) (rows arg4 X4 _ (k0_off2_inb i h)) none0)

/-- when it ends, -/
def looped (q : Vec F S256x128 .bf16) (T : ℕ) : St F :=
  (loop i arg3 arg4 X3 X4 (k0_pay71 q) (k0_pay72 q) k0_pay69 (iota .tc S1x128 32 [1] iota_S1x128_d1_w32) T 0#32 (entered i arg3 arg4 X3 X4 q)).2

/-- and at the end. -/
def ended (q : Vec F S256x128 .bf16) (T : ℕ) : St F :=
  if takesLast i (looped i arg3 arg4 X3 X4 q T) = 1#1 then
    tile (query q) false 0#32 (rows arg3 X3 _ inb_S4096x128_S256x128_0_0) (rows arg4 X4 _ inb_S4096x128_S256x128_0_0) (looped i arg3 arg4 X3 X4 q T)
  else looped i arg3 arg4 X3 X4 q T
end

/-- What a grid point's loop meets: its blocks lie in the columns up to the trip its test stops at. -/
structure Trips (i : grid0.Coords) (T : ℕ) : Prop where
  chk : ∀ n, n < T → k0_chk1 i (BitVec.ofNat 32 n)
  stop : Scalar.cmpi .slt (BitVec.ofNat 32 T) (pairs i) = 0#1

/-- Ownership of the two columns the loop reads. -/
abbrev held (c : Dev nD) (arg3 arg4 : Memref sig .tc .vmem S4096x128 .bf16)
    (X3 : BufTy.Contents (Elt F) arg3.view.ty) (X4 : BufTy.Contents (Elt F) arg4.view.ty) : sProp (MT nD τ sig Unit (Elt F) ℕ (UR sig nD τ) ℕ) :=
  iprop((arg3.view.loc (c : Thread nD τ) ↦[arg3.view.set]{fullShare} X3) ∗ (arg4.view.loc (c : Thread nD τ) ↦[arg4.view.set]{fullShare} X4))

/-- The loop's specification: it reads the two columns and returns what it carries. -/
def spec (c : Dev nD) (arg3 arg4 : Memref sig .tc .vmem S4096x128 .bf16)
    (X3 : BufTy.Contents (Elt F) arg3.view.ty) (X4 : BufTy.Contents (Elt F) arg4.view.ty) (r : BitVec 32 × St F) :
    sWPT (MT nD τ sig Unit (Elt F) ℕ (UR sig nD τ) ℕ) (BitVec 32 × St F) := do
  sWPT.consume (held c arg3 arg4 X3 X4)
  sWPT.produce (held c arg3 arg4 X3 X4)
  pure r

theorem spec_apply (c : Dev nD) (arg3 arg4 : Memref sig .tc .vmem S4096x128 .bf16)
    (X3 : BufTy.Contents (Elt F) arg3.view.ty) (X4 : BufTy.Contents (Elt F) arg4.view.ty) (r : BitVec 32 × St F) (K : BitVec 32 × St F → sProp (MT nD τ sig Unit (Elt F) ℕ (UR sig nD τ) ℕ)) :
    spec c arg3 arg4 X3 X4 r K = iprop(held c arg3 arg4 X3 X4 ∗ (held c arg3 arg4 X3 X4 -∗ K r)) := rfl

theorem andi_zero (b : BitVec 1) : ¬ Scalar.andi 0#1 b = 1#1 := by revert b; decide

theorem addi_one (n : ℕ) : Scalar.addi (BitVec.ofNat 32 n) 1#32 = BitVec.ofNat 32 (n + 1) := by
  show BitVec.ofNat 32 n + 1#32 = _
  rw [BitVec.ofNat_add]

theorem spec_le (c : Dev nD) (i : grid0.Coords) (T : ℕ) (hT : Trips i T) (arg3 : Memref sig .tc .vmem S4096x128 .bf16) (harg3 : arg3.IsWhole) (arg4 : Memref sig .tc .vmem S4096x128 .bf16) (harg4 : arg4.IsWhole)
    (X3 : BufTy.Contents (Elt F) arg3.view.ty) (X4 : BufTy.Contents (Elt F) arg4.view.ty)
    (v16 v20 : FVec F S256x128 .bf16) (v10 : FVec F S256x256 .bf16) (v3 : IVec S1x128 32) (E : Set ℕ) :
    ∀ k n, n + k = T → ∀ (s : St F) K, spec c arg3 arg4 X3 X4 (loop i arg3 arg4 X3 X4 v16 v20 v10 v3 k (BitVec.ofNat 32 n) s) K
      ⊢ wp frame (wpE (defs₀ (F := F)) Variants.nat (c : Thread nD τ) (some k)) E
          (cc0_while1 i arg3 harg3 arg4 harg4 v16 v20 v10 v3 (BitVec.ofNat 32 n) s.1 s.2.1 s.2.2.1 s.2.2.2.1 s.2.2.2.2.1 s.2.2.2.2.2) K := by
  intro k
  induction k with
  | zero =>
    intro n hn s K
    have hs : ¬ goesOn i (BitVec.ofNat 32 n) s = 1#1 := by
      unfold goesOn; rw [show n = T by omega, hT.stop]; exact andi_zero _
    obtain ⟨s1, s2, s3, s4, s5, s6⟩ := s
    rw [spec_apply]
    simp only [cc0_while1_eq_skeleton]; unfold cc0_while1_skel
    dsimp only [goesOn, pairs, alive] at hs
    simp only [hs, ↓reduceIte, Prog.pure_eq_ret]
    iintro ⟨H, Hk⟩
    rw [wp_ret]; imodintro
    simp only [loop]
    iapply Hk; iexact H
  | succ k ih =>
    intro n hn s K
    have hchk := hT.chk n (by omega)
    rw [spec_apply]
    simp only [cc0_while1_eq_skeleton]; unfold cc0_while1_skel
    by_cases hs : goesOn i (BitVec.ofNat 32 n) s = 1#1
    · have hs' := hs
      dsimp only [goesOn, pairs, alive] at hs'
      simp only [hs', ↓reduceIte]
      simp only [k0_part7_eq_skeleton, k0_part8_eq_skeleton, k0_part9_eq_skeleton]
      unfold k0_part7_skel k0_part8_skel k0_part9_skel
      simp only [Prog.lift, Prog.bind_op, Prog.bind_ret, Prog.pure_eq_ret]
      iintro ⟨⟨H3, H4⟩, Hk⟩
      sl_exec (disch := sl_exact hchk)
      iapply (wp_call_spec Variants.nat (c : Thread nD τ) (some (k + 1)) E (spec c arg3 arg4 X3 X4
          (loop i arg3 arg4 X3 X4 v16 v20 v10 v3 k (Scalar.addi (BitVec.ofNat 32 n) 1#32) (tripAt i arg3 arg4 X3 X4 v16 v20 v10 v3 (BitVec.ofNat 32 n) hchk s))) k
        (fun u hu => by cases hu; exact Nat.lt_succ_self k) ?_)
      · intro K
        have h := ih (n + 1) (by omega) (tripAt i arg3 arg4 X3 X4 v16 v20 v10 v3 (BitVec.ofNat 32 n) hchk s) K
        rw [← addi_one] at h
        exact h
      · rw [spec_apply]
        isplitl [H3 H4]
        · isplitl [H3]; · iexact H3
          iexact H4
        iintro H
        rw [wp_ret]; imodintro
        rw [loop, dif_pos hchk, if_pos hs]
        iapply Hk; iexact H
    · have hs' := hs
      dsimp only [goesOn, pairs, alive] at hs'
      simp only [hs', ↓reduceIte, Prog.pure_eq_ret]
      iintro ⟨H, Hk⟩
      rw [wp_ret]; imodintro
      rw [loop, dif_pos hchk, if_neg hs]
      iapply Hk; iexact H

end Cert.Kernel8Ideal.Fwd

end
-- ==== Proof.FwdPoint.lean ====
module

public import proofs.«01_k».proof.Proof.FwdBody

@[expose] public section

set_option maxRecDepth 16384
set_option maxHeartbeats 4000000

noncomputable section

namespace Cert.Kernel8Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F] [Named F]

section
variable (i : grid0.Coords) (T : ℕ) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole)
  (x2 : Vec F S256x128 .bf16) (x3 x4 : Vec F S4096x128 .bf16)

/-- The query block read whole. -/
abbrev q2 : Vec F S256x128 .bf16 :=
  View.readAt (Elt F) arg2.view (Rect.unit (s := S256x128) ![0, 0] S256x128.size inb_S256x128_S256x128_0_0).toLoadRect (harg2.unread x2)

/-- What is carried at a point's end, from its three blocks. -/
def endState : St F :=
  ended i arg3 arg4 (harg3.unread x3) (harg4.unread x4)
    (q2 arg2 harg2 x2) T

/-- The point's output block: each head's lanes of its weighted values, -/
def outO : Vec F S256x128 .f32 :=
  k0_pay6 k0_pay68 (endState i T arg2 harg2 arg3 harg3 arg4 harg4 x2 x3 x4).2.1 (endState i T arg2 harg2 arg3 harg3 arg4 harg4 x2 x3 x4).2.2.2.2.1

/-- and the two heads' row sums, one above the other. -/
def outRuns : List (View.Piece (Elt F) S2x256x128 .f32) :=
  [⟨Rect.unit (s := S2x256x128) ![1, 0, 0] S1x256x128.size inb_S2x256x128_S1x256x128_1_0_0, k0_pay8 (endState i T arg2 harg2 arg3 harg3 arg4 harg4 x2 x3 x4).2.2.2.2.2⟩,
    ⟨Rect.unit (s := S2x256x128) ![0, 0, 0] S1x256x128.size inb_S2x256x128_S1x256x128_0_0_0, k0_pay7 (endState i T arg2 harg2 arg3 harg3 arg4 harg4 x2 x3 x4).2.2.1⟩]
def outR : Vec F S2x256x128 .f32 := View.canon (outRuns i T arg2 harg2 arg3 harg3 arg4 harg4 x2 x3 x4)
end

/-- A head pair's first query block enters the loop with one key block done, -/
theorem entered_pos {i : grid0.Coords} {arg3 arg4 : Memref sig .tc .vmem S4096x128 .bf16}
    {X3 : BufTy.Contents (Elt F) arg3.view.ty} {X4 : BufTy.Contents (Elt F) arg4.view.ty} {q : Vec F S256x128 .bf16} (h : k0_cond1 i = 1#1) :
    entered i arg3 arg4 X3 X4 q = tile (query q) true (BitVec.ofNat 32 (i 1).val) (rows arg3 X3 _ (k0_off1_inb i h)) (rows arg4 X4 _ (k0_off1_inb i h)) none0 := by
  unfold entered; rw [dif_pos h]

/-- a later one with two. -/
theorem entered_neg {i : grid0.Coords} {arg3 arg4 : Memref sig .tc .vmem S4096x128 .bf16}
    {X3 : BufTy.Contents (Elt F) arg3.view.ty} {X4 : BufTy.Contents (Elt F) arg4.view.ty} {q : Vec F S256x128 .bf16} (h : ¬ k0_cond1 i = 1#1) :
    entered i arg3 arg4 X3 X4 q = tile (query q) false (Scalar.subi (BitVec.ofNat 32 (i 1).val) 1#32) (rows arg3 X3 _ (k0_off3_inb i h)) (rows arg4 X4 _ (k0_off3_inb i h))
      (tile (query q) true (BitVec.ofNat 32 (i 1).val) (rows arg3 X3 _ (k0_off2_inb i h)) (rows arg4 X4 _ (k0_off2_inb i h)) none0) := by
  unfold entered; rw [dif_neg h]

/-- A block overwritten whole holds what was written. -/
theorem whole5 {m : Memref sig .tc .vmem S256x128 .f32} {f : m.view.ty.Contents (Elt F)} {w : Vec F S256x128 .f32} :
    m.view.read (Elt F) (m.view.writes (Elt F) f [⟨Rect.unit (s := S256x128) ![0, 0] S256x128.size inb_S256x128_S256x128_0_0, w⟩]) = w :=
  View.read_writes_full m.view f inb_S256x128_S256x128_0_0 w []

/-- Two slabs written over a pair of blocks leave nothing of what was there. -/
theorem whole6 {m : Memref sig .tc .vmem S2x256x128 .f32} {f : m.view.ty.Contents (Elt F)} {w w' : Vec F S1x256x128 .f32} :
    m.view.read (Elt F) (m.view.writes (Elt F) f [⟨Rect.unit (s := S2x256x128) ![1, 0, 0] S1x256x128.size inb_S2x256x128_S1x256x128_1_0_0, w⟩,
      ⟨Rect.unit (s := S2x256x128) ![0, 0, 0] S1x256x128.size inb_S2x256x128_S1x256x128_0_0_0, w'⟩])
    = View.canon [⟨Rect.unit (s := S2x256x128) ![1, 0, 0] S1x256x128.size inb_S2x256x128_S1x256x128_1_0_0, w⟩,
      ⟨Rect.unit (s := S2x256x128) ![0, 0, 0] S1x256x128.size inb_S2x256x128_S1x256x128_0_0_0, w'⟩] :=
  View.read_writes_eq_canon m.view f _ (View.cover_of_tiledL _ S1x256x128.size (by rfl))

/-- The values the body passes on when its loop ends, -/
abbrev Carried (F : FTy → Type) : Type := Σ' (v2 : IVec S1x128 1) (v3 : IVec S1x128 32) (v10 : FVec F S256x256 .bf16) (v16 : FVec F S256x128 .bf16) (v20 : FVec F S256x128 .bf16) (v33_1 : FVec F S256x1 .f32) (v33_2 : FVec F S256x128 .f32) (v33_3 : FVec F S256x128 .f32) (v33_4 : FVec F S256x1 .f32) (v33_5 : FVec F S256x128 .f32) (v33_6 : FVec F S256x128 .f32) (v35 : BitVec 32) (v36 : BitVec 32) (v37 : BitVec 1), BitVec 32

/-- and what they are. -/
def after (i : grid0.Coords) (q : Vec F S256x128 .bf16) (s : St F) : Carried F :=
  let d := Scalar.select (Scalar.cmpi .eq 2#32 0#32) 1#32 2#32
  let r := Scalar.remsi (Scalar.maxsi (Scalar.subi (BitVec.ofNat 32 (i 1).val) 1#32) 0#32) d
  ⟨k0_pay68, iota .tc S1x128 32 [1] iota_S1x128_d1_w32, k0_pay69, k0_pay71 q, k0_pay72 q, s.1, s.2.1, s.2.2.1, s.2.2.2.1, s.2.2.2.2.1, s.2.2.2.2.2, d, r, Scalar.cmpi .ne r 0#32, 0#32⟩

/-- The body up to its loop's end. -/
theorem upTo (c : Dev nD) (i : grid0.Coords) (T : ℕ) (hT : Trips i T) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole)
    (arg5 : Memref sig .tc .vmem S256x128 .f32) (harg5 : arg5.IsWhole) (arg6 : Memref sig .tc .vmem S2x256x128 .f32) (harg6 : arg6.IsWhole)
    (x2 : Vec F S256x128 .bf16) (x3 x4 : Vec F S4096x128 .bf16) (E : Set ℕ) (K : Carried F → sProp (MT nD τ sig Unit (Elt F) ℕ (UR sig nD τ) ℕ)) :
    iprop((arg2.view.loc (c : Thread nD τ) ↦[arg2.view.set]{fullShare} harg2.unread x2) ∗ (arg3.view.loc (c : Thread nD τ) ↦[arg3.view.set]{fullShare} harg3.unread x3)
        ∗ (arg4.view.loc (c : Thread nD τ) ↦[arg4.view.set]{fullShare} harg4.unread x4)
        ∗ (iprop((arg2.view.loc (c : Thread nD τ) ↦[arg2.view.set]{fullShare} harg2.unread x2) ∗ (arg3.view.loc (c : Thread nD τ) ↦[arg3.view.set]{fullShare} harg3.unread x3)
          ∗ (arg4.view.loc (c : Thread nD τ) ↦[arg4.view.set]{fullShare} harg4.unread x4))
          -∗ K (after i (q2 arg2 harg2 x2) (looped i arg3 arg4 (harg3.unread x3) (harg4.unread x4) (q2 arg2 harg2 x2) T))))
      ⊢ wp frame (wpE (defs₀ (F := F)) Variants.nat c none) E (k0_part6 i arg2 harg2 arg3 harg3 arg4 harg4 arg5 harg5 arg6 harg6) K := by
  simp only [k0_part6_eq_skeleton]; unfold k0_part6_skel
  unfold after looped
  iintro ⟨H2, H3, H4, Hk⟩
  by_cases h1 : k0_cond1 i = 1#1
  · simp only [k0_part1_eq_skeleton]; unfold k0_part1_skel
    sl_exec (disch := sl_exact h1)
    iapply (wp_call_spec Variants.nat (c : Thread nD τ) none E
      (spec c arg3 arg4 (harg3.unread x3) (harg4.unread x4) (loop i arg3 arg4 (harg3.unread x3) (harg4.unread x4) (k0_pay71 (q2 arg2 harg2 x2)) (k0_pay72 (q2 arg2 harg2 x2)) k0_pay69 (iota .tc S1x128 32 [1] iota_S1x128_d1_w32) T 0#32
        (entered i arg3 arg4 (harg3.unread x3) (harg4.unread x4) (q2 arg2 harg2 x2)))) T (fun u hu => nomatch hu) ?_)
    · intro K
      rw [entered_pos h1]
      exact spec_le c i T hT arg3 harg3 arg4 harg4 (harg3.unread x3) (harg4.unread x4) _ _ _ _ E T 0 (by omega) _ K
    · rw [spec_apply]
      isplitl [H3 H4]
      · isplitl [H3]; · iexact H3
        iexact H4
      iintro ⟨H3, H4⟩
      rw [Prog.pure_eq_ret, wp_ret]; imodintro
      iapply Hk
      isplitl [H2]; · iexact H2
      isplitl [H3]; · iexact H3
      iexact H4
  · simp only [k0_part2_eq_skeleton, k0_part3_eq_skeleton, k0_part4_eq_skeleton]; unfold k0_part2_skel k0_part3_skel k0_part4_skel
    sl_exec (disch := sl_exact h1)
    iapply (wp_call_spec Variants.nat (c : Thread nD τ) none E
      (spec c arg3 arg4 (harg3.unread x3) (harg4.unread x4) (loop i arg3 arg4 (harg3.unread x3) (harg4.unread x4) (k0_pay71 (q2 arg2 harg2 x2)) (k0_pay72 (q2 arg2 harg2 x2)) k0_pay69 (iota .tc S1x128 32 [1] iota_S1x128_d1_w32) T 0#32
        (entered i arg3 arg4 (harg3.unread x3) (harg4.unread x4) (q2 arg2 harg2 x2)))) T (fun u hu => nomatch hu) ?_)
    · intro K
      rw [entered_neg h1]
      exact spec_le c i T hT arg3 harg3 arg4 harg4 (harg3.unread x3) (harg4.unread x4) _ _ _ _ E T 0 (by omega) _ K
    · rw [spec_apply]
      isplitl [H3 H4]
      · isplitl [H3]; · iexact H3
        iexact H4
      iintro ⟨H3, H4⟩
      rw [Prog.pure_eq_ret, wp_ret]; imodintro
      iapply Hk
      isplitl [H2]; · iexact H2
      isplitl [H3]; · iexact H3
      iexact H4

end Cert.Kernel8Ideal.Fwd

end
-- ==== Proof.FwdEnd.lean ====
module

public import proofs.«01_k».proof.Proof.FwdPoint

@[expose] public section

set_option maxRecDepth 16384
set_option maxHeartbeats 4000000

noncomputable section

namespace Cert.Kernel8Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F] [Named F]

theorem pay19 : k0_pay1 (F := F) = k0_pay9 := rfl

/-- The body at a grid point. -/
theorem body (c : Dev nD) (i : grid0.Coords) (T : ℕ) (hT : Trips i T) (arg2 : Memref sig .tc .vmem S256x128 .bf16) (harg2 : arg2.IsWhole) (arg3 : Memref sig .tc .vmem S4096x128 .bf16) (harg3 : arg3.IsWhole) (arg4 : Memref sig .tc .vmem S4096x128 .bf16) (harg4 : arg4.IsWhole)
    (arg5 : Memref sig .tc .vmem S256x128 .f32) (harg5 : arg5.IsWhole) (arg6 : Memref sig .tc .vmem S2x256x128 .f32) (harg6 : arg6.IsWhole)
    (x2 : Vec F S256x128 .bf16) (x3 x4 : Vec F S4096x128 .bf16) (E : Set ℕ) (K : PUnit → sProp (MT nD τ sig Unit (Elt F) ℕ (UR sig nD τ) ℕ)) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg2 fullShare x2 ∗ owns (c : Thread nD τ) arg3 fullShare x3 ∗ owns (c : Thread nD τ) arg4 fullShare x4
          ∗ owns (c : Thread nD τ) arg5 fullShare (outO i T arg2 harg2 arg3 harg3 arg4 harg4 x2 x3 x4)
          ∗ owns (c : Thread nD τ) arg6 fullShare (outR i T arg2 harg2 arg3 harg3 arg4 harg4 x2 x3 x4)) -∗ K ⟨⟩))
      ⊢ wp frame (wpE (defs₀ (F := F)) Variants.nat c none) E (cc0_sb_fwd i arg2 harg2 arg3 harg3 arg4 harg4 arg5 harg5 arg6 harg6) K := by
  simp only [cc0_sb_fwd_eq_skeleton]; unfold cc0_sb_fwd_skel
  rw [wp_bind]
  unfold owns
  iintro ⟨⟨%f2, %hf2, H2⟩, ⟨%f3, %hf3, H3⟩, ⟨%f4, %hf4, H4⟩, ⟨%d5, %f5, -, H5⟩, ⟨%d6, %f6, -, H6⟩, Hk⟩
  obtain rfl := harg2.eq_unread hf2; obtain rfl := harg3.eq_unread hf3; obtain rfl := harg4.eq_unread hf4
  iapply (upTo c i T hT arg2 harg2 arg3 harg3 arg4 harg4 arg5 harg5 arg6 harg6 x2 x3 x4 E)
  isplitl [H2]; · iexact H2
  isplitl [H3]; · iexact H3
  isplitl [H4]; · iexact H4
  iintro ⟨H2, H3, H4⟩
  have he : endState i T arg2 harg2 arg3 harg3 arg4 harg4 x2 x3 x4
    = if takesLast i (looped i arg3 arg4 (harg3.unread x3) (harg4.unread x4) (q2 arg2 harg2 x2) T) = 1#1 then
        tile (query (q2 arg2 harg2 x2)) false 0#32 (rows arg3 (harg3.unread x3) _ inb_S4096x128_S256x128_0_0) (rows arg4 (harg4.unread x4) _ inb_S4096x128_S256x128_0_0) (looped i arg3 arg4 (harg3.unread x3) (harg4.unread x4) (q2 arg2 harg2 x2) T)
      else looped i arg3 arg4 (harg3.unread x3) (harg4.unread x4) (q2 arg2 harg2 x2) T := rfl
  unfold outO outR outRuns
  generalize looped i arg3 arg4 (harg3.unread x3) (harg4.unread x4) (q2 arg2 harg2 x2) T = s at he ⊢
  obtain ⟨e, hse⟩ : ∃ e, e = endState i T arg2 harg2 arg3 harg3 arg4 harg4 x2 x3 x4 := ⟨_, rfl⟩
  rw [← hse] at he ⊢
  by_cases ht : takesLast i s = 1#1
  · rw [if_pos ht] at he
    have ht' := ht
    dsimp only [takesLast, odd, alive] at ht'
    dsimp only [after]
    simp only [pay19, ht', ↓reduceIte]
    simp only [k0_part5_eq_skeleton]; unfold k0_part5_skel
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr
      swap; · iexact H5
      ipureintro; exact whole5.trans (by rw [he]; rfl)
    iexists _; isplitr
    swap; · iexact H6
    ipureintro; exact whole6.trans (by rw [he]; rfl)
  · rw [if_neg ht] at he
    have ht' := ht
    dsimp only [takesLast, odd, alive] at ht'
    dsimp only [after]
    simp only [pay19, ht', ↓reduceIte]
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr
      swap; · iexact H5
      ipureintro; exact whole5.trans (by rw [he])
    iexists _; isplitr
    swap; · iexact H6
    ipureintro; exact whole6.trans (by rw [he])

end Cert.Kernel8Ideal.Fwd

end
-- ==== Proof.FwdRun.lean ====
module

public import proofs.«01_k».proof.Proof.FwdEnd

@[expose] public section

set_option maxRecDepth 16384
set_option maxHeartbeats 4000000

noncomputable section

namespace Cert.Kernel8Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F] [Named F]

variable (m : (ℓ : Loc nD τ sig) → Buf (Elt F) ℓ) (ρ : Dev nD → PrngReg)

/-- The loop's trips at a grid point: a pair of key blocks each, of those before the two the body begins with. -/
def trips (t : Fin (cfg0 (F := F)).N) : ℕ := (t.val % 16 - 1) / 2

/-- Over the grid points: the words the loop branches on, and that its blocks lie in the columns. -/
theorem chk_of : ∀ (t : Fin (cfg0 (F := F)).N) (n : Fin 8), n.val < (t.val % 16 - 1) / 2 → k0_chk1 (grid0.coords t) (BitVec.ofNat 32 n.val) :=
  (by decide +kernel : ∀ (t : Fin grid0.N) (n : Fin 8), n.val < (t.val % 16 - 1) / 2 → k0_chk1 (grid0.coords t) (BitVec.ofNat 32 n.val))
theorem stop_of : ∀ t : Fin (cfg0 (F := F)).N, Scalar.cmpi .slt (BitVec.ofNat 32 ((t.val % 16 - 1) / 2)) (pairs (grid0.coords t)) = 0#1 :=
  (by decide +kernel : ∀ t : Fin grid0.N, Scalar.cmpi .slt (BitVec.ofNat 32 ((t.val % 16 - 1) / 2)) (pairs (grid0.coords t)) = 0#1)

theorem trips_of (t : Fin (cfg0 (F := F)).N) : Trips (grid0.coords t) (trips t) :=
  ⟨fun n hn => by
    unfold trips at hn
    exact chk_of t ⟨n, by have := Nat.mod_lt t.val (by decide : 0 < 16); omega⟩ hn, stop_of t⟩

/-- The output blocks after the body at grid point `t`. -/
def out3 (c : Dev nD) (t : Fin (cfg0 (F := F)).N) : Vec F S256x128 .f32 :=
  outO (grid0.coords t) (trips t) (st0_0 t) (hstage0_0 ((cfg0.slots t 0).cast nbuf0_0)) (st0_1 t) (hstage0_1 ((cfg0.slots t 1).cast nbuf0_1)) (st0_2 t) (hstage0_2 ((cfg0.slots t 2).cast nbuf0_2)) (iblk m c 0 t) (iblk m c 1 t) (iblk m c 2 t)
def out4 (c : Dev nD) (t : Fin (cfg0 (F := F)).N) : Vec F S2x256x128 .f32 :=
  outR (grid0.coords t) (trips t) (st0_0 t) (hstage0_0 ((cfg0.slots t 0).cast nbuf0_0)) (st0_1 t) (hstage0_1 ((cfg0.slots t 1).cast nbuf0_1)) (st0_2 t) (hstage0_2 ((cfg0.slots t 2).cast nbuf0_2)) (iblk m c 0 t) (iblk m c 1 t) (iblk m c 2 t)

/-- The proof data of the call: the inputs' buffers keep their blocks, the outputs' hold the body's. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 m c t
    | ⟨4, _⟩ => out4 m c t
    | ⟨_ + 5, h⟩ => absurd h (Nat.not_lt.2 (Nat.le_add_left _ _))
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0 (c : Dev nD) (t : Fin (cfg0 (F := F)).N) : (dats m 0 c).after 0 t = iblk m c 0 t := rfl
theorem after1 (c : Dev nD) (t : Fin (cfg0 (F := F)).N) : (dats m 0 c).after 1 t = iblk m c 1 t := rfl
theorem after2 (c : Dev nD) (t : Fin (cfg0 (F := F)).N) : (dats m 0 c).after 2 t = iblk m c 2 t := rfl
theorem after3 (c : Dev nD) (t : Fin (cfg0 (F := F)).N) : (dats m 0 c).after 3 t = out3 m c t := rfl
theorem after4 (c : Dev nD) (t : Fin (cfg0 (F := F)).N) : (dats m 0 c).after 4 t = out4 m c t := rfl
theorem before0 (c : Dev nD) (t : Fin (cfg0 (F := F)).N) (d) : (dats m 0 c).before 0 t d = iblk m c 0 t :=
  before0_of m (dats m 0 c) (A_eq m c 0) (after0 m c) t d
theorem before1 (c : Dev nD) (t : Fin (cfg0 (F := F)).N) (d) : (dats m 0 c).before 1 t d = iblk m c 1 t :=
  before1_of m (dats m 0 c) (A_eq m c 1) (after1 m c) t d
theorem before2 (c : Dev nD) (t : Fin (cfg0 (F := F)).N) (d) : (dats m 0 c).before 2 t d = iblk m c 2 t :=
  before2_of m (dats m 0 c) (A_eq m c 2) (after2 m c) t d

/-- What the body is called with at point `t`, window by window, -/
def bodyPre (c : Dev nD) (t : Fin (cfg0 (F := F)).N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it leaves. -/
def bodyPost (c : Dev nD) (t : Fin (cfg0 (F := F)).N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any grid point. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0, before1, before2]
  rw [show (dats m 0 c).owesAt () t.succ = (dats m 0 c).owesAt () t.castSucc from rfl,
    show (dats m 0 c).Φ t.succ = (dats m 0 c).Φ t.castSucc from rfl,
    after0, after1, after2, after3, after4]
  iintro ⟨HP, Ho, ⟨%d0, H0⟩, ⟨%d1, H1⟩, ⟨%d2, H2⟩, ⟨%d3, H3⟩, ⟨%d4, H4⟩⟩
  iapply (body c (grid0.coords t) (trips t) (trips_of t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 t) (iblk m c 1 t) (iblk m c 2 t) Set.univ)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HP]; · iexact HP
  isplitl [Ho]; · iexact Ho
  isplitl [H0]; · iexact H0
  isplitl [H1]; · iexact H1
  isplitl [H2]; · iexact H2
  isplitl [H3]; · iexact H3
  iexact H4

theorem defs₀_row (t : Fin (cfg0 (F := F)).N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

set_option backward.isDefEq.respectTransparency.types false in
/-- The whole program: it terminates, its arrays end at what the proof data say, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.nat m ρ main
    (hbody := fun c => (body_obligation m c).loose) (hq := fun _ _ _ => rfl) (howed := fun _ _ => rfl)
    (V₀ := V0 m) (opss := [hostOps1]) tail_sub tail_fresh tail_keeps (hmain := hmain m Variants.nat) (hA := A_eq m)
    (hΦ := fun _ _ => rfl)

/-- The frame: the arguments end as they began and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) ((θ_run defs _ _).mono (fun _ h => h.1) (run_main m ρ)))
    ((θ_run defs _ _).mono (fun _ h => h.2) (run_main m ρ))

end Cert.Kernel8Ideal.Fwd

end
-- ==== Proof.FwdValue.lean ====
module

public import proofs.«01_k».proof.Proof.FwdReal
public import proofs.«01_k».proof.Proof.FwdRun
public import proofs.«01_k».proof.Proof.AttGrid

@[expose] public section

set_option maxRecDepth 16384
set_option maxHeartbeats 4000000

noncomputable section

namespace Cert.Kernel8Ideal.Fwd

open Idealize.ShloMosaic Idealize.ShloMosaic.TcCoe Idealize.ShloMosaic.Tactic
open Idealize.ShloMosaic.Pipeline (Dat Cfg Window)
open Gen
open Cert.Kernel2Ideal.Att (co rix blk hd gz gls gstay gbtw gw colPair colLane at_col)

/-! The forward call's grid points over real numbers, and the array they leave. -/

/-- The pair of heads and the query block of a grid point. -/
def pairOf (t : Fin grid0.N) : Fin 8 := ⟨t.val / 16, by have : t.val < 128 := t.isLt; omega⟩
def blockOf (t : Fin grid0.N) : Fin 16 := ⟨t.val % 16, Nat.mod_lt _ (by decide)⟩

/-! Over the grid points: where the tiles' key blocks lie, and which of them are there. -/
theorem off1_at : ∀ t : Fin grid0.N, k0_off1 (grid0.coords t) = ![256 * (t.val % 16), 0] := by decide +kernel
theorem off2_at : ∀ t : Fin grid0.N, k0_off2 (grid0.coords t) = ![256 * (t.val % 16), 0] := by decide +kernel
theorem off3_at : ∀ t : Fin grid0.N, t.val % 16 ≠ 0 → k0_off3 (grid0.coords t) = ![256 * (t.val % 16 - 1), 0] := by decide +kernel
theorem off4_at : ∀ (t : Fin grid0.N) (n : Fin 8) (r : Fin 2), n.val < (t.val % 16 - 1) / 2 →
    k0_off4 (grid0.coords t) (BitVec.ofNat 32 n.val) (BitVec.ofNat 32 (2 + r.val)) = ![256 * (t.val % 16 - 2 - 2 * n.val - r.val), 0] := by decide +kernel
theorem first_at : ∀ t : Fin grid0.N, k0_cond1 (grid0.coords t) = 1#1 ↔ t.val % 16 = 0 := by decide +kernel
theorem more_at : ∀ (t : Fin grid0.N) (n : Fin 8), n.val < (t.val % 16 - 1) / 2 → Scalar.cmpi .slt (BitVec.ofNat 32 n.val) (pairs (grid0.coords t)) = 1#1 := by decide +kernel
theorem odd_at : ∀ t : Fin grid0.N, odd (grid0.coords t) = if (t.val % 16 - 1) % 2 = 1 then 1#1 else 0#1 := by decide +kernel

theorem idx3 : ∀ t : Fin (cfg0 (F := Ideal)).N, win0_3.index t = ![t.val % 16, t.val / 16] :=
  (by decide +kernel : ∀ t : Fin grid0.N, win0_3.index t = ![t.val % 16, t.val / 16])

/-- With the threshold at minus infinity every row takes part. -/
theorem alive_ideal (s : St Ideal) : alive (F := Ideal) s = 1#1 := by
  unfold alive
  generalize k0_pay9 (F := Ideal) s.1 s.2.2.2.1 = x
  show (if (⊥ : EReal) ≤ x then 1#1 else 0#1) = 1#1
  exact if_pos bot_le

/-- Rows of a column of reals. -/
theorem rows_real {arg : Memref sig .tc .vmem S4096x128 .bf16} (h : arg.IsWhole) (X : Fin 4096 → Fin 128 → ℝ) (n : Fin 16) (off : Fin 2 → ℕ)
    (inb : ∀ a, off a + S256x128.size a ≤ S4096x128.size a) (ho : off = ![256 * n.val, 0]) :
    rows (F := Ideal) arg (h.unread (co (φ := .bf16) X)) off inb = co (φ := .bf16) (blk n X) := by
  subst ho
  funext y
  unfold rows
  rw [Memref.IsWhole.readAt_unread]
  refine congrArg₂ (fun R c => ((X R c : ℝ) : EReal)) (Fin.ext ?_) (Fin.ext ?_)
  · show 256 * n.val + 1 * (y 0).val = 256 * n.val + (y 0).val; omega
  · show 0 + 1 * (y 1).val = (y 1).val; omega

section
variable (Qa Ka Va : Fin 4096 → Fin 128 → ℝ) (t : Fin grid0.N) (arg3 : Memref sig .tc .vmem S4096x128 .bf16) (h3 : arg3.IsWhole) (arg4 : Memref sig .tc .vmem S4096x128 .bf16) (h4 : arg4.IsWhole)

/-- One more key block, read where the program reads it. -/
theorem tile_rows (j : Fin 16) (hij : j ≤ blockOf t) (d : Bool) (hd : d = decide (j = blockOf t)) (w : BitVec 32) (off : Fin 2 → ℕ)
    (inb inb' : ∀ a, off a + S256x128.size a ≤ S4096x128.size a) (ho : off = ![256 * j.val, 0]) (s : St Ideal) (H : Inv Qa Ka Va (blockOf t) (j.val + 1) s) :
    Inv Qa Ka Va (blockOf t) j.val (tile (query (F := Ideal) (co (φ := .bf16) (blk (blockOf t) Qa))) d w
      (rows (F := Ideal) arg3 (h3.unread (co (φ := .bf16) Ka)) off inb) (rows (F := Ideal) arg4 (h4.unread (co (φ := .bf16) Va)) off inb') s) := by
  rw [rows_real h3 Ka j off inb ho, rows_real h4 Va j off inb' ho, hd]
  exact tile_inv Qa Ka Va (blockOf t) j hij w s H

/-- What the loop begins with: one key block done, or two. -/
theorem entered_inv : Inv Qa Ka Va (blockOf t) (t.val % 16 - 1) (entered (F := Ideal) (grid0.coords t) arg3 arg4 (h3.unread (co (φ := .bf16) Ka)) (h4.unread (co (φ := .bf16) Va)) (co (φ := .bf16) (blk (blockOf t) Qa))) := by
  have hn := none_inv Qa Ka Va (blockOf t)
  by_cases h : k0_cond1 (grid0.coords t) = 1#1
  · rw [entered_pos h]
    have h0 : t.val % 16 = 0 := (first_at t).mp h
    have := tile_rows Qa Ka Va t arg3 h3 arg4 h4 (blockOf t) le_rfl true (decide_eq_true rfl).symm (BitVec.ofNat 32 (grid0.coords t 1).val) _ (k0_off1_inb _ h) (k0_off1_inb _ h) (off1_at t) none0 hn
    rwa [show (blockOf t).val = t.val % 16 - 1 from by show t.val % 16 = _; omega] at this
  · rw [entered_neg h]
    have h0 : t.val % 16 ≠ 0 := fun h' => h ((first_at t).mpr h')
    have h1 := tile_rows Qa Ka Va t arg3 h3 arg4 h4 (blockOf t) le_rfl true (decide_eq_true rfl).symm (BitVec.ofNat 32 (grid0.coords t 1).val) _ (k0_off2_inb _ h) (k0_off2_inb _ h) (off2_at t) none0 hn
    have hb : t.val % 16 - 1 < 16 := by omega
    rw [show (blockOf t).val = (⟨t.val % 16 - 1, hb⟩ : Fin 16).val + 1 from by show t.val % 16 = t.val % 16 - 1 + 1; omega] at h1
    exact tile_rows Qa Ka Va t arg3 h3 arg4 h4 ⟨t.val % 16 - 1, hb⟩ (by show t.val % 16 - 1 ≤ t.val % 16; omega) false
      (decide_eq_false fun e => by have e' : t.val % 16 - 1 = t.val % 16 := congrArg Fin.val e; omega).symm _ _ (k0_off3_inb _ h) (k0_off3_inb _ h) (off3_at t h0) _ h1

/-- A trip takes two key blocks in. -/
theorem trip_inv (n : ℕ) (hn : n < (t.val % 16 - 1) / 2) (hc : k0_chk1 (grid0.coords t) (BitVec.ofNat 32 n)) (s : St Ideal) (H : Inv Qa Ka Va (blockOf t) (t.val % 16 - 1 - 2 * n) s) :
    Inv Qa Ka Va (blockOf t) (t.val % 16 - 1 - 2 * (n + 1)) (tripAt (F := Ideal) (grid0.coords t) arg3 arg4 (h3.unread (co (φ := .bf16) Ka)) (h4.unread (co (φ := .bf16) Va))
      (k0_pay71 (co (φ := .bf16) (blk (blockOf t) Qa))) (k0_pay72 (co (φ := .bf16) (blk (blockOf t) Qa))) k0_pay69 (iota .tc S1x128 32 [1] iota_S1x128_d1_w32) (BitVec.ofNat 32 n) hc s) := by
  have h16 : t.val % 16 < 16 := Nat.mod_lt _ (by decide)
  have hA : t.val % 16 - 2 - 2 * n < 16 := by omega
  have hB : t.val % 16 - 3 - 2 * n < 16 := by omega
  have o0 := off4_at t ⟨n, by omega⟩ 0 hn
  have o1 := off4_at t ⟨n, by omega⟩ 1 hn
  unfold tripAt
  refine Eq.mp (congrArg (Inv Qa Ka Va (blockOf t) _) (trip_eq (F := Ideal) (grid0.coords t) (BitVec.ofNat 32 n) (query (F := Ideal) (co (φ := .bf16) (blk (blockOf t) Qa))) _ _ _ _ s).symm) ?_
  rw [show t.val % 16 - 1 - 2 * n = (⟨_, hA⟩ : Fin 16).val + 1 from by show _ = t.val % 16 - 2 - 2 * n + 1; omega] at H
  have h1 := tile_rows Qa Ka Va t arg3 h3 arg4 h4 ⟨_, hA⟩ (by show t.val % 16 - 2 - 2 * n ≤ t.val % 16; omega) false
    (decide_eq_false fun e => by have e' : t.val % 16 - 2 - 2 * n = t.val % 16 := congrArg Fin.val e; omega).symm (blockA (grid0.coords t) (BitVec.ofNat 32 n)) _ (k0_off4_inb _ _ hc 0) (k0_off4_inb _ _ hc 0)
    (o0.trans (by rfl)) s H
  rw [show (⟨_, hA⟩ : Fin 16).val = (⟨_, hB⟩ : Fin 16).val + 1 from by show t.val % 16 - 2 - 2 * n = t.val % 16 - 3 - 2 * n + 1; omega] at h1
  have h2 := tile_rows Qa Ka Va t arg3 h3 arg4 h4 ⟨_, hB⟩ (by show t.val % 16 - 3 - 2 * n ≤ t.val % 16; omega) false
    (decide_eq_false fun e => by have e' : t.val % 16 - 3 - 2 * n = t.val % 16 := congrArg Fin.val e; omega).symm (blockB (grid0.coords t) (BitVec.ofNat 32 n)) _ (k0_off4_inb _ _ hc 1) (k0_off4_inb _ _ hc 1)
    (o1.trans (congrArg (fun x : ℕ => (![256 * x, 0] : Fin 2 → ℕ)) (by show t.val % 16 - 2 - 2 * n - 1 = t.val % 16 - 3 - 2 * n; omega))) _ h1
  rw [show (⟨_, hB⟩ : Fin 16).val = t.val % 16 - 1 - 2 * (n + 1) from by show t.val % 16 - 3 - 2 * n = _; omega] at h2
  exact h2

/-- The loop takes all its pairs in. -/
theorem loop_inv : ∀ k n, n + k = (t.val % 16 - 1) / 2 → ∀ s : St Ideal, Inv Qa Ka Va (blockOf t) (t.val % 16 - 1 - 2 * n) s →
    Inv Qa Ka Va (blockOf t) (t.val % 16 - 1 - 2 * ((t.val % 16 - 1) / 2)) (loop (F := Ideal) (grid0.coords t) arg3 arg4 (h3.unread (co (φ := .bf16) Ka)) (h4.unread (co (φ := .bf16) Va))
      (k0_pay71 (co (φ := .bf16) (blk (blockOf t) Qa))) (k0_pay72 (co (φ := .bf16) (blk (blockOf t) Qa))) k0_pay69 (iota .tc S1x128 32 [1] iota_S1x128_d1_w32) k (BitVec.ofNat 32 n) s).2
  | 0, n, hn, s, H => by
    rw [loop]
    rwa [show n = (t.val % 16 - 1) / 2 by omega] at H
  | k + 1, n, hn, s, H => by
    have hlt : n < (t.val % 16 - 1) / 2 := by omega
    have h16 : t.val % 16 < 16 := Nat.mod_lt _ (by decide)
    have hc : k0_chk1 (grid0.coords t) (BitVec.ofNat 32 n) := (trips_of (F := Ideal) t).chk n hlt
    have hg : goesOn (F := Ideal) (grid0.coords t) (BitVec.ofNat 32 n) s = 1#1 := by
      unfold goesOn
      rw [alive_ideal, more_at t ⟨n, by omega⟩ hlt]
      rfl
    rw [loop, dif_pos hc, if_pos hg, addi_one]
    exact loop_inv k (n + 1) (by omega) _ (trip_inv Qa Ka Va t arg3 h3 arg4 h4 n hlt hc s H)

/-- At the end every key block is done. -/
theorem ended_inv : Inv Qa Ka Va (blockOf t) 0 (ended (F := Ideal) (grid0.coords t) arg3 arg4 (h3.unread (co (φ := .bf16) Ka)) (h4.unread (co (φ := .bf16) Va)) (co (φ := .bf16) (blk (blockOf t) Qa)) ((t.val % 16 - 1) / 2)) := by
  have h16 : t.val % 16 < 16 := Nat.mod_lt _ (by decide)
  have hl : Inv Qa Ka Va (blockOf t) (t.val % 16 - 1 - 2 * ((t.val % 16 - 1) / 2)) (looped (F := Ideal) (grid0.coords t) arg3 arg4 (h3.unread (co (φ := .bf16) Ka)) (h4.unread (co (φ := .bf16) Va)) (co (φ := .bf16) (blk (blockOf t) Qa)) ((t.val % 16 - 1) / 2)) :=
    loop_inv Qa Ka Va t arg3 h3 arg4 h4 _ 0 (Nat.zero_add _) _ (entered_inv Qa Ka Va t arg3 h3 arg4 h4)
  unfold ended
  have ho : takesLast (F := Ideal) (grid0.coords t) (looped (F := Ideal) (grid0.coords t) arg3 arg4 (h3.unread (co (φ := .bf16) Ka)) (h4.unread (co (φ := .bf16) Va)) (co (φ := .bf16) (blk (blockOf t) Qa)) ((t.val % 16 - 1) / 2)) = 1#1
      ↔ (t.val % 16 - 1) % 2 = 1 := by
    unfold takesLast
    rw [alive_ideal, odd_at]
    split_ifs with h
    · exact ⟨fun _ => h, fun _ => by decide⟩
    · exact ⟨fun h' => absurd h' (by decide), fun h' => absurd h' h⟩
  by_cases h : (t.val % 16 - 1) % 2 = 1
  · rw [if_pos (ho.mpr h)]
    rw [show t.val % 16 - 1 - 2 * ((t.val % 16 - 1) / 2) = (0 : Fin 16).val + 1 by show _ = 0 + 1; omega] at hl
    exact tile_rows Qa Ka Va t arg3 h3 arg4 h4 0 (Fin.zero_le _) false (decide_eq_false fun e => by have e' : 0 = t.val % 16 := congrArg Fin.val e; omega).symm
      0#32 _ inb_S4096x128_S256x128_0_0 inb_S4096x128_S256x128_0_0 rfl _ hl
  · rw [if_neg fun h' => h (ho.mp h')]
    rwa [show t.val % 16 - 1 - 2 * ((t.val % 16 - 1) / 2) = 0 by omega] at hl
end

section
variable (m : (ℓ : Loc nD τ sig) → Buf (Elt Ideal) ℓ) (Qa Ka Va : Fin 8 → Fin 4096 → Fin 128 → ℝ) (c : Dev nD)

/-- The blocks the call finds hold the pairs' arrays. -/
structure Finds : Prop where
  q : ∀ t : Fin (cfg0 (F := Ideal)).N, iblk m c 0 t = co (φ := .bf16) (blk (blockOf t) (Qa (pairOf t)))
  k : ∀ t : Fin (cfg0 (F := Ideal)).N, iblk m c 1 t = co (φ := .bf16) (Ka (pairOf t))
  v : ∀ t : Fin (cfg0 (F := Ideal)).N, iblk m c 2 t = co (φ := .bf16) (Va (pairOf t))

variable (H : Finds m Qa Ka Va c)
include H

theorem out3_real (t : Fin (cfg0 (F := Ideal)).N) : out3 m c t
    = co (φ := .f32) fun r l => ∑ S, gw (Qa (pairOf t)) (Ka (pairOf t)) ⟨l.val / 64, by omega⟩ (rix (blockOf t) r) S * Va (pairOf t) S l := by
  unfold out3 outO
  refine out_inv (Qa (pairOf t)) (Ka (pairOf t)) (Va (pairOf t)) (blockOf t) _ ?_
  unfold endState
  rw [H.q, H.k, H.v]
  have hq : q2 (F := Ideal) (st0_0 t) (hstage0_0 ((cfg0.slots t 0).cast nbuf0_0)) (co (φ := .bf16) (blk (blockOf t) (Qa (pairOf t)))) = co (φ := .bf16) (blk (blockOf t) (Qa (pairOf t))) := by
    funext y
    unfold q2
    rw [Memref.IsWhole.readAt_unread]
    refine congrArg₂ (fun R c => ((blk (blockOf t) (Qa (pairOf t)) R c : ℝ) : EReal)) (Fin.ext ?_) (Fin.ext ?_)
    · show 0 + 1 * (y 0).val = (y 0).val; omega
    · show 0 + 1 * (y 1).val = (y 1).val; omega
  rw [hq]
  exact ended_inv (Qa (pairOf t)) (Ka (pairOf t)) (Va (pairOf t)) t _ _ _ _

theorem o_arr : (dats m 0 c).arrAt 3 (cfg0 (F := Ideal)).N
    = co (φ := .f32) fun R C => ∑ S, gw (Qa (colPair C)) (Ka (colPair C)) ⟨(colLane C).val / 64, by omega⟩ R S * Va (colPair C) S (colLane C) := by
  refine (dats m 0 c).arrAt_eq_of_covers 3 _ (by decide +kernel) fun t _ y => ?_
  blk_simp
  rw [after3, out3_real m Qa Ka Va c H]
  refine at_col (fun p R l => ∑ S, gw (Qa p) (Ka p) ⟨l.val / 64, by omega⟩ R S * Va p S l) _ (rix (blockOf t) (y 0)) _ (pairOf t) (y 1) ?_ ?_
  · blk_simp
    rw [idx3 t]
    show t.val % 16 * 256 + (y 0).val = 256 * (t.val % 16) + (y 0).val
    omega
  · blk_simp
    rw [idx3 t]
    rfl
end

end Cert.Kernel8Ideal.Fwd
end
-- ==== Proof.FwdHost.lean ====
module

public import proofs.«01_k».proof.Proof.FwdValue
public import proofs.«01_k».proof.Proof.AttValue
public import Idealize.ShloMosaic.Lib.StableHlo.RunRead

@[expose] public section

set_option maxRecDepth 16384

noncomputable section

namespace Cert.Kernel8Ideal.Fwd

open Idealize.ShloMosaic Idealize.ShloMosaic.TcCoe Idealize.ShloMosaic.Tactic Idealize.SL.Sem
open Idealize.ShloMosaic.Pipeline (Dat Cfg Window)
open Gen
open Cert.Kernel2Ideal.Att (co rix blk gw Rows ar4 zR fw pair scaled packedH headsH headOf)

/-! What the forward call finds and leaves, head by head over real numbers. -/

theorem idx_in : ∀ t : Fin (cfg0 (F := Ideal)).N, win0_0.index t = ![t.val % 16, t.val / 16] ∧ win0_1.index t = ![0, 8 + t.val / 16] ∧ win0_2.index t = ![0, 16 + t.val / 16] :=
  (by decide +kernel : ∀ t : Fin grid0.N, win0_0.index t = ![t.val % 16, t.val / 16] ∧ win0_1.index t = ![0, 8 + t.val / 16] ∧ win0_2.index t = ![0, 16 + t.val / 16])

section
variable (m : (ℓ : Loc nD τ sig) → Buf (Elt Ideal) ℓ) (c : Dev nD)

theorem entry12 : V m c main_v12 = packedH (m ((c : Thread nD τ).loc main_arg0)) (m ((c : Thread nD τ).loc main_arg1)) (m ((c : Thread nD τ).loc main_arg2)) := by
  show StableHlo.after (List.flatten [hostOps0]) (fun b => m (c, b)) (Proc.devRef .tc _) = _
  simp only [hostOps0, List.flatten_cons, List.flatten_nil, List.append_nil, List.cons_append, List.nil_append]
  after_reads_simp
  rfl

variable (q k v : Rows)
  (hq : m ((c : Thread nD τ).loc main_arg0) = ar4 q) (hk : m ((c : Thread nD τ).loc main_arg1) = ar4 k) (hv : m ((c : Thread nD τ).loc main_arg2) = ar4 v)
include hq hk hv

set_option maxHeartbeats 1000000 in
theorem finds : Finds m (pair (scaled q)) (pair k) (pair v) c where
  q t := by
    funext y
    blk_simp [iblk]
    rw [entry12, hq, hk, hv]
    refine (congrArg _ (funext fun a => Fin.ext ?_)).trans (Cert.Kernel2Ideal.Att.packed_real q k v (rix (blockOf t) (y 0)) (pairOf t) (y 1)).1
    match a with
    | ⟨0, _⟩ => blk_simp; rw [(idx_in t).1]; show t.val % 16 * 256 + (y 0).val = 256 * (t.val % 16) + (y 0).val; omega
    | ⟨1, _⟩ => blk_simp; rw [(idx_in t).1]; rfl
  k t := by
    funext y
    blk_simp [iblk]
    rw [entry12, hq, hk, hv]
    refine (congrArg _ (funext fun a => Fin.ext ?_)).trans (Cert.Kernel2Ideal.Att.packed_real q k v (y 0) (pairOf t) (y 1)).2.1
    match a with
    | ⟨0, _⟩ => blk_simp; rw [(idx_in t).2.1]; show 0 * 4096 + (y 0).val = (y 0).val; omega
    | ⟨1, _⟩ => blk_simp; rw [(idx_in t).2.1]; rfl
  v t := by
    funext y
    blk_simp [iblk]
    rw [entry12, hq, hk, hv]
    refine (congrArg _ (funext fun a => Fin.ext ?_)).trans (Cert.Kernel2Ideal.Att.packed_real q k v (y 0) (pairOf t) (y 1)).2.2
    match a with
    | ⟨0, _⟩ => blk_simp; rw [(idx_in t).2.2]; show 0 * 4096 + (y 0).val = (y 0).val; omega
    | ⟨1, _⟩ => blk_simp; rw [(idx_in t).2.2]; rfl
end

theorem tail16 (W : Valuation τ sig (Elt Ideal)) : StableHlo.after (List.flatten [hostOps1]) W (Proc.devRef .tc main_v16) = headsH (W (Proc.devRef .tc main_v13_0)) := by
  simp only [hostOps1, List.flatten_cons, List.flatten_nil, List.append_nil, List.cons_append, List.nil_append]
  after_reads_simp
  rfl

/-- A head's columns of its pair's weighted values. -/
theorem o_real (q k v : Rows) (H : Fin 16) (R : Fin 4096) (d : Fin 64) :
    (∑ S, gw (pair (scaled q) ⟨H.val / 2, by omega⟩) (pair k ⟨H.val / 2, by omega⟩) ⟨(H.val % 2 * 64 + d.val) / 64, by omega⟩ R S * pair v ⟨H.val / 2, by omega⟩ S ⟨H.val % 2 * 64 + d.val, by omega⟩)
      = ∑ S, fw (zR q k) H R S * v H S d := by
  refine Finset.sum_congr rfl fun S _ => ?_
  rw [Cert.Kernel2Ideal.Att.pair_col, Cert.Kernel2Ideal.Att.gw_pair]
  refine congrArg (fun H => fw (zR q k) H R S * _) (Fin.ext ?_)
  show 2 * (H.val / 2) + (H.val % 2 * 64 + d.val) / 64 = H.val
  omega

section
variable (m : (ℓ : Loc nD τ sig) → Buf (Elt Ideal) ℓ) (c : Dev nD) (q k v : Rows)
  (hq : m ((c : Thread nD τ).loc main_arg0) = ar4 q) (hk : m ((c : Thread nD τ).loc main_arg1) = ar4 k) (hv : m ((c : Thread nD τ).loc main_arg2) = ar4 v)
include hq hk hv

theorem result16 : Pipeline.afterTail₀ cfgs (dats m) 0 (V0 m) [hostOps1] c main_v16 = ar4 fun H R d => ∑ S, fw (zR q k) H R S * v H S d := by
  refine (tail16 _).trans ?_
  rw [show Pipeline.withArrays (cfgs 0).spec c (V0 m c) (fun w => (dats m 0 c).arrAt w (cfgs 0).N) (Proc.devRef .tc main_v13_0) = (dats m 0 c).arrAt 3 (cfg0 (F := Ideal)).N from
    (dats m 0 c).withArrays_arrAt launch₀0.sharedIn (V0 m c) (A_eq m c) 3]
  rw [o_arr m _ _ _ c (finds m c q k v hq hk hv)]
  refine (Cert.Kernel2Ideal.Att.heads_real fun p R l => ∑ S, gw (pair (scaled q) p) (pair k p) ⟨l.val / 64, by omega⟩ R S * pair v p S l).trans ?_
  exact congrArg ar4 (funext fun H => funext fun R => funext fun d => o_real q k v H R d)
end

/-- The run: the result, and the arguments as they began. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v16) = Pipeline.afterTail₀ cfgs (dats m) 0 (V0 m) [hostOps1] c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_mono (θ_run_and ((θ_run defs _ _).mono (fun _ h => h.1) (run_main m ρ)) (frame_run m ρ)) fun r h c =>
    ⟨(h.1 c).2 main_v16 (Pipeline.mem_restRefs_of main_v16 (by decide) (by decide)), h.2.1 c⟩

end Cert.Kernel8Ideal.Fwd
end
-- ==== Proof.FwdClaim.lean ====
module

public import proofs.«01_k».proof.Defs
public import proofs.«01_k».proof.Proof.FwdHost
public import proofs.«01_k».proof.Proof.AttRef
public import proofs.«01_k».proof.Proof.AttClaim
public import proofs.«01_k».proof.Proof.Gen.Reference8Ideal
public import proofs.«01_k».proof.Proof.Gen.Reference8Ideal.Run
public import proofs.«01_k».proof.Proof.Finite
public import proofs.«01_k».proof.Pre_finite8
public import Idealize.ShloMosaic.Lib.Claim
public import Idealize.ShloMosaic.Adequacy
public import Idealize.ShloMosaic.Init

@[expose] public section

set_option maxRecDepth 16384

noncomputable section

namespace Cert.Reference8Ideal.Fwd

open Idealize.ShloMosaic Idealize.ShloMosaic.TcCoe Idealize.ShloMosaic.Tactic
open Cert.Kernel2Ideal.Att (Rows Square ar4 sqr4 fw zR coe_sum)
open Cert.Reference2Ideal.Att (A4 weightsR scoresR)
open Cert.Reference2Ideal Cert.Reference2Ideal.Facts₀ Cert.Reference2Ideal.Facts

/-- The reference's result as a term of its arguments: the weights over the values. -/
def outOf (q k v : A4) : A4 := Host.dotGeneral dot_S1x16x4096x4096_S1x16x4096x64_S1x16x4096x64_3_2_2_3_01_01 none (weightsR (scoresR q k)) v

theorem out_term (m : (ℓ : Loc Cert.Reference8Ideal.nD Cert.Reference8Ideal.τ Cert.Reference8Ideal.sig) → Buf (Elt Ideal) ℓ) (c : Dev Cert.Reference8Ideal.nD) :
    Cert.Reference8Ideal.Value.res_main_v19 (F := Ideal) m c
      = outOf (m (c.tc.loc Cert.Reference8Ideal.main_arg0)) (m (c.tc.loc Cert.Reference8Ideal.main_arg1)) (m (c.tc.loc Cert.Reference8Ideal.main_arg2)) := by
  sl_kernel_rfl

theorem out_real (q k v : Rows) : outOf (ar4 q) (ar4 k) (ar4 v) = ar4 fun H R d => ∑ S, fw (zR q k) H R S * v H S d := by
  unfold outOf
  rw [Cert.Reference2Ideal.Att.scores_sq, Cert.Reference2Ideal.Att.weights_sq]
  funext i
  unfold ar4 sqr4
  pointwise
  simp only [coe_sum, EReal.coe_mul]

end Cert.Reference8Ideal.Fwd

namespace Cert.Proof.Fwd

open Idealize.ShloMosaic Idealize.SL.Sem Cert.Kernel2Ideal.Att

theorem frame_ideal : Cert.quiescent_Kernel8Ideal := fun m g _ => Cert.Kernel8Ideal.Fwd.frame_run m g

theorem frame_reference : Cert.quiescent_Reference8Ideal := fun m g _ =>
  θ_run_mono (Cert.Reference8Ideal.Value.run m g) fun r h => ⟨fun c => (h c).2, sem_eq_zero_of_no_sems (by decide) r.2⟩

theorem pre_facts : Cert.Pre_finite8.Facts where
  reducesTo_S1x16x4096x64_S_d0_1_2_3 := by decide
  h_S_ := by decide

/-- The precondition makes the three argument arrays arrays of reals. -/
theorem reals [hP : Cert.Pre_finite8.Facts] (q k v : FVec Ideal ⟨4, ![1, 16, 4096, 64]⟩ .f32)
    (h : Cert.Pre_finite8.fn (F := Ideal) q k v = fun _ => 1#1) :
    (∃ f : Rows, q = ar4 f) ∧ (∃ f : Rows, k = ar4 f) ∧ ∃ f : Rows, v = ar4 f := by
  have h0 := congrFun h (fun a => a.elim0)
  obtain ⟨h0, hv⟩ := Finite.both _ _ _ h0
  obtain ⟨hq, hk⟩ := Finite.both _ _ _ h0
  have one : ∀ i, hP.reducesTo_S1x16x4096x64_S_d0_1_2_3.drop i = (fun a => a.elim0) := fun i => funext fun a => a.elim0
  exact ⟨Att.rows_of q (Finite.entries q _ _ _ one hq), Att.rows_of k (Finite.entries k _ _ _ one hk), Att.rows_of v (Finite.entries v _ _ _ one hv)⟩

theorem value [hP : Cert.Pre_finite8.Facts] : Cert.algebraic_Kernel8Ideal_Reference8Ideal_pre_finite8 := by
  intro m g m' g' hpre hagree
  refine ⟨_, Cert.Kernel8Ideal.Fwd.run_value m g, θ_run_mono (Cert.Reference8Ideal.Value.run m' g') fun r h c => ?_⟩
  obtain ⟨⟨q, hq⟩, ⟨k, hk⟩, ⟨v, hv⟩⟩ := reals _ _ _ (hpre c)
  obtain ⟨h0, h1, h2⟩ := hagree c
  refine ⟨(h c).1.trans ?_, (h c).2⟩
  rw [Cert.Reference8Ideal.Fwd.out_term, h0, h1, h2, hq, hk, hv, Cert.Reference8Ideal.Fwd.out_real]
  exact (Cert.Kernel8Ideal.Fwd.result16 m c q k v hq hk hv).symm

end Cert.Proof.Fwd
end
-- ==== Proof.RealNorm.lean ====
/- The gradient of an RMS norm over the reals: the one product and mean the calls take against the chain rule's terms. -/
module

public import Idealize.ShloMosaic.PureOps.Ideal

@[expose] public section

set_option maxRecDepth 16384

noncomputable section

namespace Cert.RealNorm

open Idealize.ShloMosaic

/-- An extended real that is a real. -/
def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩

theorem IsReal.fam {ι : Type} {f : ι → EReal} (h : ∀ i, IsReal (f i)) : ∃ g : ι → ℝ, f = fun i => (g i : EReal) :=
  ⟨fun i => (h i).choose, funext fun i => (h i).choose_spec⟩

theorem coe_sum {ι : Type} (s : Finset ι) (f : ι → ℝ) : ∑ i ∈ s, (f i : EReal) = ((∑ i ∈ s, f i : ℝ) : EReal) := by
  classical
  induction s using Finset.induction_on with
  | empty => simp
  | insert i s h ih => rw [Finset.sum_insert h, Finset.sum_insert h, ih, EReal.coe_add]

theorem IsReal.sum {ι : Type} (s : Finset ι) {f : ι → EReal} (h : ∀ i, IsReal (f i)) : IsReal (∑ i ∈ s, f i) := by
  obtain ⟨g, rfl⟩ := IsReal.fam h
  exact ⟨_, coe_sum s g⟩

theorem div_coe (a b : ℝ) (h : b ≠ 0) : Ideal.div (a : EReal) (b : EReal) = ((a / b : ℝ) : EReal) := by
  rw [EReal.coe_div]
  simp only [Ideal.div, EReal.coe_eq_zero, h, if_false]
  rfl

theorem rsqrt_coe (v : ℝ) (h : 0 < v) : Ideal.rsqrt (v : EReal) = (((Real.sqrt v)⁻¹ : ℝ) : EReal) := by
  rw [Ideal.rsqrt_coe, if_neg (not_lt.2 h.le), if_neg h.ne']

theorem half_bits : Ideal.ofBits .f32 0xBF000000#32 = ((-1 / 2 : ℝ) : EReal) := by
  simp [Ideal.ofBits, Ideal.ieee]
  rw [← EReal.coe_mul, ← EReal.coe_neg]; norm_num

theorem small_bits : ∃ e : ℝ, 0 < e ∧ Ideal.ofBits .f32 0x358637BD#32 = (e : EReal) := by
  simp [Ideal.ofBits, Ideal.ieee]
  refine ⟨_, ?_, (EReal.coe_mul _ _).symm⟩
  positivity

theorem thousand_bits : Ideal.ofBits .f32 0x44800000#32 = ((1024 : ℝ) : EReal) := by
  simp [Ideal.ofBits, Ideal.ieee]
  rw [← EReal.coe_mul]; norm_num

/-- The mean square of a row, with the small constant. -/
def var {ι : Type} [Fintype ι] (n e : EReal) (x : ι → EReal) : EReal := Ideal.div (∑ j, x j * x j) n + e

theorem var_coe {ι : Type} [Fintype ι] {n e : ℝ} (hn : 0 < n) (he : 0 < e) (x : ι → ℝ) :
    ∃ v : ℝ, 0 < v ∧ var (n : EReal) (e : EReal) (fun j => (x j : EReal)) = (v : EReal) := by
  refine ⟨(∑ j, x j * x j) / n + e, ?_, ?_⟩
  · have : 0 ≤ ∑ j, x j * x j := Finset.sum_nonneg fun j _ => mul_self_nonneg _
    positivity
  · simp only [var, ← EReal.coe_mul, coe_sum, div_coe _ _ hn.ne', EReal.coe_add]

/-- The row's gradient: what is added to it is any extended real. -/
theorem row {ι : Type} [Fintype ι] {n e : ℝ} (hn : 0 < n) (he : 0 < e) (x t : ι → EReal) (hx : ∀ j, IsReal (x j)) (ht : ∀ j, IsReal (t j)) (d : ι) (w : EReal) :
    w + Ideal.rsqrt (var n e x) * (t d - x d * Ideal.rsqrt (var n e x) * Ideal.div (∑ j, t j * (x j * Ideal.rsqrt (var n e x))) n)
      = w + t d * Ideal.rsqrt (var n e x)
          + x d * Ideal.div ((∑ j, x j * t j) * (((-1 / 2 : ℝ) : EReal) * Ideal.div (Ideal.rsqrt (var n e x)) (var n e x))) n
          + Ideal.div ((∑ j, x j * t j) * (((-1 / 2 : ℝ) : EReal) * Ideal.div (Ideal.rsqrt (var n e x)) (var n e x))) n * x d := by
  obtain ⟨x, rfl⟩ := IsReal.fam hx
  obtain ⟨t, rfl⟩ := IsReal.fam ht
  obtain ⟨v, hv, hv'⟩ := var_coe hn he x
  rw [hv', rsqrt_coe v hv]
  have hr : (Real.sqrt v)⁻¹ * (Real.sqrt v)⁻¹ = v⁻¹ := by rw [← mul_inv, Real.mul_self_sqrt hv.le]
  generalize (Real.sqrt v)⁻¹ = r at hr
  simp only [← EReal.coe_mul, coe_sum, div_coe _ _ hn.ne', div_coe _ _ hv.ne', ← EReal.coe_sub]
  rw [add_assoc, add_assoc, ← EReal.coe_add, ← EReal.coe_add]
  refine congrArg _ (congrArg _ ?_)
  have h1 : ∑ j, t j * (x j * r) = r * ∑ j, x j * t j := by
    rw [Finset.mul_sum]; exact Finset.sum_congr rfl fun j _ => by ring
  rw [h1]
  generalize ∑ j, x j * t j = s
  rw [div_eq_mul_inv r v, ← hr]
  ring

end Cert.RealNorm
end
-- ==== Proof.Loss.lean ====
/- The loss and its gradient: the loss's value added up over eight blocks of rows, the gradient block by block. -/
module

public import proofs.«01_k».proof.Defs
public import proofs.«01_k».proof.Proof.RealNorm
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import Idealize.ShloMosaic.Lib.Pipeline.ValueKit
public import Idealize.ShloMosaic.Lib.Claim

@[expose] public section

set_option maxRecDepth 16384

noncomputable section

namespace Cert.Kernel4Ideal.Loss

open Idealize.ShloMosaic Idealize.ShloMosaic.TcCoe Idealize.ShloMosaic.Tactic Idealize.SL.Sem
open Idealize.ShloMosaic.Pipeline (Dat Cfg Window)
open Cert.Kernel4Ideal Cert.Kernel4Ideal.Gen

abbrev Rows := FVec Ideal S4096x1024 .f32

variable (m : (ℓ : Loc nD τ sig) → Buf (Elt Ideal) ℓ)

theorem idx : ∀ t : Fin cfg0.N, win0_0.index t = ![t.val, 0] ∧ win0_1.index t = ![t.val, 0] ∧ win0_3.index t = ![t.val, 0] ∧ win0_4.index t = ![t.val, 0] :=
  (by decide +kernel : ∀ t : Fin grid0.N, _)

/-- The error's gradient, and its half mean of squares over a row. -/
def grad (y z : Rows) : Rows := fun i => (y i - z i) * Ideal.ofBits .f32 0x3A800000#32
def row (y z : Rows) (r : Fin 4096) : EReal := Ideal.div (∑ k : Fin 1024, (y (ix2 r k) - z (ix2 r k)) * (y (ix2 r k) - z (ix2 r k))) (Ideal.ofBits .f32 0x44800000#32)
def loss (y z : Rows) : FVec Ideal S8x128 .f32 := fun _ => ∑ a : Fin 8, Ideal.ofBits .f32 0x3F000000#32 * ∑ l : Fin 512, row y z ⟨a.val * 512 + l.val, by omega⟩

theorem hzero (j) : k0_pay4 (F := Ideal) j = 0 := by
  pointwise [k0_pay4]

theorem hpay (x0 x1 : Vec Ideal S512x1024 .f32) (acc : Vec Ideal S8x128 .f32) (j) : k0_pay5 x0 x1 acc j = acc j + Ideal.ofBits .f32 0x3F000000#32 * ∑ l : Fin 512,
    Ideal.div (∑ k : Fin 1024, (x0 (ix2 l k) - x1 (ix2 l k)) * (x0 (ix2 l k) - x1 (ix2 l k))) (Ideal.ofBits .f32 0x44800000#32) := by
  pointwise [k0_pay5, k0_pay1]

theorem final2 (c : Dev nD) : (dats m 0 c).arrAt 2 cfg0.N = loss (m ((c : Thread nD τ).loc main_arg0)) (m ((c : Thread nD τ).loc main_arg1)) := by
  refine (dats m 0 c).arrAt_eq_of_after_last 2 t0_7 (by decide +kernel) _ fun j => ?_
  blk_simp
  rw [after0_2, Pipeline.eq_sum_fin_of_reset_step_apply_last (fun n h => (outsAt0 m c n h).1) 8 (fun _ => 0) _
    (fun t h j => by rw [outsAt0_A m c t h]; frame_out; rw [hpay, hzero])
    (fun t h j => by rw [outsAt0_B m c t h]; frame_out; rw [hpay])
    (le_of_eq N_0) t0_7 rfl j, zero_add]
  refine Fin.sum_fin_congr fun t => ?_
  refine congrArg _ (Finset.sum_congr rfl fun l _ => ?_)
  unfold row
  blk_point [iblk, V, idx t]

theorem final3 (c : Dev nD) : (dats m 0 c).arrAt 3 cfg0.N = grad (m ((c : Thread nD τ).loc main_arg0)) (m ((c : Thread nD τ).loc main_arg1)) := by
  refine (dats m 0 c).arrAt_eq_of_covers 3 _ (by decide +kernel) fun t _ y => ?_
  blk_simp
  rw [after0_3]
  by_cases h : t.val % 8 = 0
  · rw [outsAt0_A m c t h]; frame_out; pointwise [k0_pay2, k0_pay1, grad]; blk_point [iblk, V, idx t]
  · rw [outsAt0_B m c t h]; frame_out; pointwise [k0_pay2, k0_pay1, grad]; blk_point [iblk, V, idx t]

theorem final4 (c : Dev nD) : (dats m 0 c).arrAt 4 cfg0.N = grad (m ((c : Thread nD τ).loc main_arg0)) (m ((c : Thread nD τ).loc main_arg1)) := by
  refine (dats m 0 c).arrAt_eq_of_covers 4 _ (by decide +kernel) fun t _ y => ?_
  blk_simp
  rw [after0_4]
  by_cases h : t.val % 8 = 0
  · rw [outsAt0_A m c t h]; frame_out; pointwise [k0_pay3, k0_pay2, k0_pay1, grad]; blk_point [iblk, V, idx t]
  · rw [outsAt0_B m c t h]; frame_out; pointwise [k0_pay3, k0_pay2, k0_pay1, grad]; blk_point [iblk, V, idx t]

theorem half_bits : Ideal.ofBits .f32 0x3F000000#32 = ((1 / 2 : ℝ) : EReal) := by
  simp [Ideal.ofBits, Ideal.ieee]
  rw [← EReal.coe_mul]; norm_num
theorem thousandth_bits : Ideal.ofBits .f32 0x3A800000#32 = ((1 / 1024 : ℝ) : EReal) := by
  simp [Ideal.ofBits, Ideal.ieee]
  rw [← EReal.coe_mul]; norm_num
theorem two_bits : Ideal.ofBits .f32 0x40000000#32 = ((2 : ℝ) : EReal) := by
  simp [Ideal.ofBits, Ideal.ieee]
  rw [← EReal.coe_mul]; norm_num

/-- The gradient's factor is the half of the row's share, times the square's two. -/
theorem factor (e : EReal) : Ideal.div (Ideal.ofBits .f32 0x3F000000#32) (Ideal.ofBits .f32 0x44800000#32) * (Ideal.ofBits .f32 0x40000000#32 * e)
    = e * Ideal.ofBits .f32 0x3A800000#32 := by
  rw [half_bits, Cert.RealNorm.thousand_bits, two_bits, thousandth_bits, ← mul_assoc, mul_comm e]
  congr 1
  rw [Cert.RealNorm.div_coe _ _ (by norm_num), ← EReal.coe_mul]
  norm_num

/-- The half passes through a sum, whatever its terms are. -/
theorem half_sum {ι : Type} (s : Finset ι) (f : ι → EReal) : ∑ i ∈ s, Ideal.ofBits .f32 0x3F000000#32 * f i = Ideal.ofBits .f32 0x3F000000#32 * ∑ i ∈ s, f i := by
  rw [half_bits]
  classical
  induction s using Finset.induction_on with
  | empty => simp
  | insert i s h ih => rw [Finset.sum_insert h, Finset.sum_insert h, ih, EReal.left_distrib_of_nonneg_of_ne_top (by exact_mod_cast (by norm_num : (0:ℝ) ≤ 1/2)) (EReal.coe_ne_top _)]

theorem rows (y z : Rows) (j) : loss y z j = Ideal.ofBits .f32 0x3F000000#32 * ∑ r : Fin 4096, row y z r := by
  unfold loss
  rw [half_sum]
  refine congrArg _ ?_
  exact Fin.sum_mul_add_fin 8 512 (fun r => row y z r)

theorem value : Cert.algebraic_Kernel4Ideal_Reference4Ideal := by
  pair_intro
  · run_from Cert.Kernel4Ideal.Value.run_blocks m g
  · run_from Cert.Reference4Ideal.Value.run m' g'
    all_goals first
      | rw [final2 m c]
        funext i
        rw [rows]
        pointwise [row]
      | rw [final3 m c]
        funext i
        pointwise [grad]
        exact factor _
      | rw [final4 m c]
        funext i
        pointwise [grad]
        exact factor _
end Cert.Kernel4Ideal.Loss

end
-- ==== Proof.Norm.lean ====
/- The gradient of the norm in front of a product: block by block of rows, the gain's gradient added up over the blocks. -/
module

public import proofs.«01_k».proof.Defs
public import proofs.«01_k».proof.Proof.Finite
public import proofs.«01_k».proof.Proof.RealNorm
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import Idealize.ShloMosaic.Lib.Pipeline.ValueKit
public import Idealize.ShloMosaic.Lib.Claim

@[expose] public section

set_option maxRecDepth 16384

noncomputable section

namespace Cert.Kernel5Ideal.Norm

open Idealize.ShloMosaic Idealize.ShloMosaic.TcCoe Idealize.ShloMosaic.Tactic Idealize.SL.Sem
open Idealize.ShloMosaic.Pipeline (Dat Cfg Window)
open Cert.Kernel5Ideal Cert.Kernel5Ideal.Gen Cert.RealNorm

abbrev Rows := FVec Ideal S4096x1024 .f32

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![t.val, 0] ∧ win0_7.index t = ![0, 0] :=
  (by decide +kernel : ∀ t : Fin grid0.N, _)

/-- The cotangent that reaches the norm, and the norm's factor of a row. -/
def cot (a : FVec Ideal S4096x4096 .f32) (w : FVec Ideal S1024x4096 .f32) (r : Fin 4096) (d : Fin 1024) : EReal := ∑ k : Fin 4096, a (ix2 r k) * w (ix2 d k)
def fac (x : Rows) (r : Fin 4096) : EReal :=
  Ideal.rsqrt (var (Ideal.ofBits .f32 0x44800000#32) (Ideal.ofBits .f32 0x358637BD#32) fun k : Fin 1024 => x (ix2 r k))

def gx (a : FVec Ideal S4096x4096 .f32) (w : FVec Ideal S1024x4096 .f32) (x dx : Rows) (g : FVec Ideal S1x1024 .f32) : Rows := fun i =>
  dx i + fac x (i 0) * (cot a w (i 0) (i 1) * g (ix2 0 (i 1)) - x i * fac x (i 0)
    * Ideal.div (∑ k : Fin 1024, cot a w (i 0) k * g (ix2 0 k) * (x (ix2 (i 0) k) * fac x (i 0))) (Ideal.ofBits .f32 0x44800000#32))

def gg (a : FVec Ideal S4096x4096 .f32) (w : FVec Ideal S1024x4096 .f32) (x : Rows) : FVec Ideal S1x1024 .f32 := fun i =>
  ∑ t : Fin 16, ∑ l : Fin 256, cot a w ⟨t.val * 256 + l.val, by omega⟩ (i 1) * (x (ix2 ⟨t.val * 256 + l.val, by omega⟩ (i 1)) * fac x ⟨t.val * 256 + l.val, by omega⟩)

theorem gg_rows (a : FVec Ideal S4096x4096 .f32) (w : FVec Ideal S1024x4096 .f32) (x : Rows) (i) :
    gg a w x i = ∑ r : Fin 4096, cot a w r (i 1) * (x (ix2 r (i 1)) * fac x r) :=
  Fin.sum_mul_add_fin 16 256 fun r : Fin 4096 => cot a w r (i 1) * (x (ix2 r (i 1)) * fac x r)

theorem entry_a (c : Dev nD) : V m c main_v0 = (truncf .bf16 (show FVec Ideal S4096x4096 .f32 from m ((c : Thread nD τ).loc main_arg0)) bitsLt_bf16_f32 : FVec Ideal S4096x4096 .bf16) := by
  unfold_abbrev_sides
  after_results

theorem entry_w (c : Dev nD) : V m c main_v1 = (truncf .bf16 (show FVec Ideal S1024x4096 .f32 from m ((c : Thread nD τ).loc main_arg1)) bitsLt_bf16_f32 : FVec Ideal S1024x4096 .bf16) := by
  unfold_abbrev_sides
  after_results

theorem point (c : Dev nD) (t : Fin cfg0.N) (y) : k0_pay6 (F := Ideal) (iblk m c 0 t) (iblk m c 1 t) (iblk m c 2 t) (iblk m c 3 t) (iblk m c 4 t) y
    = gx (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  pointwise [k0_pay6, k0_pay5, k0_pay4, k0_pay3, gx, cot, fac, var]
  blk_point [iblk, entry_a m c, entry_w m c, V_main_arg2 m c, V_main_arg3 m c, V_main_arg4 m c, idx t]

theorem final5 (c : Dev nD) : (dats m 0 c).arrAt 5 cfg0.N
    = gx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  by_cases h : t.val % 16 = 0
  · rw [outsAt0_A m c t h]; frame_out; exact point m c t y
  · rw [outsAt0_B m c t h]; frame_out; exact point m c t y

theorem final6 (c : Dev nD) : (dats m 0 c).arrAt 6 cfg0.N
    = gx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  by_cases h : t.val % 16 = 0
  · rw [outsAt0_A m c t h]; frame_out; exact point m c t y
  · rw [outsAt0_B m c t h]; frame_out; exact point m c t y

theorem hzero (j) : k0_pay1 (F := Ideal) j = 0 := by
  pointwise [k0_pay1]

theorem hpay (x0 x1 x2 acc) (j) : k0_pay2 (F := Ideal) (k0_pay7 x0 x1 x2) acc j = acc j + k0_pay7 x0 x1 x2 j := by
  pointwise [k0_pay2]

theorem final7 (c : Dev nD) : (dats m 0 c).arrAt 7 cfg0.N
    = gg (m ((c : Thread nD τ).loc main_arg0)) (m ((c : Thread nD τ).loc main_arg1)) (m ((c : Thread nD τ).loc main_arg2)) := by
  refine (dats m 0 c).arrAt_eq_of_after_last 7 t0_15 (by decide +kernel) _ fun j => ?_
  blk_simp
  rw [after0_7, Pipeline.eq_sum_fin_of_reset_step_apply_last (fun n h => (outsAt0 m c n h).2.2) 16 (fun _ => 0) _
    (fun t h j => by rw [outsAt0_A m c t h]; frame_out; rw [hpay, hzero])
    (fun t h j => by rw [outsAt0_B m c t h]; frame_out; rw [hpay])
    (le_of_eq N_0) t0_15 rfl j, zero_add]
  refine Fin.sum_fin_congr fun t => ?_
  pointwise [k0_pay7, k0_pay5, k0_pay4, k0_pay3, cot, fac, var]
  blk_point [iblk, entry_a m c, entry_w m c, V_main_arg2 m c, idx t]

end Cert.Kernel5Ideal.Norm

namespace Cert.Proof.Norm

open Idealize.ShloMosaic Idealize.ShloMosaic.TcCoe Idealize.ShloMosaic.Tactic Idealize.SL.Sem
open Cert.RealNorm Cert.Kernel5Ideal.Norm Cert.Reference5Ideal.Value

theorem pre_facts : Cert.Pre_finite5.Facts where
  reducesTo_S4096x4096_S_d0_1 := by decide
  h_S_ := by decide
  reducesTo_S1024x4096_S_d0_1 := by decide
  reducesTo_S4096x1024_S_d0_1 := by decide
  reducesTo_S1x1024_S_d0_1 := by decide

theorem reals [hP : Cert.Pre_finite5.Facts] (a : FVec Ideal ⟨2, ![4096, 4096]⟩ .f32) (w : FVec Ideal ⟨2, ![1024, 4096]⟩ .f32) (x dx : FVec Ideal ⟨2, ![4096, 1024]⟩ .f32)
    (g : FVec Ideal ⟨2, ![1, 1024]⟩ .f32) (h : Cert.Pre_finite5.fn (F := Ideal) a w x dx g = fun _ => 1#1) :
    (∀ i, IsReal (a i)) ∧ (∀ i, IsReal (w i)) ∧ (∀ i, IsReal (x i)) ∧ ∀ i, IsReal (g i) := by
  have h0 := congrFun h (fun a => a.elim0)
  obtain ⟨h0, hg⟩ := Finite.both _ _ _ h0
  obtain ⟨h0, hx⟩ := Finite.both _ _ _ h0
  obtain ⟨ha, hw⟩ := Finite.both _ _ _ h0
  have one {s : Shape} {axes : List (Fin s.rank)} (h : s.ReducesTo axes Cert.Pre_finite5.S_) : ∀ i, h.drop i = (fun a => a.elim0) := fun i => funext fun a => a.elim0
  exact ⟨fun i => ⟨_, Finite.entries a _ _ _ (one _) ha i⟩, fun i => ⟨_, Finite.entries w _ _ _ (one _) hw i⟩,
    fun i => ⟨_, Finite.entries x _ _ _ (one _) hx i⟩, fun i => ⟨_, Finite.entries g _ _ _ (one _) hg i⟩⟩

theorem out_gx (m : (ℓ : Loc Cert.Reference5Ideal.nD Cert.Reference5Ideal.τ Cert.Reference5Ideal.sig) → Buf (Elt Ideal) ℓ) (c : Dev Cert.Reference5Ideal.nD)
    (a : FVec Ideal ⟨2, ![4096, 4096]⟩ .f32) (w : FVec Ideal ⟨2, ![1024, 4096]⟩ .f32) (x dx : FVec Ideal ⟨2, ![4096, 1024]⟩ .f32)
    (g : FVec Ideal ⟨2, ![1, 1024]⟩ .f32) (ha : ∀ i, IsReal (a i)) (hw : ∀ i, IsReal (w i)) (hx : ∀ i, IsReal (x i)) (hg : ∀ i, IsReal (g i))
    (h0 : m ((c.tc : Thread Cert.Reference5Ideal.nD Cert.Reference5Ideal.τ).loc Cert.Reference5Ideal.main_arg0) = a) (h1 : m ((c.tc : Thread Cert.Reference5Ideal.nD Cert.Reference5Ideal.τ).loc Cert.Reference5Ideal.main_arg1) = w) (h2 : m ((c.tc : Thread Cert.Reference5Ideal.nD Cert.Reference5Ideal.τ).loc Cert.Reference5Ideal.main_arg2) = x)
    (h3 : m ((c.tc : Thread Cert.Reference5Ideal.nD Cert.Reference5Ideal.τ).loc Cert.Reference5Ideal.main_arg3) = dx) (h4 : m ((c.tc : Thread Cert.Reference5Ideal.nD Cert.Reference5Ideal.τ).loc Cert.Reference5Ideal.main_arg4) = g) :
    res_main_v36 m c = gx a w x dx g := by
  funext y
  unfold res_main_v36
  rw [h0, h1, h2, h3, h4]
  obtain ⟨e, he, he'⟩ := small_bits
  have R := row (n := 1024) (by norm_num) he (fun k : Fin 1024 => x (ix2 (y 0) k)) (fun k => cot a w (y 0) k * g (ix2 0 k)) (fun k => hx _)
    (fun k => (IsReal.sum _ fun j => (ha _).mul (hw _)).mul (hg _)) (y 1) (dx y)
  rw [← he', ← thousand_bits, ← half_bits] at R
  idx_vars y
  refine Eq.trans ?_ R.symm
  pointwise [cot, var]
  simp only [Finset.univ_unique, Finset.sum_singleton]

theorem value [hP : Cert.Pre_finite5.Facts] : Cert.algebraic_Kernel5Ideal_Reference5Ideal_pre_finite5 := by
  intro m g m' g' hpre hagree
  refine ⟨_, _, _, Cert.Kernel5Ideal.Value.run_blocks m g, θ_run_mono (Cert.Reference5Ideal.Value.run m' g') fun r h c => ?_⟩
  obtain ⟨ha, hw, hx, hg⟩ := reals _ _ _ _ _ (hpre c)
  obtain ⟨h0, h1, h2, h3, h4⟩ := hagree c
  have key := out_gx m' c _ _ _ _ _ ha hw hx hg h0 h1 h2 h3 h4
  refine ⟨(h c).1.trans ?_, (h c).2.1.trans ?_, (h c).2.2.1.trans ?_, (h c).2.2.2⟩
  · rw [final5 m c]; exact key
  · rw [final6 m c]; exact key
  · rw [final7 m c, h0, h1, h2]
    funext i
    idx_vars i
    rw [gg_rows]
    pointwise [cot, fac, var]
    exact Finset.sum_congr rfl fun r _ => mul_comm _ _

end Cert.Proof.Norm
end
-- ==== Proof.Bounds.lean ====
/- The gradient of the lower bounds: a softmax over two layers and its running sum. -/
module

public import proofs.«01_k».proof.Defs
public import proofs.«01_k».proof.Proof.Finite
public import proofs.«01_k».proof.Proof.AttWindow
public import proofs.«01_k».proof.Proof.RealNorm
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import Idealize.ShloMosaic.Lib.Pipeline.ValueKit
public import Idealize.ShloMosaic.Lib.Claim

@[expose] public section

set_option maxRecDepth 16384

noncomputable section

namespace Cert.Bounds

open Idealize.ShloMosaic Idealize.ShloMosaic.TcCoe Idealize.ShloMosaic.Tactic Idealize.SL.Sem

/-- Two rows, summed over a window that starts `lo` rows before a row. -/
theorem window_from {n lo up : ℕ} {φ : FTy} (x : FVec Ideal ⟨2, ![2, n]⟩ φ) {u : Shape} (init : FVec Ideal u φ)
    (h : (⟨2, ![2, n]⟩ : Shape).ReduceWindows ![2, 1] ![1, 1] ![lo, 0] ![up, 0] ⟨2, ![2, n]⟩) (hu : 0 < u.numel)
    (hi : ∀ i, init i = (0 : EReal)) (j : (⟨2, ![2, n]⟩ : Shape).Idx) :
    Host.reduceWindowAdd ![2, 1] ![1, 1] ![lo, 0] ![up, 0] x init h hu j
      = ∑ s : Fin 2, if (j 0).val ≤ s.val + lo ∧ s.val + lo - (j 0).val < 2 then (x (ix2 s (j 1)) : EReal) else 0 := by
  refine Eq.trans ?_ (Att.sum_shift (M := EReal) (n := 2) lo (j 0).val fun s => x (ix2 s (j 1)))
  show Host.reduceWindow (· + ·) ![2, 1] ![1, 1] ![lo, 0] ![up, 0] x (fun _ : (⟨0, ![]⟩ : Shape).Idx => init (Shape.Idx.first hu)) h (by decide) j = _
  unfold Host.reduceWindow
  rw [hi]
  dsimp only
  rw [Att.foldl_add, zero_add, ← List.ofFn_eq_map, List.sum_ofFn]
  refine (Fintype.sum_equiv (Shape.rowMajor ⟨2, ![2, 1]⟩).symm _ (fun w => if hin : ∀ a' : Fin 2, (![lo, 0] : Fin 2 → ℕ) a' ≤ (j (a'.cast h.1.symm)).val * (![1, 1] : Fin 2 → ℕ) a' + (w a').val ∧ (j (a'.cast h.1.symm)).val * (![1, 1] : Fin 2 → ℕ) a' + (w a').val - (![lo, 0] : Fin 2 → ℕ) a' < (![2, n] : Fin 2 → ℕ) a' then x (fun a' => ⟨_, (hin a').2⟩) else (0 : EReal)) fun i => by congr).trans ?_
  rw [sum_idx2]
  refine Finset.sum_congr rfl fun w _ => ?_
  simp only [Fin.sum_univ_one]
  have hj1 := (j 1).isLt
  by_cases hw : lo ≤ (j 0).val + w.val ∧ (j 0).val + w.val - lo < 2
  · rw [dif_pos hw]
    rw [dif_pos fun a' => by
      match a' with
      | ⟨0, _⟩ => exact ⟨by show lo ≤ (j 0).val * 1 + w.val; omega, by show (j 0).val * 1 + w.val - lo < 2; omega⟩
      | ⟨1, _⟩ => exact ⟨Nat.zero_le _, by show (j 1).val * 1 + 0 - 0 < n; have : (j 1).val < n := hj1; omega⟩]
    refine congrArg x (funext fun a' => Fin.ext ?_)
    match a' with
    | ⟨0, _⟩ => show (j 0).val * 1 + w.val - lo = (j 0).val + w.val - lo; omega
    | ⟨1, _⟩ => show (j 1).val * 1 + 0 - 0 = (j 1).val; omega
  · rw [dif_neg hw, dif_neg fun hin => hw ?_]
    have h0 := hin 0
    change lo ≤ (j 0).val * 1 + w.val ∧ (j 0).val * 1 + w.val - lo < 2 at h0
    rw [Nat.mul_one] at h0
    exact h0

/-- Two rows, summed from a row on. -/
theorem window {n : ℕ} {φ : FTy} (x : FVec Ideal ⟨2, ![2, n]⟩ φ) {u : Shape} (init : FVec Ideal u φ)
    (h : (⟨2, ![2, n]⟩ : Shape).ReduceWindows ![2, 1] ![1, 1] ![0, 0] ![1, 0] ⟨2, ![2, n]⟩) (hu : 0 < u.numel)
    (hi : ∀ i, init i = (0 : EReal)) (j : (⟨2, ![2, n]⟩ : Shape).Idx) :
    Host.reduceWindowAdd ![2, 1] ![1, 1] ![0, 0] ![1, 0] x init h hu j
      = ∑ s : Fin 2, if (j 0).val ≤ s.val then (x (ix2 s (j 1)) : EReal) else 0 :=
  (window_from x init h hu hi j).trans (Finset.sum_congr rfl fun s _ => if_congr ⟨fun h => h.1, fun h => ⟨h, by omega⟩⟩ rfl rfl)

/-- Two rows, summed up to a row. -/
theorem window_to {n : ℕ} {φ : FTy} (x : FVec Ideal ⟨2, ![2, n]⟩ φ) {u : Shape} (init : FVec Ideal u φ)
    (h : (⟨2, ![2, n]⟩ : Shape).ReduceWindows ![2, 1] ![1, 1] ![1, 0] ![0, 0] ⟨2, ![2, n]⟩) (hu : 0 < u.numel)
    (hi : ∀ i, init i = (0 : EReal)) (j : (⟨2, ![2, n]⟩ : Shape).Idx) :
    Host.reduceWindowAdd ![2, 1] ![1, 1] ![1, 0] ![0, 0] x init h hu j
      = ∑ s : Fin 2, if s.val ≤ (j 0).val then (x (ix2 s (j 1)) : EReal) else 0 :=
  (window_from x init h hu hi j).trans (Finset.sum_congr rfl fun s _ => if_congr ⟨fun h => by omega, fun h => by have : (j 0).val < 2 := (j 0).isLt; omega⟩ rfl rfl)

/-- The larger of two rows. -/
def row_max (l : FVec Ideal ⟨2, ![2, 1024]⟩ .f32) (d : Fin 1024) : EReal :=
  Finset.fold max (Ideal.ofBits FTy.f32 4286578688#32) (fun x : Fin 2 => (l (ix2 x d) : EReal)) Finset.univ

/-- A layer's share. -/
def prob (l : FVec Ideal ⟨2, ![2, 1024]⟩ .f32) (i : Fin 2) (d : Fin 1024) : EReal :=
  Ideal.div (Ideal.exp (l (ix2 i d) - row_max l d)) (∑ x : Fin 2, Ideal.exp (l (ix2 x d) - row_max l d))

/-- The devices' cotangents, summed. -/
def total (p : FVec Ideal ⟨3, ![8, 2, 1024]⟩ .f32) (i : Fin 2) (d : Fin 1024) : EReal := ∑ x : Fin 8, p (ix3 x i d)

theorem bot_bits : Ideal.ofBits FTy.f32 4286578688#32 = (⊥ : EReal) := by
  simp [Ideal.ofBits, Ideal.ieee]

theorem row_max_real (l : FVec Ideal ⟨2, ![2, 1024]⟩ .f32) (hl : ∀ i, RealNorm.IsReal (l i)) (d : Fin 1024) : RealNorm.IsReal (row_max l d) := by
  obtain ⟨a, ha⟩ := hl (ix2 0 d)
  obtain ⟨b, hb⟩ := hl (ix2 1 d)
  refine ⟨max a b, ?_⟩
  simp only [row_max, bot_bits, Fin.univ_succ, Finset.univ_eq_empty]
  simp [ha, hb]
  exact (EReal.coe_strictMono.monotone.map_max).symm

/-- A maximum over the entries above a column is one over the rows. -/
theorem fold_fibre (b : EReal) (l : FVec Ideal ⟨2, ![2, 1024]⟩ .f32) (h : (⟨2, ![2, 1024]⟩ : Shape).ReducesTo [0] ⟨1, ![1024]⟩) (d : Fin 1024)
    [DecidablePred fun i => h.drop i = ix1 d] :
    Finset.fold max b (l : _ → EReal) (Finset.univ.filter fun i => h.drop i = ix1 d) = Finset.fold max b (fun x : Fin 2 => (l (ix2 x d) : EReal)) Finset.univ := by
  rw [show (Finset.univ.filter fun i => h.drop i = ix1 d) = Finset.univ.image fun x : Fin 2 => (ix2 x d : (⟨2, ![2, 1024]⟩ : Shape).Idx) from ?_]
  · rw [Finset.fold_image fun a _ b _ e => congrFun e 0]
    rfl
  · ext i
    simp only [Finset.mem_filter, Finset.mem_univ, true_and, Finset.mem_image]
    constructor
    · intro e
      refine ⟨i 0, ?_⟩
      have e' : i 1 = d := congrFun e 0
      funext a
      match a with
      | ⟨0, _⟩ => rfl
      | ⟨1, _⟩ => exact e'.symm
    · rintro ⟨x, rfl⟩
      funext a
      match a with
      | ⟨0, _⟩ => rfl

end Cert.Bounds

namespace Cert.Proof.Bounds

open Idealize.ShloMosaic Idealize.ShloMosaic.TcCoe Idealize.ShloMosaic.Tactic Idealize.SL.Sem
open Cert.RealNorm Cert.Bounds

/-- The kernel's rows. -/
def rows (l : FVec Ideal ⟨2, ![2, 1024]⟩ .f32) (p : FVec Ideal ⟨3, ![8, 2, 1024]⟩ .f32) (i : Fin 2) (d : Fin 1024) : EReal :=
  if i.val = 0 then prob l 0 d * (0 - (prob l 0 d * 0 + prob l 1 d * total p 1 d))
  else prob l 1 d * (total p 1 d - (prob l 0 d * 0 + prob l 1 d * total p 1 d))

section Kernel

open Cert.Kernel3Ideal Cert.Kernel3Ideal.Gen Cert.Kernel3Ideal.Value

theorem result (l : FVec Ideal ⟨2, ![2, 1024]⟩ .f32) (p : FVec Ideal ⟨3, ![8, 2, 1024]⟩ .f32) : G2 (F := Ideal) l p = fun y : (⟨2, ![2, 1024]⟩ : Shape).Idx => rows l p (y 0) (y 1) := by
  funext y
  unfold G2
  have hs : ∀ d : Fin 1024, total p 1 d = p (ix3 0 1 d) + p (ix3 1 1 d) + p (ix3 2 1 d) + p (ix3 3 1 d) + p (ix3 4 1 d) + p (ix3 5 1 d) + p (ix3 6 1 d) + p (ix3 7 1 d) :=
    fun d => Fin.sum_univ_eight _
  canon_tiles
  all_goals
    have key : ∀ x : S1x1024.Idx, x = ix2 0 (x 1) := fun x => by
      idx_vars x
      obtain rfl : x0 = 0 := by omega
      rfl
    rw [key x]
    generalize hd : (x 1 : Fin 1024) = d
    obtain rfl : y 1 = d := Fin.ext (h1.trans (congrArg Fin.val hd))
    have hi : (y 0).val = 0 ∨ (y 0).val = 1 := by
      have := (x 0).isLt
      change (x 0).val < 1 at this
      omega
    first
      | have hy : (y 0).val = 0 := by
          have := (x 0).isLt
          change (x 0).val < 1 at this
          omega
      | have hy : ¬(y 0).val = 0 := by omega
    simp only [rows, hy, if_true, if_false]
    pointwise [hs, prob, row_max, k0_pay5, k0_pay6, k0_pay4, k0_pay3, k0_pay2, k0_pay1, k0_pay10, k0_pay11, k0_pay12, k0_pay7, k0_pay8, k0_pay9]

end Kernel

theorem pre_facts : Cert.Pre_finite3.Facts where
  reducesTo_S2x1024_S_d0_1 := by decide
  h_S_ := by decide
  reducesTo_S8x2x1024_S_d0_1_2 := by decide

theorem reals [hP : Cert.Pre_finite3.Facts] (l : FVec Ideal ⟨2, ![2, 1024]⟩ .f32) (p : FVec Ideal ⟨3, ![8, 2, 1024]⟩ .f32)
    (h : Cert.Pre_finite3.fn (F := Ideal) l p = fun _ => 1#1) : (∀ i, IsReal (l i)) ∧ ∀ i, IsReal (p i) := by
  obtain ⟨hl, hp⟩ := Finite.both _ _ _ (congrFun h (fun a => a.elim0))
  have one {s : Shape} {axes : List (Fin s.rank)} (h : s.ReducesTo axes Cert.Pre_finite3.S_) : ∀ i, h.drop i = (fun a => a.elim0) := fun i => funext fun a => a.elim0
  exact ⟨fun i => ⟨_, Finite.entries l _ _ _ (one _) hl i⟩, fun i => ⟨_, Finite.entries p _ _ _ (one _) hp i⟩⟩

open Cert.Reference3Ideal Cert.Reference3Ideal.Gen Cert.Reference3Ideal.Value in
theorem out_rows (m : (ℓ : Loc Cert.Reference3Ideal.nD Cert.Reference3Ideal.τ Cert.Reference3Ideal.sig) → Buf (Elt Ideal) ℓ) (c : Dev Cert.Reference3Ideal.nD)
    (l : FVec Ideal ⟨2, ![2, 1024]⟩ .f32) (p : FVec Ideal ⟨3, ![8, 2, 1024]⟩ .f32) (hl : ∀ i, IsReal (l i)) (hp : ∀ i, IsReal (p i))
    (h0 : m ((c.tc : Thread Cert.Reference3Ideal.nD Cert.Reference3Ideal.τ).loc Cert.Reference3Ideal.main_arg0) = l) (h1 : m ((c.tc : Thread Cert.Reference3Ideal.nD Cert.Reference3Ideal.τ).loc Cert.Reference3Ideal.main_arg1) = p) :
    res_main_v50 m c = fun y : (⟨2, ![2, 1024]⟩ : Shape).Idx => rows l p (y 0) (y 1) := by
  funext y
  have hx : (maximumf (broadcastInDim S1024 ![] Gen.bcast_S_S1024 (constant S_ .f32 0xFF800000#32)) (Host.reduce FloatOps.maximumf (m ((c.tc : Thread nD τ).loc main_arg0)) (constant S_ .f32 0xFF800000#32) Gen.reducesTo_S2x1024_S1024_d0 Gen.h_S_) : FVec Ideal S1024 .f32)
      = fun i : S1024.Idx => (row_max l (i 0) : EReal) := by
    rw [h0]
    funext i
    idx_vars i
    refine Eq.trans (congrArg (max _) ((Host.reduce_eq_fold _ _ _ _ _ _).trans (fold_fibre _ l _ i0))) ?_
    exact (congrArg (fun b => max b (row_max l i0)) bot_bits).trans (bot_sup_eq _)
  unfold res_main_v50
  rw [hx, h0, h1]
  idx_vars y
  obtain ⟨M, hM⟩ := row_max_real l hl y1
  obtain ⟨a, ha⟩ := hl (ix2 0 y1)
  obtain ⟨b, hb⟩ := hl (ix2 1 y1)
  have hS : Real.exp (a - M) + Real.exp (b - M) ≠ 0 := by positivity
  obtain ⟨q, rfl⟩ := IsReal.fam hp
  have z0 : (0 : EReal) = ((0 : ℝ) : EReal) := rfl
  have z1 : (1 : EReal) = ((1 : ℝ) : EReal) := rfl
  have hw := fun i : Fin 2 => window (Host.reduceAdd (fun i => (q i : EReal) : FVec Ideal ⟨3, ![8, 2, 1024]⟩ .f32) (constant S_ FTy.f32 0#32) Gen.reducesTo_S8x2x1024_S2x1024_d0 Gen.h_S_)
    (broadcastInDim S_ ![] Gen.bcast_S_S_ (constant S_ FTy.f32 0#32)) Gen.reduceWindows_S2x1024_S2x1024_w2s1p0_1_w1s1p0_0 Gen.h_S_ (fun _ => by pointwise []) (ix2 i y1)
  pointwise [] at hw
  obtain rfl | rfl : y0 = 0 ∨ y0 = 1 := by omega
  all_goals
    pointwise []
    simp only [hw, Finset.univ_unique, Finset.sum_singleton]
    simp only [rows, prob, total, Fin.isValue, Fin.val_zero, Fin.val_one, if_true, one_ne_zero, if_false, Fin.sum_univ_two, coe_sum, hM, ha, hb, ← EReal.coe_sub, Ideal.exp_coe,
      z0, z1, ← EReal.coe_neg, ← EReal.coe_add, ← EReal.coe_mul, div_coe _ _ hS, div_coe _ _ (mul_ne_zero hS hS)]
    refine congrArg _ ?_
    field_simp
    ring

theorem value [hP : Cert.Pre_finite3.Facts] : Cert.algebraic_Kernel3Ideal_Reference3Ideal_pre_finite3 := by
  intro m g m' g' hpre hagree
  refine ⟨_, Cert.Kernel3Ideal.Value.run m g, θ_run_mono (Cert.Reference3Ideal.Value.run m' g') fun r h c => ?_⟩
  obtain ⟨hl, hp⟩ := reals _ _ (hpre c)
  obtain ⟨h0, h1⟩ := hagree c
  refine ⟨(h c).1.trans ?_, (h c).2⟩
  exact (out_rows m' c _ _ hl hp h0 h1).trans (result _ _).symm

end Cert.Proof.Bounds
end
-- ==== Proof.QkNorm.lean ====
/- The gradient of the per-head norms of queries and keys: what a grid point leaves, and the arrays at exit. -/
module

public import proofs.«01_k».proof.Defs
public import proofs.«01_k».proof.Proof.RealNorm
public import proofs.«01_k».proof.Proof.Gen.Kernel6Ideal
public import proofs.«01_k».proof.Proof.Gen.Kernel6Ideal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel6Ideal.Qk

open Idealize.ShloMosaic Idealize.ShloMosaic.TcCoe Idealize.ShloMosaic.Tactic Idealize.SL.Sem
open Cert.Kernel6Ideal Cert.Kernel6Ideal.Gen

variable (m : (ℓ : Loc nD τ sig) → Buf (Elt Ideal) ℓ)

abbrev Lanes := FVec Ideal S256x128 .f32

/-- The quotient of an index by 64, as the kernel computes it on words. -/
theorem half : ∀ k : Fin 128, Scalar.select (IntOp.andi (IntOp.cmpi CmpIPredicate.ne
      (IntOp.subi (BitVec.setWidth 32 (IntOp.cmpi CmpIPredicate.sgt (BitVec.ofNat 32 ↑k) 0#32)) (BitVec.setWidth 32 (IntOp.cmpi CmpIPredicate.slt (BitVec.ofNat 32 ↑k) 0#32)))
      (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector (BitVec.ofNat 32 ↑k) 64#32) 0#32))
    (IntOp.subi (IntOp.divsi ArithUnit.vector (BitVec.ofNat 32 ↑k) 64#32) 1#32) (IntOp.divsi ArithUnit.vector (BitVec.ofNat 32 ↑k) 64#32) = BitVec.ofNat 32 (k.val / 64) := by
  decide +kernel

theorem same (k l : Fin 128) (p q : EReal) : Scalar.select (IntOp.cmpi CmpIPredicate.eq (BitVec.ofNat 32 (k.val / 64)) (BitVec.ofNat 32 (l.val / 64))) p q = if k.val / 64 = l.val / 64 then p else q := by
  have h : (BitVec.ofNat 32 (k.val / 64) = BitVec.ofNat 32 (l.val / 64)) ↔ k.val / 64 = l.val / 64 := by
    rw [← BitVec.toNat_inj, BitVec.toNat_ofNat, BitVec.toNat_ofNat]; omega
  by_cases e : k.val / 64 = l.val / 64
  · rw [if_pos e, e]; simp [Scalar.select, IntOp.cmpi]
  · rw [if_neg e, Scalar.select, IntOp.cmpi, beq_false_of_ne (mt h.mp e)]; rfl

/-- The sum over a lane's half, in the two parts the kernel adds. -/
def pm (y : Fin 128 → EReal) (b : Fin 128) : EReal :=
  (∑ l : Fin 128, if l.val / 64 = b.val / 64 then y l else 0) + ∑ l : Fin 128, if l.val / 64 = b.val / 64 then y l - y l else 0

def rr (x : Lanes) (a : Fin 256) (b : Fin 128) : EReal :=
  Ideal.rsqrt (pm (fun l => x (ix2 a l) * x (ix2 a l)) b * Ideal.ofBits .f32 0x3C800000#32 + Ideal.ofBits .f32 0x358637BD#32)

def scales (x : Lanes) : Lanes := k0_pay6 (k0_pay4 x) k0_pay5 (iota Kind.tc S128x128 32 [1] iota_S128x128_d1_w32)
def normed (x : Lanes) : Lanes := k0_pay7 x (k0_pay4 x) k0_pay5 (iota Kind.tc S128x128 32 [1] iota_S128x128_d1_w32)
def sel (w : BitVec 32) (q k v : Lanes) : Lanes := Scalar.select (Scalar.cmpi .eq w 0#32) q (Scalar.select (Scalar.cmpi .eq w 1#32) k v)
/-- What a grid point stores for 128 lanes. -/
def stored (w : BitVec 32) (x d : Lanes) (g : FVec Ideal S1x1x128 .f32) : FVec Ideal S256x128 .bf16 :=
  k0_pay15 w d (scales x) (normed x) (k0_pay9 d (k0_pay8 g)) (k0_pay10 d (normed x) (k0_pay8 g)) k0_pay11 k0_pay12 k0_pay13 k0_pay14 (0#32)
def added (x d : Lanes) (acc : FVec Ideal S1x1x128 .f32) : FVec Ideal S1x1x128 .f32 := k0_pay16 d (normed x) acc

theorem scales_at (x : Lanes) (a : Fin 256) (b : Fin 128) : scales x (ix2 a b) = rr x a b := by
  unfold scales
  pointwise [k0_pay6, k0_pay5, k0_pay4]
  simp only [half, same]
  rfl

theorem normed_at (x : Lanes) (a : Fin 256) (b : Fin 128) : normed x (ix2 a b) = x (ix2 a b) * rr x a b := by
  rw [← scales_at]; rfl

theorem stored_at (w : BitVec 32) (x d : Lanes) (g : FVec Ideal S1x1x128 .f32) (a : Fin 256) (b : Fin 128) : stored w x d g (ix2 a b) =
    Scalar.select (Scalar.cmpi .eq w 2#32) (d (ix2 a b)) (rr x a b * (d (ix2 a b) * g (ix3 0 0 b) - x (ix2 a b) * rr x a b *
      (pm (fun l => d (ix2 a l) * g (ix3 0 0 l) * (x (ix2 a l) * rr x a l)) b * Ideal.ofBits .f32 0x3C800000#32))) := by
  unfold stored
  have e : ∀ l, normed x (ix2 a l) = x (ix2 a l) * rr x a l := normed_at x a
  have e' := scales_at x a b
  revert e e'
  generalize normed x = n
  generalize scales x = s
  intro e e'
  pointwise [k0_pay15, k0_pay11, k0_pay12, k0_pay13, k0_pay14, k0_pay10, k0_pay9, k0_pay8]
  simp only [half, same, e, e']
  rfl

theorem added_at (x d : Lanes) (acc : FVec Ideal S1x1x128 .f32) (b : Fin 128) : added x d acc (ix3 0 0 b) = acc (ix3 0 0 b) + ∑ a : Fin 256, d (ix2 a b) * (x (ix2 a b) * rr x a b) := by
  unfold added
  have e : ∀ a l, normed x (ix2 a l) = x (ix2 a l) * rr x a l := normed_at x
  revert e
  generalize normed x = n
  intro e
  pointwise [k0_pay16]
  simp only [e]

theorem lanes_in (o : Nat) (ho : o + 128 ≤ 1024) : ∀ a, (![0, o] : Fin 2 → Nat) a + S256x128.size a ≤ S256x1024.size a := by
  rw [Fin.forall_fin_two]; exact ⟨le_refl 256, ho⟩
theorem gains_in (o : Nat) (ho : o + 128 ≤ 1024) : ∀ a, (![0, 0, o] : Fin 3 → Nat) a + S1x1x128.size a ≤ S1x1x1024.size a := by
  intro a; fin_cases a
  exacts [le_refl 1, le_refl 1, ho]

/-- The 128 lanes of a block from `o` on, and of a row. -/
def lanes (x : FVec Ideal S256x1024 .f32) (o : Nat) (ho : o + 128 ≤ 1024) : Lanes := View.ld (Val := Elt Ideal) (S := S256x1024) (e' := .f32) x (Rect.unit ![0, o] ![256, 128] (lanes_in o ho))
def gains (g : FVec Ideal S1x1x1024 .f32) (o : Nat) (ho : o + 128 ≤ 1024) : FVec Ideal S1x1x128 .f32 := View.ld (Val := Elt Ideal) (S := S1x1x1024) (e' := .f32) g (Rect.unit ![0, 0, o] ![1, 1, 128] (gains_in o ho))

/-- What a grid point stores for the 128 lanes from `o` on. -/
def piece (w : BitVec 32) (x q k v : FVec Ideal S256x1024 .f32) (g : FVec Ideal S1x1x1024 .f32) (o : Nat) (ho : o + 128 ≤ 1024) : FVec Ideal S256x128 .bf16 :=
  stored w (lanes x o ho) (sel w (lanes q o ho) (lanes k o ho) (lanes v o ho)) (gains g o ho)

theorem place (w : BitVec 32) (x q k v : FVec Ideal S256x1024 .f32) (g : FVec Ideal S1x1x1024 .f32) {o : Nat} (ho : o + 128 ≤ 1024 ∧ o % 128 = 0)
    {z : S256x128.Idx} {y : S256x1024.Idx} (h0 : (y 0).val = (z 0).val) (h1 : (y 1).val = o + (z 1).val) (hz : (z 1).val < 128) :
    piece w x q k v g o ho.1 z = piece w x q k v g ((y 1).val / 128 * 128) (by have := (y 1).isLt; simp at this; omega) (ix2 (y 0) ⟨(y 1).val % 128, by omega⟩) := by
  have e : (y 1).val / 128 * 128 = o := by omega
  have e' : z = ix2 (y 0) ⟨(y 1).val % 128, by omega⟩ := by
    funext a; revert a; rw [Fin.forall_fin_two]
    exact ⟨Fin.ext h0.symm, Fin.ext (show (z 1).val = (y 1).val % 128 by omega)⟩
  conv_lhs => rw [e']
  congr 1; exact e.symm

set_option maxHeartbeats 1000000 in
theorem point5 (c : Dev nD) (t : Fin cfg0.N) (y : S256x1024.Idx) : (outsAt0 m c t.val t.isLt).1 y =
    piece (BitVec.ofNat 32 (grid0.coords t 0)) (iblk m c 0 t) (iblk m c 1 t) (iblk m c 2 t) (iblk m c 3 t) (iblk m c 4 t)
      ((y 1).val / 128 * 128) (by have := (y 1).isLt; simp at this; omega) (ix2 (y 0) ⟨(y 1).val % 128, by omega⟩) := by
  by_cases h : t.val % 16 = 0
  · rw [outsAt0_A m c t h]
    frame_out
    canon_tiles x h
    all_goals first | exact place (BitVec.ofNat 32 (grid0.coords t 0)) (iblk m c 0 t) (iblk m c 1 t) (iblk m c 2 t) (iblk m c 3 t) (iblk m c 4 t) (by omega) h0 h1 x1_lt | exact place (BitVec.ofNat 32 (grid0.coords t 0)) (iblk m c 0 t) (iblk m c 1 t) (iblk m c 2 t) (iblk m c 3 t) (iblk m c 4 t) (o := 0) (by omega) h0 (h1.trans (Nat.zero_add _).symm) x1_lt
  · rw [outsAt0_B m c t h]
    frame_out
    canon_tiles x h
    all_goals first | exact place (BitVec.ofNat 32 (grid0.coords t 0)) (iblk m c 0 t) (iblk m c 1 t) (iblk m c 2 t) (iblk m c 3 t) (iblk m c 4 t) (by omega) h0 h1 x1_lt | exact place (BitVec.ofNat 32 (grid0.coords t 0)) (iblk m c 0 t) (iblk m c 1 t) (iblk m c 2 t) (iblk m c 3 t) (iblk m c 4 t) (o := 0) (by omega) h0 (h1.trans (Nat.zero_add _).symm) x1_lt

/-- The row of gain gradients a grid point leaves for the 128 lanes from `o` on, from the row `acc` before it. -/
def rowPiece (w : BitVec 32) (x q k v : FVec Ideal S256x1024 .f32) (acc : FVec Ideal S1x1x1024 .f32) (o : Nat) (ho : o + 128 ≤ 1024) : FVec Ideal S1x1x128 .f32 :=
  added (lanes x o ho) (sel w (lanes q o ho) (lanes k o ho) (lanes v o ho)) (gains acc o ho)

def rowAll (w : BitVec 32) (x q k v : FVec Ideal S256x1024 .f32) (acc : FVec Ideal S1x1x1024 .f32) : FVec Ideal S1x1x1024 .f32 := fun y =>
  rowPiece w x q k v acc ((y 2).val / 128 * 128) (by have := (y 2).isLt; simp at this; omega) (ix3 0 0 ⟨(y 2).val % 128, by omega⟩)

theorem placeRow {w : BitVec 32} {x q k v : FVec Ideal S256x1024 .f32} {acc : FVec Ideal S1x1x1024 .f32} {o : Nat} (ho : o + 128 ≤ 1024 ∧ o % 128 = 0)
    {z : S1x1x128.Idx} {y : S1x1x1024.Idx} (h1 : (y 2).val = o + (z 2).val) :
    rowPiece w x q k v acc o ho.1 z = rowAll w x q k v acc y := by
  have hz : (z 2).val < 128 := (z 2).isLt
  have e : (y 2).val / 128 * 128 = o := by omega
  have e' : z = ix3 0 0 ⟨(y 2).val % 128, by omega⟩ := by
    funext a; fin_cases a
    exacts [Fin.ext (Nat.lt_one_iff.mp (z 0).isLt), Fin.ext (Nat.lt_one_iff.mp (z 1).isLt), Fin.ext (show (z 2).val = (y 2).val % 128 by omega)]
  conv_lhs => rw [e']
  unfold rowAll
  congr 1; exact e.symm

theorem rowEmb (w : BitVec 32) (x q k v : FVec Ideal S256x1024 .f32) (acc : FVec Ideal S1x1x1024 .f32) (o : Nat) (ho : o + 128 ≤ 1024 ∧ o % 128 = 0)
    (z : S1x1x128.Idx) : rowPiece w x q k v acc o ho.1 z = rowAll w x q k v acc ((Rect.unit (s := S1x1x1024) ![0, 0, o] ![1, 1, 128] (gains_in o ho.1)).emb z) :=
  placeRow ho (by simp [Rect.emb, Rect.unit])

theorem point6B (c : Dev nD) (t : Fin cfg0.N) (h : ¬t.val % 16 = 0) (y : S1x1x1024.Idx) : (outsAt0 m c t.val t.isLt).2 y =
    rowAll (BitVec.ofNat 32 (grid0.coords t 0)) (iblk m c 0 t) (iblk m c 1 t) (iblk m c 2 t) (iblk m c 3 t) (outsAt0 m c (t.val - 1) (by omega)).2 y := by
  rw [outsAt0_B m c t h]
  frame_out
  canon_tiles x h
  all_goals first | exact placeRow (by omega) h2 | exact placeRow (o := 0) (by omega) (h2.trans (Nat.zero_add _).symm)

theorem point6A (c : Dev nD) (t : Fin cfg0.N) (h : t.val % 16 = 0) (y : S1x1x1024.Idx) : (outsAt0 m c t.val t.isLt).2 y =
    rowAll (BitVec.ofNat 32 (grid0.coords t 0)) (iblk m c 0 t) (iblk m c 1 t) (iblk m c 2 t) (iblk m c 3 t) k0_pay2 y := by
  rw [outsAt0_A m c t h]
  frame_out
  have R := rowEmb (BitVec.ofNat 32 (grid0.coords t 0)) (iblk m c 0 t) (iblk m c 1 t) (iblk m c 2 t) (iblk m c 3 t) k0_pay2
  refine View.canon_append_of_piecesOf (Val := Elt Ideal) (s := S1x1x1024) (e := .f32) (L := [_, _, _, _, _, _, _, _]) (L' := [_]) (rowAll (BitVec.ofNat 32 (grid0.coords t 0)) (iblk m c 0 t) (iblk m c 1 t) (iblk m c 2 t) (iblk m c 3 t) k0_pay2) ⟨fun x => ?_, fun x => ?_, fun x => ?_, fun x => ?_, fun x => ?_, fun x => ?_, fun x => ?_, fun x => ?_, trivial⟩ y ?_
  all_goals try dsimp only
  all_goals try simp (disch := first | rfl | decide) only [↓View.readCov_skip, View.readCov_fill]
  case refine_1 => exact R 896 (by omega) x
  case refine_2 => exact R 768 (by omega) x
  case refine_3 => exact R 640 (by omega) x
  case refine_4 => exact R 512 (by omega) x
  case refine_5 => exact R 384 (by omega) x
  case refine_6 => exact R 256 (by omega) x
  case refine_7 => exact R 128 (by omega) x
  case refine_8 => exact R 0 (by omega) x
  exact View.cover_of_tiledL (s := S1x1x1024) _ S1x1x128.size (by sl_kernel_rfl) y

end Cert.Kernel6Ideal.Qk
end
-- ==== Proof.Qk.lean ====
/- The gradient of the per-head norms of queries and keys: over finite entries a grid point's two halves of 128 lanes are two heads of 64, and the sums over the blocks of rows. -/
module

public import proofs.«01_k».proof.Proof.Finite
public import proofs.«01_k».proof.Proof.QkNorm
public import proofs.«01_k».proof.Proof.Gen.Reference6Ideal
public import proofs.«01_k».proof.Proof.Gen.Reference6Ideal.Run

@[expose] public section

set_option maxRecDepth 16384

noncomputable section

namespace Cert.Kernel6Ideal.Qk

open Idealize.ShloMosaic Idealize.ShloMosaic.TcCoe Idealize.ShloMosaic.Tactic Idealize.SL.Sem
open Cert.Kernel6Ideal Cert.Kernel6Ideal.Gen Cert.RealNorm

theorem sixty_four : Ideal.ofBits .f32 0x42800000#32 = ((64 : ℝ) : EReal) := by
  simp [Ideal.ofBits, Ideal.ieee]
  rw [← EReal.coe_mul]; norm_num
theorem part_bits : Ideal.ofBits .f32 0x3C800000#32 = ((1 / 64 : ℝ) : EReal) := by
  simp [Ideal.ofBits, Ideal.ieee]
  rw [← EReal.coe_mul]; norm_num

theorem part {s : EReal} (h : IsReal s) : s * Ideal.ofBits .f32 0x3C800000#32 = Ideal.div s (Ideal.ofBits .f32 0x42800000#32) := by
  obtain ⟨r, rfl⟩ := h
  rw [part_bits, sixty_four, div_coe _ _ (by norm_num), ← EReal.coe_mul]
  congr 1; ring

abbrev n64 : EReal := Ideal.ofBits .f32 0x42800000#32
abbrev small : EReal := Ideal.ofBits .f32 0x358637BD#32

/-- A lane's head, of the two in 128 lanes. -/
def own (x : Fin 128 → EReal) (b : Fin 128) (j : Fin 64) : EReal := x ⟨b.val / 64 * 64 + j.val, by omega⟩

theorem pm_real {y : Fin 128 → EReal} (hy : ∀ l, IsReal (y l)) (b : Fin 128) : pm y b = ∑ j, own y b j := by
  have z : ∀ l, y l - y l = 0 := fun l => by
    obtain ⟨r, hr⟩ := hy l
    rw [hr, ← EReal.coe_sub, sub_self]; rfl
  unfold pm
  simp only [z, ite_self, Finset.sum_const_zero, add_zero]
  rw [← Fin.sum_mul_add_fin 2 64 fun l : Fin 128 => if l.val / 64 = b.val / 64 then y l else 0, Fin.sum_univ_two]
  have e : ∀ (k : Nat) (j : Fin 64), (k * 64 + j.val) / 64 = k := fun k j => by omega
  have s0 : ∀ k : Fin 2, (∑ j : Fin 64, if (⟨k.val * 64 + j.val, by omega⟩ : Fin 128).val / 64 = b.val / 64 then y ⟨k.val * 64 + j.val, by omega⟩ else 0) = if k.val = b.val / 64 then ∑ j, own y b j else 0 := fun k => by
    simp only [e]
    split
    · rename_i h
      exact Finset.sum_congr rfl fun j _ => congrArg y (Fin.ext (by show k.val * 64 + j.val = b.val / 64 * 64 + j.val; rw [h]))
    · exact Finset.sum_const_zero
  have hb : b.val / 64 = 0 ∨ b.val / 64 = 1 := by omega
  refine (congrArg₂ (· + ·) (s0 0) (s0 1)).trans ?_
  show (if 0 = b.val / 64 then _ else _) + (if 1 = b.val / 64 then _ else _) = _
  rcases hb with h | h
  · rw [if_pos h.symm, if_neg (by rw [h]; decide), add_zero]
  · rw [if_neg (by rw [h]; decide), if_pos h.symm, zero_add]

theorem pm_part {y : Fin 128 → EReal} (hy : ∀ l, IsReal (y l)) (b : Fin 128) : pm y b * Ideal.ofBits .f32 0x3C800000#32 = Ideal.div (∑ j, own y b j) n64 := by
  rw [pm_real hy]
  exact part (IsReal.sum _ fun j => hy _)

/-- A lane's factor, and its gradient, as the kernel takes them. -/
def rs (x : Fin 128 → EReal) (b : Fin 128) : EReal := Ideal.rsqrt (pm (fun l => x l * x l) b * Ideal.ofBits .f32 0x3C800000#32 + small)
def dx (x t : Fin 128 → EReal) (b : Fin 128) : EReal := rs x b * (t b - x b * rs x b * (pm (fun l => t l * (x l * rs x l)) b * Ideal.ofBits .f32 0x3C800000#32))

/-- A head's factor, and its gradient. -/
def fac (x : Fin 64 → EReal) : EReal := Ideal.rsqrt (var n64 small x)
def grad (x t : Fin 64 → EReal) (j : Fin 64) : EReal := fac x * (t j - x j * fac x * Ideal.div (∑ k, t k * (x k * fac x)) n64)

theorem rs_real {x : Fin 128 → EReal} (hx : ∀ l, IsReal (x l)) (b : Fin 128) : rs x b = fac (own x b) := by
  unfold rs fac var
  rw [pm_part fun l => (hx l).mul (hx l)]
  rfl

theorem fac_real {x : Fin 64 → EReal} (hx : ∀ l, IsReal (x l)) : IsReal (fac x) := by
  obtain ⟨e, he, he'⟩ := small_bits
  obtain ⟨x, rfl⟩ := IsReal.fam hx
  obtain ⟨v, hv, hv'⟩ := var_coe (n := 64) (by norm_num) he x
  unfold fac n64 small
  rw [sixty_four, he', hv', rsqrt_coe v hv]
  exact ⟨_, rfl⟩

theorem own_own (x : Fin 128 → EReal) (b : Fin 128) (j : Fin 64) : own x ⟨b.val / 64 * 64 + j.val, by omega⟩ = own x b := by
  funext k
  exact congrArg x (Fin.ext (by show (b.val / 64 * 64 + j.val) / 64 * 64 + k.val = b.val / 64 * 64 + k.val; omega))
theorem own_self (x : Fin 128 → EReal) (b : Fin 128) : own x b ⟨b.val % 64, by omega⟩ = x b :=
  congrArg x (Fin.ext (by show b.val / 64 * 64 + b.val % 64 = b.val; omega))

theorem dx_real {x t : Fin 128 → EReal} (hx : ∀ l, IsReal (x l)) (ht : ∀ l, IsReal (t l)) (b : Fin 128) : dx x t b = grad (own x b) (own t b) ⟨b.val % 64, by omega⟩ := by
  have hr : ∀ l, IsReal (rs x l) := fun l => by rw [rs_real hx]; exact fac_real fun j => hx _
  unfold dx grad
  rw [pm_part fun l => (ht l).mul ((hx l).mul (hr l)), rs_real hx, own_self, own_self]
  have e : ∀ j, own (fun l => t l * (x l * rs x l)) b j = own t b j * (own x b j * fac (own x b)) := fun j => by
    show t _ * (x _ * rs x _) = _
    rw [rs_real hx, own_own]; rfl
  simp only [e]

theorem lanes_at (x : FVec Ideal S256x1024 .f32) (o : Nat) (ho : o + 128 ≤ 1024) (a : Fin 256) (b : Fin 128) : lanes x o ho (ix2 a b) = x (ix2 a ⟨o + b.val, by omega⟩) := by
  unfold lanes View.ld
  refine congrArg x (funext fun k => ?_)
  revert k; rw [Fin.forall_fin_two]
  exact ⟨Fin.ext ((ValueKit.rect_emb_unit_val _ _ _ _ _).trans (Nat.zero_add _)), Fin.ext (ValueKit.rect_emb_unit_val _ _ _ _ _)⟩

theorem gains_at (x : FVec Ideal S1x1x1024 .f32) (o : Nat) (ho : o + 128 ≤ 1024) (b : Fin 128) : gains x o ho (ix3 0 0 b) = x (ix3 0 0 ⟨o + b.val, by omega⟩) := by
  unfold gains View.ld
  refine congrArg x (funext fun k => ?_)
  fin_cases k
  · exact Fin.ext (ValueKit.rect_emb_unit_val _ _ _ _ _)
  · exact Fin.ext (ValueKit.rect_emb_unit_val _ _ _ _ _)
  · exact Fin.ext (ValueKit.rect_emb_unit_val _ _ _ _ _)

/-- The part a program id picks. -/
def pick {α : Type} (w : Nat) (q k v : α) : α := if w = 0 then q else if w = 1 then k else v

theorem sel_at (w : Nat) (hw : w < 3) (q k v : Lanes) (i) : sel (BitVec.ofNat 32 w) q k v i = pick w (q i) (k i) (v i) := by
  have : w = 0 ∨ w = 1 ∨ w = 2 := by omega
  rcases this with rfl | rfl | rfl <;> rfl

theorem piece_at (w : Nat) (hw : w < 3) (x q k v : FVec Ideal S256x1024 .f32) (g : FVec Ideal S1x1x1024 .f32) (o : Nat) (ho : o + 128 ≤ 1024) (a : Fin 256) (b : Fin 128) :
    piece (BitVec.ofNat 32 w) x q k v g o ho (ix2 a b) = if w = 2 then v (ix2 a ⟨o + b.val, by omega⟩) else
      dx (fun l => x (ix2 a ⟨o + l.val, by omega⟩)) (fun l => pick w (q (ix2 a ⟨o + l.val, by omega⟩)) (k (ix2 a ⟨o + l.val, by omega⟩)) (v (ix2 a ⟨o + l.val, by omega⟩)) * g (ix3 0 0 ⟨o + l.val, by omega⟩)) b := by
  unfold piece
  rw [stored_at]
  simp only [sel_at w hw, lanes_at, gains_at, rr]
  have : w = 0 ∨ w = 1 ∨ w = 2 := by omega
  rcases this with rfl | rfl | rfl <;> rfl

theorem rowPiece_at (w : Nat) (hw : w < 3) (x q k v : FVec Ideal S256x1024 .f32) (acc : FVec Ideal S1x1x1024 .f32) (o : Nat) (ho : o + 128 ≤ 1024) (b : Fin 128) :
    rowPiece (BitVec.ofNat 32 w) x q k v acc o ho (ix3 0 0 b) = acc (ix3 0 0 ⟨o + b.val, by omega⟩) + ∑ a : Fin 256, pick w (q (ix2 a ⟨o + b.val, by omega⟩)) (k (ix2 a ⟨o + b.val, by omega⟩)) (v (ix2 a ⟨o + b.val, by omega⟩)) *
      (x (ix2 a ⟨o + b.val, by omega⟩) * rs (fun l => x (ix2 a ⟨o + l.val, by omega⟩)) b) := by
  unfold rowPiece
  rw [added_at]
  simp only [sel_at w hw, lanes_at, gains_at, rr]
  rfl

theorem rowAll_at (w : Nat) (hw : w < 3) (x q k v : FVec Ideal S256x1024 .f32) (acc : FVec Ideal S1x1x1024 .f32) (C : Fin 1024) :
    rowAll (BitVec.ofNat 32 w) x q k v acc (ix3 0 0 C) = acc (ix3 0 0 C) + ∑ a : Fin 256, pick w (q (ix2 a C)) (k (ix2 a C)) (v (ix2 a C)) *
      (x (ix2 a C) * rs (fun l => x (ix2 a ⟨C.val / 128 * 128 + l.val, by omega⟩)) ⟨C.val % 128, by omega⟩) := by
  have e : ∀ h, (⟨C.val / 128 * 128 + C.val % 128, h⟩ : Fin 1024) = C := fun h => Fin.ext (by show C.val / 128 * 128 + C.val % 128 = C.val; omega)
  refine (rowPiece_at w hw x q k v acc (C.val / 128 * 128) (by omega) ⟨C.val % 128, by omega⟩).trans ?_
  simp only [e]

end Cert.Kernel6Ideal.Qk
end
-- ==== Proof.QkSum.lean ====
/- The gradient of the per-head norms of queries and keys: what the grid leaves in the two results' arrays. -/
module

public import proofs.«01_k».proof.Proof.Qk
public import Idealize.ShloMosaic.Lib.StableHlo.RunRead

@[expose] public section

set_option maxRecDepth 16384

noncomputable section

namespace Cert.Kernel6Ideal.Qk

open Idealize.ShloMosaic Idealize.ShloMosaic.TcCoe Idealize.ShloMosaic.Tactic Idealize.SL.Sem
open Idealize.ShloMosaic.Pipeline (Dat Cfg Window)
open Cert.Kernel6Ideal Cert.Kernel6Ideal.Gen Cert.RealNorm

variable (m : (ℓ : Loc nD τ sig) → Buf (Elt Ideal) ℓ)

theorem idx : ∀ t : Fin cfg0.N, (win0_0.index t = ![t.val % 16, t.val / 16] ∧ win0_4.index t = ![t.val / 16, 0, 0] ∧ win0_5.index t = ![t.val % 16, t.val / 16] ∧ win0_6.index t = ![t.val / 16, 0, 0])
    ∧ (t.val / 16 = 0 → win0_1.index t = ![t.val % 16, 0]) ∧ (t.val / 16 = 1 → win0_2.index t = ![t.val % 16, 0]) ∧ (t.val / 16 = 2 → win0_3.index t = ![t.val % 16, 0]) ∧ (grid0.coords t 0).val = t.val / 16 :=
  (by decide +kernel : ∀ t : Fin grid0.N, _)

def gainsH (g h : FVec Ideal S64 .f32) : FVec Ideal S3x1x1024 .f32 :=
  broadcastInDim S3x1x1024 ![0, 2] bcast_S3x1024_S3x1x1024_0_2 (concatenate S3x1024 0
    [⟨S1x1024, broadcastInDim S1x1024 ![1] bcast_S1024_S1x1024_1 (mulf (shapeCast S1024 (broadcastInDim S16x64 ![0, 1] bcast_S1x64_S16x64_0_1 (shapeCast S1x64 g shapeCasts_S64_S1x64)) shapeCasts_S16x64_S1024) (broadcastInDim S1024 ![] bcast_S_S1024 (constant S_ .f32 0x3E000000#32)))⟩,
     ⟨S1x1024, broadcastInDim S1x1024 ![1] bcast_S1024_S1x1024_1 (shapeCast S1024 (broadcastInDim S16x64 ![0, 1] bcast_S1x64_S16x64_0_1 (shapeCast S1x64 h shapeCasts_S64_S1x64)) shapeCasts_S16x64_S1024)⟩,
     ⟨S1x1024, broadcastInDim S1x1024 ![1] bcast_S1024_S1x1024_1 (broadcastInDim S1024 ![] bcast_S_S1024 (constant S_ .f32 0x3F800000#32))⟩] concatenates_S1x1024_S1x1024_S1x1024_S3x1024_d0)

theorem entry_g (c : Dev nD) : V m c main_v13 = gainsH (m ((c : Thread nD τ).loc main_arg4)) (m ((c : Thread nD τ).loc main_arg5)) := by
  show StableHlo.after (List.flatten [hostOps0]) (fun b => m (c, b)) (Proc.devRef .tc _) = _
  simp only [hostOps0, List.flatten_cons, List.flatten_nil, List.append_nil, List.cons_append, List.nil_append]
  after_reads_simp
  rfl

abbrev eighth : EReal := Ideal.ofBits .f32 0x3E000000#32

theorem gainsH_q (g h : FVec Ideal S64 .f32) (C : Fin 1024) : gainsH g h (ix3 0 0 C) = g (ix1 ⟨C.val % 64, by omega⟩) * eighth := by
  pointwise [gainsH]

theorem gainsH_k (g h : FVec Ideal S64 .f32) (C : Fin 1024) : gainsH g h (ix3 1 0 C) = h (ix1 ⟨C.val % 64, by omega⟩) := by
  pointwise [gainsH]

section
variable (c : Dev nD) (t : Fin cfg0.N)

theorem t_lt : t.val < 48 := t.isLt

theorem block0 (a : Fin 256) (b : Fin 1024) : iblk m c 0 t (ix2 a b) = m ((c : Thread nD τ).loc main_arg0) (ix2 ⟨t.val % 16 * 256 + a.val, by omega⟩ ⟨t.val / 16 * 1024 + b.val, by have := t_lt t; omega⟩) := by
  blk_point [iblk, V_main_arg0 m c, (idx t).1]
theorem block1 (h : t.val / 16 = 0) (a : Fin 256) (b : Fin 1024) : iblk m c 1 t (ix2 a b) = m ((c : Thread nD τ).loc main_arg1) (ix2 ⟨t.val % 16 * 256 + a.val, by omega⟩ b) := by
  blk_point [iblk, V_main_arg1 m c, (idx t).2.1 h]
theorem block2 (h : t.val / 16 = 1) (a : Fin 256) (b : Fin 1024) : iblk m c 2 t (ix2 a b) = m ((c : Thread nD τ).loc main_arg2) (ix2 ⟨t.val % 16 * 256 + a.val, by omega⟩ b) := by
  blk_point [iblk, V_main_arg2 m c, (idx t).2.2.1 h]
theorem block3 (h : t.val / 16 = 2) (a : Fin 256) (b : Fin 1024) : iblk m c 3 t (ix2 a b) = m ((c : Thread nD τ).loc main_arg3) (ix2 ⟨t.val % 16 * 256 + a.val, by omega⟩ b) := by
  blk_point [iblk, V_main_arg3 m c, (idx t).2.2.2.1 h]
theorem block4 (b : Fin 1024) : iblk m c 4 t (ix3 0 0 b) = gainsH (m ((c : Thread nD τ).loc main_arg4)) (m ((c : Thread nD τ).loc main_arg5)) (ix3 ⟨t.val / 16, by have := t_lt t; omega⟩ 0 b) := by
  have key : ∀ G : FVec Ideal S3x1x1024 .f32, V m c main_v13 = G → iblk m c 4 t (ix3 0 0 b) = G (ix3 ⟨t.val / 16, by have := t_lt t; omega⟩ 0 b) := fun G hG => by
    blk_point [iblk, hG, (idx t).1]
  exact key _ (entry_g m c)
end

/-- A head's 64 columns of a row. -/
def xh (x : FVec Ideal S4096x3072 .f32) (R : Fin 4096) (u : Fin 48) (j : Fin 64) : EReal := x (ix2 R ⟨u.val * 64 + j.val, by omega⟩)
def dh (d : FVec Ideal S4096x1024 .f32) (R : Fin 4096) (h : Fin 16) (j : Fin 64) : EReal := d (ix2 R ⟨h.val * 64 + j.val, by omega⟩)

def row5 (x : FVec Ideal S4096x3072 .f32) (dq dk dv : FVec Ideal S4096x1024 .f32) (gq gk : FVec Ideal S64 .f32) (R : Fin 4096) (C : Fin 3072) : EReal :=
  if C.val < 1024 then grad (xh x R ⟨C.val / 64, by omega⟩) (fun j => dh dq R ⟨C.val / 64 % 16, by omega⟩ j * (gq (ix1 j) * eighth)) ⟨C.val % 64, by omega⟩
  else if C.val < 2048 then grad (xh x R ⟨C.val / 64, by omega⟩) (fun j => dh dk R ⟨C.val / 64 % 16, by omega⟩ j * gk (ix1 j)) ⟨C.val % 64, by omega⟩
  else dv (ix2 R ⟨C.val % 1024, by omega⟩)

def prod6 (x : FVec Ideal S4096x3072 .f32) (dq dk dv : FVec Ideal S4096x1024 .f32) (w : Nat) (R : Fin 4096) (C : Fin 1024) : EReal :=
  pick w (dq (ix2 R C)) (dk (ix2 R C)) (dv (ix2 R C)) * (xh x R ⟨(w * 16 + C.val / 64) % 48, by omega⟩ ⟨C.val % 64, by omega⟩ * fac (xh x R ⟨(w * 16 + C.val / 64) % 48, by omega⟩))

def rows6 (x : FVec Ideal S4096x3072 .f32) (dq dk dv : FVec Ideal S4096x1024 .f32) : FVec Ideal S3x1x1024 .f32 := fun i => ∑ R : Fin 4096, prod6 x dq dk dv (i 0).val R (i 2)

section
variable (c : Dev nD) (x : FVec Ideal S4096x3072 .f32) (dq dk dv : FVec Ideal S4096x1024 .f32) (gq gk : FVec Ideal S64 .f32)
  (h0 : m ((c : Thread nD τ).loc main_arg0) = x) (h1 : m ((c : Thread nD τ).loc main_arg1) = dq) (h2 : m ((c : Thread nD τ).loc main_arg2) = dk)
  (h3 : m ((c : Thread nD τ).loc main_arg3) = dv) (h4 : m ((c : Thread nD τ).loc main_arg4) = gq) (h5 : m ((c : Thread nD τ).loc main_arg5) = gk)
  (hx : ∀ i, IsReal (x i)) (hq : ∀ i, IsReal (dq i)) (hk : ∀ i, IsReal (dk i)) (hgq : ∀ i, IsReal (gq i)) (hgk : ∀ i, IsReal (gk i)) (t : Fin cfg0.N)

include h0 hx in
theorem lane_real (a : Fin 256) (b : Fin 1024) : IsReal (iblk m c 0 t (ix2 a b)) := by
  rw [block0, h0]; exact hx _

include h0 in
theorem own_lanes (a : Fin 256) (C : Fin 1024) : own (fun l => iblk m c 0 t (ix2 a ⟨C.val / 128 * 128 + l.val, by omega⟩)) ⟨C.val % 128, by omega⟩
    = xh x ⟨t.val % 16 * 256 + a.val, by omega⟩ ⟨t.val / 16 * 16 + C.val / 64, by have := t_lt t; omega⟩ := by
  funext j
  show iblk m c 0 t (ix2 a ⟨C.val / 128 * 128 + (C.val % 128 / 64 * 64 + j.val), by omega⟩) = _
  rw [block0, h0]
  unfold xh
  refine congrArg (fun k => x (ix2 _ k)) (Fin.ext ?_)
  show t.val / 16 * 1024 + (C.val / 128 * 128 + (C.val % 128 / 64 * 64 + j.val)) = (t.val / 16 * 16 + C.val / 64) * 64 + j.val
  omega

theorem own_cot (d : FVec Ideal S4096x1024 .f32) (R : Fin 4096) (g : Fin 64 → EReal) (C : Fin 1024) :
    own (fun l => d (ix2 R ⟨C.val / 128 * 128 + l.val, by omega⟩) * g ⟨(C.val / 128 * 128 + l.val) % 64, by omega⟩) ⟨C.val % 128, by omega⟩
      = fun j => dh d R ⟨C.val / 64, by omega⟩ j * g j := by
  funext j
  show d (ix2 R ⟨C.val / 128 * 128 + (C.val % 128 / 64 * 64 + j.val), by omega⟩) * g ⟨(C.val / 128 * 128 + (C.val % 128 / 64 * 64 + j.val)) % 64, by omega⟩ = _
  unfold dh
  refine congrArg₂ (fun k l => d (ix2 R k) * g l) (Fin.ext ?_) (Fin.ext ?_)
  · show C.val / 128 * 128 + (C.val % 128 / 64 * 64 + j.val) = C.val / 64 * 64 + j.val
    omega
  · show (C.val / 128 * 128 + (C.val % 128 / 64 * 64 + j.val)) % 64 = j.val
    omega

theorem coord (w : Nat) (h : t.val / 16 = w) : BitVec.ofNat 32 (grid0.coords t 0) = BitVec.ofNat 32 w := by
  rw [(idx t).2.2.2.2, h]

/-- One grid point's row over one head. -/
theorem point_grad (d : FVec Ideal S4096x1024 .f32) (hd : ∀ i, IsReal (d i)) (g : Fin 64 → EReal) (hg : ∀ j, IsReal (g j)) (X : Fin 128 → EReal) (hX : ∀ l, IsReal (X l)) (R : Fin 4096) (C : Fin 1024) :
    dx X (fun l => d (ix2 R ⟨C.val / 128 * 128 + l.val, by omega⟩) * g ⟨(C.val / 128 * 128 + l.val) % 64, by omega⟩) ⟨C.val % 128, by omega⟩
      = grad (own X ⟨C.val % 128, by omega⟩) (fun j => dh d R ⟨C.val / 64, by omega⟩ j * g j) ⟨C.val % 64, by omega⟩ := by
  rw [dx_real hX fun l => (hd _).mul (hg _), own_cot]
  exact congrArg (grad _ _) (Fin.ext (by show C.val % 128 % 64 = C.val % 64; omega))

theorem eighth_real : IsReal eighth := ⟨1 / 8, by
  unfold eighth
  simp [Ideal.ofBits, Ideal.ieee]
  rw [← EReal.coe_mul]; norm_num⟩

include h0 h1 h2 h3 h4 h5 hx hq hk hgq hgk in
theorem point5_at (a : Fin 256) (C : Fin 1024) (R : Fin 4096) (D : Fin 3072) (hR : R.val = t.val % 16 * 256 + a.val) (hD : D.val = t.val / 16 * 1024 + C.val) :
    piece (BitVec.ofNat 32 (grid0.coords t 0)) (iblk m c 0 t) (iblk m c 1 t) (iblk m c 2 t) (iblk m c 3 t) (iblk m c 4 t) (C.val / 128 * 128) (by omega) (ix2 a ⟨C.val % 128, by omega⟩)
      = row5 x dq dk dv gq gk R D := by
  have ht := t_lt t
  have hlt : t.val % 16 * 256 + a.val < 4096 := by clear hR; omega
  obtain rfl : R = ⟨t.val % 16 * 256 + a.val, hlt⟩ := Fin.ext hR
  clear hR
  have hX := own_lanes m c x h0 t a C
  have hw : t.val / 16 = 0 ∨ t.val / 16 = 1 ∨ t.val / 16 = 2 := by omega
  unfold row5
  rcases hw with h | h | h
  · rw [coord t 0 h]
    refine (piece_at 0 (by decide) _ _ _ _ _ _ _ a _).trans ?_
    rw [if_neg (by decide), if_pos (by omega)]
    show dx _ (fun l => @HMul.hMul EReal EReal EReal _ (iblk m c 1 t (ix2 a ⟨C.val / 128 * 128 + l.val, by omega⟩)) (iblk m c 4 t (ix3 0 0 ⟨C.val / 128 * 128 + l.val, by omega⟩))) _ = _
    simp only [block1 m c t h, block4 m c t, h, h1, h4]
    rw [show (⟨0, by omega⟩ : Fin 3) = 0 from rfl]
    simp only [gainsH_q]
    refine (point_grad dq hq (fun j => gq (ix1 j) * eighth) (fun j => (hgq _).mul eighth_real) _ (fun l => lane_real m c x h0 hx t a _) _ C).trans ?_
    rw [hX]
    refine congr (congrArg₂ grad (congrArg (xh x _) (Fin.ext ?_)) (funext fun j => congrArg (fun k => dh dq _ k j * _) (Fin.ext ?_))) (Fin.ext ?_)
    · show t.val / 16 * 16 + C.val / 64 = D.val / 64; omega
    · show C.val / 64 = D.val / 64 % 16; omega
    · show C.val % 64 = D.val % 64; omega
  · rw [coord t 1 h]
    refine (piece_at 1 (by decide) _ _ _ _ _ _ _ a _).trans ?_
    rw [if_neg (by decide), if_neg (by omega), if_pos (by omega)]
    show dx _ (fun l => @HMul.hMul EReal EReal EReal _ (iblk m c 2 t (ix2 a ⟨C.val / 128 * 128 + l.val, by omega⟩)) (iblk m c 4 t (ix3 0 0 ⟨C.val / 128 * 128 + l.val, by omega⟩))) _ = _
    simp only [block2 m c t h, block4 m c t, h, h2, h5]
    rw [show (⟨1, by omega⟩ : Fin 3) = 1 from rfl]
    simp only [gainsH_k]
    refine (point_grad dk hk (fun j => gk (ix1 j)) (fun j => hgk _) _ (fun l => lane_real m c x h0 hx t a _) _ C).trans ?_
    rw [hX]
    refine congr (congrArg₂ grad (congrArg (xh x _) (Fin.ext ?_)) (funext fun j => congrArg (fun k => dh dk _ k j * _) (Fin.ext ?_))) (Fin.ext ?_)
    · show t.val / 16 * 16 + C.val / 64 = D.val / 64; omega
    · show C.val / 64 = D.val / 64 % 16; omega
    · show C.val % 64 = D.val % 64; omega
  · rw [coord t 2 h]
    refine (piece_at 2 (by decide) _ _ _ _ _ _ _ a _).trans ?_
    rw [if_pos rfl, if_neg (by omega), if_neg (by omega), block3 m c t h, h3]
    refine congrArg (fun k => dv (ix2 _ k)) (Fin.ext ?_)
    show C.val / 128 * 128 + C.val % 128 = D.val % 1024
    omega

include h0 h1 h2 h3 h4 h5 hx hq hk hgq hgk in
theorem final5 : (dats m 0 c).arrAt 5 cfg0.N = (fun i => row5 x dq dk dv gq gk (i 0) (i 1) : FVec Ideal S4096x3072 .bf16) := by
  refine (dats m 0 c).arrAt_eq_of_covers 5 _ (by decide +kernel) fun t _ y => ?_
  blk_simp
  rw [after0_5]
  have hb := (idx t).1.2.2.1
  have ht := t_lt t
  have key : ∀ G : FVec Ideal S4096x3072 .bf16, G (((cfg0.win 5).blk t).view.emb y) = G (ix2 ⟨t.val % 16 * 256 + (y 0).val, by have := (y 0).isLt; simp at this; omega⟩ ⟨t.val / 16 * 1024 + (y 1).val, by have := (y 1).isLt; simp at this; omega⟩) := fun G => by
    blk_point [hb]
  refine (point5 m c t y).trans (Eq.trans ?_ (key fun i => row5 x dq dk dv gq gk (i 0) (i 1)).symm)
  exact point5_at m c x dq dk dv gq gk h0 h1 h2 h3 h4 h5 hx hq hk hgq hgk t (y 0) (y 1) _ _ rfl rfl

include h0 h1 h2 h3 hx in
theorem point6_at (acc : FVec Ideal S1x1x1024 .f32) (y : S1x1x1024.Idx) :
    rowAll (BitVec.ofNat 32 (grid0.coords t 0)) (iblk m c 0 t) (iblk m c 1 t) (iblk m c 2 t) (iblk m c 3 t) acc y
      = acc y + ∑ a : Fin 256, prod6 x dq dk dv (t.val / 16) ⟨t.val % 16 * 256 + a.val, by omega⟩ (y 2) := by
  have ht := t_lt t
  have hw : t.val / 16 = 0 ∨ t.val / 16 = 1 ∨ t.val / 16 = 2 := by omega
  obtain ⟨C, rfl⟩ : ∃ C : Fin 1024, y = ix3 0 0 C := ⟨y 2, by
    funext k; fin_cases k
    · exact Subsingleton.elim (α := Fin 1) _ _
    · exact Subsingleton.elim (α := Fin 1) _ _
    · rfl⟩
  rw [coord t _ rfl]
  refine (rowAll_at _ (by omega) _ _ _ _ _ _).trans (congrArg (acc _ + ·) (Finset.sum_congr rfl fun a _ => ?_))
  unfold prod6
  rw [rs_real fun l => lane_real m c x h0 hx t a _, own_lanes m c x h0 t a C, block0, h0]
  refine congrArg₂ (· * ·) ?_ (congrArg₂ (· * ·) ?_ (congrArg (fun u => fac (xh x _ u)) (Fin.ext ?_)))
  · rcases hw with h | h | h <;> rw [h]
    · exact (block1 m c t h a C).trans (congrFun h1 _)
    · exact (block2 m c t h a C).trans (congrFun h2 _)
    · exact (block3 m c t h a C).trans (congrFun h3 _)
  · unfold xh
    refine congrArg (fun k => x (ix2 _ k)) (Fin.ext ?_)
    show t.val / 16 * 1024 + C.val = (t.val / 16 * 16 + C.val / 64) % 48 * 64 + C.val % 64
    omega
  · show t.val / 16 * 16 + C.val / 64 = (t.val / 16 * 16 + C.val / 64) % 48
    omega

include h0 h1 h2 h3 hx in
theorem final6 : (dats m 0 c).arrAt 6 cfg0.N = rows6 x dq dk dv := by
  refine (dats m 0 c).arrAt_eq_of_covers 6 _ (by decide +kernel) fun t hflush y => ?_
  blk_simp
  rw [after0_6]
  have hb := (idx t).1.2.2.2
  have ht := t_lt t
  have hr : t.val % 16 = 15 := (by decide +kernel : ∀ t : Fin grid0.N, (cfg0.win 6).flush t = true → t.val % 16 = 15) t hflush
  have key : ∀ G : FVec Ideal S3x1x1024 .f32, G (((cfg0.win 6).blk t).view.emb y) = G (ix3 ⟨t.val / 16, by omega⟩ 0 (y 2)) := fun G => by
    blk_point [hb]
  refine Eq.trans ?_ (key (rows6 x dq dk dv)).symm
  refine (Pipeline.eq_sum_of_reset_step_apply_of_mod (fun n h => (outsAt0 m c n h).2) 16 (fun _ => 0)
    (fun n y => ∑ a : Fin 256, prod6 x dq dk dv (n / 16) ⟨n % 16 * 256 + a.val, by omega⟩ (y 2))
    (fun t h y => (point6A m c t h y).trans ((point6_at m c x dq dk dv h0 h1 h2 h3 hx t _ y).trans (congrArg (· + _) (by pointwise [k0_pay2]))))
    (fun t h y => (point6B m c t h y).trans (point6_at m c x dq dk dv h0 h1 h2 h3 hx t _ y)) t hr y).trans ?_
  rw [zero_add, Finset.sum_range]
  refine Eq.trans (Finset.sum_congr rfl fun k _ => Finset.sum_congr rfl fun a _ => ?_) (Fin.sum_mul_add_fin 16 256 fun R : Fin 4096 => prod6 x dq dk dv (t.val / 16) R (y 2))
  refine congrArg₂ (fun w R => prod6 x dq dk dv w R (y 2)) ?_ (Fin.ext ?_)
  · show (16 * (t.val / 16) + k.val) / 16 = t.val / 16
    omega
  · show (16 * (t.val / 16) + k.val) % 16 * 256 + a.val = k.val * 256 + a.val
    omega
end

end Cert.Kernel6Ideal.Qk
end
-- ==== Proof.QkValue.lean ====
/- The gradient of the per-head norms of queries and keys: the reference's results, and the claim. -/
module

public import proofs.«01_k».proof.Proof.QkSum

@[expose] public section

set_option maxRecDepth 16384

noncomputable section

namespace Cert.Reference6Ideal.Qk

open Idealize.ShloMosaic Idealize.ShloMosaic.TcCoe Idealize.ShloMosaic.Tactic Idealize.SL.Sem
open Cert.Reference6Ideal Cert.Reference6Ideal.Value Cert.Reference6Ideal.Gen Cert.RealNorm Cert.Kernel6Ideal.Qk

abbrev Heads := FVec Ideal S4096x16x64 .f32

/-- The reference's lines over one of the two parts: `x` its columns, `t` the cotangent the norm meets. -/
def varH (x : Heads) : FVec Ideal S4096x16x1 .f32 :=
  addf (Host.divf (broadcastInDim S4096x16x1 ![0, 1] bcast_S4096x16_S4096x16x1_0_1 (Host.reduceAdd (mulf x x) (constant S_ .f32 0x00000000#32) reducesTo_S4096x16x64_S4096x16_d2 h_S_)) (broadcastInDim S4096x16x1 ![] bcast_S_S4096x16x1 (constant S_ .f32 0x42800000#32))) (broadcastInDim S4096x16x1 ![] bcast_S_S4096x16x1 (constant S_ .f32 0x358637BD#32))

def downH (x t : Heads) : Heads :=
  broadcastInDim S4096x16x64 ![0, 1] bcast_S4096x16_S4096x16x64_0_1 (Host.reduceAdd (Host.divf (mulf (shapeCast S4096x16x1 (Host.reduceAdd (mulf x t) (constant S_ .f32 0x00000000#32) reducesTo_S4096x16x64_S4096x16_d2 h_S_) shapeCasts_S4096x16_S4096x16x1)
    (mulf (broadcastInDim S4096x16x1 ![] bcast_S_S4096x16x1 (constant S_ .f32 0xBF000000#32)) (Host.divf (Host.rsqrt (varH x)) (varH x)))) (broadcastInDim S4096x16x1 ![] bcast_S_S4096x16x1 (constant S_ .f32 0x42800000#32))) (constant S_ .f32 0x00000000#32) reducesTo_S4096x16x1_S4096x16_d2 h_S_)

def facH (x : Heads) : Heads := broadcastInDim S4096x16x64 ![0, 1, 2] bcast_S4096x16x1_S4096x16x64_0_1_2 (Host.rsqrt (varH x))

def partH (x t : Heads) : FVec Ideal S4096x1024 .f32 :=
  shapeCast S4096x1024 (addf (addf (mulf t (facH x)) (mulf x (downH x t))) (mulf (downH x t) x)) shapeCasts_S4096x16x64_S4096x1024

def gainH (x d : Heads) : FVec Ideal S64 .f32 :=
  Host.reduceAdd (shapeCast S1x1x64 (Host.reduceAdd (mulf (mulf x (facH x)) d) (constant S_ .f32 0x00000000#32) reducesTo_S4096x16x64_S64_d0_1 h_S_) shapeCasts_S64_S1x1x64) (constant S_ .f32 0x00000000#32) reducesTo_S1x1x64_S64_d0_1 h_S_

def headsH (d : FVec Ideal S4096x1024 .f32) : Heads := shapeCast S4096x16x64 d shapeCasts_S4096x1024_S4096x16x64
def queryH (x : FVec Ideal S4096x3072 .f32) : Heads := headsH (extractStridedSlice S4096x1024 ![0, 0] x slices_S4096x3072_S4096x1024_0_0)
def keyH (x : FVec Ideal S4096x3072 .f32) : Heads := headsH (extractStridedSlice S4096x1024 ![0, 1024] x slices_S4096x3072_S4096x1024_0_1024)
def scaleH (d : Heads) : Heads := mulf d (broadcastInDim S4096x16x64 ![] bcast_S_S4096x16x64 (constant S_ .f32 0x3E000000#32))
def gainedH (d : Heads) (g : FVec Ideal S64 .f32) : Heads := mulf d (broadcastInDim S4096x16x64 ![0, 1, 2] bcast_S1x1x64_S4096x16x64_0_1_2 (broadcastInDim S1x1x64 ![2] bcast_S64_S1x1x64_2 g))

theorem partH_at (x t : Heads) (hx : ∀ i, IsReal (x i)) (ht : ∀ i, IsReal (t i)) (R : Fin 4096) (C : Fin 1024) :
    partH x t (ix2 R C) = grad (fun j => x (ix3 R ⟨C.val / 64, by omega⟩ j)) (fun j => t (ix3 R ⟨C.val / 64, by omega⟩ j)) ⟨C.val % 64, by omega⟩ := by
  obtain ⟨e, he, he'⟩ := small_bits
  have Q := row (n := 64) (by norm_num) he (fun j : Fin 64 => x (ix3 R ⟨C.val / 64, by omega⟩ j)) (fun j => t (ix3 R ⟨C.val / 64, by omega⟩ j)) (fun j => hx _) (fun j => ht _) ⟨C.val % 64, by omega⟩ 0
  simp only [zero_add] at Q
  rw [← he', ← sixty_four, ← half_bits] at Q
  unfold grad fac
  refine Eq.trans ?_ Q.symm
  pointwise [partH, facH, downH, varH, var]
  simp only [Finset.univ_unique, Finset.sum_singleton]

/-- A sum over the two axes before the last. -/
theorem sum_two {n0 n1 n2 : Nat} (h : (⟨3, ![n0, n1, n2]⟩ : Shape).ReducesTo [0, 1] ⟨1, ![n2]⟩) (v : FVec Ideal ⟨3, ![n0, n1, n2]⟩ .f32) (j : Fin n2) :
    (Host.reduceAdd v (constant S_ .f32 0x00000000#32) h h_S_ : FVec Ideal ⟨1, ![n2]⟩ .f32) (ix1 j) = ∑ a : Fin n0, ∑ b : Fin n1, v (ix3 a b j) := by
  have fiber : ∀ i : (⟨3, ![n0, n1, n2]⟩ : Shape).Idx, h.drop i = ix1 j ↔ ∃ k : Fin n0 × Fin n1, (ix3 k.1 k.2 j : (⟨3, ![n0, n1, n2]⟩ : Shape).Idx) = i := fun i => by
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b; apply Fin.ext
      match b with
      | ⟨0, _⟩ => rfl
  show (Ideal.ofBits .f32 0x00000000#32 : EReal) + ∑ i ∈ Finset.univ.filter (fun i => h.drop i = ix1 j), v i = _
  rw [show Ideal.ofBits .f32 0x00000000#32 = 0 by simp [Ideal.ofBits, Ideal.ieee], zero_add]
  refine (Finset.sum_filter_eq_sum_of_fiber _ (fun k : Fin n0 × Fin n1 => ix3 k.1 k.2 j) (fun _ _ e => Prod.ext (congrFun e 0) (congrFun e 1)) fiber v).trans ?_
  exact Fintype.sum_prod_type _

theorem gainH_at (x d : Heads) (j : Fin 64) : gainH x d (ix1 j) = ∑ R : Fin 4096, ∑ h : Fin 16, x (ix3 R h j) * fac (fun k => x (ix3 R h k)) * d (ix3 R h j) := by
  unfold gainH
  refine (sum_two _ _ j).trans ?_
  simp only [Finset.univ_unique, Finset.sum_singleton]
  have e : ∀ v : FVec Ideal S64 .f32, shapeCast S1x1x64 v shapeCasts_S64_S1x1x64 (ix3 default default j) = v (ix1 j) := fun v => by pointwise
  refine (e _).trans ((sum_two _ _ j).trans (Finset.sum_congr rfl fun R _ => Finset.sum_congr rfl fun h _ => ?_))
  pointwise [facH, varH, fac, var]

theorem three (a b c : FVec Ideal S4096x1024 .f32) (R : Fin 4096) (C : Fin 3072) :
    concatenate S4096x3072 1 [⟨S4096x1024, a⟩, ⟨S4096x1024, b⟩, ⟨S4096x1024, c⟩] concatenates_S4096x1024_S4096x1024_S4096x1024_S4096x3072_d1 (ix2 R C)
      = if C.val < 1024 then a (ix2 R ⟨C.val % 1024, by omega⟩) else if C.val < 2048 then b (ix2 R ⟨C.val % 1024, by omega⟩) else c (ix2 R ⟨C.val % 1024, by omega⟩) := by
  pointwise
  split
  · rename_i h
    exact congrArg (fun k => a (ix2 R k)) (Fin.ext (Nat.mod_eq_of_lt h).symm)
  · rename_i h
    split
    · rename_i h'
      exact Eq.trans (congrArg (fun k => b (ix2 R k)) (Fin.ext (by show C.val - 1024 = C.val % 1024; omega))) (if_pos (by omega)).symm
    · rename_i h'
      exact Eq.trans (congrArg (fun k => c (ix2 R k)) (Fin.ext (by show C.val - 1024 - 1024 = C.val % 1024; omega))) (if_neg (by omega)).symm

theorem query_at (x : FVec Ideal S4096x3072 .f32) (R : Fin 4096) (h : Fin 16) (j : Fin 64) : queryH x (ix3 R h j) = xh x R ⟨h.val, by omega⟩ j := by
  pointwise [queryH, headsH, xh]
theorem key_at (x : FVec Ideal S4096x3072 .f32) (R : Fin 4096) (h : Fin 16) (j : Fin 64) : keyH x (ix3 R h j) = xh x R ⟨16 + h.val, by omega⟩ j := by
  pointwise [keyH, headsH, xh]
  exact congrArg (fun k => x (ix2 R k)) (Fin.ext (by show 1024 + (h.val * 64 + j.val) = (16 + h.val) * 64 + j.val; omega))
theorem heads_at (d : FVec Ideal S4096x1024 .f32) (R : Fin 4096) (h : Fin 16) (j : Fin 64) : headsH d (ix3 R h j) = dh d R h j := by
  pointwise [headsH, dh]
theorem scale_at (d : Heads) (i) : scaleH d i = d i * eighth := by
  pointwise [scaleH]
theorem gained_at (d : Heads) (g : FVec Ideal S64 .f32) (R : Fin 4096) (h : Fin 16) (j : Fin 64) : gainedH d g (ix3 R h j) = d (ix3 R h j) * g (ix1 j) := by
  pointwise [gainedH]

section
variable (m : (ℓ : Loc nD τ sig) → Buf (Elt Ideal) ℓ) (c : Dev nD)

theorem result0 : res_main_v88 m c = (truncf .bf16 (concatenate S4096x3072 1 [⟨S4096x1024, partH (queryH (m ((c.tc : Thread nD τ).loc main_arg0))) (gainedH (scaleH (headsH (m ((c.tc : Thread nD τ).loc main_arg1)))) (m ((c.tc : Thread nD τ).loc main_arg4)))⟩,
    ⟨S4096x1024, partH (keyH (m ((c.tc : Thread nD τ).loc main_arg0))) (gainedH (headsH (m ((c.tc : Thread nD τ).loc main_arg2))) (m ((c.tc : Thread nD τ).loc main_arg5)))⟩,
    ⟨S4096x1024, m ((c.tc : Thread nD τ).loc main_arg3)⟩] concatenates_S4096x1024_S4096x1024_S4096x1024_S4096x3072_d1) bitsLt_bf16_f32 : FVec Ideal S4096x3072 .bf16) := rfl

theorem result1 (a : FVec Ideal S4096x3072 .f32) (d : FVec Ideal S4096x1024 .f32) (ha : m ((c.tc : Thread nD τ).loc main_arg0) = a) (hd : m ((c.tc : Thread nD τ).loc main_arg1) = d)
    (r : FVec Ideal S64 .f32) (hr : r = gainH (queryH (m ((c.tc : Thread nD τ).loc main_arg0))) (scaleH (headsH (m ((c.tc : Thread nD τ).loc main_arg1))))) (j : Fin 64) :
    r (ix1 j) = ∑ R : Fin 4096, ∑ h : Fin 16, xh a R ⟨h.val, by omega⟩ j * fac (xh a R ⟨h.val, by omega⟩) * (dh d R h j * eighth) := by
  rw [hr, gainH_at, ha, hd]
  simp only [scale_at, query_at, heads_at]

theorem result2 (a : FVec Ideal S4096x3072 .f32) (d : FVec Ideal S4096x1024 .f32) (ha : m ((c.tc : Thread nD τ).loc main_arg0) = a) (hd : m ((c.tc : Thread nD τ).loc main_arg2) = d)
    (r : FVec Ideal S64 .f32) (hr : r = gainH (keyH (m ((c.tc : Thread nD τ).loc main_arg0))) (headsH (m ((c.tc : Thread nD τ).loc main_arg2)))) (j : Fin 64) :
    r (ix1 j) = ∑ R : Fin 4096, ∑ h : Fin 16, xh a R ⟨16 + h.val, by omega⟩ j * fac (xh a R ⟨16 + h.val, by omega⟩) * dh d R h j := by
  rw [hr, gainH_at, ha, hd]
  simp only [key_at, heads_at]

theorem result0_at (x : FVec Ideal S4096x3072 .f32) (dq dk dv : FVec Ideal S4096x1024 .f32) (gq gk : FVec Ideal S64 .f32)
    (h0 : m ((c.tc : Thread nD τ).loc main_arg0) = x) (h1 : m ((c.tc : Thread nD τ).loc main_arg1) = dq) (h2 : m ((c.tc : Thread nD τ).loc main_arg2) = dk)
    (h3 : m ((c.tc : Thread nD τ).loc main_arg3) = dv) (h4 : m ((c.tc : Thread nD τ).loc main_arg4) = gq) (h5 : m ((c.tc : Thread nD τ).loc main_arg5) = gk)
    (hx : ∀ i, IsReal (x i)) (hq : ∀ i, IsReal (dq i)) (hk : ∀ i, IsReal (dk i)) (hgq : ∀ i, IsReal (gq i)) (hgk : ∀ i, IsReal (gk i)) (R : Fin 4096) (C : Fin 3072) :
    res_main_v88 m c (ix2 R C) = row5 x dq dk dv gq gk R C := by
  have hxq : ∀ i, IsReal (queryH x i) := fun i => by unfold queryH headsH; exact hx _
  have hxk : ∀ i, IsReal (keyH x i) := fun i => by unfold keyH headsH; exact hx _
  have htq : ∀ i, IsReal (gainedH (scaleH (headsH dq)) gq i) := fun i => (((show IsReal (headsH dq i) from hq _).mul eighth_real).mul (hgq _))
  have htk : ∀ i, IsReal (gainedH (headsH dk) gk i) := fun i => ((show IsReal (headsH dk i) from hk _).mul (hgk _))
  rw [result0, h0, h1, h2, h3, h4, h5]
  refine (three _ _ _ R C).trans ?_
  rw [partH_at _ _ hxq htq, partH_at _ _ hxk htk]
  simp only [query_at, key_at, gained_at, scale_at, heads_at]
  unfold row5
  have hC := C.isLt
  have hm : ∀ h h', (⟨C.val % 1024 % 64, h⟩ : Fin 64) = ⟨C.val % 64, h'⟩ := fun h h' => Fin.ext (by show C.val % 1024 % 64 = C.val % 64; omega)
  by_cases h : C.val < 1024
  · rw [if_pos h, if_pos h]
    refine congr (congrArg₂ grad (congrArg (xh x R) (Fin.ext ?_)) (funext fun j => ?_)) (hm _ _)
    · show C.val % 1024 / 64 = C.val / 64; omega
    · rw [mul_assoc, mul_comm eighth]
      refine congrArg (fun k => dh dq R k j * _) (Fin.ext ?_)
      show C.val % 1024 / 64 = C.val / 64 % 16; omega
  · rw [if_neg h, if_neg h]
    by_cases h' : C.val < 2048
    · rw [if_pos h', if_pos h']
      refine congr (congrArg₂ grad (congrArg (xh x R) (Fin.ext ?_)) (funext fun j => ?_)) (hm _ _)
      · show 16 + C.val % 1024 / 64 = C.val / 64; omega
      · refine congrArg (fun k => dh dk R k j * _) (Fin.ext ?_)
        show C.val % 1024 / 64 = C.val / 64 % 16; omega
    · rw [if_neg h', if_neg h']
end

end Cert.Reference6Ideal.Qk

namespace Cert.Kernel6Ideal.Qk

open Idealize.ShloMosaic Idealize.ShloMosaic.TcCoe Idealize.ShloMosaic.Tactic Idealize.SL.Sem
open Idealize.ShloMosaic.Pipeline (Dat Cfg Window)
open Cert.Kernel6Ideal Cert.Kernel6Ideal.Gen Cert.RealNorm

section
variable (W : Valuation τ sig (Elt Ideal))

/-- The heads' rows of one part of the array the grid leaves, added up. -/
def addH (r : FVec Ideal S1x1x1024 .f32) : FVec Ideal S64 .f32 :=
  Host.reduceAdd (shapeCast S16x64 (shapeCast S1x1024 r shapeCasts_S1x1x1024_S1x1024) shapeCasts_S1x1024_S16x64) (constant S_ .f32 0x00000000#32) reducesTo_S16x64_S64_d0 h_S_

theorem tail20 : StableHlo.after (List.flatten [hostOps1]) W (Proc.devRef .tc main_v20) = (mulf (addH (extractStridedSlice S1x1x1024 ![0, 0, 0] (W (Proc.devRef .tc main_v14_1)) slices_S3x1x1024_S1x1x1024_0_0_0)) (broadcastInDim S64 ![] bcast_S_S64 (constant S_ .f32 0x3E000000#32)) : FVec Ideal S64 .f32) := by
  simp only [hostOps1, List.flatten_cons, List.flatten_nil, List.append_nil, List.cons_append, List.nil_append]
  after_reads_simp
  rfl
theorem tail24 : StableHlo.after (List.flatten [hostOps1]) W (Proc.devRef .tc main_v24) = addH (extractStridedSlice S1x1x1024 ![1, 0, 0] (W (Proc.devRef .tc main_v14_1)) slices_S3x1x1024_S1x1x1024_1_0_0) := by
  simp only [hostOps1, List.flatten_cons, List.flatten_nil, List.append_nil, List.cons_append, List.nil_append]
  after_reads_simp
  rfl
end

theorem sum20 (r : FVec Ideal S3x1x1024 .f32) (j : Fin 64) : (mulf (addH (extractStridedSlice S1x1x1024 ![0, 0, 0] r slices_S3x1x1024_S1x1x1024_0_0_0)) (broadcastInDim S64 ![] bcast_S_S64 (constant S_ .f32 0x3E000000#32)) : FVec Ideal S64 .f32) (ix1 j)
    = (∑ h : Fin 16, r (ix3 0 0 ⟨h.val * 64 + j.val, by omega⟩)) * eighth := by
  pointwise [addH]
theorem sum24 (r : FVec Ideal S3x1x1024 .f32) (j : Fin 64) : addH (extractStridedSlice S1x1x1024 ![1, 0, 0] r slices_S3x1x1024_S1x1x1024_1_0_0) (ix1 j)
    = ∑ h : Fin 16, r (ix3 1 0 ⟨h.val * 64 + j.val, by omega⟩) := by
  pointwise [addH]

/-- A factor taken out of two sums over reals. -/
theorem pull (f : Fin 16 → Fin 4096 → EReal) (e : EReal) (hf : ∀ h R, IsReal (f h R)) (he : IsReal e) : (∑ h, ∑ R, f h R) * e = ∑ R, ∑ h, f h R * e := by
  obtain ⟨e, rfl⟩ := he
  choose g hg using hf
  simp only [hg, ← EReal.coe_mul, coe_sum]
  rw [Finset.sum_comm]
  simp only [Finset.sum_mul]

theorem prod_real (x : FVec Ideal S4096x3072 .f32) (dq dk dv : FVec Ideal S4096x1024 .f32) (w : Nat) (hw : w < 2) (R : Fin 4096) (h : Fin 16) (j : Fin 64) :
    prod6 x dq dk dv w R ⟨h.val * 64 + j.val, by omega⟩ = pick w (dh dq R h j) (dh dk R h j) (dh dv R h j) * (xh x R ⟨w * 16 + h.val, by omega⟩ j * fac (xh x R ⟨w * 16 + h.val, by omega⟩)) := by
  have e1 : ∀ p, (⟨(w * 16 + (h.val * 64 + j.val) / 64) % 48, p⟩ : Fin 48) = ⟨w * 16 + h.val, by omega⟩ := fun p => Fin.ext (by show (w * 16 + (h.val * 64 + j.val) / 64) % 48 = w * 16 + h.val; omega)
  have e2 : ∀ p, (⟨(h.val * 64 + j.val) % 64, p⟩ : Fin 64) = j := fun p => Fin.ext (by show (h.val * 64 + j.val) % 64 = j.val; omega)
  unfold prod6
  simp only [e1, e2]
  rfl

section
variable (m : (ℓ : Loc nD τ sig) → Buf (Elt Ideal) ℓ)

/-- The run: the three results, and the arguments as they began. -/
theorem run_value (ρ : Dev nD → PrngReg) :
    θ_run defs (onTc (τ := τ) (main (F := Ideal))) ⟨m, fun _ => 0, ρ⟩ (fun r => ∀ c : Dev nD,
      r.2.mem ((c.tc : Thread nD τ).loc main_v14_0) = (dats m 0 c).arrAt 5 cfg0.N
      ∧ r.2.mem ((c.tc : Thread nD τ).loc main_v20) = Pipeline.afterTail₀ cfgs (dats m) 0 (V0 m) [hostOps1] c main_v20
      ∧ r.2.mem ((c.tc : Thread nD τ).loc main_v24) = Pipeline.afterTail₀ cfgs (dats m) 0 (V0 m) [hostOps1] c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  θ_run_mono (θ_run_and (run_main m ρ) (unchanged m ρ)) fun _ h c =>
    ⟨(h.1 c).1 5, (h.1 c).2 main_v20 (Pipeline.mem_restRefs_of main_v20 (by decide) (by decide)), (h.1 c).2 main_v24 (Pipeline.mem_restRefs_of main_v24 (by decide) (by decide)), h.2 c⟩

variable (c : Dev nD) (x : FVec Ideal S4096x3072 .f32) (dq dk dv : FVec Ideal S4096x1024 .f32)
  (h0 : m ((c : Thread nD τ).loc main_arg0) = x) (h1 : m ((c : Thread nD τ).loc main_arg1) = dq) (h2 : m ((c : Thread nD τ).loc main_arg2) = dk)
  (h3 : m ((c : Thread nD τ).loc main_arg3) = dv) (hx : ∀ i, IsReal (x i)) (hq : ∀ i, IsReal (dq i))
include h0 h1 h2 h3 hx

theorem arrays6 : Pipeline.withArrays (cfgs 0).spec c (V0 m c) (fun w => (dats m 0 c).arrAt w (cfgs 0).N) (Proc.devRef .tc main_v14_1) = rows6 x dq dk dv :=
  (Pipeline.withArrays_arr (cfgs 0).spec launch0.win.arr_inj c (V0 m c) _ 6).trans (final6 m c x dq dk dv h0 h1 h2 h3 hx)

include hq in
theorem result20 (j : Fin 64) : (show FVec Ideal S64 .f32 from Pipeline.afterTail₀ cfgs (dats m) 0 (V0 m) [hostOps1] c main_v20) (ix1 j)
    = ∑ R : Fin 4096, ∑ h : Fin 16, xh x R ⟨h.val, by omega⟩ j * fac (xh x R ⟨h.val, by omega⟩) * (dh dq R h j * eighth) := by
  refine (congrFun (tail20 _) (ix1 j)).trans ?_
  rw [arrays6 m c x dq dk dv h0 h1 h2 h3 hx]
  refine (sum20 (rows6 x dq dk dv) j).trans ?_
  have e : ∀ h : Fin 16, rows6 x dq dk dv (ix3 0 0 ⟨h.val * 64 + j.val, by omega⟩) = ∑ R, dh dq R h j * (xh x R ⟨h.val, by omega⟩ j * fac (xh x R ⟨h.val, by omega⟩)) := fun h =>
    Finset.sum_congr rfl fun R _ => (prod_real x dq dk dv 0 (by decide) R h j).trans (by
      have : ∀ p, (⟨0 * 16 + h.val, p⟩ : Fin 48) = ⟨h.val, by omega⟩ := fun p => Fin.ext (by show 0 * 16 + h.val = h.val; omega)
      rw [this]; rfl)
  simp only [e]
  rw [pull (fun h R => dh dq R h j * (xh x R ⟨h.val, by omega⟩ j * fac (xh x R ⟨h.val, by omega⟩))) _ (fun h R => IsReal.mul (hq _) (IsReal.mul (hx _) (fac_real fun j => hx _))) eighth_real]
  refine Finset.sum_congr rfl fun R _ => Finset.sum_congr rfl fun h _ => ?_
  rw [mul_right_comm, mul_comm]

theorem result24 (j : Fin 64) : (show FVec Ideal S64 .f32 from Pipeline.afterTail₀ cfgs (dats m) 0 (V0 m) [hostOps1] c main_v24) (ix1 j)
    = ∑ R : Fin 4096, ∑ h : Fin 16, xh x R ⟨16 + h.val, by omega⟩ j * fac (xh x R ⟨16 + h.val, by omega⟩) * dh dk R h j := by
  refine (congrFun (tail24 _) (ix1 j)).trans ?_
  rw [arrays6 m c x dq dk dv h0 h1 h2 h3 hx]
  refine (sum24 (rows6 x dq dk dv) j).trans ?_
  have e : ∀ h : Fin 16, rows6 x dq dk dv (ix3 1 0 ⟨h.val * 64 + j.val, by omega⟩) = ∑ R, xh x R ⟨16 + h.val, by omega⟩ j * fac (xh x R ⟨16 + h.val, by omega⟩) * dh dk R h j := fun h =>
    Finset.sum_congr rfl fun R _ => (prod_real x dq dk dv 1 (by decide) R h j).trans (by
      have : ∀ p, (⟨1 * 16 + h.val, p⟩ : Fin 48) = ⟨16 + h.val, by omega⟩ := fun p => Fin.ext (by show 1 * 16 + h.val = 16 + h.val; omega)
      rw [this]; exact mul_comm _ _)
  simp only [e]
  exact Finset.sum_comm
end

end Cert.Kernel6Ideal.Qk

namespace Cert.Proof.Qk

open Idealize.ShloMosaic Idealize.ShloMosaic.TcCoe Idealize.ShloMosaic.Tactic Idealize.SL.Sem
open Cert.RealNorm Cert.Kernel6Ideal.Qk

theorem pre_facts : Cert.Pre_finite6.Facts where
  reducesTo_S4096x3072_S_d0_1 := by decide
  h_S_ := by decide
  reducesTo_S4096x1024_S_d0_1 := by decide
  reducesTo_S64_S_d0 := by decide

theorem reals [hP : Cert.Pre_finite6.Facts] (x : FVec Ideal ⟨2, ![4096, 3072]⟩ .f32) (dq dk dv : FVec Ideal ⟨2, ![4096, 1024]⟩ .f32) (gq gk : FVec Ideal ⟨1, ![64]⟩ .f32)
    (h : Cert.Pre_finite6.fn (F := Ideal) x dq dk dv gq gk = fun _ => 1#1) :
    (∀ i, IsReal (x i)) ∧ (∀ i, IsReal (dq i)) ∧ (∀ i, IsReal (dk i)) ∧ (∀ i, IsReal (gq i)) ∧ ∀ i, IsReal (gk i) := by
  have h0 := congrFun h (fun a => a.elim0)
  obtain ⟨h0, hgk⟩ := Finite.both _ _ _ h0
  obtain ⟨h0, hgq⟩ := Finite.both _ _ _ h0
  obtain ⟨h0, hk⟩ := Finite.both _ _ _ h0
  obtain ⟨hx, hq⟩ := Finite.both _ _ _ h0
  have one {s : Shape} {axes : List (Fin s.rank)} (h : s.ReducesTo axes Cert.Pre_finite6.S_) : ∀ i, h.drop i = (fun a => a.elim0) := fun i => funext fun a => a.elim0
  exact ⟨fun i => ⟨_, Finite.entries x _ _ _ (one _) hx i⟩, fun i => ⟨_, Finite.entries dq _ _ _ (one _) hq i⟩, fun i => ⟨_, Finite.entries dk _ _ _ (one _) hk i⟩,
    fun i => ⟨_, Finite.entries gq _ _ _ (one _) hgq i⟩, fun i => ⟨_, Finite.entries gk _ _ _ (one _) hgk i⟩⟩

theorem value [hP : Cert.Pre_finite6.Facts] : Cert.algebraic_Kernel6Ideal_Reference6Ideal_pre_finite6 := by
  intro m g m' g' hpre hagree
  refine ⟨_, _, _, run_value m g, θ_run_mono (Cert.Reference6Ideal.Value.run m' g') fun r h c => ?_⟩
  obtain ⟨hx, hq, hk, hgq, hgk⟩ := reals _ _ _ _ _ _ (hpre c)
  obtain ⟨h0, h1, h2, h3, h4, h5⟩ := hagree c
  refine ⟨(h c).1.trans ?_, (h c).2.1.trans ?_, (h c).2.2.1.trans ?_, (h c).2.2.2⟩
  · rw [final5 m c _ _ _ _ _ _ rfl rfl rfl rfl rfl rfl hx hq hk hgq hgk]
    funext i
    idx_vars i
    exact Cert.Reference6Ideal.Qk.result0_at m' c _ _ _ _ _ _ h0 h1 h2 h3 h4 h5 hx hq hk hgq hgk _ _
  · funext i
    idx_vars i
    exact (Cert.Reference6Ideal.Qk.result1 m' c _ _ h0 h1 _ rfl _).trans (result20 m c _ _ _ _ rfl rfl rfl rfl hx hq _).symm
  · funext i
    idx_vars i
    exact (Cert.Reference6Ideal.Qk.result2 m' c _ _ h0 h2 _ rfl _).trans (result24 m c _ _ _ _ rfl rfl rfl rfl hx _).symm

end Cert.Proof.Qk
end
-- ==== Proof.Forward.lean ====
/- Forward calls: a norm, a product with the residual and the next norm, and a product with a squared ReLU. -/
module

public import proofs.«01_k».proof.Defs
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import Idealize.ShloMosaic.Lib.Pipeline.ValueKit
public import Idealize.ShloMosaic.Lib.Claim

@[expose] public section

set_option maxRecDepth 16384

noncomputable section

namespace Cert.Forward

open Idealize.ShloMosaic Idealize.ShloMosaic.TcCoe Idealize.ShloMosaic.Tactic

/-- A row's factor in a norm, the norm, and a product. -/
def fac {n : Nat} (x : FVec Ideal ⟨2, ![n, 1024]⟩ .f32) (r : Fin n) : EReal :=
  Ideal.rsqrt (Ideal.div (∑ k : Fin 1024, x (ix2 r k) * x (ix2 r k)) (Ideal.ofBits .f32 0x44800000#32) + Ideal.ofBits .f32 0x358637BD#32)
def normed {n : Nat} (x : FVec Ideal ⟨2, ![n, 1024]⟩ .f32) (g : FVec Ideal ⟨2, ![1, 1024]⟩ .f32) : FVec Ideal ⟨2, ![n, 1024]⟩ .bf16 := fun i =>
  x i * fac x (i 0) * g (ix2 0 (i 1))
def product {m k n : Nat} (a : FVec Ideal ⟨2, ![m, k]⟩ .f32) (b : FVec Ideal ⟨2, ![k, n]⟩ .f32) : FVec Ideal ⟨2, ![m, n]⟩ .f32 := fun i =>
  ∑ l : Fin k, a (ix2 (i 0) l) * b (ix2 l (i 1))
def down (u : FVec Ideal ⟨2, ![4096, 4096]⟩ .f32) (w : FVec Ideal ⟨2, ![4096, 1024]⟩ .f32) (x : FVec Ideal ⟨2, ![4096, 1024]⟩ .f32) : FVec Ideal ⟨2, ![4096, 1024]⟩ .f32 := fun i =>
  product u w i + x i
theorem down_comm (u : FVec Ideal ⟨2, ![4096, 4096]⟩ .f32) (w : FVec Ideal ⟨2, ![4096, 1024]⟩ .f32) (x : FVec Ideal ⟨2, ![4096, 1024]⟩ .f32) : down u w x = fun i => x i + product u w i :=
  funext fun _ => add_comm _ _
def squared (h : FVec Ideal ⟨2, ![4096, 1024]⟩ .f32) (w : FVec Ideal ⟨2, ![1024, 4096]⟩ .f32) : FVec Ideal ⟨2, ![4096, 4096]⟩ .bf16 := fun i =>
  max (product h w i) 0 * max (product h w i) 0

end Cert.Forward

namespace Cert.Kernel9Ideal.Forward

open Idealize.ShloMosaic Idealize.ShloMosaic.TcCoe Idealize.ShloMosaic.Tactic Idealize.SL.Sem
open Cert.Kernel9Ideal Cert.Kernel9Ideal.Gen Cert.Forward

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem final (c : Dev nD) : (dats m 0 c).arrAt 2 cfg0.N = normed (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, normed, fac]
  blk_point [iblk, V_main_arg0 m c, V_main_arg1 m c, idx t]

end Cert.Kernel9Ideal.Forward

namespace Cert.Kernel10Ideal.Forward

open Idealize.ShloMosaic Idealize.ShloMosaic.TcCoe Idealize.ShloMosaic.Tactic Idealize.SL.Sem
open Cert.Kernel10Ideal Cert.Kernel10Ideal.Gen Cert.Forward

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

theorem entry_u (c : Dev nD) : V m c main_v0 = (truncf .bf16 (show FVec Ideal S4096x4096 .f32 from m ((c : Thread nD τ).loc main_arg0)) bitsLt_bf16_f32 : FVec Ideal S4096x4096 .bf16) := by
  unfold_abbrev_sides
  after_results

theorem entry_w (c : Dev nD) : V m c main_v1 = (truncf .bf16 (show FVec Ideal S4096x1024 .f32 from m ((c : Thread nD τ).loc main_arg1)) bitsLt_bf16_f32 : FVec Ideal S4096x1024 .bf16) := by
  unfold_abbrev_sides
  after_results

theorem final4 (c : Dev nD) : (dats m 0 c).arrAt 4 cfg0.N = down (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  pointwise [k0_pay1, down, product]
  blk_point [iblk, entry_u m c, entry_w m c, V_main_arg2 m c, idx t]

theorem final5 (c : Dev nD) : (dats m 0 c).arrAt 5 cfg0.N
    = normed (down (m ((c : Thread nD τ).loc main_arg0)) (m ((c : Thread nD τ).loc main_arg1)) (m ((c : Thread nD τ).loc main_arg2))) (m ((c : Thread nD τ).loc main_arg3)) := by
  refine (dats m 0 c).arrAt_eq_of_covers 5 _ (by decide +kernel) fun t _ y => ?_
  blk_simp
  rw [after0_5]; frame_out
  pointwise [k0_pay2, k0_pay1, normed, fac, down, product]
  blk_point [iblk, entry_u m c, entry_w m c, V_main_arg2 m c, V_main_arg3 m c, idx t]

end Cert.Kernel10Ideal.Forward

namespace Cert.Kernel11Ideal.Forward

open Idealize.ShloMosaic Idealize.ShloMosaic.TcCoe Idealize.ShloMosaic.Tactic Idealize.SL.Sem
open Cert.Kernel11Ideal Cert.Kernel11Ideal.Gen Cert.Forward

variable (m : (ℓ : Loc nD τ sig) → Buf (Elt Ideal) ℓ)

theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

theorem entry_h (c : Dev nD) : V m c main_v0 = (truncf .bf16 (show FVec Ideal S4096x1024 .f32 from m ((c : Thread nD τ).loc main_arg0)) bitsLt_bf16_f32 : FVec Ideal S4096x1024 .bf16) := by
  unfold_abbrev_sides
  after_results

theorem entry_w (c : Dev nD) : V m c main_v1 = (truncf .bf16 (show FVec Ideal S1024x4096 .f32 from m ((c : Thread nD τ).loc main_arg1)) bitsLt_bf16_f32 : FVec Ideal S1024x4096 .bf16) := by
  unfold_abbrev_sides
  after_results

theorem final2 (c : Dev nD) : (dats m 0 c).arrAt 2 cfg0.N = product (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay2, k0_pay1, product]
  blk_point [iblk, entry_h m c, entry_w m c, idx t]

theorem final3 (c : Dev nD) : (dats m 0 c).arrAt 3 cfg0.N = squared (m ((c : Thread nD τ).loc main_arg0)) (m ((c : Thread nD τ).loc main_arg1)) := by
  refine (dats m 0 c).arrAt_eq_of_covers 3 _ (by decide +kernel) fun t _ y => ?_
  blk_simp
  rw [after0_3]; frame_out
  pointwise [k0_pay3, k0_pay1, squared, product]
  blk_point [iblk, entry_h m c, entry_w m c, idx t]

end Cert.Kernel11Ideal.Forward

namespace Cert.Proof.Forward

open Idealize.ShloMosaic Idealize.ShloMosaic.TcCoe Idealize.ShloMosaic.Tactic Idealize.SL.Sem
open Cert.Forward

theorem value9 : Cert.algebraic_Kernel9Ideal_Reference9Ideal := by
  intro m g m' g' _ hagree
  refine ⟨_, Cert.Kernel9Ideal.Value.run_blocks m g, θ_run_mono (Cert.Reference9Ideal.Value.run m' g') fun r h c => ?_⟩
  obtain ⟨h0, h1⟩ := hagree c
  refine ⟨(h c).1.trans ?_, (h c).2⟩
  rw [Cert.Kernel9Ideal.Forward.final m c, h0, h1]
  funext i
  idx_vars i
  pointwise [normed, fac]

theorem value10 : Cert.algebraic_Kernel10Ideal_Reference10Ideal := by
  intro m g m' g' _ hagree
  refine ⟨_, _, Cert.Kernel10Ideal.Value.run_blocks m g, θ_run_mono (Cert.Reference10Ideal.Value.run m' g') fun r h c => ?_⟩
  obtain ⟨h0, h1, h2, h3⟩ := hagree c
  refine ⟨(h c).1.trans ?_, (h c).2.1.trans ?_, (h c).2.2⟩
  · rw [Cert.Kernel10Ideal.Forward.final4 m c, h0, h1, h2, down_comm]
    funext i
    idx_vars i
    pointwise [product]
  · rw [Cert.Kernel10Ideal.Forward.final5 m c, h0, h1, h2, h3, down_comm]
    funext i
    idx_vars i
    pointwise [normed, fac, product]

theorem value11 : Cert.algebraic_Kernel11Ideal_Reference11Ideal := by
  intro m g m' g' _ hagree
  refine ⟨_, _, Cert.Kernel11Ideal.Value.run_blocks m g, θ_run_mono (Cert.Reference11Ideal.Value.run m' g') fun r h c => ?_⟩
  obtain ⟨h0, h1⟩ := hagree c
  refine ⟨(h c).1.trans ?_, (h c).2.1.trans ?_, (h c).2.2⟩
  · rw [Cert.Kernel11Ideal.Forward.final2 m c, h0, h1]
    funext i
    idx_vars i
    pointwise [product]
  · rw [Cert.Kernel11Ideal.Forward.final3 m c, h0, h1]
    funext i
    idx_vars i
    pointwise [squared, product]

end Cert.Proof.Forward
end
-- ==== Proof.Lower.lean ====
/- The lower bounds: a softmax over two layers, its running sum and the first layer's share taken away. -/
module

public import proofs.«01_k».proof.Proof.Bounds
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run

@[expose] public section

set_option maxRecDepth 16384

noncomputable section

namespace Cert.Proof.Lower

open Idealize.ShloMosaic Idealize.ShloMosaic.TcCoe Idealize.ShloMosaic.Tactic Idealize.SL.Sem
open Cert.RealNorm Cert.Bounds

/-- The lower bounds, layer by layer. -/
def rows (l : FVec Ideal ⟨2, ![2, 1024]⟩ .f32) (i : Fin 2) (d : Fin 1024) : EReal := if i.val = 0 then 0 else prob l 1 d

section Kernel

open Cert.Kernel12Ideal Cert.Kernel12Ideal.Gen Cert.Kernel12Ideal.Value

theorem result (l : FVec Ideal ⟨2, ![2, 1024]⟩ .f32) : G1 (F := Ideal) l = fun y : (⟨2, ![2, 1024]⟩ : Shape).Idx => rows l (y 0) (y 1) := by
  funext y
  unfold G1
  canon_tiles
  all_goals
    have key : ∀ x : S1x1024.Idx, x = ix2 0 (x 1) := fun x => by
      idx_vars x
      obtain rfl : x0 = 0 := by omega
      rfl
    rw [key x]
    generalize hd : (x 1 : Fin 1024) = d
    obtain rfl : y 1 = d := Fin.ext (h1.trans (congrArg Fin.val hd))
    have hi : (y 0).val = 0 ∨ (y 0).val = 1 := by
      have := (x 0).isLt
      change (x 0).val < 1 at this
      omega
    first
      | have hy : (y 0).val = 0 := by
          have := (x 0).isLt
          change (x 0).val < 1 at this
          omega
      | have hy : ¬(y 0).val = 0 := by omega
    simp only [rows, hy, if_true, if_false]
    pointwise [prob, row_max, k0_pay2, k0_pay1]

end Kernel

theorem pre_facts : Cert.Pre_finite12.Facts where
  reducesTo_S2x1024_S_d0_1 := by decide
  h_S_ := by decide

theorem reals [hP : Cert.Pre_finite12.Facts] (l : FVec Ideal ⟨2, ![2, 1024]⟩ .f32) (h : Cert.Pre_finite12.fn (F := Ideal) l = fun _ => 1#1) : ∀ i, IsReal (l i) :=
  have one {s : Shape} {axes : List (Fin s.rank)} (h : s.ReducesTo axes Cert.Pre_finite12.S_) : ∀ i, h.drop i = (fun a => a.elim0) := fun i => funext fun a => a.elim0
  fun i => ⟨_, Finite.entries l _ _ _ (one _) (congrFun h (fun a => a.elim0)) i⟩

section Reference

open Cert.Reference12Ideal Cert.Reference12Ideal.Gen Cert.Reference12Ideal.Value

/-- The softmax of the reference. -/
def shares (l : FVec Ideal S2x1024 .f32) (x : FVec Ideal S1024 .f32) : FVec Ideal S2x1024 .f32 :=
  Host.divf (Host.exp (subf l (broadcastInDim S2x1024 ![0, 1] bcast_S1x1024_S2x1024_0_1 (broadcastInDim S1x1024 ![1] bcast_S1024_S1x1024_1 x))))
    (broadcastInDim S2x1024 ![0, 1] bcast_S1x1024_S2x1024_0_1 (broadcastInDim S1x1024 ![1] bcast_S1024_S1x1024_1
      (Host.reduceAdd (Host.exp (subf l (broadcastInDim S2x1024 ![0, 1] bcast_S1x1024_S2x1024_0_1 (broadcastInDim S1x1024 ![1] bcast_S1024_S1x1024_1 x)))) (constant S_ .f32 0x00000000#32) reducesTo_S2x1024_S1024_d0 h_S_)))

def top (l : FVec Ideal S2x1024 .f32) : FVec Ideal S1024 .f32 :=
  maximumf (broadcastInDim S1024 ![] bcast_S_S1024 (constant S_ .f32 0xFF800000#32)) (Host.reduce FloatOps.maximumf l (constant S_ .f32 0xFF800000#32) reducesTo_S2x1024_S1024_d0 h_S_)

def out (l : FVec Ideal S2x1024 .f32) (p : FVec Ideal S2x1024 .f32) : FVec Ideal S2x1024 .f32 :=
  subf (Host.reduceWindowAdd ![2, 1] ![1, 1] ![1, 0] ![0, 0] p (broadcastInDim S_ ![] bcast_S_S_ (constant S_ .f32 0x00000000#32)) reduceWindows_S2x1024_S2x1024_w2s1p1_0_w1s1p0_0 h_S_)
    (broadcastInDim S2x1024 ![0, 1] bcast_S1x1024_S2x1024_0_1 (extractStridedSlice S1x1024 ![0, 0] p slices_S2x1024_S1x1024_0_0))

theorem top_at (l : FVec Ideal S2x1024 .f32) (d : Fin 1024) : top l (ix1 d) = row_max l d := by
  refine Eq.trans (congrArg (max _) ((Host.reduce_eq_fold _ _ _ _ _ _).trans (fold_fibre _ l _ d))) ?_
  exact (congrArg (fun b => max b (row_max l d)) bot_bits).trans (bot_sup_eq _)

theorem shares_at (l : FVec Ideal S2x1024 .f32) (i : Fin 2) (d : Fin 1024) : shares l (top l) (ix2 i d) = prob l i d := by
  have e := top_at l d
  revert e
  generalize top l = x
  intro e
  unfold shares
  pointwise [prob, e]

theorem prob_real (l : FVec Ideal S2x1024 .f32) (hl : ∀ i, IsReal (l i)) (i : Fin 2) (d : Fin 1024) : IsReal (prob l i d) := by
  obtain ⟨M, hM⟩ := row_max_real l hl d
  obtain ⟨q, rfl⟩ := IsReal.fam hl
  have hS : Real.exp (q (ix2 0 d) - M) + Real.exp (q (ix2 1 d) - M) ≠ 0 := by positivity
  simp only [prob, hM, Fin.sum_univ_two, ← EReal.coe_sub, Ideal.exp_coe, ← EReal.coe_add, div_coe _ _ hS]
  exact ⟨_, rfl⟩

theorem out_at (l : FVec Ideal S2x1024 .f32) (hl : ∀ i, IsReal (l i)) (y : (⟨2, ![2, 1024]⟩ : Shape).Idx) : out l (shares l (top l)) y = rows l (y 0) (y 1) := by
  have e := shares_at l
  revert e
  generalize shares l (top l) = p
  intro e
  idx_vars y
  have hw := window_to p (broadcastInDim S_ ![] bcast_S_S_ (constant S_ .f32 0x00000000#32)) reduceWindows_S2x1024_S2x1024_w2s1p1_0_w1s1p0_0 h_S_ (fun _ => by pointwise []) (ix2 y0 y1)
  obtain ⟨a, ha⟩ := prob_real l hl 0 y1
  obtain ⟨b, hb⟩ := prob_real l hl 1 y1
  have h0 : (broadcastInDim S2x1024 ![0, 1] bcast_S1x1024_S2x1024_0_1 (extractStridedSlice S1x1024 ![0, 0] p slices_S2x1024_S1x1024_0_0) : FVec Ideal S2x1024 .f32) (ix2 y0 y1) = p (ix2 0 y1) := by pointwise []
  refine (congrArg₂ (fun a b : EReal => a - b) hw h0).trans ?_
  simp only [Fin.sum_univ_two]
  obtain rfl | rfl : y0 = 0 ∨ y0 = 1 := by omega
  · simp [rows, e, ha, hb, ← EReal.coe_sub]
  · simp [rows, e, ha, hb, ← EReal.coe_sub, ← EReal.coe_add]

end Reference

theorem value [hP : Cert.Pre_finite12.Facts] : Cert.algebraic_Kernel12Ideal_Reference12Ideal_pre_finite12 := by
  intro m g m' g' hpre hagree
  refine ⟨_, Cert.Kernel12Ideal.Value.run m g, θ_run_mono (Cert.Reference12Ideal.Value.run m' g') fun r h c => ?_⟩
  have hl := reals _ (hpre c)
  have h0 := hagree c
  refine ⟨(h c).1.trans ?_, (h c).2⟩
  rw [h0]
  exact (funext (out_at _ hl)).trans (result _).symm

end Cert.Proof.Lower
end
-- ==== Proof.Qkv.lean ====
/- The per-head norms of queries and keys in the product that makes them: what a grid point leaves, the arrays at exit, the reference, and the claim. -/
module

public import proofs.«01_k».proof.Proof.QkValue
public import proofs.«01_k».proof.Proof.Forward
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run

@[expose] public section

set_option maxRecDepth 16384

noncomputable section

namespace Cert.Qkv

open Idealize.ShloMosaic Idealize.ShloMosaic.TcCoe Idealize.ShloMosaic.Tactic
open Cert.RealNorm Cert.Kernel6Ideal.Qk

/-- An entry of the result: a query's and a key's normed, scaled by the gain, and a value as it is. -/
def entries (x : FVec Ideal ⟨2, ![4096, 3072]⟩ .f32) (gq gk : FVec Ideal ⟨1, ![64]⟩ .f32) (R : Fin 4096) (D : Fin 3072) : EReal :=
  if D.val < 1024 then x (ix2 R D) * fac (xh x R ⟨D.val / 64, by omega⟩) * gq (ix1 ⟨D.val % 64, by omega⟩) * eighth
  else if D.val < 2048 then x (ix2 R D) * fac (xh x R ⟨D.val / 64, by omega⟩) * gk (ix1 ⟨D.val % 64, by omega⟩)
  else x (ix2 R D)

theorem entry (x : FVec Ideal ⟨2, ![4096, 3072]⟩ .f32) (R : Fin 4096) (D : Fin 3072) (u : Fin 48) (j : Fin 64) (h : D.val = u.val * 64 + j.val) : xh x R u j = x (ix2 R D) :=
  congrArg (fun k => x (ix2 R k)) (Fin.ext h.symm)

theorem product_real {m k n : Nat} (a : FVec Ideal ⟨2, ![m, k]⟩ .f32) (b : FVec Ideal ⟨2, ![k, n]⟩ .f32) (ha : ∀ i, IsReal (a i)) (hb : ∀ i, IsReal (b i)) (i) : IsReal (Cert.Forward.product a b i) :=
  IsReal.sum _ fun l => (ha _).mul (hb _)

end Cert.Qkv

namespace Cert.Reference13Ideal.Qkv

open Idealize.ShloMosaic Idealize.ShloMosaic.TcCoe Idealize.ShloMosaic.Tactic Idealize.SL.Sem
open Cert.RealNorm Cert.Kernel6Ideal.Qk Cert.Reference6Ideal.Qk Cert.Qkv

def normH (x : Heads) (g : FVec Ideal ⟨1, ![64]⟩ .f32) : Heads := gainedH (mulf x (facH x)) g

theorem normH_at (x : Heads) (g : FVec Ideal ⟨1, ![64]⟩ .f32) (R : Fin 4096) (h : Fin 16) (j : Fin 64) :
    normH x g (ix3 R h j) = x (ix3 R h j) * fac (fun k => x (ix3 R h k)) * g (ix1 j) := by
  pointwise [normH, gainedH, facH, varH, fac, var]

theorem query_norm (x : FVec Ideal ⟨2, ![4096, 3072]⟩ .f32) (g : FVec Ideal ⟨1, ![64]⟩ .f32) (R : Fin 4096) (D : Fin 3072) (h : Fin 16) (j : Fin 64) (e : D.val = h.val * 64 + j.val) :
    normH (queryH x) g (ix3 R h j) = x (ix2 R D) * fac (xh x R ⟨D.val / 64, by omega⟩) * g (ix1 ⟨D.val % 64, by omega⟩) := by
  rw [normH_at]
  simp only [query_at]
  rw [entry x R D ⟨h.val, by omega⟩ j e]
  exact congrArg₂ (fun u k => x (ix2 R D) * fac (xh x R u) * g (ix1 k)) (Fin.ext (show h.val = D.val / 64 by omega)) (Fin.ext (show j.val = D.val % 64 by omega))

theorem key_norm (x : FVec Ideal ⟨2, ![4096, 3072]⟩ .f32) (g : FVec Ideal ⟨1, ![64]⟩ .f32) (R : Fin 4096) (D : Fin 3072) (h : Fin 16) (j : Fin 64) (e : D.val = (16 + h.val) * 64 + j.val) :
    normH (keyH x) g (ix3 R h j) = x (ix2 R D) * fac (xh x R ⟨D.val / 64, by omega⟩) * g (ix1 ⟨D.val % 64, by omega⟩) := by
  rw [normH_at]
  simp only [key_at]
  rw [entry x R D ⟨16 + h.val, by omega⟩ j e]
  exact congrArg₂ (fun u k => x (ix2 R D) * fac (xh x R u) * g (ix1 k)) (Fin.ext (show 16 + h.val = D.val / 64 by omega)) (Fin.ext (show j.val = D.val % 64 by omega))

open Cert.Reference6Ideal Cert.Reference6Ideal.Gen in
def foldH (d : Heads) : FVec Ideal ⟨2, ![4096, 1024]⟩ .f32 := shapeCast S4096x1024 d shapeCasts_S4096x16x64_S4096x1024

theorem foldH_at (d : Heads) (R : Fin 4096) (C : Fin 1024) : foldH d (ix2 R C) = d (ix3 R ⟨C.val / 64, by omega⟩ ⟨C.val % 64, by omega⟩) := by
  pointwise [foldH]

open Cert.Reference13Ideal Cert.Reference13Ideal.Gen in
def valueH (x : FVec Ideal ⟨2, ![4096, 3072]⟩ .f32) : FVec Ideal ⟨2, ![4096, 1024]⟩ .f32 := extractStridedSlice S4096x1024 ![0, 2048] x slices_S4096x3072_S4096x1024_0_2048

theorem valueH_at (x : FVec Ideal ⟨2, ![4096, 3072]⟩ .f32) (R : Fin 4096) (C : Fin 1024) : valueH x (ix2 R C) = x (ix2 R ⟨2048 + C.val, by omega⟩) := by
  pointwise [valueH]

open Cert.Reference6Ideal Cert.Reference6Ideal.Gen in
def rowH (x : FVec Ideal ⟨2, ![4096, 3072]⟩ .f32) (gq gk : FVec Ideal ⟨1, ![64]⟩ .f32) : FVec Ideal ⟨2, ![4096, 3072]⟩ .f32 :=
  concatenate S4096x3072 1 [⟨S4096x1024, foldH (scaleH (normH (queryH x) gq))⟩, ⟨S4096x1024, foldH (normH (keyH x) gk)⟩, ⟨S4096x1024, valueH x⟩] concatenates_S4096x1024_S4096x1024_S4096x1024_S4096x3072_d1

theorem rowH_at (x : FVec Ideal ⟨2, ![4096, 3072]⟩ .f32) (gq gk : FVec Ideal ⟨1, ![64]⟩ .f32) (R : Fin 4096) (D : Fin 3072) : rowH x gq gk (ix2 R D) = entries x gq gk R D := by
  refine (three _ _ _ R D).trans ?_
  unfold entries
  split
  · rename_i h
    have e := query_norm x gq R D ⟨D.val % 1024 / 64, by omega⟩ ⟨D.val % 1024 % 64, by omega⟩ (by show D.val = D.val % 1024 / 64 * 64 + D.val % 1024 % 64; omega)
    rw [foldH_at, scale_at, e]
  · rename_i h
    split
    · rename_i h'
      have e := key_norm x gk R D ⟨D.val % 1024 / 64, by omega⟩ ⟨D.val % 1024 % 64, by omega⟩ (by show D.val = (16 + D.val % 1024 / 64) * 64 + D.val % 1024 % 64; omega)
      rw [foldH_at, e]
    · rename_i h'
      rw [valueH_at]
      exact congrArg (fun k => x (ix2 R k)) (Fin.ext (show 2048 + D.val % 1024 = D.val by omega))

end Cert.Reference13Ideal.Qkv

namespace Cert.Kernel13Ideal.Qkv

open Idealize.ShloMosaic Idealize.ShloMosaic.TcCoe Idealize.ShloMosaic.Tactic Idealize.SL.Sem
open Cert.Kernel13Ideal Cert.Kernel13Ideal.Gen Cert.RealNorm Cert.Qkv
open Cert.Kernel6Ideal.Qk (half same pm rs rs_real own eighth gainsH gainsH_q gainsH_k xh fac)

variable (m : (ℓ : Loc nD τ sig) → Buf (Elt Ideal) ℓ)

abbrev Cols := FVec Ideal S1024x128 .f32

/-- Which pairs of lanes lie in one head. -/
def mask : FVec Ideal S128x128 .bf16 :=
  truncf .bf16 (select (k0_pay13 (iota .tc S128x128 32 [0] iota_S128x128_d0_w32) 64#32 k0_pay11 k0_pay12)
    (broadcast S128x128 (Scalar.ofBits .f32 0x3F800000#32)) (broadcast S128x128 (Scalar.ofBits .f32 0x00000000#32))) bitsLt_bf16_f32

/-- What a grid point leaves in 128 lanes. -/
def piece (w : BitVec 1) (x : Cols) (g : FVec Ideal S1x128 .f32) : Cols :=
  Scalar.select w x (mulf (mulf x (rsqrt (addf (mulf (addf
    (matmul dot_S1024x128_S128x128_S1024x128_1_0_0_1_n_n none (truncf .bf16 (mulf x x) bitsLt_bf16_f32) mask (constant S1024x128 .f32 0x00000000#32))
    (matmul dot_S1024x128_S128x128_S1024x128_1_0_0_1_n_n none (truncf .bf16 (subf (mulf x x) (extf .f32 (truncf .bf16 (mulf x x) bitsLt_bf16_f32) bitsLt_bf16_f32)) bitsLt_bf16_f32) mask (constant S1024x128 .f32 0x00000000#32)))
    (broadcast S1024x128 (Scalar.ofBits .f32 0x3C800000#32))) (broadcast S1024x128 (Scalar.ofBits .f32 0x358637BD#32)))))
    (broadcastTo S1024x128 g broadcasts_S1x128_S1024x128))

theorem piece_at (w : BitVec 1) (x : Cols) (g : FVec Ideal S1x128 .f32) (a : Fin 1024) (b : Fin 128) :
    piece w x g (ix2 a b) = Scalar.select w (x (ix2 a b)) (x (ix2 a b) * rs (fun l => x (ix2 a l)) b * g (ix2 0 b)) := by
  unfold piece mask
  pointwise [k0_pay13, k0_pay11, k0_pay12]
  simp only [half, same]
  rfl

theorem cols_in (o : Nat) (ho : o + 128 ≤ 1024) : S1024x1024.Slices ![0, o] S1024x128 :=
  ⟨rfl, Fin.forall_fin_two.mpr ⟨le_refl 1024, ho⟩⟩
theorem gain_in (o : Nat) (ho : o + 128 ≤ 1024) : S1x1024.Slices ![0, o] S1x128 :=
  ⟨rfl, Fin.forall_fin_two.mpr ⟨le_refl 1, ho⟩⟩

/-- What a grid point leaves in the 128 lanes from `o` on. -/
def lanes (w : BitVec 1) (x : FVec Ideal S1024x1024 .f32) (g : FVec Ideal S1x1024 .f32) (o : Nat) (ho : o + 128 ≤ 1024) : Cols :=
  piece w (extractStridedSlice S1024x128 ![0, o] x (cols_in o ho)) (extractStridedSlice S1x128 ![0, o] g (gain_in o ho))

theorem lanes_at (w : BitVec 1) (x : FVec Ideal S1024x1024 .f32) (g : FVec Ideal S1x1024 .f32) (o : Nat) (ho : o + 128 ≤ 1024) (a : Fin 1024) (b : Fin 128) :
    lanes w x g o ho (ix2 a b) = Scalar.select w (x (ix2 a ⟨o + b.val, by omega⟩))
      (x (ix2 a ⟨o + b.val, by omega⟩) * rs (fun l => x (ix2 a ⟨o + l.val, by omega⟩)) b * g (ix2 0 ⟨o + b.val, by omega⟩)) := by
  have e : ∀ l : Fin 128, extractStridedSlice S1024x128 ![0, o] x (cols_in o ho) (ix2 a l) = x (ix2 a ⟨o + l.val, by omega⟩) := fun l => by pointwise
  have e' : extractStridedSlice S1x128 ![0, o] g (gain_in o ho) (ix2 0 b) = g (ix2 0 ⟨o + b.val, by omega⟩) := by pointwise
  refine (piece_at _ _ _ a b).trans ?_
  simp only [e, e']

theorem same_lanes (f : (o : Nat) → o + 128 ≤ 1024 → Cols) (a : Fin 1024) {o o' : Nat} {ho : o + 128 ≤ 1024} {ho' : o' + 128 ≤ 1024} {b b' : Fin 128} (e : o = o') (e' : b.val = b'.val) :
    f o ho (ix2 a b) = f o' ho' (ix2 a b') := by
  subst e
  rw [Fin.ext e']

theorem eight (f : (o : Nat) → o + 128 ≤ 1024 → Cols) (a C : Fin 1024) :
    concatenate S1024x1024 1 [⟨S1024x128, f 0 (by omega)⟩, ⟨S1024x128, f 128 (by omega)⟩, ⟨S1024x128, f 256 (by omega)⟩, ⟨S1024x128, f 384 (by omega)⟩,
      ⟨S1024x128, f 512 (by omega)⟩, ⟨S1024x128, f 640 (by omega)⟩, ⟨S1024x128, f 768 (by omega)⟩, ⟨S1024x128, f 896 (by omega)⟩]
      concatenates_S1024x128_S1024x128_S1024x128_S1024x128_S1024x128_S1024x128_S1024x128_S1024x128_S1024x1024_d1 (ix2 a C)
      = f (C.val / 128 * 128) (by omega) (ix2 a ⟨C.val % 128, by omega⟩) := by
  pointwise
  repeat' split
  all_goals exact same_lanes f a (by omega) (by first | omega | (dsimp only; omega))

theorem acc_eq (i : grid0.Coords) (x0 : Vec Ideal S1024x1024 .bf16) (x1 : Vec Ideal S1024x1024 .bf16) (x2 : Vec Ideal S1x1024 .f32) : k0_pay55 i x0 x1 x2 = k0_pay1 x0 x1 := by
  unfold k0_pay55
  simp (disch := decide) only [View.ld_unit_lit']

theorem stored (i : grid0.Coords) (x0 : Vec Ideal S1024x1024 .bf16) (x1 : Vec Ideal S1024x1024 .bf16) (x2 : Vec Ideal S1x1024 .f32) (y : S1024x1024.Idx) :
    out0_4 i x0 x1 x2 y = (fun f : (o : Nat) → o + 128 ≤ 1024 → Cols => concatenate S1024x1024 1 [⟨S1024x128, f 0 (by omega)⟩, ⟨S1024x128, f 128 (by omega)⟩, ⟨S1024x128, f 256 (by omega)⟩, ⟨S1024x128, f 384 (by omega)⟩,
      ⟨S1024x128, f 512 (by omega)⟩, ⟨S1024x128, f 640 (by omega)⟩, ⟨S1024x128, f 768 (by omega)⟩, ⟨S1024x128, f 896 (by omega)⟩]
      concatenates_S1024x128_S1024x128_S1024x128_S1024x128_S1024x128_S1024x128_S1024x128_S1024x128_S1024x1024_d1 y)
      (lanes (Scalar.cmpi .eq (BitVec.ofNat 32 (i 1).val) 2#32) (k0_pay55 i x0 x1 x2) (k0_pay56 i x0 x1 x2)) := by
  frame_out
  simp only [k0_pay57, acc_eq]
  rfl

theorem stored_at (i : grid0.Coords) (x0 : Vec Ideal S1024x1024 .bf16) (x1 : Vec Ideal S1024x1024 .bf16) (x2 : Vec Ideal S1x1024 .f32) (a C : Fin 1024) :
    out0_4 i x0 x1 x2 (ix2 a C) = lanes (Scalar.cmpi .eq (BitVec.ofNat 32 (i 1).val) 2#32) (k0_pay55 i x0 x1 x2) (k0_pay56 i x0 x1 x2) (C.val / 128 * 128) (by omega) (ix2 a ⟨C.val % 128, by omega⟩) :=
  (stored i x0 x1 x2 _).trans (eight _ a C)

theorem two (y : S1024x1024.Idx) : y = ix2 (y 0) (y 1) := by
  funext k; revert k
  exact Fin.forall_fin_two.mpr ⟨rfl, rfl⟩

theorem pick (w : Nat) (hw : w < 3) (p q : EReal) : Scalar.select (Scalar.cmpi .eq (BitVec.ofNat 32 w) 2#32) p q = if w = 2 then p else q := by
  have : w = 0 ∨ w = 1 ∨ w = 2 := by omega
  rcases this with rfl | rfl | rfl <;> rfl

theorem idx : ∀ t : Fin cfg0.N, (win0_0.index t = ![t.val / 3, 0] ∧ win0_1.index t = ![0, t.val % 3] ∧ win0_2.index t = ![0, t.val % 3]
    ∧ win0_3.index t = ![t.val / 3, t.val % 3] ∧ win0_4.index t = ![t.val / 3, t.val % 3]) ∧ (grid0.coords t 1).val = t.val % 3 :=
  (by decide +kernel : ∀ t : Fin grid0.N, _)

theorem entry_h (c : Dev nD) : V m c main_v15 = (truncf .bf16 (show FVec Ideal S4096x1024 .f32 from m ((c : Thread nD τ).loc main_arg0)) bitsLt_bf16_f32 : FVec Ideal S4096x1024 .bf16) := by
  unfold_abbrev_sides
  after_results

theorem entry_w (c : Dev nD) : V m c main_v16 = (truncf .bf16 (show FVec Ideal S1024x3072 .f32 from m ((c : Thread nD τ).loc main_arg1)) bitsLt_bf16_f32 : FVec Ideal S1024x3072 .bf16) := by
  unfold_abbrev_sides
  after_results

def gainRow (g h : FVec Ideal S64 .f32) : FVec Ideal S1x3072 .f32 := shapeCast S1x3072 (gainsH g h) shapeCasts_S3x1x1024_S1x3072

theorem entry_g (c : Dev nD) : V m c main_v14 = gainRow (m ((c : Thread nD τ).loc main_arg2)) (m ((c : Thread nD τ).loc main_arg3)) := by
  show StableHlo.after (List.flatten [hostOps0]) (fun b => m (c, b)) (Proc.devRef .tc _) = _
  simp only [hostOps0, List.flatten_cons, List.flatten_nil, List.append_nil, List.cons_append, List.nil_append]
  after_reads_simp
  rfl

theorem gainRow_at (g h : FVec Ideal S64 .f32) (D : Fin 3072) : gainRow g h (ix2 0 D) = gainsH g h (ix3 ⟨D.val / 1024, by omega⟩ 0 ⟨D.val % 1024, by omega⟩) := by
  pointwise [gainRow]

section
variable (c : Dev nD) (t : Fin cfg0.N)

theorem t_lt : t.val < 12 := t.isLt

/-- The product the whole call makes. -/
abbrev whole : FVec Ideal ⟨2, ![4096, 3072]⟩ .f32 := Cert.Forward.product (m ((c : Thread nD τ).loc main_arg0)) (m ((c : Thread nD τ).loc main_arg1))

theorem acc_at (a C : Fin 1024) : k0_pay55 (grid0.coords t) (iblk m c 0 t) (iblk m c 1 t) (iblk m c 2 t) (ix2 a C)
    = whole m c (ix2 ⟨t.val / 3 * 1024 + a.val, by have := t_lt t; omega⟩ ⟨t.val % 3 * 1024 + C.val, by omega⟩) := by
  pointwise [k0_pay55, k0_pay1, whole, Cert.Forward.product]
  blk_point [iblk, entry_h m c, entry_w m c, (idx t).1]

theorem gain_at (C : Fin 1024) : k0_pay56 (grid0.coords t) (iblk m c 0 t) (iblk m c 1 t) (iblk m c 2 t) (ix2 0 C)
    = gainsH (m ((c : Thread nD τ).loc main_arg2)) (m ((c : Thread nD τ).loc main_arg3)) (ix3 ⟨t.val % 3, by omega⟩ 0 C) := by
  have key : ∀ G : FVec Ideal S1x3072 .f32, V m c main_v14 = G → k0_pay56 (grid0.coords t) (iblk m c 0 t) (iblk m c 1 t) (iblk m c 2 t) (ix2 0 C) = G (ix2 0 ⟨t.val % 3 * 1024 + C.val, by omega⟩) := fun G hG => by
    pointwise [k0_pay56, k0_pay2]
    blk_point [iblk, hG, (idx t).1]
  refine (key _ (entry_g m c)).trans ((gainRow_at _ _ _).trans (congrArg₂ (fun p q => gainsH _ _ (ix3 p 0 q)) (Fin.ext ?_) (Fin.ext ?_)))
  · show (t.val % 3 * 1024 + C.val) / 1024 = t.val % 3
    omega
  · show (t.val % 3 * 1024 + C.val) % 1024 = C.val
    omega

theorem final3 : (dats m 0 c).arrAt 3 cfg0.N = whole m c := by
  refine (dats m 0 c).arrAt_eq_of_covers 3 _ (by decide +kernel) fun t _ y => ?_
  blk_simp
  rw [after0_3]; frame_out
  pointwise [k0_pay1, whole, Cert.Forward.product]
  blk_point [iblk, entry_h m c, entry_w m c, (idx t).1]

variable (hX : ∀ i, IsReal (whole m c i))
include hX

theorem point4 (a C : Fin 1024) (R : Fin 4096) (D : Fin 3072) (hR : R.val = t.val / 3 * 1024 + a.val) (hD : D.val = t.val % 3 * 1024 + C.val) :
    out0_4 (grid0.coords t) (iblk m c 0 t) (iblk m c 1 t) (iblk m c 2 t) (ix2 a C) = entries (whole m c) (m ((c : Thread nD τ).loc main_arg2)) (m ((c : Thread nD τ).loc main_arg3)) R D := by
  have ht := t_lt t
  rw [stored_at, lanes_at, (idx t).2, pick _ (by omega)]
  simp only [acc_at, gain_at]
  rw [rs_real fun l => hX _]
  have eR : ∀ h, (⟨t.val / 3 * 1024 + a.val, h⟩ : Fin 4096) = R := fun h => Fin.ext hR.symm
  have eC : ∀ h, (⟨C.val / 128 * 128 + C.val % 128, h⟩ : Fin 1024) = C := fun h => Fin.ext (show C.val / 128 * 128 + C.val % 128 = C.val by omega)
  have eD : ∀ h, (⟨t.val % 3 * 1024 + (C.val / 128 * 128 + C.val % 128), h⟩ : Fin 3072) = D := fun h => Fin.ext (show t.val % 3 * 1024 + (C.val / 128 * 128 + C.val % 128) = D.val by omega)
  have eo : own (fun l : Fin 128 => whole m c (ix2 R ⟨t.val % 3 * 1024 + (C.val / 128 * 128 + l.val), by omega⟩)) ⟨C.val % 128, by omega⟩ = xh (whole m c) R ⟨D.val / 64, by omega⟩ := funext fun j =>
    congrArg (fun k => whole m c (ix2 R k)) (Fin.ext (show t.val % 3 * 1024 + (C.val / 128 * 128 + (C.val % 128 / 64 * 64 + j.val)) = D.val / 64 * 64 + j.val by omega))
  simp only [eR, eC, eD]
  rw [eo]
  have ej : ∀ h, (⟨C.val % 64, h⟩ : Fin 64) = ⟨D.val % 64, by omega⟩ := fun h => Fin.ext (show C.val % 64 = D.val % 64 by omega)
  unfold entries
  have hw : t.val % 3 = 0 ∨ t.val % 3 = 1 ∨ t.val % 3 = 2 := by omega
  rcases hw with h | h | h
  · have e0 : ∀ p, (⟨t.val % 3, p⟩ : Fin 3) = 0 := fun p => Fin.ext h
    rw [if_neg (by omega), if_pos (by omega), e0, gainsH_q, ej, mul_assoc _ _ eighth]
  · have e1 : ∀ p, (⟨t.val % 3, p⟩ : Fin 3) = 1 := fun p => Fin.ext h
    rw [if_neg (by omega), if_neg (by omega), if_pos (by omega), e1, gainsH_k, ej]
  · rw [if_pos h, if_neg (by omega), if_neg (by omega)]

theorem final4 : (dats m 0 c).arrAt 4 cfg0.N = (fun i => entries (whole m c) (m ((c : Thread nD τ).loc main_arg2)) (m ((c : Thread nD τ).loc main_arg3)) (i 0) (i 1) : FVec Ideal S4096x3072 .bf16) := by
  refine (dats m 0 c).arrAt_eq_of_covers 4 _ (by decide +kernel) fun t _ y => ?_
  blk_simp
  rw [after0_4]
  have hb := (idx t).1.2.2.2.2
  have ht := t_lt t
  have key : ∀ G : FVec Ideal S4096x3072 .bf16, G (((cfg0.win 4).blk t).view.emb y) = G (ix2 ⟨t.val / 3 * 1024 + (y 0).val, by have := (y 0).isLt; simp at this; omega⟩ ⟨t.val % 3 * 1024 + (y 1).val, by have := (y 1).isLt; simp at this; omega⟩) := fun G => by
    blk_point [hb]
  refine Eq.trans ?_ (key fun i => entries (whole m c) (m ((c : Thread nD τ).loc main_arg2)) (m ((c : Thread nD τ).loc main_arg3)) (i 0) (i 1)).symm
  exact (congrArg (out0_4 (grid0.coords t) (iblk m c 0 t) (iblk m c 1 t) (iblk m c 2 t)) (two y)).trans (point4 m c t hX (y 0) (y 1) _ _ rfl rfl)
end

end Cert.Kernel13Ideal.Qkv

namespace Cert.Proof.Qkv

open Idealize.ShloMosaic Idealize.ShloMosaic.TcCoe Idealize.ShloMosaic.Tactic Idealize.SL.Sem
open Cert.RealNorm Cert.Qkv

theorem pre_facts : Cert.Pre_finite13.Facts where
  reducesTo_S4096x1024_S_d0_1 := by decide
  h_S_ := by decide
  reducesTo_S1024x3072_S_d0_1 := by decide

theorem reals [hP : Cert.Pre_finite13.Facts] (h : FVec Ideal ⟨2, ![4096, 1024]⟩ .f32) (w : FVec Ideal ⟨2, ![1024, 3072]⟩ .f32) (gq gk : FVec Ideal ⟨1, ![64]⟩ .f32)
    (e : Cert.Pre_finite13.fn (F := Ideal) h w gq gk = fun _ => 1#1) : (∀ i, IsReal (h i)) ∧ ∀ i, IsReal (w i) := by
  obtain ⟨hh, hw⟩ := Finite.both _ _ _ (congrFun e (fun a => a.elim0))
  have one {s : Shape} {axes : List (Fin s.rank)} (h : s.ReducesTo axes Cert.Pre_finite13.S_) : ∀ i, h.drop i = (fun a => a.elim0) := fun i => funext fun a => a.elim0
  exact ⟨fun i => ⟨_, Finite.entries h _ _ _ (one _) hh i⟩, fun i => ⟨_, Finite.entries w _ _ _ (one _) hw i⟩⟩

section
open Cert.Reference13Ideal Cert.Reference13Ideal.Gen

theorem dot_eq (h : FVec Ideal S4096x1024 .f32) (w : FVec Ideal S1024x3072 .f32) :
    (Host.dotGeneral dot_S4096x1024_S1024x3072_S4096x3072_1_0_0_1_n_n none h w : FVec Ideal S4096x3072 .f32) = Cert.Forward.product h w := by
  funext i
  idx_vars i
  pointwise [Cert.Forward.product]
end

theorem value [hP : Cert.Pre_finite13.Facts] : Cert.algebraic_Kernel13Ideal_Reference13Ideal_pre_finite13 := by
  intro m g m' g' hpre hagree
  refine ⟨_, _, Cert.Kernel13Ideal.Value.run_blocks m g, θ_run_mono (Cert.Reference13Ideal.Value.run m' g') fun r h c => ?_⟩
  obtain ⟨hh, hw⟩ := reals _ _ _ _ (hpre c)
  obtain ⟨h0, h1, h2, h3⟩ := hagree c
  refine ⟨(h c).1.trans ?_, (h c).2.1.trans ?_, (h c).2.2⟩
  · rw [Cert.Kernel13Ideal.Qkv.final3 m c, h0, h1]
    exact dot_eq _ _
  · rw [Cert.Kernel13Ideal.Qkv.final4 m c (product_real _ _ hh hw), h0, h1, h2, h3]
    funext i
    idx_vars i
    refine Eq.trans ?_ ((Cert.Reference13Ideal.Qkv.rowH_at _ _ _ _ _).trans (congrArg (fun x => entries x _ _ _ _) (dot_eq _ _)))
    rfl

end Cert.Proof.Qkv
end
-- ==== Proof.Products.lean ====
/- The last product with the residual, and a weight's gradient as one plain product. -/
module

public import proofs.«01_k».proof.Defs
public import proofs.«01_k».proof.Proof.Forward
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run

@[expose] public section

set_option maxRecDepth 16384

noncomputable section

namespace Cert.Kernel14Ideal.Products

open Idealize.ShloMosaic Idealize.ShloMosaic.TcCoe Idealize.ShloMosaic.Tactic Idealize.SL.Sem
open Cert.Kernel14Ideal Cert.Kernel14Ideal.Gen Cert.Forward

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem entry_u (c : Dev nD) : V m c main_v0 = (truncf .bf16 (show FVec Ideal S4096x4096 .f32 from m ((c : Thread nD τ).loc main_arg0)) bitsLt_bf16_f32 : FVec Ideal S4096x4096 .bf16) := by
  unfold_abbrev_sides
  after_results

theorem entry_w (c : Dev nD) : V m c main_v1 = (truncf .bf16 (show FVec Ideal S4096x1024 .f32 from m ((c : Thread nD τ).loc main_arg1)) bitsLt_bf16_f32 : FVec Ideal S4096x1024 .bf16) := by
  unfold_abbrev_sides
  after_results

theorem final (c : Dev nD) : (dats m 0 c).arrAt 3 cfg0.N = down (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, down, product]
  blk_point [iblk, entry_u m c, entry_w m c, V_main_arg2 m c, idx t]

end Cert.Kernel14Ideal.Products

namespace Cert.Kernel15Ideal.Products

open Idealize.ShloMosaic Idealize.ShloMosaic.TcCoe Idealize.ShloMosaic.Tactic Idealize.SL.Sem
open Cert.Kernel15Ideal Cert.Kernel15Ideal.Gen

variable (m : (ℓ : Loc nD τ sig) → Buf (Elt Ideal) ℓ)

/-- A weight's gradient: each of its entries sums, over the rows, an input's entry times a cotangent's. -/
def outer (u : FVec Ideal ⟨2, ![4096, 4096]⟩ .f32) (d : FVec Ideal ⟨2, ![4096, 1024]⟩ .f32) : FVec Ideal ⟨2, ![4096, 1024]⟩ .bf16 := fun i =>
  ∑ r : Fin 4096, u (ix2 r (i 0)) * d (ix2 r (i 1))
theorem outer_comm (u : FVec Ideal ⟨2, ![4096, 4096]⟩ .f32) (d : FVec Ideal ⟨2, ![4096, 1024]⟩ .f32) : outer u d = fun i => ∑ r : Fin 4096, d (ix2 r (i 1)) * u (ix2 r (i 0)) :=
  funext fun _ => Finset.sum_congr rfl fun _ _ => mul_comm _ _

theorem idx : ∀ t : Fin cfg0.N, win0_0.index t = ![0, t.val] ∧ win0_1.index t = ![0, 0] ∧ win0_2.index t = ![t.val, 0] :=
  (by decide +kernel : ∀ t : Fin grid0.N, _)

theorem entry_u (c : Dev nD) : V m c main_v0 = (truncf .bf16 (show FVec Ideal S4096x4096 .f32 from m ((c : Thread nD τ).loc main_arg0)) bitsLt_bf16_f32 : FVec Ideal S4096x4096 .bf16) := by
  unfold_abbrev_sides
  after_results

theorem entry_d (c : Dev nD) : V m c main_v1 = (truncf .bf16 (show FVec Ideal S4096x1024 .f32 from m ((c : Thread nD τ).loc main_arg1)) bitsLt_bf16_f32 : FVec Ideal S4096x1024 .bf16) := by
  unfold_abbrev_sides
  after_results

theorem final (c : Dev nD) : (dats m 0 c).arrAt 2 cfg0.N = outer (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, outer]
  blk_point [iblk, entry_u m c, entry_d m c, idx t]

end Cert.Kernel15Ideal.Products

namespace Cert.Proof.Products

open Idealize.ShloMosaic Idealize.ShloMosaic.TcCoe Idealize.ShloMosaic.Tactic Idealize.SL.Sem

theorem value14 : Cert.algebraic_Kernel14Ideal_Reference14Ideal := by
  intro m g m' g' _ hagree
  refine ⟨_, Cert.Kernel14Ideal.Value.run_blocks m g, θ_run_mono (Cert.Reference14Ideal.Value.run m' g') fun r h c => ?_⟩
  obtain ⟨h0, h1, h2⟩ := hagree c
  refine ⟨(h c).1.trans ?_, (h c).2⟩
  rw [Cert.Kernel14Ideal.Products.final m c, h0, h1, h2, Cert.Forward.down_comm]
  funext i
  idx_vars i
  pointwise [Cert.Forward.product]

theorem value15 : Cert.algebraic_Kernel15Ideal_Reference15Ideal := by
  intro m g m' g' _ hagree
  refine ⟨_, Cert.Kernel15Ideal.Value.run_blocks m g, θ_run_mono (Cert.Reference15Ideal.Value.run m' g') fun r h c => ?_⟩
  obtain ⟨h0, h1⟩ := hagree c
  refine ⟨(h c).1.trans ?_, (h c).2⟩
  rw [Cert.Kernel15Ideal.Products.final m c, h0, h1, Cert.Kernel15Ideal.Products.outer_comm]
  funext i
  idx_vars i
  pointwise []

end Cert.Proof.Products
end
-- ==== Proof.Step.lean ====
/- The optimiser's step on one stack of weights: the devices' gradient parts added up, and the step's four results. -/
module

public import proofs.«01_k».proof.Defs
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import Idealize.ShloMosaic.Lib.Pipeline.ValueKit
public import Idealize.ShloMosaic.Lib.Claim

@[expose] public section

set_option maxRecDepth 16384

noncomputable section

namespace Cert.Kernel16Ideal.Step

open Idealize.ShloMosaic Idealize.ShloMosaic.TcCoe Idealize.ShloMosaic.Tactic Idealize.SL.Sem
open Cert.Kernel16Ideal Cert.Kernel16Ideal.Gen

abbrev Parts := FVec Ideal S8x1024x384 .f32
abbrev Stack := FVec Ideal S2048x384 .f32

/-- The gradient of a stack of two layers: each layer's parts added up. -/
def grad (a b : Parts) : Stack := fun i =>
  if h : (i 0).val < 1024 then ∑ d : Fin 8, a (ix3 d ⟨(i 0).val, h⟩ (i 1)) else ∑ d : Fin 8, b (ix3 d ⟨(i 0).val - 1024, by have := (i 0).isLt; simp at this; omega⟩ (i 1))

/-- The two averages and the step. -/
def avg (g m : EReal) : EReal := Ideal.ofBits .f32 0x3F666666#32 * m + Ideal.ofBits .f32 0x3DCCCCCD#32 * g
def sqr (g v : EReal) : EReal := Ideal.ofBits .f32 0x3F7FBE77#32 * v + Ideal.ofBits .f32 0x3A83126F#32 * (g * g)
def step (g w m v : EReal) : EReal := Ideal.ofBits .f32 0xBA83126F#32 * (Ideal.div (Ideal.div (avg g m) (Ideal.ofBits .f32 0x3F26BD02#32))
  (Ideal.sqrt (Ideal.div (sqr g v) (Ideal.ofBits .f32 0x3C231ACC#32)) + Ideal.ofBits .f32 0x322BCC77#32) + Ideal.ofBits .f32 0x3C23D70A#32 * w)

variable (m : (ℓ : Loc nD τ sig) → Buf (Elt Ideal) ℓ)

theorem idx : ∀ t : Fin cfg0.N, win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] :=
  (by decide +kernel : ∀ t : Fin grid0.N, _)
theorem idxA : ∀ t : Fin cfg0.N, t.val < 4 → win0_0.index t = ![0, t.val, 0] :=
  (by decide +kernel : ∀ t : Fin grid0.N, _)
theorem idxB : ∀ t : Fin cfg0.N, 4 ≤ t.val → win0_1.index t = ![0, t.val - 4, 0] :=
  (by decide +kernel : ∀ t : Fin grid0.N, _)

theorem entry_a (c : Dev nD) : V m c main_v0 = (truncf .bf16 (show FVec Ideal S8x1024x384 .f32 from m ((c : Thread nD τ).loc main_arg0)) bitsLt_bf16_f32 : FVec Ideal S8x1024x384 .bf16) := by
  unfold_abbrev_sides
  after_results

theorem entry_b (c : Dev nD) : V m c main_v1 = (truncf .bf16 (show FVec Ideal S8x1024x384 .f32 from m ((c : Thread nD τ).loc main_arg1)) bitsLt_bf16_f32 : FVec Ideal S8x1024x384 .bf16) := by
  unfold_abbrev_sides
  after_results

theorem t_lt (t : Fin cfg0.N) : t.val < 8 := lt_of_lt_of_eq t.isLt N_0

/-- A layer's parts added up, as a grid point adds up the block of eight parts it holds. -/
def added (B : Vec Ideal S8x256x384 .bf16) : FVec Ideal S256x384 .f32 :=
  k0_pay2 (View.ld B (Rect.unit ![0, 0, 0] ![1, 256, 384] inb_S8x256x384_S1x256x384_0_0_0))
    (View.ld B (Rect.unit ![1, 0, 0] ![1, 256, 384] inb_S8x256x384_S1x256x384_1_0_0)) (View.ld B (Rect.unit ![2, 0, 0] ![1, 256, 384] inb_S8x256x384_S1x256x384_2_0_0))
    (View.ld B (Rect.unit ![3, 0, 0] ![1, 256, 384] inb_S8x256x384_S1x256x384_3_0_0)) (View.ld B (Rect.unit ![4, 0, 0] ![1, 256, 384] inb_S8x256x384_S1x256x384_4_0_0))
    (View.ld B (Rect.unit ![5, 0, 0] ![1, 256, 384] inb_S8x256x384_S1x256x384_5_0_0)) (View.ld B (Rect.unit ![6, 0, 0] ![1, 256, 384] inb_S8x256x384_S1x256x384_6_0_0))
    (View.ld B (Rect.unit ![7, 0, 0] ![1, 256, 384] inb_S8x256x384_S1x256x384_7_0_0))

theorem added_at (B : Vec Ideal S8x256x384 .bf16) (y) : added B y = ∑ d : Fin 8, B (ix3 d (y 0) (y 1)) := by
  rw [Fin.sum_univ_eight]
  pointwise [added, k0_pay2]

abbrev held_a (c : Dev nD) (t : Fin cfg0.N) : FVec Ideal S8x256x384 .bf16 := iblk m c 0 t
abbrev held_b (c : Dev nD) (t : Fin cfg0.N) : FVec Ideal S8x256x384 .bf16 := iblk m c 1 t

theorem part_a (c : Dev nD) (t : Fin cfg0.N) (h : t.val < 4) (d : Fin 8) (r : Fin 256) (q : Fin 384) :
    held_a m c t (ix3 d r q) = (m ((c : Thread nD τ).loc main_arg0) : FVec Ideal S8x1024x384 .f32) (ix3 d ⟨t.val * 256 + r.val, by omega⟩ q) := by
  blk_point [held_a, iblk, entry_a m c, idxA t h]

theorem part_b (c : Dev nD) (t : Fin cfg0.N) (h : 4 ≤ t.val) (d : Fin 8) (r : Fin 256) (q : Fin 384) :
    held_b m c t (ix3 d r q) = (m ((c : Thread nD τ).loc main_arg1) : FVec Ideal S8x1024x384 .f32) (ix3 d ⟨(t.val - 4) * 256 + r.val, by have := t_lt t; omega⟩ q) := by
  blk_point [held_b, iblk, entry_b m c, idxB t h]

/-- The sum a grid point forms: its block of the stack's gradient. -/
def block (c : Dev nD) (t : Fin cfg0.N) (r : Fin 256) (q : Fin 384) : EReal :=
  grad (m ((c : Thread nD τ).loc main_arg0)) (m ((c : Thread nD τ).loc main_arg1)) (ix2 ⟨t.val * 256 + r.val, by have := t_lt t; omega⟩ q)

theorem block_a (c : Dev nD) (t : Fin cfg0.N) (h : t.val < 4) (r : Fin 256) (q : Fin 384) : ∑ d : Fin 8, held_a m c t (ix3 d r q) = block m c t r q := by
  have e : t.val * 256 + r.val < 1024 := by omega
  refine (Finset.sum_congr rfl fun d _ => part_a m c t h d r q).trans ?_
  refine Eq.trans ?_ (dif_pos e).symm
  rfl

theorem block_b (c : Dev nD) (t : Fin cfg0.N) (h : 4 ≤ t.val) (r : Fin 256) (q : Fin 384) : ∑ d : Fin 8, held_b m c t (ix3 d r q) = block m c t r q := by
  have e : ¬ t.val * 256 + r.val < 1024 := by omega
  refine (Finset.sum_congr rfl fun d _ => part_b m c t h d r q).trans (Eq.trans ?_ (dif_neg e).symm)
  exact Finset.sum_congr rfl fun d _ => congrArg (fun k => (m ((c : Thread nD τ).loc main_arg1) : FVec Ideal S8x1024x384 .f32) (ix3 d k q)) (Fin.ext (show (t.val - 4) * 256 + r.val = t.val * 256 + r.val - 1024 by omega))

/-- What a grid point leaves in the four results' blocks. -/
theorem outs (c : Dev nD) (t : Fin cfg0.N) : ∃ g : FVec Ideal S256x384 .f32, (∀ y, g y = block m c t (y 0) (y 1)) ∧ (outsAt0 m c t.val t.isLt).1 = g
    ∧ (outsAt0 m c t.val t.isLt).2.1 = k0_pay1 (k0_pay6 g (iblk m c 3 t)) (k0_pay7 g (iblk m c 4 t)) (iblk m c 2 t)
    ∧ (outsAt0 m c t.val t.isLt).2.2.1 = k0_pay4 g (iblk m c 3 t) ∧ (outsAt0 m c t.val t.isLt).2.2.2 = k0_pay5 g (iblk m c 4 t) := by
  by_cases h : t.val < 4
  · rw [outsAt0_A m c t h (by omega)]
    refine ⟨added (iblk m c 0 t), fun y => (added_at _ y).trans (block_a m c t h (y 0) (y 1)), ?_, ?_, ?_, ?_⟩ <;> frame_out <;> rfl
  · rw [outsAt0_B m c t h (by omega)]
    refine ⟨added (iblk m c 1 t), fun y => (added_at _ y).trans (block_b m c t (by omega) (y 0) (y 1)), ?_, ?_, ?_, ?_⟩ <;> frame_out <;> rfl

theorem avg_at (g mm : FVec Ideal S256x384 .f32) (y) : k0_pay4 (F := Ideal) g mm y = avg (g y) (mm y) := by
  pointwise [k0_pay4, avg]
theorem sqr_at (g vv : FVec Ideal S256x384 .f32) (y) : k0_pay5 (F := Ideal) g vv y = sqr (g y) (vv y) := by
  pointwise [k0_pay5, sqr]
theorem step_at (g w mm vv : FVec Ideal S256x384 .f32) (y) : k0_pay1 (F := Ideal) (k0_pay6 g mm) (k0_pay7 g vv) w y = step (g y) (w y) (mm y) (vv y) := by
  pointwise [k0_pay1, k0_pay6, k0_pay7, k0_pay4, k0_pay5, step, avg, sqr]

abbrev row (t : Fin cfg0.N) (y : S256x384.Idx) : S2048x384.Idx := ix2 ⟨t.val * 256 + (y 0).val, by have := (y 0).isLt; have := t_lt t; simp at *; omega⟩ (y 1)

theorem own_w (c : Dev nD) (t : Fin cfg0.N) (y : S256x384.Idx) : iblk m c 2 t y = (m ((c : Thread nD τ).loc main_arg2) : Stack) (row t y) := by
  blk_point [iblk, V_main_arg2 m c, idx t] <;> rfl
theorem own_m (c : Dev nD) (t : Fin cfg0.N) (y : S256x384.Idx) : iblk m c 3 t y = (m ((c : Thread nD τ).loc main_arg3) : Stack) (row t y) := by
  blk_point [iblk, V_main_arg3 m c, idx t] <;> rfl
theorem own_v (c : Dev nD) (t : Fin cfg0.N) (y : S256x384.Idx) : iblk m c 4 t y = (m ((c : Thread nD τ).loc main_arg4) : Stack) (row t y) := by
  blk_point [iblk, V_main_arg4 m c, idx t] <;> rfl

theorem final5 (c : Dev nD) : (dats m 0 c).arrAt 5 cfg0.N = grad (m ((c : Thread nD τ).loc main_arg0)) (m ((c : Thread nD τ).loc main_arg1)) := by
  refine (dats m 0 c).arrAt_eq_of_covers 5 _ (by decide +kernel) fun t _ y => ?_
  blk_simp
  have key : ∀ G : Stack, G (((cfg0.win 5).blk t).view.emb y) = G (row t y) := fun G => by
    blk_point [idx t] <;> rfl
  refine Eq.trans ?_ (key _).symm
  obtain ⟨g, hg, h5, -⟩ := outs m c t
  rw [after0_5, h5]
  exact hg y

theorem final6 (c : Dev nD) : (dats m 0 c).arrAt 6 cfg0.N = (fun i => step (grad (m ((c : Thread nD τ).loc main_arg0)) (m ((c : Thread nD τ).loc main_arg1)) i)
    ((m ((c : Thread nD τ).loc main_arg2) : Stack) i) ((m ((c : Thread nD τ).loc main_arg3) : Stack) i) ((m ((c : Thread nD τ).loc main_arg4) : Stack) i) : Stack) := by
  refine (dats m 0 c).arrAt_eq_of_covers 6 _ (by decide +kernel) fun t _ y => ?_
  blk_simp
  have key : ∀ G : Stack, G (((cfg0.win 6).blk t).view.emb y) = G (row t y) := fun G => by
    blk_point [idx t] <;> rfl
  refine Eq.trans ?_ (key (fun i => step (grad (m ((c : Thread nD τ).loc main_arg0)) (m ((c : Thread nD τ).loc main_arg1)) i)
    ((m ((c : Thread nD τ).loc main_arg2) : Stack) i) ((m ((c : Thread nD τ).loc main_arg3) : Stack) i) ((m ((c : Thread nD τ).loc main_arg4) : Stack) i))).symm
  obtain ⟨g, hg, -, h6, -⟩ := outs m c t
  rw [after0_6, h6]
  refine (step_at g _ _ _ y).trans ?_
  rw [hg y, own_w, own_m, own_v]
  rfl

theorem final7 (c : Dev nD) : (dats m 0 c).arrAt 7 cfg0.N = (fun i => avg (grad (m ((c : Thread nD τ).loc main_arg0)) (m ((c : Thread nD τ).loc main_arg1)) i) ((m ((c : Thread nD τ).loc main_arg3) : Stack) i) : Stack) := by
  refine (dats m 0 c).arrAt_eq_of_covers 7 _ (by decide +kernel) fun t _ y => ?_
  blk_simp
  have key : ∀ G : Stack, G (((cfg0.win 7).blk t).view.emb y) = G (row t y) := fun G => by
    blk_point [idx t] <;> rfl
  refine Eq.trans ?_ (key (fun i => avg (grad (m ((c : Thread nD τ).loc main_arg0)) (m ((c : Thread nD τ).loc main_arg1)) i) ((m ((c : Thread nD τ).loc main_arg3) : Stack) i))).symm
  obtain ⟨g, hg, -, -, h7, -⟩ := outs m c t
  rw [after0_7, h7]
  refine (avg_at g _ y).trans ?_
  rw [hg y, own_m]
  rfl

theorem final8 (c : Dev nD) : (dats m 0 c).arrAt 8 cfg0.N = (fun i => sqr (grad (m ((c : Thread nD τ).loc main_arg0)) (m ((c : Thread nD τ).loc main_arg1)) i) ((m ((c : Thread nD τ).loc main_arg4) : Stack) i) : Stack) := by
  refine (dats m 0 c).arrAt_eq_of_covers 8 _ (by decide +kernel) fun t _ y => ?_
  blk_simp
  have key : ∀ G : Stack, G (((cfg0.win 8).blk t).view.emb y) = G (row t y) := fun G => by
    blk_point [idx t] <;> rfl
  refine Eq.trans ?_ (key (fun i => sqr (grad (m ((c : Thread nD τ).loc main_arg0)) (m ((c : Thread nD τ).loc main_arg1)) i) ((m ((c : Thread nD τ).loc main_arg4) : Stack) i))).symm
  obtain ⟨g, hg, -, -, -, h8⟩ := outs m c t
  rw [after0_8, h8]
  refine (sqr_at g _ y).trans ?_
  rw [hg y, own_v]
  rfl

end Cert.Kernel16Ideal.Step

namespace Cert.Proof.Step

open Idealize.ShloMosaic Idealize.ShloMosaic.TcCoe Idealize.ShloMosaic.Tactic Idealize.SL.Sem
open Cert.Kernel16Ideal.Step

section
open Cert.Reference16Ideal Cert.Reference16Ideal.Gen

theorem grad_eq (a b : Parts) : (concatenate S2048x384 0 [⟨S1024x384, (Host.reduceAdd a (constant S_ .f32 0x00000000#32) reducesTo_S8x1024x384_S1024x384_d0 h_S_)⟩,
    ⟨S1024x384, (Host.reduceAdd b (constant S_ .f32 0x00000000#32) reducesTo_S8x1024x384_S1024x384_d0 h_S_)⟩] concatenates_S1024x384_S1024x384_S2048x384_d0 : FVec Ideal S2048x384 .f32) = grad a b := by
  funext i
  idx_vars i
  pointwise [grad]

end

theorem value : Cert.algebraic_Kernel16Ideal_Reference16Ideal := by
  intro m g m' g' _ hagree
  refine ⟨_, _, _, _, Cert.Kernel16Ideal.Value.run_blocks m g, θ_run_mono (Cert.Reference16Ideal.Value.run m' g') fun r h c => ?_⟩
  obtain ⟨h0, h1, h2, h3, h4⟩ := hagree c
  refine ⟨(h c).1.trans ?_, (h c).2.1.trans ?_, (h c).2.2.1.trans ?_, (h c).2.2.2.1.trans ?_, (h c).2.2.2.2⟩
  · rw [Cert.Kernel16Ideal.Step.final5 m c, h0, h1]
    exact grad_eq _ _
  · rw [Cert.Kernel16Ideal.Step.final6 m c, h0, h1, h2, h3, h4, grad_eq]
    funext i
    pointwise [step, avg, sqr]
  · rw [Cert.Kernel16Ideal.Step.final7 m c, h0, h1, h3, grad_eq]
    funext i
    pointwise [avg]
  · rw [Cert.Kernel16Ideal.Step.final8 m c, h0, h1, h4, grad_eq]
    funext i
    pointwise [sqr]

end Cert.Proof.Step
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Relu
public import proofs.«01_k».proof.Proof.AttFrame
public import proofs.«01_k».proof.Proof.AttClaim
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel6Ideal.Frame
public import proofs.«01_k».proof.Proof.Gen.Reference3Ideal.Run
public import proofs.«01_k».proof.Proof.Gen.Kernel3
public import proofs.«01_k».proof.Proof.Gen.Kernel3.Frame
public import proofs.«01_k».proof.Proof.Gen.Reference4Ideal.Run
public import proofs.«01_k».proof.Proof.Gen.Kernel4
public import proofs.«01_k».proof.Proof.Gen.Kernel4.Frame
public import proofs.«01_k».proof.Proof.Gen.Reference5Ideal.Run
public import proofs.«01_k».proof.Proof.Gen.Kernel5
public import proofs.«01_k».proof.Proof.Gen.Kernel5.Frame
public import proofs.«01_k».proof.Proof.Gen.Reference6Ideal.Run
public import proofs.«01_k».proof.Proof.Gen.Kernel6
public import proofs.«01_k».proof.Proof.Gen.Kernel6.Frame
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Frames
public import proofs.«01_k».proof.Proof.Gen.Kernel8Ideal
public import proofs.«01_k».proof.Proof.Gen.Reference8Ideal
public import proofs.«01_k».proof.Proof.Gen.Reference8Ideal.Run
public import proofs.«01_k».proof.Proof.FwdClaim
public import proofs.«01_k».proof.Proof.Loss
public import proofs.«01_k».proof.Proof.Norm
public import proofs.«01_k».proof.Proof.Bounds
public import proofs.«01_k».proof.Proof.QkValue
public import proofs.«01_k».proof.Proof.Gen.Kernel3Ideal
public import proofs.«01_k».proof.Proof.Gen.Reference3Ideal
public import proofs.«01_k».proof.Proof.Gen.Kernel4Ideal
public import proofs.«01_k».proof.Proof.Gen.Reference4Ideal
public import proofs.«01_k».proof.Proof.Gen.Kernel5Ideal
public import proofs.«01_k».proof.Proof.Gen.Reference5Ideal
public import proofs.«01_k».proof.Proof.Gen.Kernel6Ideal
public import proofs.«01_k».proof.Proof.Gen.Reference6Ideal
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Forward
public import proofs.«01_k».proof.Proof.Lower
public import proofs.«01_k».proof.Proof.Qkv
public import proofs.«01_k».proof.Proof.Products
public import proofs.«01_k».proof.Proof.Step
public import Idealize.ShloMosaic.Adequacy
public import Idealize.ShloMosaic.Init

@[expose] public section

set_option maxRecDepth 16384

noncomputable section

namespace Cert.Proof

open Idealize.ShloMosaic Idealize.SL.Sem Cert.Kernel

theorem frame_reference : Cert.quiescent_ReferenceIdeal := fun m g _ =>
  θ_run_mono (Cert.ReferenceIdeal.Value.run m g) fun r h =>
    ⟨fun c => (h c).2, Idealize.ShloMosaic.sem_eq_zero_of_no_sems (by decide) r.2⟩

theorem relu : Cert.algebraic_KernelIdeal_ReferenceIdeal := by
  pair_intro
  · run_from Cert.KernelIdeal.Relu.run m g
  · run_from Cert.ReferenceIdeal.Value.run m' g'
    rw [Cert.KernelIdeal.Relu.final m g c]
    funext i
    idx_vars i
    pointwise [Cert.KernelIdeal.Relu.DUP, Cert.KernelIdeal.Relu.UP]
    exact (Cert.KernelIdeal.Relu.double _ _).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts,
  Cert.Kernel8Ideal.Gen.facts, Cert.Reference8Ideal.Gen.facts,
  Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts,
  Att.pre_facts, Bounds.pre_facts, Norm.pre_facts, Qk.pre_facts, Fwd.pre_facts, Lower.pre_facts, Qkv.pre_facts,
  fun m g _ => Cert.Kernel.Gen.frame m g, fun m g _ => Cert.KernelIdeal.Gen.frame m g, frame_reference,
  Att.frame_bits, Att.frame_ideal, fun m g _ => Att.frame_ideal m g trivial, Att.frame_reference,
  fun m g _ => Att.frame_reference m g trivial,
  fun m g _ => Cert.Kernel3.Gen.frame m g, fun m g _ => Cert.Kernel3Ideal.Gen.frame m g, fun m g _ => Cert.Kernel3Ideal.Gen.frame m g, frame_reference3,
  fun m g _ => frame_reference3 m g trivial,
  fun m g _ => Cert.Kernel4.Gen.frame m g, fun m g _ => Cert.Kernel4Ideal.Gen.frame m g, frame_reference4,
  fun m g _ => Cert.Kernel5.Gen.frame m g, fun m g _ => Cert.Kernel5Ideal.Gen.frame m g, fun m g _ => Cert.Kernel5Ideal.Gen.frame m g, frame_reference5,
  fun m g _ => frame_reference5 m g trivial,
  fun m g _ => Cert.Kernel6.Gen.frame m g, fun m g _ => Cert.Kernel6Ideal.Gen.frame m g, fun m g _ => Cert.Kernel6Ideal.Gen.frame m g, frame_reference6,
  fun m g _ => frame_reference6 m g trivial,
  fun m g _ => Cert.Kernel7.Gen.frame m g, fun m g _ => Cert.Kernel7Ideal.Gen.frame m g,
  Fwd.frame_ideal, fun m g _ => Fwd.frame_ideal m g trivial, Fwd.frame_reference,
  fun m g _ => Fwd.frame_reference m g trivial,
  fun m g _ => Cert.Kernel9.Gen.frame m g, fun m g _ => Cert.Kernel9Ideal.Gen.frame m g, frame_reference9,
  fun m g _ => Cert.Kernel10.Gen.frame m g, fun m g _ => Cert.Kernel10Ideal.Gen.frame m g, frame_reference10,
  fun m g _ => Cert.Kernel11.Gen.frame m g, fun m g _ => Cert.Kernel11Ideal.Gen.frame m g, frame_reference11,
  fun m g _ => Cert.Kernel12.Gen.frame m g, fun m g _ => Cert.Kernel12Ideal.Gen.frame m g, fun m g _ => Cert.Kernel12Ideal.Gen.frame m g, frame_reference12,
  fun m g _ => frame_reference12 m g trivial,
  fun m g _ => Cert.Kernel13.Gen.frame m g, fun m g _ => Cert.Kernel13Ideal.Gen.frame m g, fun m g _ => Cert.Kernel13Ideal.Gen.frame m g, frame_reference13,
  fun m g _ => frame_reference13 m g trivial,
  fun m g _ => Cert.Kernel14.Gen.frame m g, fun m g _ => Cert.Kernel14Ideal.Gen.frame m g, frame_reference14,
  fun m g _ => Cert.Kernel15.Gen.frame m g, fun m g _ => Cert.Kernel15Ideal.Gen.frame m g, frame_reference15,
  fun m g _ => Cert.Kernel16.Gen.frame m g, fun m g _ => Cert.Kernel16Ideal.Gen.frame m g, frame_reference16,
  fun m g _ => Cert.Kernel17.Gen.frame m g, fun m g _ => Cert.Kernel17Ideal.Gen.frame m g,
  trivial, relu, Att.preserves, Att.value (hP := Att.pre_facts), trivial, Bounds.value (hP := Bounds.pre_facts), trivial, Cert.Kernel4Ideal.Loss.value, trivial,
  Norm.value (hP := Norm.pre_facts), trivial, Qk.value (hP := Qk.pre_facts), trivial,
  Fwd.value (hP := Fwd.pre_facts), trivial, Forward.value9, trivial, Forward.value10, trivial, Forward.value11, trivial,
  Lower.value (hP := Lower.pre_facts), trivial, Qkv.value (hP := Qkv.pre_facts), trivial, Products.value14, trivial, Products.value15, trivial, Step.value, trivial⟩

end Cert.Proof

end
